-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnIn0 (m : (ℓ : Loc Cert.FfnIn0.nD Cert.FfnIn0.τ Cert.FfnIn0.sig) → Buf (Elt Bits) ℓ) : Prop :=
  True

def Pre_FfnIn0Ideal (m : (ℓ : Loc Cert.FfnIn0Ideal.nD Cert.FfnIn0Ideal.τ Cert.FfnIn0Ideal.sig) → Buf (Elt Ideal) ℓ) : Prop :=
  True

def Pre_FfnIn0RefIdeal (m : (ℓ : Loc Cert.FfnIn0RefIdeal.nD Cert.FfnIn0RefIdeal.τ Cert.FfnIn0RefIdeal.sig) → Buf (Elt Ideal) ℓ) : Prop :=
  True

def Pre_FfnIn1 (m : (ℓ : Loc Cert.FfnIn1.nD Cert.FfnIn1.τ Cert.FfnIn1.sig) → Buf (Elt Bits) ℓ) : Prop :=
  True

def Pre_FfnIn1Ideal (m : (ℓ : Loc Cert.FfnIn1Ideal.nD Cert.FfnIn1Ideal.τ Cert.FfnIn1Ideal.sig) → Buf (Elt Ideal) ℓ) : Prop :=
  True

def Pre_FfnIn1RefIdeal (m : (ℓ : Loc Cert.FfnIn1RefIdeal.nD Cert.FfnIn1RefIdeal.τ Cert.FfnIn1RefIdeal.sig) → Buf (Elt Ideal) ℓ) : Prop :=
  True

def Pre_FfnIn2 (m : (ℓ : Loc Cert.FfnIn2.nD Cert.FfnIn2.τ Cert.FfnIn2.sig) → Buf (Elt Bits) ℓ) : Prop :=
  True

def Pre_FfnIn2Ideal (m : (ℓ : Loc Cert.FfnIn2Ideal.nD Cert.FfnIn2Ideal.τ Cert.FfnIn2Ideal.sig) → Buf (Elt Ideal) ℓ) : Prop :=
  True

def Pre_FfnIn2RefIdeal (m : (ℓ : Loc Cert.FfnIn2RefIdeal.nD Cert.FfnIn2RefIdeal.τ Cert.FfnIn2RefIdeal.sig) → Buf (Elt Ideal) ℓ) : Prop :=
  True

def Pre_FfnIn3 (m : (ℓ : Loc Cert.FfnIn3.nD Cert.FfnIn3.τ Cert.FfnIn3.sig) → Buf (Elt Bits) ℓ) : Prop :=
  True

def Pre_FfnIn3Ideal (m : (ℓ : Loc Cert.FfnIn3Ideal.nD Cert.FfnIn3Ideal.τ Cert.FfnIn3Ideal.sig) → Buf (Elt Ideal) ℓ) : Prop :=
  True

def Pre_FfnIn3RefIdeal (m : (ℓ : Loc Cert.FfnIn3RefIdeal.nD Cert.FfnIn3RefIdeal.τ Cert.FfnIn3RefIdeal.sig) → Buf (Elt Ideal) ℓ) : Prop :=
  True

def Pre_FfnOut0 (m : (ℓ : Loc Cert.FfnOut0.nD Cert.FfnOut0.τ Cert.FfnOut0.sig) → Buf (Elt Bits) ℓ) : Prop :=
  True

def Pre_FfnOut0Ideal (m : (ℓ : Loc Cert.FfnOut0Ideal.nD Cert.FfnOut0Ideal.τ Cert.FfnOut0Ideal.sig) → Buf (Elt Ideal) ℓ) : Prop :=
  True

def Pre_FfnOut0RefIdeal (m : (ℓ : Loc Cert.FfnOut0RefIdeal.nD Cert.FfnOut0RefIdeal.τ Cert.FfnOut0RefIdeal.sig) → Buf (Elt Ideal) ℓ) : Prop :=
  True

def Pre_FfnOut1 (m : (ℓ : Loc Cert.FfnOut1.nD Cert.FfnOut1.τ Cert.FfnOut1.sig) → Buf (Elt Bits) ℓ) : Prop :=
  True

def Pre_FfnOut1Ideal (m : (ℓ : Loc Cert.FfnOut1Ideal.nD Cert.FfnOut1Ideal.τ Cert.FfnOut1Ideal.sig) → Buf (Elt Ideal) ℓ) : Prop :=
  True

def Pre_FfnOut1RefIdeal (m : (ℓ : Loc Cert.FfnOut1RefIdeal.nD Cert.FfnOut1RefIdeal.τ Cert.FfnOut1RefIdeal.sig) → Buf (Elt Ideal) ℓ) : Prop :=
  True

def Pre_FfnOut2 (m : (ℓ : Loc Cert.FfnOut2.nD Cert.FfnOut2.τ Cert.FfnOut2.sig) → Buf (Elt Bits) ℓ) : Prop :=
  True

def Pre_FfnOut2Ideal (m : (ℓ : Loc Cert.FfnOut2Ideal.nD Cert.FfnOut2Ideal.τ Cert.FfnOut2Ideal.sig) → Buf (Elt Ideal) ℓ) : Prop :=
  True

def Pre_FfnOut2RefIdeal (m : (ℓ : Loc Cert.FfnOut2RefIdeal.nD Cert.FfnOut2RefIdeal.τ Cert.FfnOut2RefIdeal.sig) → Buf (Elt Ideal) ℓ) : Prop :=
  True

def Pre_FfnOut3 (m : (ℓ : Loc Cert.FfnOut3.nD Cert.FfnOut3.τ Cert.FfnOut3.sig) → Buf (Elt Bits) ℓ) : Prop :=
  True

def Pre_FfnOut3Ideal (m : (ℓ : Loc Cert.FfnOut3Ideal.nD Cert.FfnOut3Ideal.τ Cert.FfnOut3Ideal.sig) → Buf (Elt Ideal) ℓ) : Prop :=
  True

def Pre_FfnOut3RefIdeal (m : (ℓ : Loc Cert.FfnOut3RefIdeal.nD Cert.FfnOut3RefIdeal.τ Cert.FfnOut3RefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCRefIdeal (m : (ℓ : Loc Cert.QkvCRefIdeal.nD Cert.QkvCRefIdeal.τ Cert.QkvCRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Qa (m : (ℓ : Loc Cert.Qa.nD Cert.Qa.τ Cert.Qa.sig) → Buf (Elt Bits) ℓ) : Prop :=
  True

def Pre_QaIdeal (m : (ℓ : Loc Cert.QaIdeal.nD Cert.QaIdeal.τ Cert.QaIdeal.sig) → Buf (Elt Ideal) ℓ) : Prop :=
  True

def Pre_QaRefIdeal (m : (ℓ : Loc Cert.QaRefIdeal.nD Cert.QaRefIdeal.τ Cert.QaRefIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_Kva (m : (ℓ : Loc Cert.Kva.nD Cert.Kva.τ Cert.Kva.sig) → Buf (Elt Bits) ℓ) : Prop :=
  True

def Pre_KvaIdeal (m : (ℓ : Loc Cert.KvaIdeal.nD Cert.KvaIdeal.τ Cert.KvaIdeal.sig) → Buf (Elt Ideal) ℓ) : Prop :=
  True

def Pre_KvaRefIdeal (m : (ℓ : Loc Cert.KvaRefIdeal.nD Cert.KvaRefIdeal.τ Cert.KvaRefIdeal.sig) → Buf (Elt Ideal) ℓ) : Prop :=
  True

def Pre_NormBf (m : (ℓ : Loc Cert.NormBf.nD Cert.NormBf.τ Cert.NormBf.sig) → Buf (Elt Bits) ℓ) : Prop :=
  True

def Pre_NormBfIdeal (m : (ℓ : Loc Cert.NormBfIdeal.nD Cert.NormBfIdeal.τ Cert.NormBfIdeal.sig) → Buf (Elt Ideal) ℓ) : Prop :=
  True

def Pre_NormBfRefIdeal (m : (ℓ : Loc Cert.NormBfRefIdeal.nD Cert.NormBfRefIdeal.τ Cert.NormBfRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_AKv (m : (ℓ : Loc Cert.AKv.nD Cert.AKv.τ Cert.AKv.sig) → Buf (Elt Bits) ℓ) : Prop :=
  True

def Pre_AKvIdeal (m : (ℓ : Loc Cert.AKvIdeal.nD Cert.AKvIdeal.τ Cert.AKvIdeal.sig) → Buf (Elt Ideal) ℓ) : Prop :=
  True

def Pre_AKvRefIdeal (m : (ℓ : Loc Cert.AKvRefIdeal.nD Cert.AKvRefIdeal.τ Cert.AKvRefIdeal.sig) → Buf (Elt Ideal) ℓ) : Prop :=
  True

def Pre_MlaS [hPre_in_pool : Cert.Pre_in_pool.Facts] (m : (ℓ : Loc Cert.MlaS.nD Cert.MlaS.τ Cert.MlaS.sig) → Buf (Elt Bits) ℓ) : Prop :=
  ∀ c : Dev Cert.MlaS.nD,
    (Cert.Pre_in_pool.fn (F := Bits) (m ((c.tc : Thread Cert.MlaS.nD Cert.MlaS.τ).loc Cert.MlaS.main_arg0)) (m ((c.tc : Thread Cert.MlaS.nD Cert.MlaS.τ).loc Cert.MlaS.main_arg1)) (m ((c.tc : Thread Cert.MlaS.nD Cert.MlaS.τ).loc Cert.MlaS.main_arg2)) (m ((c.tc : Thread Cert.MlaS.nD Cert.MlaS.τ).loc Cert.MlaS.main_arg3))) = (fun _ => 1#1)

def Pre_MlaSIdeal [hPre_in_pool : Cert.Pre_in_pool.Facts] (m : (ℓ : Loc Cert.MlaSIdeal.nD Cert.MlaSIdeal.τ Cert.MlaSIdeal.sig) → Buf (Elt Ideal) ℓ) : Prop :=
  ∀ c : Dev Cert.MlaSIdeal.nD,
    (Cert.Pre_in_pool.fn (F := Ideal) (m ((c.tc : Thread Cert.MlaSIdeal.nD Cert.MlaSIdeal.τ).loc Cert.MlaSIdeal.main_arg0)) (m ((c.tc : Thread Cert.MlaSIdeal.nD Cert.MlaSIdeal.τ).loc Cert.MlaSIdeal.main_arg1)) (m ((c.tc : Thread Cert.MlaSIdeal.nD Cert.MlaSIdeal.τ).loc Cert.MlaSIdeal.main_arg2)) (m ((c.tc : Thread Cert.MlaSIdeal.nD Cert.MlaSIdeal.τ).loc Cert.MlaSIdeal.main_arg3))) = (fun _ => 1#1)

def Pre_MlaSIdeal_paged [hPre_paged : Cert.Pre_paged.Facts] (m : (ℓ : Loc Cert.MlaSIdeal.nD Cert.MlaSIdeal.τ Cert.MlaSIdeal.sig) → Buf (Elt Ideal) ℓ) : Prop :=
  ∀ c : Dev Cert.MlaSIdeal.nD,
    (Cert.Pre_paged.fn (F := Ideal) (m ((c.tc : Thread Cert.MlaSIdeal.nD Cert.MlaSIdeal.τ).loc Cert.MlaSIdeal.main_arg0)) (m ((c.tc : Thread Cert.MlaSIdeal.nD Cert.MlaSIdeal.τ).loc Cert.MlaSIdeal.main_arg1)) (m ((c.tc : Thread Cert.MlaSIdeal.nD Cert.MlaSIdeal.τ).loc Cert.MlaSIdeal.main_arg2)) (m ((c.tc : Thread Cert.MlaSIdeal.nD Cert.MlaSIdeal.τ).loc Cert.MlaSIdeal.main_arg3))) = (fun _ => 1#1)

def Pre_MlaSRefIdeal (m : (ℓ : Loc Cert.MlaSRefIdeal.nD Cert.MlaSRefIdeal.τ Cert.MlaSRefIdeal.sig) → Buf (Elt Ideal) ℓ) : Prop :=
  True

def Pre_MlaSRefIdeal_paged [hPre_paged : Cert.Pre_paged.Facts] (m : (ℓ : Loc Cert.MlaSRefIdeal.nD Cert.MlaSRefIdeal.τ Cert.MlaSRefIdeal.sig) → Buf (Elt Ideal) ℓ) : Prop :=
  ∀ c : Dev Cert.MlaSRefIdeal.nD,
    (Cert.Pre_paged.fn (F := Ideal) (m ((c.tc : Thread Cert.MlaSRefIdeal.nD Cert.MlaSRefIdeal.τ).loc Cert.MlaSRefIdeal.main_arg0)) (m ((c.tc : Thread Cert.MlaSRefIdeal.nD Cert.MlaSRefIdeal.τ).loc Cert.MlaSRefIdeal.main_arg1)) (m ((c.tc : Thread Cert.MlaSRefIdeal.nD Cert.MlaSRefIdeal.τ).loc Cert.MlaSRefIdeal.main_arg2)) (m ((c.tc : Thread Cert.MlaSRefIdeal.nD Cert.MlaSRefIdeal.τ).loc Cert.MlaSRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnIn0 [hFfnIn0 : Cert.FfnIn0.Facts] : Prop :=
  ∀ (m : (ℓ : Loc Cert.FfnIn0.nD Cert.FfnIn0.τ Cert.FfnIn0.sig) → Buf (Elt Bits) ℓ) (g : Dev Cert.FfnIn0.nD → PrngReg), Pre_FfnIn0 m →
    θ_run (Cert.FfnIn0.defs (F := Bits)) (onTc (τ := Cert.FfnIn0.τ) (Cert.FfnIn0.main (F := Bits))) ⟨m, fun _ => 0, g⟩ (fun r => (∀ c : Dev Cert.FfnIn0.nD,
      r.2.mem ((c.tc : Thread Cert.FfnIn0.nD Cert.FfnIn0.τ).loc Cert.FfnIn0.main_arg0) = m ((c.tc : Thread Cert.FfnIn0.nD Cert.FfnIn0.τ).loc Cert.FfnIn0.main_arg0)
      ∧ r.2.mem ((c.tc : Thread Cert.FfnIn0.nD Cert.FfnIn0.τ).loc Cert.FfnIn0.main_arg1) = m ((c.tc : Thread Cert.FfnIn0.nD Cert.FfnIn0.τ).loc Cert.FfnIn0.main_arg1))
      ∧ r.2.sem = fun _ => 0)

def quiescent_FfnIn0Ideal [hFfnIn0Ideal : Cert.FfnIn0Ideal.Facts] : Prop :=
  ∀ (m : (ℓ : Loc Cert.FfnIn0Ideal.nD Cert.FfnIn0Ideal.τ Cert.FfnIn0Ideal.sig) → Buf (Elt Ideal) ℓ) (g : Dev Cert.FfnIn0Ideal.nD → PrngReg), Pre_FfnIn0Ideal m →
    θ_run (Cert.FfnIn0Ideal.defs (F := Ideal)) (onTc (τ := Cert.FfnIn0Ideal.τ) (Cert.FfnIn0Ideal.main (F := Ideal))) ⟨m, fun _ => 0, g⟩ (fun r => (∀ c : Dev Cert.FfnIn0Ideal.nD,
      r.2.mem ((c.tc : Thread Cert.FfnIn0Ideal.nD Cert.FfnIn0Ideal.τ).loc Cert.FfnIn0Ideal.main_arg0) = m ((c.tc : Thread Cert.FfnIn0Ideal.nD Cert.FfnIn0Ideal.τ).loc Cert.FfnIn0Ideal.main_arg0)
      ∧ r.2.mem ((c.tc : Thread Cert.FfnIn0Ideal.nD Cert.FfnIn0Ideal.τ).loc Cert.FfnIn0Ideal.main_arg1) = m ((c.tc : Thread Cert.FfnIn0Ideal.nD Cert.FfnIn0Ideal.τ).loc Cert.FfnIn0Ideal.main_arg1))
      ∧ r.2.sem = fun _ => 0)

def quiescent_FfnIn0RefIdeal [hFfnIn0RefIdeal : Cert.FfnIn0RefIdeal.Facts] : Prop :=
  ∀ (m : (ℓ : Loc Cert.FfnIn0RefIdeal.nD Cert.FfnIn0RefIdeal.τ Cert.FfnIn0RefIdeal.sig) → Buf (Elt Ideal) ℓ) (g : Dev Cert.FfnIn0RefIdeal.nD → PrngReg), Pre_FfnIn0RefIdeal m →
    θ_run (Cert.FfnIn0RefIdeal.defs (F := Ideal)) (onTc (τ := Cert.FfnIn0RefIdeal.τ) (Cert.FfnIn0RefIdeal.main (F := Ideal))) ⟨m, fun _ => 0, g⟩ (fun r => (∀ c : Dev Cert.FfnIn0RefIdeal.nD,
      r.2.mem ((c.tc : Thread Cert.FfnIn0RefIdeal.nD Cert.FfnIn0RefIdeal.τ).loc Cert.FfnIn0RefIdeal.main_arg0) = m ((c.tc : Thread Cert.FfnIn0RefIdeal.nD Cert.FfnIn0RefIdeal.τ).loc Cert.FfnIn0RefIdeal.main_arg0)
      ∧ r.2.mem ((c.tc : Thread Cert.FfnIn0RefIdeal.nD Cert.FfnIn0RefIdeal.τ).loc Cert.FfnIn0RefIdeal.main_arg1) = m ((c.tc : Thread Cert.FfnIn0RefIdeal.nD Cert.FfnIn0RefIdeal.τ).loc Cert.FfnIn0RefIdeal.main_arg1))
      ∧ r.2.sem = fun _ => 0)

def quiescent_FfnIn1 [hFfnIn1 : Cert.FfnIn1.Facts] : Prop :=
  ∀ (m : (ℓ : Loc Cert.FfnIn1.nD Cert.FfnIn1.τ Cert.FfnIn1.sig) → Buf (Elt Bits) ℓ) (g : Dev Cert.FfnIn1.nD → PrngReg), Pre_FfnIn1 m →
    θ_run (Cert.FfnIn1.defs (F := Bits)) (onTc (τ := Cert.FfnIn1.τ) (Cert.FfnIn1.main (F := Bits))) ⟨m, fun _ => 0, g⟩ (fun r => (∀ c : Dev Cert.FfnIn1.nD,
      r.2.mem ((c.tc : Thread Cert.FfnIn1.nD Cert.FfnIn1.τ).loc Cert.FfnIn1.main_arg0) = m ((c.tc : Thread Cert.FfnIn1.nD Cert.FfnIn1.τ).loc Cert.FfnIn1.main_arg0)
      ∧ r.2.mem ((c.tc : Thread Cert.FfnIn1.nD Cert.FfnIn1.τ).loc Cert.FfnIn1.main_arg1) = m ((c.tc : Thread Cert.FfnIn1.nD Cert.FfnIn1.τ).loc Cert.FfnIn1.main_arg1))
      ∧ r.2.sem = fun _ => 0)

def quiescent_FfnIn1Ideal [hFfnIn1Ideal : Cert.FfnIn1Ideal.Facts] : Prop :=
  ∀ (m : (ℓ : Loc Cert.FfnIn1Ideal.nD Cert.FfnIn1Ideal.τ Cert.FfnIn1Ideal.sig) → Buf (Elt Ideal) ℓ) (g : Dev Cert.FfnIn1Ideal.nD → PrngReg), Pre_FfnIn1Ideal m →
    θ_run (Cert.FfnIn1Ideal.defs (F := Ideal)) (onTc (τ := Cert.FfnIn1Ideal.τ) (Cert.FfnIn1Ideal.main (F := Ideal))) ⟨m, fun _ => 0, g⟩ (fun r => (∀ c : Dev Cert.FfnIn1Ideal.nD,
      r.2.mem ((c.tc : Thread Cert.FfnIn1Ideal.nD Cert.FfnIn1Ideal.τ).loc Cert.FfnIn1Ideal.main_arg0) = m ((c.tc : Thread Cert.FfnIn1Ideal.nD Cert.FfnIn1Ideal.τ).loc Cert.FfnIn1Ideal.main_arg0)
      ∧ r.2.mem ((c.tc : Thread Cert.FfnIn1Ideal.nD Cert.FfnIn1Ideal.τ).loc Cert.FfnIn1Ideal.main_arg1) = m ((c.tc : Thread Cert.FfnIn1Ideal.nD Cert.FfnIn1Ideal.τ).loc Cert.FfnIn1Ideal.main_arg1))
      ∧ r.2.sem = fun _ => 0)

def quiescent_FfnIn1RefIdeal [hFfnIn1RefIdeal : Cert.FfnIn1RefIdeal.Facts] : Prop :=
  ∀ (m : (ℓ : Loc Cert.FfnIn1RefIdeal.nD Cert.FfnIn1RefIdeal.τ Cert.FfnIn1RefIdeal.sig) → Buf (Elt Ideal) ℓ) (g : Dev Cert.FfnIn1RefIdeal.nD → PrngReg), Pre_FfnIn1RefIdeal m →
    θ_run (Cert.FfnIn1RefIdeal.defs (F := Ideal)) (onTc (τ := Cert.FfnIn1RefIdeal.τ) (Cert.FfnIn1RefIdeal.main (F := Ideal))) ⟨m, fun _ => 0, g⟩ (fun r => (∀ c : Dev Cert.FfnIn1RefIdeal.nD,
      r.2.mem ((c.tc : Thread Cert.FfnIn1RefIdeal.nD Cert.FfnIn1RefIdeal.τ).loc Cert.FfnIn1RefIdeal.main_arg0) = m ((c.tc : Thread Cert.FfnIn1RefIdeal.nD Cert.FfnIn1RefIdeal.τ).loc Cert.FfnIn1RefIdeal.main_arg0)
      ∧ r.2.mem ((c.tc : Thread Cert.FfnIn1RefIdeal.nD Cert.FfnIn1RefIdeal.τ).loc Cert.FfnIn1RefIdeal.main_arg1) = m ((c.tc : Thread Cert.FfnIn1RefIdeal.nD Cert.FfnIn1RefIdeal.τ).loc Cert.FfnIn1RefIdeal.main_arg1))
      ∧ r.2.sem = fun _ => 0)

def quiescent_FfnIn2 [hFfnIn2 : Cert.FfnIn2.Facts] : Prop :=
  ∀ (m : (ℓ : Loc Cert.FfnIn2.nD Cert.FfnIn2.τ Cert.FfnIn2.sig) → Buf (Elt Bits) ℓ) (g : Dev Cert.FfnIn2.nD → PrngReg), Pre_FfnIn2 m →
    θ_run (Cert.FfnIn2.defs (F := Bits)) (onTc (τ := Cert.FfnIn2.τ) (Cert.FfnIn2.main (F := Bits))) ⟨m, fun _ => 0, g⟩ (fun r => (∀ c : Dev Cert.FfnIn2.nD,
      r.2.mem ((c.tc : Thread Cert.FfnIn2.nD Cert.FfnIn2.τ).loc Cert.FfnIn2.main_arg0) = m ((c.tc : Thread Cert.FfnIn2.nD Cert.FfnIn2.τ).loc Cert.FfnIn2.main_arg0)
      ∧ r.2.mem ((c.tc : Thread Cert.FfnIn2.nD Cert.FfnIn2.τ).loc Cert.FfnIn2.main_arg1) = m ((c.tc : Thread Cert.FfnIn2.nD Cert.FfnIn2.τ).loc Cert.FfnIn2.main_arg1))
      ∧ r.2.sem = fun _ => 0)

def quiescent_FfnIn2Ideal [hFfnIn2Ideal : Cert.FfnIn2Ideal.Facts] : Prop :=
  ∀ (m : (ℓ : Loc Cert.FfnIn2Ideal.nD Cert.FfnIn2Ideal.τ Cert.FfnIn2Ideal.sig) → Buf (Elt Ideal) ℓ) (g : Dev Cert.FfnIn2Ideal.nD → PrngReg), Pre_FfnIn2Ideal m →
    θ_run (Cert.FfnIn2Ideal.defs (F := Ideal)) (onTc (τ := Cert.FfnIn2Ideal.τ) (Cert.FfnIn2Ideal.main (F := Ideal))) ⟨m, fun _ => 0, g⟩ (fun r => (∀ c : Dev Cert.FfnIn2Ideal.nD,
      r.2.mem ((c.tc : Thread Cert.FfnIn2Ideal.nD Cert.FfnIn2Ideal.τ).loc Cert.FfnIn2Ideal.main_arg0) = m ((c.tc : Thread Cert.FfnIn2Ideal.nD Cert.FfnIn2Ideal.τ).loc Cert.FfnIn2Ideal.main_arg0)
      ∧ r.2.mem ((c.tc : Thread Cert.FfnIn2Ideal.nD Cert.FfnIn2Ideal.τ).loc Cert.FfnIn2Ideal.main_arg1) = m ((c.tc : Thread Cert.FfnIn2Ideal.nD Cert.FfnIn2Ideal.τ).loc Cert.FfnIn2Ideal.main_arg1))
      ∧ r.2.sem = fun _ => 0)

def quiescent_FfnIn2RefIdeal [hFfnIn2RefIdeal : Cert.FfnIn2RefIdeal.Facts] : Prop :=
  ∀ (m : (ℓ : Loc Cert.FfnIn2RefIdeal.nD Cert.FfnIn2RefIdeal.τ Cert.FfnIn2RefIdeal.sig) → Buf (Elt Ideal) ℓ) (g : Dev Cert.FfnIn2RefIdeal.nD → PrngReg), Pre_FfnIn2RefIdeal m →
    θ_run (Cert.FfnIn2RefIdeal.defs (F := Ideal)) (onTc (τ := Cert.FfnIn2RefIdeal.τ) (Cert.FfnIn2RefIdeal.main (F := Ideal))) ⟨m, fun _ => 0, g⟩ (fun r => (∀ c : Dev Cert.FfnIn2RefIdeal.nD,
      r.2.mem ((c.tc : Thread Cert.FfnIn2RefIdeal.nD Cert.FfnIn2RefIdeal.τ).loc Cert.FfnIn2RefIdeal.main_arg0) = m ((c.tc : Thread Cert.FfnIn2RefIdeal.nD Cert.FfnIn2RefIdeal.τ).loc Cert.FfnIn2RefIdeal.main_arg0)
      ∧ r.2.mem ((c.tc : Thread Cert.FfnIn2RefIdeal.nD Cert.FfnIn2RefIdeal.τ).loc Cert.FfnIn2RefIdeal.main_arg1) = m ((c.tc : Thread Cert.FfnIn2RefIdeal.nD Cert.FfnIn2RefIdeal.τ).loc Cert.FfnIn2RefIdeal.main_arg1))
      ∧ r.2.sem = fun _ => 0)

def quiescent_FfnIn3 [hFfnIn3 : Cert.FfnIn3.Facts] : Prop :=
  ∀ (m : (ℓ : Loc Cert.FfnIn3.nD Cert.FfnIn3.τ Cert.FfnIn3.sig) → Buf (Elt Bits) ℓ) (g : Dev Cert.FfnIn3.nD → PrngReg), Pre_FfnIn3 m →
    θ_run (Cert.FfnIn3.defs (F := Bits)) (onTc (τ := Cert.FfnIn3.τ) (Cert.FfnIn3.main (F := Bits))) ⟨m, fun _ => 0, g⟩ (fun r => (∀ c : Dev Cert.FfnIn3.nD,
      r.2.mem ((c.tc : Thread Cert.FfnIn3.nD Cert.FfnIn3.τ).loc Cert.FfnIn3.main_arg0) = m ((c.tc : Thread Cert.FfnIn3.nD Cert.FfnIn3.τ).loc Cert.FfnIn3.main_arg0)
      ∧ r.2.mem ((c.tc : Thread Cert.FfnIn3.nD Cert.FfnIn3.τ).loc Cert.FfnIn3.main_arg1) = m ((c.tc : Thread Cert.FfnIn3.nD Cert.FfnIn3.τ).loc Cert.FfnIn3.main_arg1))
      ∧ r.2.sem = fun _ => 0)

def quiescent_FfnIn3Ideal [hFfnIn3Ideal : Cert.FfnIn3Ideal.Facts] : Prop :=
  ∀ (m : (ℓ : Loc Cert.FfnIn3Ideal.nD Cert.FfnIn3Ideal.τ Cert.FfnIn3Ideal.sig) → Buf (Elt Ideal) ℓ) (g : Dev Cert.FfnIn3Ideal.nD → PrngReg), Pre_FfnIn3Ideal m →
    θ_run (Cert.FfnIn3Ideal.defs (F := Ideal)) (onTc (τ := Cert.FfnIn3Ideal.τ) (Cert.FfnIn3Ideal.main (F := Ideal))) ⟨m, fun _ => 0, g⟩ (fun r => (∀ c : Dev Cert.FfnIn3Ideal.nD,
      r.2.mem ((c.tc : Thread Cert.FfnIn3Ideal.nD Cert.FfnIn3Ideal.τ).loc Cert.FfnIn3Ideal.main_arg0) = m ((c.tc : Thread Cert.FfnIn3Ideal.nD Cert.FfnIn3Ideal.τ).loc Cert.FfnIn3Ideal.main_arg0)
      ∧ r.2.mem ((c.tc : Thread Cert.FfnIn3Ideal.nD Cert.FfnIn3Ideal.τ).loc Cert.FfnIn3Ideal.main_arg1) = m ((c.tc : Thread Cert.FfnIn3Ideal.nD Cert.FfnIn3Ideal.τ).loc Cert.FfnIn3Ideal.main_arg1))
      ∧ r.2.sem = fun _ => 0)

def quiescent_FfnIn3RefIdeal [hFfnIn3RefIdeal : Cert.FfnIn3RefIdeal.Facts] : Prop :=
  ∀ (m : (ℓ : Loc Cert.FfnIn3RefIdeal.nD Cert.FfnIn3RefIdeal.τ Cert.FfnIn3RefIdeal.sig) → Buf (Elt Ideal) ℓ) (g : Dev Cert.FfnIn3RefIdeal.nD → PrngReg), Pre_FfnIn3RefIdeal m →
    θ_run (Cert.FfnIn3RefIdeal.defs (F := Ideal)) (onTc (τ := Cert.FfnIn3RefIdeal.τ) (Cert.FfnIn3RefIdeal.main (F := Ideal))) ⟨m, fun _ => 0, g⟩ (fun r => (∀ c : Dev Cert.FfnIn3RefIdeal.nD,
      r.2.mem ((c.tc : Thread Cert.FfnIn3RefIdeal.nD Cert.FfnIn3RefIdeal.τ).loc Cert.FfnIn3RefIdeal.main_arg0) = m ((c.tc : Thread Cert.FfnIn3RefIdeal.nD Cert.FfnIn3RefIdeal.τ).loc Cert.FfnIn3RefIdeal.main_arg0)
      ∧ r.2.mem ((c.tc : Thread Cert.FfnIn3RefIdeal.nD Cert.FfnIn3RefIdeal.τ).loc Cert.FfnIn3RefIdeal.main_arg1) = m ((c.tc : Thread Cert.FfnIn3RefIdeal.nD Cert.FfnIn3RefIdeal.τ).loc Cert.FfnIn3RefIdeal.main_arg1))
      ∧ r.2.sem = fun _ => 0)

def quiescent_FfnOut0 [hFfnOut0 : Cert.FfnOut0.Facts] : Prop :=
  ∀ (m : (ℓ : Loc Cert.FfnOut0.nD Cert.FfnOut0.τ Cert.FfnOut0.sig) → Buf (Elt Bits) ℓ) (g : Dev Cert.FfnOut0.nD → PrngReg), Pre_FfnOut0 m →
    θ_run (Cert.FfnOut0.defs (F := Bits)) (onTc (τ := Cert.FfnOut0.τ) (Cert.FfnOut0.main (F := Bits))) ⟨m, fun _ => 0, g⟩ (fun r => (∀ c : Dev Cert.FfnOut0.nD,
      r.2.mem ((c.tc : Thread Cert.FfnOut0.nD Cert.FfnOut0.τ).loc Cert.FfnOut0.main_arg0) = m ((c.tc : Thread Cert.FfnOut0.nD Cert.FfnOut0.τ).loc Cert.FfnOut0.main_arg0)
      ∧ r.2.mem ((c.tc : Thread Cert.FfnOut0.nD Cert.FfnOut0.τ).loc Cert.FfnOut0.main_arg1) = m ((c.tc : Thread Cert.FfnOut0.nD Cert.FfnOut0.τ).loc Cert.FfnOut0.main_arg1)
      ∧ r.2.mem ((c.tc : Thread Cert.FfnOut0.nD Cert.FfnOut0.τ).loc Cert.FfnOut0.main_arg2) = m ((c.tc : Thread Cert.FfnOut0.nD Cert.FfnOut0.τ).loc Cert.FfnOut0.main_arg2))
      ∧ r.2.sem = fun _ => 0)

def quiescent_FfnOut0Ideal [hFfnOut0Ideal : Cert.FfnOut0Ideal.Facts] : Prop :=
  ∀ (m : (ℓ : Loc Cert.FfnOut0Ideal.nD Cert.FfnOut0Ideal.τ Cert.FfnOut0Ideal.sig) → Buf (Elt Ideal) ℓ) (g : Dev Cert.FfnOut0Ideal.nD → PrngReg), Pre_FfnOut0Ideal m →
    θ_run (Cert.FfnOut0Ideal.defs (F := Ideal)) (onTc (τ := Cert.FfnOut0Ideal.τ) (Cert.FfnOut0Ideal.main (F := Ideal))) ⟨m, fun _ => 0, g⟩ (fun r => (∀ c : Dev Cert.FfnOut0Ideal.nD,
      r.2.mem ((c.tc : Thread Cert.FfnOut0Ideal.nD Cert.FfnOut0Ideal.τ).loc Cert.FfnOut0Ideal.main_arg0) = m ((c.tc : Thread Cert.FfnOut0Ideal.nD Cert.FfnOut0Ideal.τ).loc Cert.FfnOut0Ideal.main_arg0)
      ∧ r.2.mem ((c.tc : Thread Cert.FfnOut0Ideal.nD Cert.FfnOut0Ideal.τ).loc Cert.FfnOut0Ideal.main_arg1) = m ((c.tc : Thread Cert.FfnOut0Ideal.nD Cert.FfnOut0Ideal.τ).loc Cert.FfnOut0Ideal.main_arg1)
      ∧ r.2.mem ((c.tc : Thread Cert.FfnOut0Ideal.nD Cert.FfnOut0Ideal.τ).loc Cert.FfnOut0Ideal.main_arg2) = m ((c.tc : Thread Cert.FfnOut0Ideal.nD Cert.FfnOut0Ideal.τ).loc Cert.FfnOut0Ideal.main_arg2))
      ∧ r.2.sem = fun _ => 0)

def quiescent_FfnOut0RefIdeal [hFfnOut0RefIdeal : Cert.FfnOut0RefIdeal.Facts] : Prop :=
  ∀ (m : (ℓ : Loc Cert.FfnOut0RefIdeal.nD Cert.FfnOut0RefIdeal.τ Cert.FfnOut0RefIdeal.sig) → Buf (Elt Ideal) ℓ) (g : Dev Cert.FfnOut0RefIdeal.nD → PrngReg), Pre_FfnOut0RefIdeal m →
    θ_run (Cert.FfnOut0RefIdeal.defs (F := Ideal)) (onTc (τ := Cert.FfnOut0RefIdeal.τ) (Cert.FfnOut0RefIdeal.main (F := Ideal))) ⟨m, fun _ => 0, g⟩ (fun r => (∀ c : Dev Cert.FfnOut0RefIdeal.nD,
      r.2.mem ((c.tc : Thread Cert.FfnOut0RefIdeal.nD Cert.FfnOut0RefIdeal.τ).loc Cert.FfnOut0RefIdeal.main_arg0) = m ((c.tc : Thread Cert.FfnOut0RefIdeal.nD Cert.FfnOut0RefIdeal.τ).loc Cert.FfnOut0RefIdeal.main_arg0)
      ∧ r.2.mem ((c.tc : Thread Cert.FfnOut0RefIdeal.nD Cert.FfnOut0RefIdeal.τ).loc Cert.FfnOut0RefIdeal.main_arg1) = m ((c.tc : Thread Cert.FfnOut0RefIdeal.nD Cert.FfnOut0RefIdeal.τ).loc Cert.FfnOut0RefIdeal.main_arg1)
      ∧ r.2.mem ((c.tc : Thread Cert.FfnOut0RefIdeal.nD Cert.FfnOut0RefIdeal.τ).loc Cert.FfnOut0RefIdeal.main_arg2) = m ((c.tc : Thread Cert.FfnOut0RefIdeal.nD Cert.FfnOut0RefIdeal.τ).loc Cert.FfnOut0RefIdeal.main_arg2))
      ∧ r.2.sem = fun _ => 0)

def quiescent_FfnOut1 [hFfnOut1 : Cert.FfnOut1.Facts] : Prop :=
  ∀ (m : (ℓ : Loc Cert.FfnOut1.nD Cert.FfnOut1.τ Cert.FfnOut1.sig) → Buf (Elt Bits) ℓ) (g : Dev Cert.FfnOut1.nD → PrngReg), Pre_FfnOut1 m →
    θ_run (Cert.FfnOut1.defs (F := Bits)) (onTc (τ := Cert.FfnOut1.τ) (Cert.FfnOut1.main (F := Bits))) ⟨m, fun _ => 0, g⟩ (fun r => (∀ c : Dev Cert.FfnOut1.nD,
      r.2.mem ((c.tc : Thread Cert.FfnOut1.nD Cert.FfnOut1.τ).loc Cert.FfnOut1.main_arg0) = m ((c.tc : Thread Cert.FfnOut1.nD Cert.FfnOut1.τ).loc Cert.FfnOut1.main_arg0)
      ∧ r.2.mem ((c.tc : Thread Cert.FfnOut1.nD Cert.FfnOut1.τ).loc Cert.FfnOut1.main_arg1) = m ((c.tc : Thread Cert.FfnOut1.nD Cert.FfnOut1.τ).loc Cert.FfnOut1.main_arg1)
      ∧ r.2.mem ((c.tc : Thread Cert.FfnOut1.nD Cert.FfnOut1.τ).loc Cert.FfnOut1.main_arg2) = m ((c.tc : Thread Cert.FfnOut1.nD Cert.FfnOut1.τ).loc Cert.FfnOut1.main_arg2))
      ∧ r.2.sem = fun _ => 0)

def quiescent_FfnOut1Ideal [hFfnOut1Ideal : Cert.FfnOut1Ideal.Facts] : Prop :=
  ∀ (m : (ℓ : Loc Cert.FfnOut1Ideal.nD Cert.FfnOut1Ideal.τ Cert.FfnOut1Ideal.sig) → Buf (Elt Ideal) ℓ) (g : Dev Cert.FfnOut1Ideal.nD → PrngReg), Pre_FfnOut1Ideal m →
    θ_run (Cert.FfnOut1Ideal.defs (F := Ideal)) (onTc (τ := Cert.FfnOut1Ideal.τ) (Cert.FfnOut1Ideal.main (F := Ideal))) ⟨m, fun _ => 0, g⟩ (fun r => (∀ c : Dev Cert.FfnOut1Ideal.nD,
      r.2.mem ((c.tc : Thread Cert.FfnOut1Ideal.nD Cert.FfnOut1Ideal.τ).loc Cert.FfnOut1Ideal.main_arg0) = m ((c.tc : Thread Cert.FfnOut1Ideal.nD Cert.FfnOut1Ideal.τ).loc Cert.FfnOut1Ideal.main_arg0)
      ∧ r.2.mem ((c.tc : Thread Cert.FfnOut1Ideal.nD Cert.FfnOut1Ideal.τ).loc Cert.FfnOut1Ideal.main_arg1) = m ((c.tc : Thread Cert.FfnOut1Ideal.nD Cert.FfnOut1Ideal.τ).loc Cert.FfnOut1Ideal.main_arg1)
      ∧ r.2.mem ((c.tc : Thread Cert.FfnOut1Ideal.nD Cert.FfnOut1Ideal.τ).loc Cert.FfnOut1Ideal.main_arg2) = m ((c.tc : Thread Cert.FfnOut1Ideal.nD Cert.FfnOut1Ideal.τ).loc Cert.FfnOut1Ideal.main_arg2))
      ∧ r.2.sem = fun _ => 0)

def quiescent_FfnOut1RefIdeal [hFfnOut1RefIdeal : Cert.FfnOut1RefIdeal.Facts] : Prop :=
  ∀ (m : (ℓ : Loc Cert.FfnOut1RefIdeal.nD Cert.FfnOut1RefIdeal.τ Cert.FfnOut1RefIdeal.sig) → Buf (Elt Ideal) ℓ) (g : Dev Cert.FfnOut1RefIdeal.nD → PrngReg), Pre_FfnOut1RefIdeal m →
    θ_run (Cert.FfnOut1RefIdeal.defs (F := Ideal)) (onTc (τ := Cert.FfnOut1RefIdeal.τ) (Cert.FfnOut1RefIdeal.main (F := Ideal))) ⟨m, fun _ => 0, g⟩ (fun r => (∀ c : Dev Cert.FfnOut1RefIdeal.nD,
      r.2.mem ((c.tc : Thread Cert.FfnOut1RefIdeal.nD Cert.FfnOut1RefIdeal.τ).loc Cert.FfnOut1RefIdeal.main_arg0) = m ((c.tc : Thread Cert.FfnOut1RefIdeal.nD Cert.FfnOut1RefIdeal.τ).loc Cert.FfnOut1RefIdeal.main_arg0)
      ∧ r.2.mem ((c.tc : Thread Cert.FfnOut1RefIdeal.nD Cert.FfnOut1RefIdeal.τ).loc Cert.FfnOut1RefIdeal.main_arg1) = m ((c.tc : Thread Cert.FfnOut1RefIdeal.nD Cert.FfnOut1RefIdeal.τ).loc Cert.FfnOut1RefIdeal.main_arg1)
      ∧ r.2.mem ((c.tc : Thread Cert.FfnOut1RefIdeal.nD Cert.FfnOut1RefIdeal.τ).loc Cert.FfnOut1RefIdeal.main_arg2) = m ((c.tc : Thread Cert.FfnOut1RefIdeal.nD Cert.FfnOut1RefIdeal.τ).loc Cert.FfnOut1RefIdeal.main_arg2))
      ∧ r.2.sem = fun _ => 0)

def quiescent_FfnOut2 [hFfnOut2 : Cert.FfnOut2.Facts] : Prop :=
  ∀ (m : (ℓ : Loc Cert.FfnOut2.nD Cert.FfnOut2.τ Cert.FfnOut2.sig) → Buf (Elt Bits) ℓ) (g : Dev Cert.FfnOut2.nD → PrngReg), Pre_FfnOut2 m →
    θ_run (Cert.FfnOut2.defs (F := Bits)) (onTc (τ := Cert.FfnOut2.τ) (Cert.FfnOut2.main (F := Bits))) ⟨m, fun _ => 0, g⟩ (fun r => (∀ c : Dev Cert.FfnOut2.nD,
      r.2.mem ((c.tc : Thread Cert.FfnOut2.nD Cert.FfnOut2.τ).loc Cert.FfnOut2.main_arg0) = m ((c.tc : Thread Cert.FfnOut2.nD Cert.FfnOut2.τ).loc Cert.FfnOut2.main_arg0)
      ∧ r.2.mem ((c.tc : Thread Cert.FfnOut2.nD Cert.FfnOut2.τ).loc Cert.FfnOut2.main_arg1) = m ((c.tc : Thread Cert.FfnOut2.nD Cert.FfnOut2.τ).loc Cert.FfnOut2.main_arg1)
      ∧ r.2.mem ((c.tc : Thread Cert.FfnOut2.nD Cert.FfnOut2.τ).loc Cert.FfnOut2.main_arg2) = m ((c.tc : Thread Cert.FfnOut2.nD Cert.FfnOut2.τ).loc Cert.FfnOut2.main_arg2))
      ∧ r.2.sem = fun _ => 0)

def quiescent_FfnOut2Ideal [hFfnOut2Ideal : Cert.FfnOut2Ideal.Facts] : Prop :=
  ∀ (m : (ℓ : Loc Cert.FfnOut2Ideal.nD Cert.FfnOut2Ideal.τ Cert.FfnOut2Ideal.sig) → Buf (Elt Ideal) ℓ) (g : Dev Cert.FfnOut2Ideal.nD → PrngReg), Pre_FfnOut2Ideal m →
    θ_run (Cert.FfnOut2Ideal.defs (F := Ideal)) (onTc (τ := Cert.FfnOut2Ideal.τ) (Cert.FfnOut2Ideal.main (F := Ideal))) ⟨m, fun _ => 0, g⟩ (fun r => (∀ c : Dev Cert.FfnOut2Ideal.nD,
      r.2.mem ((c.tc : Thread Cert.FfnOut2Ideal.nD Cert.FfnOut2Ideal.τ).loc Cert.FfnOut2Ideal.main_arg0) = m ((c.tc : Thread Cert.FfnOut2Ideal.nD Cert.FfnOut2Ideal.τ).loc Cert.FfnOut2Ideal.main_arg0)
      ∧ r.2.mem ((c.tc : Thread Cert.FfnOut2Ideal.nD Cert.FfnOut2Ideal.τ).loc Cert.FfnOut2Ideal.main_arg1) = m ((c.tc : Thread Cert.FfnOut2Ideal.nD Cert.FfnOut2Ideal.τ).loc Cert.FfnOut2Ideal.main_arg1)
      ∧ r.2.mem ((c.tc : Thread Cert.FfnOut2Ideal.nD Cert.FfnOut2Ideal.τ).loc Cert.FfnOut2Ideal.main_arg2) = m ((c.tc : Thread Cert.FfnOut2Ideal.nD Cert.FfnOut2Ideal.τ).loc Cert.FfnOut2Ideal.main_arg2))
      ∧ r.2.sem = fun _ => 0)

def quiescent_FfnOut2RefIdeal [hFfnOut2RefIdeal : Cert.FfnOut2RefIdeal.Facts] : Prop :=
  ∀ (m : (ℓ : Loc Cert.FfnOut2RefIdeal.nD Cert.FfnOut2RefIdeal.τ Cert.FfnOut2RefIdeal.sig) → Buf (Elt Ideal) ℓ) (g : Dev Cert.FfnOut2RefIdeal.nD → PrngReg), Pre_FfnOut2RefIdeal m →
    θ_run (Cert.FfnOut2RefIdeal.defs (F := Ideal)) (onTc (τ := Cert.FfnOut2RefIdeal.τ) (Cert.FfnOut2RefIdeal.main (F := Ideal))) ⟨m, fun _ => 0, g⟩ (fun r => (∀ c : Dev Cert.FfnOut2RefIdeal.nD,
      r.2.mem ((c.tc : Thread Cert.FfnOut2RefIdeal.nD Cert.FfnOut2RefIdeal.τ).loc Cert.FfnOut2RefIdeal.main_arg0) = m ((c.tc : Thread Cert.FfnOut2RefIdeal.nD Cert.FfnOut2RefIdeal.τ).loc Cert.FfnOut2RefIdeal.main_arg0)
      ∧ r.2.mem ((c.tc : Thread Cert.FfnOut2RefIdeal.nD Cert.FfnOut2RefIdeal.τ).loc Cert.FfnOut2RefIdeal.main_arg1) = m ((c.tc : Thread Cert.FfnOut2RefIdeal.nD Cert.FfnOut2RefIdeal.τ).loc Cert.FfnOut2RefIdeal.main_arg1)
      ∧ r.2.mem ((c.tc : Thread Cert.FfnOut2RefIdeal.nD Cert.FfnOut2RefIdeal.τ).loc Cert.FfnOut2RefIdeal.main_arg2) = m ((c.tc : Thread Cert.FfnOut2RefIdeal.nD Cert.FfnOut2RefIdeal.τ).loc Cert.FfnOut2RefIdeal.main_arg2))
      ∧ r.2.sem = fun _ => 0)

def quiescent_FfnOut3 [hFfnOut3 : Cert.FfnOut3.Facts] : Prop :=
  ∀ (m : (ℓ : Loc Cert.FfnOut3.nD Cert.FfnOut3.τ Cert.FfnOut3.sig) → Buf (Elt Bits) ℓ) (g : Dev Cert.FfnOut3.nD → PrngReg), Pre_FfnOut3 m →
    θ_run (Cert.FfnOut3.defs (F := Bits)) (onTc (τ := Cert.FfnOut3.τ) (Cert.FfnOut3.main (F := Bits))) ⟨m, fun _ => 0, g⟩ (fun r => (∀ c : Dev Cert.FfnOut3.nD,
      r.2.mem ((c.tc : Thread Cert.FfnOut3.nD Cert.FfnOut3.τ).loc Cert.FfnOut3.main_arg0) = m ((c.tc : Thread Cert.FfnOut3.nD Cert.FfnOut3.τ).loc Cert.FfnOut3.main_arg0)
      ∧ r.2.mem ((c.tc : Thread Cert.FfnOut3.nD Cert.FfnOut3.τ).loc Cert.FfnOut3.main_arg1) = m ((c.tc : Thread Cert.FfnOut3.nD Cert.FfnOut3.τ).loc Cert.FfnOut3.main_arg1)
      ∧ r.2.mem ((c.tc : Thread Cert.FfnOut3.nD Cert.FfnOut3.τ).loc Cert.FfnOut3.main_arg2) = m ((c.tc : Thread Cert.FfnOut3.nD Cert.FfnOut3.τ).loc Cert.FfnOut3.main_arg2))
      ∧ r.2.sem = fun _ => 0)

def quiescent_FfnOut3Ideal [hFfnOut3Ideal : Cert.FfnOut3Ideal.Facts] : Prop :=
  ∀ (m : (ℓ : Loc Cert.FfnOut3Ideal.nD Cert.FfnOut3Ideal.τ Cert.FfnOut3Ideal.sig) → Buf (Elt Ideal) ℓ) (g : Dev Cert.FfnOut3Ideal.nD → PrngReg), Pre_FfnOut3Ideal m →
    θ_run (Cert.FfnOut3Ideal.defs (F := Ideal)) (onTc (τ := Cert.FfnOut3Ideal.τ) (Cert.FfnOut3Ideal.main (F := Ideal))) ⟨m, fun _ => 0, g⟩ (fun r => (∀ c : Dev Cert.FfnOut3Ideal.nD,
      r.2.mem ((c.tc : Thread Cert.FfnOut3Ideal.nD Cert.FfnOut3Ideal.τ).loc Cert.FfnOut3Ideal.main_arg0) = m ((c.tc : Thread Cert.FfnOut3Ideal.nD Cert.FfnOut3Ideal.τ).loc Cert.FfnOut3Ideal.main_arg0)
      ∧ r.2.mem ((c.tc : Thread Cert.FfnOut3Ideal.nD Cert.FfnOut3Ideal.τ).loc Cert.FfnOut3Ideal.main_arg1) = m ((c.tc : Thread Cert.FfnOut3Ideal.nD Cert.FfnOut3Ideal.τ).loc Cert.FfnOut3Ideal.main_arg1)
      ∧ r.2.mem ((c.tc : Thread Cert.FfnOut3Ideal.nD Cert.FfnOut3Ideal.τ).loc Cert.FfnOut3Ideal.main_arg2) = m ((c.tc : Thread Cert.FfnOut3Ideal.nD Cert.FfnOut3Ideal.τ).loc Cert.FfnOut3Ideal.main_arg2))
      ∧ r.2.sem = fun _ => 0)

def quiescent_FfnOut3RefIdeal [hFfnOut3RefIdeal : Cert.FfnOut3RefIdeal.Facts] : Prop :=
  ∀ (m : (ℓ : Loc Cert.FfnOut3RefIdeal.nD Cert.FfnOut3RefIdeal.τ Cert.FfnOut3RefIdeal.sig) → Buf (Elt Ideal) ℓ) (g : Dev Cert.FfnOut3RefIdeal.nD → PrngReg), Pre_FfnOut3RefIdeal m →
    θ_run (Cert.FfnOut3RefIdeal.defs (F := Ideal)) (onTc (τ := Cert.FfnOut3RefIdeal.τ) (Cert.FfnOut3RefIdeal.main (F := Ideal))) ⟨m, fun _ => 0, g⟩ (fun r => (∀ c : Dev Cert.FfnOut3RefIdeal.nD,
      r.2.mem ((c.tc : Thread Cert.FfnOut3RefIdeal.nD Cert.FfnOut3RefIdeal.τ).loc Cert.FfnOut3RefIdeal.main_arg0) = m ((c.tc : Thread Cert.FfnOut3RefIdeal.nD Cert.FfnOut3RefIdeal.τ).loc Cert.FfnOut3RefIdeal.main_arg0)
      ∧ r.2.mem ((c.tc : Thread Cert.FfnOut3RefIdeal.nD Cert.FfnOut3RefIdeal.τ).loc Cert.FfnOut3RefIdeal.main_arg1) = m ((c.tc : Thread Cert.FfnOut3RefIdeal.nD Cert.FfnOut3RefIdeal.τ).loc Cert.FfnOut3RefIdeal.main_arg1)
      ∧ r.2.mem ((c.tc : Thread Cert.FfnOut3RefIdeal.nD Cert.FfnOut3RefIdeal.τ).loc Cert.FfnOut3RefIdeal.main_arg2) = m ((c.tc : Thread Cert.FfnOut3RefIdeal.nD Cert.FfnOut3RefIdeal.τ).loc Cert.FfnOut3RefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ r.2.sem = fun _ => 0)

def quiescent_QkvCRefIdeal [hQkvCRefIdeal : Cert.QkvCRefIdeal.Facts] : Prop :=
  ∀ (m : (ℓ : Loc Cert.QkvCRefIdeal.nD Cert.QkvCRefIdeal.τ Cert.QkvCRefIdeal.sig) → Buf (Elt Ideal) ℓ) (g : Dev Cert.QkvCRefIdeal.nD → PrngReg), Pre_QkvCRefIdeal m →
    θ_run (Cert.QkvCRefIdeal.defs (F := Ideal)) (onTc (τ := Cert.QkvCRefIdeal.τ) (Cert.QkvCRefIdeal.main (F := Ideal))) ⟨m, fun _ => 0, g⟩ (fun r => (∀ c : Dev Cert.QkvCRefIdeal.nD,
      r.2.mem ((c.tc : Thread Cert.QkvCRefIdeal.nD Cert.QkvCRefIdeal.τ).loc Cert.QkvCRefIdeal.main_arg0) = m ((c.tc : Thread Cert.QkvCRefIdeal.nD Cert.QkvCRefIdeal.τ).loc Cert.QkvCRefIdeal.main_arg0)
      ∧ r.2.mem ((c.tc : Thread Cert.QkvCRefIdeal.nD Cert.QkvCRefIdeal.τ).loc Cert.QkvCRefIdeal.main_arg1) = m ((c.tc : Thread Cert.QkvCRefIdeal.nD Cert.QkvCRefIdeal.τ).loc Cert.QkvCRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Qa [hQa : Cert.Qa.Facts] : Prop :=
  ∀ (m : (ℓ : Loc Cert.Qa.nD Cert.Qa.τ Cert.Qa.sig) → Buf (Elt Bits) ℓ) (g : Dev Cert.Qa.nD → PrngReg), Pre_Qa m →
    θ_run (Cert.Qa.defs (F := Bits)) (onTc (τ := Cert.Qa.τ) (Cert.Qa.main (F := Bits))) ⟨m, fun _ => 0, g⟩ (fun r => (∀ c : Dev Cert.Qa.nD,
      r.2.mem ((c.tc : Thread Cert.Qa.nD Cert.Qa.τ).loc Cert.Qa.main_arg0) = m ((c.tc : Thread Cert.Qa.nD Cert.Qa.τ).loc Cert.Qa.main_arg0)
      ∧ r.2.mem ((c.tc : Thread Cert.Qa.nD Cert.Qa.τ).loc Cert.Qa.main_arg1) = m ((c.tc : Thread Cert.Qa.nD Cert.Qa.τ).loc Cert.Qa.main_arg1))
      ∧ r.2.sem = fun _ => 0)

def quiescent_QaIdeal [hQaIdeal : Cert.QaIdeal.Facts] : Prop :=
  ∀ (m : (ℓ : Loc Cert.QaIdeal.nD Cert.QaIdeal.τ Cert.QaIdeal.sig) → Buf (Elt Ideal) ℓ) (g : Dev Cert.QaIdeal.nD → PrngReg), Pre_QaIdeal m →
    θ_run (Cert.QaIdeal.defs (F := Ideal)) (onTc (τ := Cert.QaIdeal.τ) (Cert.QaIdeal.main (F := Ideal))) ⟨m, fun _ => 0, g⟩ (fun r => (∀ c : Dev Cert.QaIdeal.nD,
      r.2.mem ((c.tc : Thread Cert.QaIdeal.nD Cert.QaIdeal.τ).loc Cert.QaIdeal.main_arg0) = m ((c.tc : Thread Cert.QaIdeal.nD Cert.QaIdeal.τ).loc Cert.QaIdeal.main_arg0)
      ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ r.2.sem = fun _ => 0)

def quiescent_QaRefIdeal [hQaRefIdeal : Cert.QaRefIdeal.Facts] : Prop :=
  ∀ (m : (ℓ : Loc Cert.QaRefIdeal.nD Cert.QaRefIdeal.τ Cert.QaRefIdeal.sig) → Buf (Elt Ideal) ℓ) (g : Dev Cert.QaRefIdeal.nD → PrngReg), Pre_QaRefIdeal m →
    θ_run (Cert.QaRefIdeal.defs (F := Ideal)) (onTc (τ := Cert.QaRefIdeal.τ) (Cert.QaRefIdeal.main (F := Ideal))) ⟨m, fun _ => 0, g⟩ (fun r => (∀ c : Dev Cert.QaRefIdeal.nD,
      r.2.mem ((c.tc : Thread Cert.QaRefIdeal.nD Cert.QaRefIdeal.τ).loc Cert.QaRefIdeal.main_arg0) = m ((c.tc : Thread Cert.QaRefIdeal.nD Cert.QaRefIdeal.τ).loc Cert.QaRefIdeal.main_arg0)
      ∧ r.2.mem ((c.tc : Thread Cert.QaRefIdeal.nD Cert.QaRefIdeal.τ).loc Cert.QaRefIdeal.main_arg1) = m ((c.tc : Thread Cert.QaRefIdeal.nD Cert.QaRefIdeal.τ).loc Cert.QaRefIdeal.main_arg1))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1))
      ∧ r.2.sem = fun _ => 0)

def quiescent_Kva [hKva : Cert.Kva.Facts] : Prop :=
  ∀ (m : (ℓ : Loc Cert.Kva.nD Cert.Kva.τ Cert.Kva.sig) → Buf (Elt Bits) ℓ) (g : Dev Cert.Kva.nD → PrngReg), Pre_Kva m →
    θ_run (Cert.Kva.defs (F := Bits)) (onTc (τ := Cert.Kva.τ) (Cert.Kva.main (F := Bits))) ⟨m, fun _ => 0, g⟩ (fun r => (∀ c : Dev Cert.Kva.nD,
      r.2.mem ((c.tc : Thread Cert.Kva.nD Cert.Kva.τ).loc Cert.Kva.main_arg0) = m ((c.tc : Thread Cert.Kva.nD Cert.Kva.τ).loc Cert.Kva.main_arg0)
      ∧ r.2.mem ((c.tc : Thread Cert.Kva.nD Cert.Kva.τ).loc Cert.Kva.main_arg1) = m ((c.tc : Thread Cert.Kva.nD Cert.Kva.τ).loc Cert.Kva.main_arg1))
      ∧ r.2.sem = fun _ => 0)

def quiescent_KvaIdeal [hKvaIdeal : Cert.KvaIdeal.Facts] : Prop :=
  ∀ (m : (ℓ : Loc Cert.KvaIdeal.nD Cert.KvaIdeal.τ Cert.KvaIdeal.sig) → Buf (Elt Ideal) ℓ) (g : Dev Cert.KvaIdeal.nD → PrngReg), Pre_KvaIdeal m →
    θ_run (Cert.KvaIdeal.defs (F := Ideal)) (onTc (τ := Cert.KvaIdeal.τ) (Cert.KvaIdeal.main (F := Ideal))) ⟨m, fun _ => 0, g⟩ (fun r => (∀ c : Dev Cert.KvaIdeal.nD,
      r.2.mem ((c.tc : Thread Cert.KvaIdeal.nD Cert.KvaIdeal.τ).loc Cert.KvaIdeal.main_arg0) = m ((c.tc : Thread Cert.KvaIdeal.nD Cert.KvaIdeal.τ).loc Cert.KvaIdeal.main_arg0)
      ∧ r.2.mem ((c.tc : Thread Cert.KvaIdeal.nD Cert.KvaIdeal.τ).loc Cert.KvaIdeal.main_arg1) = m ((c.tc : Thread Cert.KvaIdeal.nD Cert.KvaIdeal.τ).loc Cert.KvaIdeal.main_arg1))
      ∧ r.2.sem = fun _ => 0)

def quiescent_KvaRefIdeal [hKvaRefIdeal : Cert.KvaRefIdeal.Facts] : Prop :=
  ∀ (m : (ℓ : Loc Cert.KvaRefIdeal.nD Cert.KvaRefIdeal.τ Cert.KvaRefIdeal.sig) → Buf (Elt Ideal) ℓ) (g : Dev Cert.KvaRefIdeal.nD → PrngReg), Pre_KvaRefIdeal m →
    θ_run (Cert.KvaRefIdeal.defs (F := Ideal)) (onTc (τ := Cert.KvaRefIdeal.τ) (Cert.KvaRefIdeal.main (F := Ideal))) ⟨m, fun _ => 0, g⟩ (fun r => (∀ c : Dev Cert.KvaRefIdeal.nD,
      r.2.mem ((c.tc : Thread Cert.KvaRefIdeal.nD Cert.KvaRefIdeal.τ).loc Cert.KvaRefIdeal.main_arg0) = m ((c.tc : Thread Cert.KvaRefIdeal.nD Cert.KvaRefIdeal.τ).loc Cert.KvaRefIdeal.main_arg0)
      ∧ r.2.mem ((c.tc : Thread Cert.KvaRefIdeal.nD Cert.KvaRefIdeal.τ).loc Cert.KvaRefIdeal.main_arg1) = m ((c.tc : Thread Cert.KvaRefIdeal.nD Cert.KvaRefIdeal.τ).loc Cert.KvaRefIdeal.main_arg1))
      ∧ r.2.sem = fun _ => 0)

def quiescent_NormBf [hNormBf : Cert.NormBf.Facts] : Prop :=
  ∀ (m : (ℓ : Loc Cert.NormBf.nD Cert.NormBf.τ Cert.NormBf.sig) → Buf (Elt Bits) ℓ) (g : Dev Cert.NormBf.nD → PrngReg), Pre_NormBf m →
    θ_run (Cert.NormBf.defs (F := Bits)) (onTc (τ := Cert.NormBf.τ) (Cert.NormBf.main (F := Bits))) ⟨m, fun _ => 0, g⟩ (fun r => (∀ c : Dev Cert.NormBf.nD,
      r.2.mem ((c.tc : Thread Cert.NormBf.nD Cert.NormBf.τ).loc Cert.NormBf.main_arg0) = m ((c.tc : Thread Cert.NormBf.nD Cert.NormBf.τ).loc Cert.NormBf.main_arg0)
      ∧ r.2.mem ((c.tc : Thread Cert.NormBf.nD Cert.NormBf.τ).loc Cert.NormBf.main_arg1) = m ((c.tc : Thread Cert.NormBf.nD Cert.NormBf.τ).loc Cert.NormBf.main_arg1))
      ∧ r.2.sem = fun _ => 0)

def quiescent_NormBfIdeal [hNormBfIdeal : Cert.NormBfIdeal.Facts] : Prop :=
  ∀ (m : (ℓ : Loc Cert.NormBfIdeal.nD Cert.NormBfIdeal.τ Cert.NormBfIdeal.sig) → Buf (Elt Ideal) ℓ) (g : Dev Cert.NormBfIdeal.nD → PrngReg), Pre_NormBfIdeal m →
    θ_run (Cert.NormBfIdeal.defs (F := Ideal)) (onTc (τ := Cert.NormBfIdeal.τ) (Cert.NormBfIdeal.main (F := Ideal))) ⟨m, fun _ => 0, g⟩ (fun r => (∀ c : Dev Cert.NormBfIdeal.nD,
      r.2.mem ((c.tc : Thread Cert.NormBfIdeal.nD Cert.NormBfIdeal.τ).loc Cert.NormBfIdeal.main_arg0) = m ((c.tc : Thread Cert.NormBfIdeal.nD Cert.NormBfIdeal.τ).loc Cert.NormBfIdeal.main_arg0)
      ∧ r.2.mem ((c.tc : Thread Cert.NormBfIdeal.nD Cert.NormBfIdeal.τ).loc Cert.NormBfIdeal.main_arg1) = m ((c.tc : Thread Cert.NormBfIdeal.nD Cert.NormBfIdeal.τ).loc Cert.NormBfIdeal.main_arg1))
      ∧ r.2.sem = fun _ => 0)

def quiescent_NormBfRefIdeal [hNormBfRefIdeal : Cert.NormBfRefIdeal.Facts] : Prop :=
  ∀ (m : (ℓ : Loc Cert.NormBfRefIdeal.nD Cert.NormBfRefIdeal.τ Cert.NormBfRefIdeal.sig) → Buf (Elt Ideal) ℓ) (g : Dev Cert.NormBfRefIdeal.nD → PrngReg), Pre_NormBfRefIdeal m →
    θ_run (Cert.NormBfRefIdeal.defs (F := Ideal)) (onTc (τ := Cert.NormBfRefIdeal.τ) (Cert.NormBfRefIdeal.main (F := Ideal))) ⟨m, fun _ => 0, g⟩ (fun r => (∀ c : Dev Cert.NormBfRefIdeal.nD,
      r.2.mem ((c.tc : Thread Cert.NormBfRefIdeal.nD Cert.NormBfRefIdeal.τ).loc Cert.NormBfRefIdeal.main_arg0) = m ((c.tc : Thread Cert.NormBfRefIdeal.nD Cert.NormBfRefIdeal.τ).loc Cert.NormBfRefIdeal.main_arg0)
      ∧ r.2.mem ((c.tc : Thread Cert.NormBfRefIdeal.nD Cert.NormBfRefIdeal.τ).loc Cert.NormBfRefIdeal.main_arg1) = m ((c.tc : Thread Cert.NormBfRefIdeal.nD Cert.NormBfRefIdeal.τ).loc Cert.NormBfRefIdeal.main_arg1))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_AKv [hAKv : Cert.AKv.Facts] : Prop :=
  ∀ (m : (ℓ : Loc Cert.AKv.nD Cert.AKv.τ Cert.AKv.sig) → Buf (Elt Bits) ℓ) (g : Dev Cert.AKv.nD → PrngReg), Pre_AKv m →
    θ_run (Cert.AKv.defs (F := Bits)) (onTc (τ := Cert.AKv.τ) (Cert.AKv.main (F := Bits))) ⟨m, fun _ => 0, g⟩ (fun r => (∀ c : Dev Cert.AKv.nD,
      r.2.mem ((c.tc : Thread Cert.AKv.nD Cert.AKv.τ).loc Cert.AKv.main_arg0) = m ((c.tc : Thread Cert.AKv.nD Cert.AKv.τ).loc Cert.AKv.main_arg0)
      ∧ r.2.mem ((c.tc : Thread Cert.AKv.nD Cert.AKv.τ).loc Cert.AKv.main_arg1) = m ((c.tc : Thread Cert.AKv.nD Cert.AKv.τ).loc Cert.AKv.main_arg1)
      ∧ r.2.mem ((c.tc : Thread Cert.AKv.nD Cert.AKv.τ).loc Cert.AKv.main_arg2) = m ((c.tc : Thread Cert.AKv.nD Cert.AKv.τ).loc Cert.AKv.main_arg2)
      ∧ r.2.mem ((c.tc : Thread Cert.AKv.nD Cert.AKv.τ).loc Cert.AKv.main_arg3) = m ((c.tc : Thread Cert.AKv.nD Cert.AKv.τ).loc Cert.AKv.main_arg3))
      ∧ r.2.sem = fun _ => 0)

def quiescent_AKvIdeal [hAKvIdeal : Cert.AKvIdeal.Facts] : Prop :=
  ∀ (m : (ℓ : Loc Cert.AKvIdeal.nD Cert.AKvIdeal.τ Cert.AKvIdeal.sig) → Buf (Elt Ideal) ℓ) (g : Dev Cert.AKvIdeal.nD → PrngReg), Pre_AKvIdeal m →
    θ_run (Cert.AKvIdeal.defs (F := Ideal)) (onTc (τ := Cert.AKvIdeal.τ) (Cert.AKvIdeal.main (F := Ideal))) ⟨m, fun _ => 0, g⟩ (fun r => (∀ c : Dev Cert.AKvIdeal.nD,
      r.2.mem ((c.tc : Thread Cert.AKvIdeal.nD Cert.AKvIdeal.τ).loc Cert.AKvIdeal.main_arg0) = m ((c.tc : Thread Cert.AKvIdeal.nD Cert.AKvIdeal.τ).loc Cert.AKvIdeal.main_arg0)
      ∧ r.2.mem ((c.tc : Thread Cert.AKvIdeal.nD Cert.AKvIdeal.τ).loc Cert.AKvIdeal.main_arg1) = m ((c.tc : Thread Cert.AKvIdeal.nD Cert.AKvIdeal.τ).loc Cert.AKvIdeal.main_arg1)
      ∧ r.2.mem ((c.tc : Thread Cert.AKvIdeal.nD Cert.AKvIdeal.τ).loc Cert.AKvIdeal.main_arg2) = m ((c.tc : Thread Cert.AKvIdeal.nD Cert.AKvIdeal.τ).loc Cert.AKvIdeal.main_arg2)
      ∧ r.2.mem ((c.tc : Thread Cert.AKvIdeal.nD Cert.AKvIdeal.τ).loc Cert.AKvIdeal.main_arg3) = m ((c.tc : Thread Cert.AKvIdeal.nD Cert.AKvIdeal.τ).loc Cert.AKvIdeal.main_arg3))
      ∧ r.2.sem = fun _ => 0)

def quiescent_AKvRefIdeal [hAKvRefIdeal : Cert.AKvRefIdeal.Facts] : Prop :=
  ∀ (m : (ℓ : Loc Cert.AKvRefIdeal.nD Cert.AKvRefIdeal.τ Cert.AKvRefIdeal.sig) → Buf (Elt Ideal) ℓ) (g : Dev Cert.AKvRefIdeal.nD → PrngReg), Pre_AKvRefIdeal m →
    θ_run (Cert.AKvRefIdeal.defs (F := Ideal)) (onTc (τ := Cert.AKvRefIdeal.τ) (Cert.AKvRefIdeal.main (F := Ideal))) ⟨m, fun _ => 0, g⟩ (fun r => (∀ c : Dev Cert.AKvRefIdeal.nD,
      r.2.mem ((c.tc : Thread Cert.AKvRefIdeal.nD Cert.AKvRefIdeal.τ).loc Cert.AKvRefIdeal.main_arg0) = m ((c.tc : Thread Cert.AKvRefIdeal.nD Cert.AKvRefIdeal.τ).loc Cert.AKvRefIdeal.main_arg0)
      ∧ r.2.mem ((c.tc : Thread Cert.AKvRefIdeal.nD Cert.AKvRefIdeal.τ).loc Cert.AKvRefIdeal.main_arg1) = m ((c.tc : Thread Cert.AKvRefIdeal.nD Cert.AKvRefIdeal.τ).loc Cert.AKvRefIdeal.main_arg1)
      ∧ r.2.mem ((c.tc : Thread Cert.AKvRefIdeal.nD Cert.AKvRefIdeal.τ).loc Cert.AKvRefIdeal.main_arg2) = m ((c.tc : Thread Cert.AKvRefIdeal.nD Cert.AKvRefIdeal.τ).loc Cert.AKvRefIdeal.main_arg2)
      ∧ r.2.mem ((c.tc : Thread Cert.AKvRefIdeal.nD Cert.AKvRefIdeal.τ).loc Cert.AKvRefIdeal.main_arg3) = m ((c.tc : Thread Cert.AKvRefIdeal.nD Cert.AKvRefIdeal.τ).loc Cert.AKvRefIdeal.main_arg3))
      ∧ r.2.sem = fun _ => 0)

def quiescent_MlaS [hMlaS : Cert.MlaS.Facts] [hPre_in_pool : Cert.Pre_in_pool.Facts] : Prop :=
  ∀ (m : (ℓ : Loc Cert.MlaS.nD Cert.MlaS.τ Cert.MlaS.sig) → Buf (Elt Bits) ℓ) (g : Dev Cert.MlaS.nD → PrngReg), Pre_MlaS m →
    θ_run (Cert.MlaS.defs (F := Bits)) (onTc (τ := Cert.MlaS.τ) (Cert.MlaS.main (F := Bits))) ⟨m, fun _ => 0, g⟩ (fun r => (∀ c : Dev Cert.MlaS.nD,
      r.2.mem ((c.tc : Thread Cert.MlaS.nD Cert.MlaS.τ).loc Cert.MlaS.main_arg0) = m ((c.tc : Thread Cert.MlaS.nD Cert.MlaS.τ).loc Cert.MlaS.main_arg0)
      ∧ r.2.mem ((c.tc : Thread Cert.MlaS.nD Cert.MlaS.τ).loc Cert.MlaS.main_arg1) = m ((c.tc : Thread Cert.MlaS.nD Cert.MlaS.τ).loc Cert.MlaS.main_arg1)
      ∧ r.2.mem ((c.tc : Thread Cert.MlaS.nD Cert.MlaS.τ).loc Cert.MlaS.main_arg2) = m ((c.tc : Thread Cert.MlaS.nD Cert.MlaS.τ).loc Cert.MlaS.main_arg2)
      ∧ r.2.mem ((c.tc : Thread Cert.MlaS.nD Cert.MlaS.τ).loc Cert.MlaS.main_arg3) = m ((c.tc : Thread Cert.MlaS.nD Cert.MlaS.τ).loc Cert.MlaS.main_arg3))
      ∧ r.2.sem = fun _ => 0)

def quiescent_MlaSIdeal [hMlaSIdeal : Cert.MlaSIdeal.Facts] [hPre_in_pool : Cert.Pre_in_pool.Facts] : Prop :=
  ∀ (m : (ℓ : Loc Cert.MlaSIdeal.nD Cert.MlaSIdeal.τ Cert.MlaSIdeal.sig) → Buf (Elt Ideal) ℓ) (g : Dev Cert.MlaSIdeal.nD → PrngReg), Pre_MlaSIdeal m →
    θ_run (Cert.MlaSIdeal.defs (F := Ideal)) (onTc (τ := Cert.MlaSIdeal.τ) (Cert.MlaSIdeal.main (F := Ideal))) ⟨m, fun _ => 0, g⟩ (fun r => (∀ c : Dev Cert.MlaSIdeal.nD,
      r.2.mem ((c.tc : Thread Cert.MlaSIdeal.nD Cert.MlaSIdeal.τ).loc Cert.MlaSIdeal.main_arg0) = m ((c.tc : Thread Cert.MlaSIdeal.nD Cert.MlaSIdeal.τ).loc Cert.MlaSIdeal.main_arg0)
      ∧ r.2.mem ((c.tc : Thread Cert.MlaSIdeal.nD Cert.MlaSIdeal.τ).loc Cert.MlaSIdeal.main_arg1) = m ((c.tc : Thread Cert.MlaSIdeal.nD Cert.MlaSIdeal.τ).loc Cert.MlaSIdeal.main_arg1)
      ∧ r.2.mem ((c.tc : Thread Cert.MlaSIdeal.nD Cert.MlaSIdeal.τ).loc Cert.MlaSIdeal.main_arg2) = m ((c.tc : Thread Cert.MlaSIdeal.nD Cert.MlaSIdeal.τ).loc Cert.MlaSIdeal.main_arg2)
      ∧ r.2.mem ((c.tc : Thread Cert.MlaSIdeal.nD Cert.MlaSIdeal.τ).loc Cert.MlaSIdeal.main_arg3) = m ((c.tc : Thread Cert.MlaSIdeal.nD Cert.MlaSIdeal.τ).loc Cert.MlaSIdeal.main_arg3))
      ∧ r.2.sem = fun _ => 0)

def quiescent_MlaSIdeal_pre_paged [hMlaSIdeal : Cert.MlaSIdeal.Facts] [hPre_paged : Cert.Pre_paged.Facts] : Prop :=
  ∀ (m : (ℓ : Loc Cert.MlaSIdeal.nD Cert.MlaSIdeal.τ Cert.MlaSIdeal.sig) → Buf (Elt Ideal) ℓ) (g : Dev Cert.MlaSIdeal.nD → PrngReg), Pre_MlaSIdeal_paged m →
    θ_run (Cert.MlaSIdeal.defs (F := Ideal)) (onTc (τ := Cert.MlaSIdeal.τ) (Cert.MlaSIdeal.main (F := Ideal))) ⟨m, fun _ => 0, g⟩ (fun r => (∀ c : Dev Cert.MlaSIdeal.nD,
      r.2.mem ((c.tc : Thread Cert.MlaSIdeal.nD Cert.MlaSIdeal.τ).loc Cert.MlaSIdeal.main_arg0) = m ((c.tc : Thread Cert.MlaSIdeal.nD Cert.MlaSIdeal.τ).loc Cert.MlaSIdeal.main_arg0)
      ∧ r.2.mem ((c.tc : Thread Cert.MlaSIdeal.nD Cert.MlaSIdeal.τ).loc Cert.MlaSIdeal.main_arg1) = m ((c.tc : Thread Cert.MlaSIdeal.nD Cert.MlaSIdeal.τ).loc Cert.MlaSIdeal.main_arg1)
      ∧ r.2.mem ((c.tc : Thread Cert.MlaSIdeal.nD Cert.MlaSIdeal.τ).loc Cert.MlaSIdeal.main_arg2) = m ((c.tc : Thread Cert.MlaSIdeal.nD Cert.MlaSIdeal.τ).loc Cert.MlaSIdeal.main_arg2)
      ∧ r.2.mem ((c.tc : Thread Cert.MlaSIdeal.nD Cert.MlaSIdeal.τ).loc Cert.MlaSIdeal.main_arg3) = m ((c.tc : Thread Cert.MlaSIdeal.nD Cert.MlaSIdeal.τ).loc Cert.MlaSIdeal.main_arg3))
      ∧ r.2.sem = fun _ => 0)

def quiescent_MlaSRefIdeal [hMlaSRefIdeal : Cert.MlaSRefIdeal.Facts] : Prop :=
  ∀ (m : (ℓ : Loc Cert.MlaSRefIdeal.nD Cert.MlaSRefIdeal.τ Cert.MlaSRefIdeal.sig) → Buf (Elt Ideal) ℓ) (g : Dev Cert.MlaSRefIdeal.nD → PrngReg), Pre_MlaSRefIdeal m →
    θ_run (Cert.MlaSRefIdeal.defs (F := Ideal)) (onTc (τ := Cert.MlaSRefIdeal.τ) (Cert.MlaSRefIdeal.main (F := Ideal))) ⟨m, fun _ => 0, g⟩ (fun r => (∀ c : Dev Cert.MlaSRefIdeal.nD,
      r.2.mem ((c.tc : Thread Cert.MlaSRefIdeal.nD Cert.MlaSRefIdeal.τ).loc Cert.MlaSRefIdeal.main_arg0) = m ((c.tc : Thread Cert.MlaSRefIdeal.nD Cert.MlaSRefIdeal.τ).loc Cert.MlaSRefIdeal.main_arg0)
      ∧ r.2.mem ((c.tc : Thread Cert.MlaSRefIdeal.nD Cert.MlaSRefIdeal.τ).loc Cert.MlaSRefIdeal.main_arg1) = m ((c.tc : Thread Cert.MlaSRefIdeal.nD Cert.MlaSRefIdeal.τ).loc Cert.MlaSRefIdeal.main_arg1)
      ∧ r.2.mem ((c.tc : Thread Cert.MlaSRefIdeal.nD Cert.MlaSRefIdeal.τ).loc Cert.MlaSRefIdeal.main_arg2) = m ((c.tc : Thread Cert.MlaSRefIdeal.nD Cert.MlaSRefIdeal.τ).loc Cert.MlaSRefIdeal.main_arg2)
      ∧ r.2.mem ((c.tc : Thread Cert.MlaSRefIdeal.nD Cert.MlaSRefIdeal.τ).loc Cert.MlaSRefIdeal.main_arg3) = m ((c.tc : Thread Cert.MlaSRefIdeal.nD Cert.MlaSRefIdeal.τ).loc Cert.MlaSRefIdeal.main_arg3))
      ∧ r.2.sem = fun _ => 0)

def quiescent_MlaSRefIdeal_pre_paged [hMlaSRefIdeal : Cert.MlaSRefIdeal.Facts] [hPre_paged : Cert.Pre_paged.Facts] : Prop :=
  ∀ (m : (ℓ : Loc Cert.MlaSRefIdeal.nD Cert.MlaSRefIdeal.τ Cert.MlaSRefIdeal.sig) → Buf (Elt Ideal) ℓ) (g : Dev Cert.MlaSRefIdeal.nD → PrngReg), Pre_MlaSRefIdeal_paged m →
    θ_run (Cert.MlaSRefIdeal.defs (F := Ideal)) (onTc (τ := Cert.MlaSRefIdeal.τ) (Cert.MlaSRefIdeal.main (F := Ideal))) ⟨m, fun _ => 0, g⟩ (fun r => (∀ c : Dev Cert.MlaSRefIdeal.nD,
      r.2.mem ((c.tc : Thread Cert.MlaSRefIdeal.nD Cert.MlaSRefIdeal.τ).loc Cert.MlaSRefIdeal.main_arg0) = m ((c.tc : Thread Cert.MlaSRefIdeal.nD Cert.MlaSRefIdeal.τ).loc Cert.MlaSRefIdeal.main_arg0)
      ∧ r.2.mem ((c.tc : Thread Cert.MlaSRefIdeal.nD Cert.MlaSRefIdeal.τ).loc Cert.MlaSRefIdeal.main_arg1) = m ((c.tc : Thread Cert.MlaSRefIdeal.nD Cert.MlaSRefIdeal.τ).loc Cert.MlaSRefIdeal.main_arg1)
      ∧ r.2.mem ((c.tc : Thread Cert.MlaSRefIdeal.nD Cert.MlaSRefIdeal.τ).loc Cert.MlaSRefIdeal.main_arg2) = m ((c.tc : Thread Cert.MlaSRefIdeal.nD Cert.MlaSRefIdeal.τ).loc Cert.MlaSRefIdeal.main_arg2)
      ∧ r.2.mem ((c.tc : Thread Cert.MlaSRefIdeal.nD Cert.MlaSRefIdeal.τ).loc Cert.MlaSRefIdeal.main_arg3) = m ((c.tc : Thread Cert.MlaSRefIdeal.nD Cert.MlaSRefIdeal.τ).loc Cert.MlaSRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnIn0_FfnIn0Ideal : Prop :=
  True

def algebraic_FfnIn0Ideal_FfnIn0RefIdeal [hFfnIn0Ideal : Cert.FfnIn0Ideal.Facts] [hFfnIn0RefIdeal : Cert.FfnIn0RefIdeal.Facts] : Prop :=
  ∀ (m : (ℓ : Loc Cert.FfnIn0Ideal.nD Cert.FfnIn0Ideal.τ Cert.FfnIn0Ideal.sig) → Buf (Elt Ideal) ℓ) (g : Dev Cert.FfnIn0Ideal.nD → PrngReg)
    (m' : (ℓ : Loc Cert.FfnIn0RefIdeal.nD Cert.FfnIn0RefIdeal.τ Cert.FfnIn0RefIdeal.sig) → Buf (Elt Ideal) ℓ) (g' : Dev Cert.FfnIn0RefIdeal.nD → PrngReg), Pre_FfnIn0Ideal m →
    (∀ c : Dev Cert.FfnIn0Ideal.nD,
      m' ((c.tc : Thread Cert.FfnIn0RefIdeal.nD Cert.FfnIn0RefIdeal.τ).loc Cert.FfnIn0RefIdeal.main_arg0) = m ((c.tc : Thread Cert.FfnIn0Ideal.nD Cert.FfnIn0Ideal.τ).loc Cert.FfnIn0Ideal.main_arg0)
      ∧ m' ((c.tc : Thread Cert.FfnIn0RefIdeal.nD Cert.FfnIn0RefIdeal.τ).loc Cert.FfnIn0RefIdeal.main_arg1) = m ((c.tc : Thread Cert.FfnIn0Ideal.nD Cert.FfnIn0Ideal.τ).loc Cert.FfnIn0Ideal.main_arg1)) →
    ∃ (v0 : (c : Dev Cert.FfnIn0Ideal.nD) → Buf (Elt Ideal) ((c.tc : Thread Cert.FfnIn0Ideal.nD Cert.FfnIn0Ideal.τ).loc Cert.FfnIn0Ideal.main_v1)),
      θ_run (Cert.FfnIn0Ideal.defs (F := Ideal)) (onTc (τ := Cert.FfnIn0Ideal.τ) (Cert.FfnIn0Ideal.main (F := Ideal))) ⟨m, fun _ => 0, g⟩ (fun r => ∀ c : Dev Cert.FfnIn0Ideal.nD,
          r.2.mem ((c.tc : Thread Cert.FfnIn0Ideal.nD Cert.FfnIn0Ideal.τ).loc Cert.FfnIn0Ideal.main_v1) = v0 c
          ∧ r.2.mem ((c.tc : Thread Cert.FfnIn0Ideal.nD Cert.FfnIn0Ideal.τ).loc Cert.FfnIn0Ideal.main_arg0) = m ((c.tc : Thread Cert.FfnIn0Ideal.nD Cert.FfnIn0Ideal.τ).loc Cert.FfnIn0Ideal.main_arg0)
          ∧ r.2.mem ((c.tc : Thread Cert.FfnIn0Ideal.nD Cert.FfnIn0Ideal.τ).loc Cert.FfnIn0Ideal.main_arg1) = m ((c.tc : Thread Cert.FfnIn0Ideal.nD Cert.FfnIn0Ideal.τ).loc Cert.FfnIn0Ideal.main_arg1))
      ∧ θ_run (Cert.FfnIn0RefIdeal.defs (F := Ideal)) (onTc (τ := Cert.FfnIn0RefIdeal.τ) (Cert.FfnIn0RefIdeal.main (F := Ideal))) ⟨m', fun _ => 0, g'⟩ (fun r => ∀ c : Dev Cert.FfnIn0RefIdeal.nD,
          r.2.mem ((c.tc : Thread Cert.FfnIn0RefIdeal.nD Cert.FfnIn0RefIdeal.τ).loc Cert.FfnIn0RefIdeal.main_v7) = v0 c
          ∧ r.2.mem ((c.tc : Thread Cert.FfnIn0RefIdeal.nD Cert.FfnIn0RefIdeal.τ).loc Cert.FfnIn0RefIdeal.main_arg0) = m' ((c.tc : Thread Cert.FfnIn0RefIdeal.nD Cert.FfnIn0RefIdeal.τ).loc Cert.FfnIn0RefIdeal.main_arg0)
          ∧ r.2.mem ((c.tc : Thread Cert.FfnIn0RefIdeal.nD Cert.FfnIn0RefIdeal.τ).loc Cert.FfnIn0RefIdeal.main_arg1) = m' ((c.tc : Thread Cert.FfnIn0RefIdeal.nD Cert.FfnIn0RefIdeal.τ).loc Cert.FfnIn0RefIdeal.main_arg1))

def preserves_FfnIn1_FfnIn1Ideal : Prop :=
  True

def algebraic_FfnIn1Ideal_FfnIn1RefIdeal [hFfnIn1Ideal : Cert.FfnIn1Ideal.Facts] [hFfnIn1RefIdeal : Cert.FfnIn1RefIdeal.Facts] : Prop :=
  ∀ (m : (ℓ : Loc Cert.FfnIn1Ideal.nD Cert.FfnIn1Ideal.τ Cert.FfnIn1Ideal.sig) → Buf (Elt Ideal) ℓ) (g : Dev Cert.FfnIn1Ideal.nD → PrngReg)
    (m' : (ℓ : Loc Cert.FfnIn1RefIdeal.nD Cert.FfnIn1RefIdeal.τ Cert.FfnIn1RefIdeal.sig) → Buf (Elt Ideal) ℓ) (g' : Dev Cert.FfnIn1RefIdeal.nD → PrngReg), Pre_FfnIn1Ideal m →
    (∀ c : Dev Cert.FfnIn1Ideal.nD,
      m' ((c.tc : Thread Cert.FfnIn1RefIdeal.nD Cert.FfnIn1RefIdeal.τ).loc Cert.FfnIn1RefIdeal.main_arg0) = m ((c.tc : Thread Cert.FfnIn1Ideal.nD Cert.FfnIn1Ideal.τ).loc Cert.FfnIn1Ideal.main_arg0)
      ∧ m' ((c.tc : Thread Cert.FfnIn1RefIdeal.nD Cert.FfnIn1RefIdeal.τ).loc Cert.FfnIn1RefIdeal.main_arg1) = m ((c.tc : Thread Cert.FfnIn1Ideal.nD Cert.FfnIn1Ideal.τ).loc Cert.FfnIn1Ideal.main_arg1)) →
    ∃ (v0 : (c : Dev Cert.FfnIn1Ideal.nD) → Buf (Elt Ideal) ((c.tc : Thread Cert.FfnIn1Ideal.nD Cert.FfnIn1Ideal.τ).loc Cert.FfnIn1Ideal.main_v1)),
      θ_run (Cert.FfnIn1Ideal.defs (F := Ideal)) (onTc (τ := Cert.FfnIn1Ideal.τ) (Cert.FfnIn1Ideal.main (F := Ideal))) ⟨m, fun _ => 0, g⟩ (fun r => ∀ c : Dev Cert.FfnIn1Ideal.nD,
          r.2.mem ((c.tc : Thread Cert.FfnIn1Ideal.nD Cert.FfnIn1Ideal.τ).loc Cert.FfnIn1Ideal.main_v1) = v0 c
          ∧ r.2.mem ((c.tc : Thread Cert.FfnIn1Ideal.nD Cert.FfnIn1Ideal.τ).loc Cert.FfnIn1Ideal.main_arg0) = m ((c.tc : Thread Cert.FfnIn1Ideal.nD Cert.FfnIn1Ideal.τ).loc Cert.FfnIn1Ideal.main_arg0)
          ∧ r.2.mem ((c.tc : Thread Cert.FfnIn1Ideal.nD Cert.FfnIn1Ideal.τ).loc Cert.FfnIn1Ideal.main_arg1) = m ((c.tc : Thread Cert.FfnIn1Ideal.nD Cert.FfnIn1Ideal.τ).loc Cert.FfnIn1Ideal.main_arg1))
      ∧ θ_run (Cert.FfnIn1RefIdeal.defs (F := Ideal)) (onTc (τ := Cert.FfnIn1RefIdeal.τ) (Cert.FfnIn1RefIdeal.main (F := Ideal))) ⟨m', fun _ => 0, g'⟩ (fun r => ∀ c : Dev Cert.FfnIn1RefIdeal.nD,
          r.2.mem ((c.tc : Thread Cert.FfnIn1RefIdeal.nD Cert.FfnIn1RefIdeal.τ).loc Cert.FfnIn1RefIdeal.main_v7) = v0 c
          ∧ r.2.mem ((c.tc : Thread Cert.FfnIn1RefIdeal.nD Cert.FfnIn1RefIdeal.τ).loc Cert.FfnIn1RefIdeal.main_arg0) = m' ((c.tc : Thread Cert.FfnIn1RefIdeal.nD Cert.FfnIn1RefIdeal.τ).loc Cert.FfnIn1RefIdeal.main_arg0)
          ∧ r.2.mem ((c.tc : Thread Cert.FfnIn1RefIdeal.nD Cert.FfnIn1RefIdeal.τ).loc Cert.FfnIn1RefIdeal.main_arg1) = m' ((c.tc : Thread Cert.FfnIn1RefIdeal.nD Cert.FfnIn1RefIdeal.τ).loc Cert.FfnIn1RefIdeal.main_arg1))

def preserves_FfnIn2_FfnIn2Ideal : Prop :=
  True

def algebraic_FfnIn2Ideal_FfnIn2RefIdeal [hFfnIn2Ideal : Cert.FfnIn2Ideal.Facts] [hFfnIn2RefIdeal : Cert.FfnIn2RefIdeal.Facts] : Prop :=
  ∀ (m : (ℓ : Loc Cert.FfnIn2Ideal.nD Cert.FfnIn2Ideal.τ Cert.FfnIn2Ideal.sig) → Buf (Elt Ideal) ℓ) (g : Dev Cert.FfnIn2Ideal.nD → PrngReg)
    (m' : (ℓ : Loc Cert.FfnIn2RefIdeal.nD Cert.FfnIn2RefIdeal.τ Cert.FfnIn2RefIdeal.sig) → Buf (Elt Ideal) ℓ) (g' : Dev Cert.FfnIn2RefIdeal.nD → PrngReg), Pre_FfnIn2Ideal m →
    (∀ c : Dev Cert.FfnIn2Ideal.nD,
      m' ((c.tc : Thread Cert.FfnIn2RefIdeal.nD Cert.FfnIn2RefIdeal.τ).loc Cert.FfnIn2RefIdeal.main_arg0) = m ((c.tc : Thread Cert.FfnIn2Ideal.nD Cert.FfnIn2Ideal.τ).loc Cert.FfnIn2Ideal.main_arg0)
      ∧ m' ((c.tc : Thread Cert.FfnIn2RefIdeal.nD Cert.FfnIn2RefIdeal.τ).loc Cert.FfnIn2RefIdeal.main_arg1) = m ((c.tc : Thread Cert.FfnIn2Ideal.nD Cert.FfnIn2Ideal.τ).loc Cert.FfnIn2Ideal.main_arg1)) →
    ∃ (v0 : (c : Dev Cert.FfnIn2Ideal.nD) → Buf (Elt Ideal) ((c.tc : Thread Cert.FfnIn2Ideal.nD Cert.FfnIn2Ideal.τ).loc Cert.FfnIn2Ideal.main_v1)),
      θ_run (Cert.FfnIn2Ideal.defs (F := Ideal)) (onTc (τ := Cert.FfnIn2Ideal.τ) (Cert.FfnIn2Ideal.main (F := Ideal))) ⟨m, fun _ => 0, g⟩ (fun r => ∀ c : Dev Cert.FfnIn2Ideal.nD,
          r.2.mem ((c.tc : Thread Cert.FfnIn2Ideal.nD Cert.FfnIn2Ideal.τ).loc Cert.FfnIn2Ideal.main_v1) = v0 c
          ∧ r.2.mem ((c.tc : Thread Cert.FfnIn2Ideal.nD Cert.FfnIn2Ideal.τ).loc Cert.FfnIn2Ideal.main_arg0) = m ((c.tc : Thread Cert.FfnIn2Ideal.nD Cert.FfnIn2Ideal.τ).loc Cert.FfnIn2Ideal.main_arg0)
          ∧ r.2.mem ((c.tc : Thread Cert.FfnIn2Ideal.nD Cert.FfnIn2Ideal.τ).loc Cert.FfnIn2Ideal.main_arg1) = m ((c.tc : Thread Cert.FfnIn2Ideal.nD Cert.FfnIn2Ideal.τ).loc Cert.FfnIn2Ideal.main_arg1))
      ∧ θ_run (Cert.FfnIn2RefIdeal.defs (F := Ideal)) (onTc (τ := Cert.FfnIn2RefIdeal.τ) (Cert.FfnIn2RefIdeal.main (F := Ideal))) ⟨m', fun _ => 0, g'⟩ (fun r => ∀ c : Dev Cert.FfnIn2RefIdeal.nD,
          r.2.mem ((c.tc : Thread Cert.FfnIn2RefIdeal.nD Cert.FfnIn2RefIdeal.τ).loc Cert.FfnIn2RefIdeal.main_v7) = v0 c
          ∧ r.2.mem ((c.tc : Thread Cert.FfnIn2RefIdeal.nD Cert.FfnIn2RefIdeal.τ).loc Cert.FfnIn2RefIdeal.main_arg0) = m' ((c.tc : Thread Cert.FfnIn2RefIdeal.nD Cert.FfnIn2RefIdeal.τ).loc Cert.FfnIn2RefIdeal.main_arg0)
          ∧ r.2.mem ((c.tc : Thread Cert.FfnIn2RefIdeal.nD Cert.FfnIn2RefIdeal.τ).loc Cert.FfnIn2RefIdeal.main_arg1) = m' ((c.tc : Thread Cert.FfnIn2RefIdeal.nD Cert.FfnIn2RefIdeal.τ).loc Cert.FfnIn2RefIdeal.main_arg1))

def preserves_FfnIn3_FfnIn3Ideal : Prop :=
  True

def algebraic_FfnIn3Ideal_FfnIn3RefIdeal [hFfnIn3Ideal : Cert.FfnIn3Ideal.Facts] [hFfnIn3RefIdeal : Cert.FfnIn3RefIdeal.Facts] : Prop :=
  ∀ (m : (ℓ : Loc Cert.FfnIn3Ideal.nD Cert.FfnIn3Ideal.τ Cert.FfnIn3Ideal.sig) → Buf (Elt Ideal) ℓ) (g : Dev Cert.FfnIn3Ideal.nD → PrngReg)
    (m' : (ℓ : Loc Cert.FfnIn3RefIdeal.nD Cert.FfnIn3RefIdeal.τ Cert.FfnIn3RefIdeal.sig) → Buf (Elt Ideal) ℓ) (g' : Dev Cert.FfnIn3RefIdeal.nD → PrngReg), Pre_FfnIn3Ideal m →
    (∀ c : Dev Cert.FfnIn3Ideal.nD,
      m' ((c.tc : Thread Cert.FfnIn3RefIdeal.nD Cert.FfnIn3RefIdeal.τ).loc Cert.FfnIn3RefIdeal.main_arg0) = m ((c.tc : Thread Cert.FfnIn3Ideal.nD Cert.FfnIn3Ideal.τ).loc Cert.FfnIn3Ideal.main_arg0)
      ∧ m' ((c.tc : Thread Cert.FfnIn3RefIdeal.nD Cert.FfnIn3RefIdeal.τ).loc Cert.FfnIn3RefIdeal.main_arg1) = m ((c.tc : Thread Cert.FfnIn3Ideal.nD Cert.FfnIn3Ideal.τ).loc Cert.FfnIn3Ideal.main_arg1)) →
    ∃ (v0 : (c : Dev Cert.FfnIn3Ideal.nD) → Buf (Elt Ideal) ((c.tc : Thread Cert.FfnIn3Ideal.nD Cert.FfnIn3Ideal.τ).loc Cert.FfnIn3Ideal.main_v1)),
      θ_run (Cert.FfnIn3Ideal.defs (F := Ideal)) (onTc (τ := Cert.FfnIn3Ideal.τ) (Cert.FfnIn3Ideal.main (F := Ideal))) ⟨m, fun _ => 0, g⟩ (fun r => ∀ c : Dev Cert.FfnIn3Ideal.nD,
          r.2.mem ((c.tc : Thread Cert.FfnIn3Ideal.nD Cert.FfnIn3Ideal.τ).loc Cert.FfnIn3Ideal.main_v1) = v0 c
          ∧ r.2.mem ((c.tc : Thread Cert.FfnIn3Ideal.nD Cert.FfnIn3Ideal.τ).loc Cert.FfnIn3Ideal.main_arg0) = m ((c.tc : Thread Cert.FfnIn3Ideal.nD Cert.FfnIn3Ideal.τ).loc Cert.FfnIn3Ideal.main_arg0)
          ∧ r.2.mem ((c.tc : Thread Cert.FfnIn3Ideal.nD Cert.FfnIn3Ideal.τ).loc Cert.FfnIn3Ideal.main_arg1) = m ((c.tc : Thread Cert.FfnIn3Ideal.nD Cert.FfnIn3Ideal.τ).loc Cert.FfnIn3Ideal.main_arg1))
      ∧ θ_run (Cert.FfnIn3RefIdeal.defs (F := Ideal)) (onTc (τ := Cert.FfnIn3RefIdeal.τ) (Cert.FfnIn3RefIdeal.main (F := Ideal))) ⟨m', fun _ => 0, g'⟩ (fun r => ∀ c : Dev Cert.FfnIn3RefIdeal.nD,
          r.2.mem ((c.tc : Thread Cert.FfnIn3RefIdeal.nD Cert.FfnIn3RefIdeal.τ).loc Cert.FfnIn3RefIdeal.main_v7) = v0 c
          ∧ r.2.mem ((c.tc : Thread Cert.FfnIn3RefIdeal.nD Cert.FfnIn3RefIdeal.τ).loc Cert.FfnIn3RefIdeal.main_arg0) = m' ((c.tc : Thread Cert.FfnIn3RefIdeal.nD Cert.FfnIn3RefIdeal.τ).loc Cert.FfnIn3RefIdeal.main_arg0)
          ∧ r.2.mem ((c.tc : Thread Cert.FfnIn3RefIdeal.nD Cert.FfnIn3RefIdeal.τ).loc Cert.FfnIn3RefIdeal.main_arg1) = m' ((c.tc : Thread Cert.FfnIn3RefIdeal.nD Cert.FfnIn3RefIdeal.τ).loc Cert.FfnIn3RefIdeal.main_arg1))

def preserves_FfnOut0_FfnOut0Ideal : Prop :=
  True

def algebraic_FfnOut0Ideal_FfnOut0RefIdeal [hFfnOut0Ideal : Cert.FfnOut0Ideal.Facts] [hFfnOut0RefIdeal : Cert.FfnOut0RefIdeal.Facts] : Prop :=
  ∀ (m : (ℓ : Loc Cert.FfnOut0Ideal.nD Cert.FfnOut0Ideal.τ Cert.FfnOut0Ideal.sig) → Buf (Elt Ideal) ℓ) (g : Dev Cert.FfnOut0Ideal.nD → PrngReg)
    (m' : (ℓ : Loc Cert.FfnOut0RefIdeal.nD Cert.FfnOut0RefIdeal.τ Cert.FfnOut0RefIdeal.sig) → Buf (Elt Ideal) ℓ) (g' : Dev Cert.FfnOut0RefIdeal.nD → PrngReg), Pre_FfnOut0Ideal m →
    (∀ c : Dev Cert.FfnOut0Ideal.nD,
      m' ((c.tc : Thread Cert.FfnOut0RefIdeal.nD Cert.FfnOut0RefIdeal.τ).loc Cert.FfnOut0RefIdeal.main_arg0) = m ((c.tc : Thread Cert.FfnOut0Ideal.nD Cert.FfnOut0Ideal.τ).loc Cert.FfnOut0Ideal.main_arg0)
      ∧ m' ((c.tc : Thread Cert.FfnOut0RefIdeal.nD Cert.FfnOut0RefIdeal.τ).loc Cert.FfnOut0RefIdeal.main_arg1) = m ((c.tc : Thread Cert.FfnOut0Ideal.nD Cert.FfnOut0Ideal.τ).loc Cert.FfnOut0Ideal.main_arg1)
      ∧ m' ((c.tc : Thread Cert.FfnOut0RefIdeal.nD Cert.FfnOut0RefIdeal.τ).loc Cert.FfnOut0RefIdeal.main_arg2) = m ((c.tc : Thread Cert.FfnOut0Ideal.nD Cert.FfnOut0Ideal.τ).loc Cert.FfnOut0Ideal.main_arg2)) →
    ∃ (v0 : (c : Dev Cert.FfnOut0Ideal.nD) → Buf (Elt Ideal) ((c.tc : Thread Cert.FfnOut0Ideal.nD Cert.FfnOut0Ideal.τ).loc Cert.FfnOut0Ideal.main_v2)),
      θ_run (Cert.FfnOut0Ideal.defs (F := Ideal)) (onTc (τ := Cert.FfnOut0Ideal.τ) (Cert.FfnOut0Ideal.main (F := Ideal))) ⟨m, fun _ => 0, g⟩ (fun r => ∀ c : Dev Cert.FfnOut0Ideal.nD,
          r.2.mem ((c.tc : Thread Cert.FfnOut0Ideal.nD Cert.FfnOut0Ideal.τ).loc Cert.FfnOut0Ideal.main_v2) = v0 c
          ∧ r.2.mem ((c.tc : Thread Cert.FfnOut0Ideal.nD Cert.FfnOut0Ideal.τ).loc Cert.FfnOut0Ideal.main_arg0) = m ((c.tc : Thread Cert.FfnOut0Ideal.nD Cert.FfnOut0Ideal.τ).loc Cert.FfnOut0Ideal.main_arg0)
          ∧ r.2.mem ((c.tc : Thread Cert.FfnOut0Ideal.nD Cert.FfnOut0Ideal.τ).loc Cert.FfnOut0Ideal.main_arg1) = m ((c.tc : Thread Cert.FfnOut0Ideal.nD Cert.FfnOut0Ideal.τ).loc Cert.FfnOut0Ideal.main_arg1)
          ∧ r.2.mem ((c.tc : Thread Cert.FfnOut0Ideal.nD Cert.FfnOut0Ideal.τ).loc Cert.FfnOut0Ideal.main_arg2) = m ((c.tc : Thread Cert.FfnOut0Ideal.nD Cert.FfnOut0Ideal.τ).loc Cert.FfnOut0Ideal.main_arg2))
      ∧ θ_run (Cert.FfnOut0RefIdeal.defs (F := Ideal)) (onTc (τ := Cert.FfnOut0RefIdeal.τ) (Cert.FfnOut0RefIdeal.main (F := Ideal))) ⟨m', fun _ => 0, g'⟩ (fun r => ∀ c : Dev Cert.FfnOut0RefIdeal.nD,
          r.2.mem ((c.tc : Thread Cert.FfnOut0RefIdeal.nD Cert.FfnOut0RefIdeal.τ).loc Cert.FfnOut0RefIdeal.main_v3) = v0 c
          ∧ r.2.mem ((c.tc : Thread Cert.FfnOut0RefIdeal.nD Cert.FfnOut0RefIdeal.τ).loc Cert.FfnOut0RefIdeal.main_arg0) = m' ((c.tc : Thread Cert.FfnOut0RefIdeal.nD Cert.FfnOut0RefIdeal.τ).loc Cert.FfnOut0RefIdeal.main_arg0)
          ∧ r.2.mem ((c.tc : Thread Cert.FfnOut0RefIdeal.nD Cert.FfnOut0RefIdeal.τ).loc Cert.FfnOut0RefIdeal.main_arg1) = m' ((c.tc : Thread Cert.FfnOut0RefIdeal.nD Cert.FfnOut0RefIdeal.τ).loc Cert.FfnOut0RefIdeal.main_arg1)
          ∧ r.2.mem ((c.tc : Thread Cert.FfnOut0RefIdeal.nD Cert.FfnOut0RefIdeal.τ).loc Cert.FfnOut0RefIdeal.main_arg2) = m' ((c.tc : Thread Cert.FfnOut0RefIdeal.nD Cert.FfnOut0RefIdeal.τ).loc Cert.FfnOut0RefIdeal.main_arg2))

def preserves_FfnOut1_FfnOut1Ideal : Prop :=
  True

def algebraic_FfnOut1Ideal_FfnOut1RefIdeal [hFfnOut1Ideal : Cert.FfnOut1Ideal.Facts] [hFfnOut1RefIdeal : Cert.FfnOut1RefIdeal.Facts] : Prop :=
  ∀ (m : (ℓ : Loc Cert.FfnOut1Ideal.nD Cert.FfnOut1Ideal.τ Cert.FfnOut1Ideal.sig) → Buf (Elt Ideal) ℓ) (g : Dev Cert.FfnOut1Ideal.nD → PrngReg)
    (m' : (ℓ : Loc Cert.FfnOut1RefIdeal.nD Cert.FfnOut1RefIdeal.τ Cert.FfnOut1RefIdeal.sig) → Buf (Elt Ideal) ℓ) (g' : Dev Cert.FfnOut1RefIdeal.nD → PrngReg), Pre_FfnOut1Ideal m →
    (∀ c : Dev Cert.FfnOut1Ideal.nD,
      m' ((c.tc : Thread Cert.FfnOut1RefIdeal.nD Cert.FfnOut1RefIdeal.τ).loc Cert.FfnOut1RefIdeal.main_arg0) = m ((c.tc : Thread Cert.FfnOut1Ideal.nD Cert.FfnOut1Ideal.τ).loc Cert.FfnOut1Ideal.main_arg0)
      ∧ m' ((c.tc : Thread Cert.FfnOut1RefIdeal.nD Cert.FfnOut1RefIdeal.τ).loc Cert.FfnOut1RefIdeal.main_arg1) = m ((c.tc : Thread Cert.FfnOut1Ideal.nD Cert.FfnOut1Ideal.τ).loc Cert.FfnOut1Ideal.main_arg1)
      ∧ m' ((c.tc : Thread Cert.FfnOut1RefIdeal.nD Cert.FfnOut1RefIdeal.τ).loc Cert.FfnOut1RefIdeal.main_arg2) = m ((c.tc : Thread Cert.FfnOut1Ideal.nD Cert.FfnOut1Ideal.τ).loc Cert.FfnOut1Ideal.main_arg2)) →
    ∃ (v0 : (c : Dev Cert.FfnOut1Ideal.nD) → Buf (Elt Ideal) ((c.tc : Thread Cert.FfnOut1Ideal.nD Cert.FfnOut1Ideal.τ).loc Cert.FfnOut1Ideal.main_v2)),
      θ_run (Cert.FfnOut1Ideal.defs (F := Ideal)) (onTc (τ := Cert.FfnOut1Ideal.τ) (Cert.FfnOut1Ideal.main (F := Ideal))) ⟨m, fun _ => 0, g⟩ (fun r => ∀ c : Dev Cert.FfnOut1Ideal.nD,
          r.2.mem ((c.tc : Thread Cert.FfnOut1Ideal.nD Cert.FfnOut1Ideal.τ).loc Cert.FfnOut1Ideal.main_v2) = v0 c
          ∧ r.2.mem ((c.tc : Thread Cert.FfnOut1Ideal.nD Cert.FfnOut1Ideal.τ).loc Cert.FfnOut1Ideal.main_arg0) = m ((c.tc : Thread Cert.FfnOut1Ideal.nD Cert.FfnOut1Ideal.τ).loc Cert.FfnOut1Ideal.main_arg0)
          ∧ r.2.mem ((c.tc : Thread Cert.FfnOut1Ideal.nD Cert.FfnOut1Ideal.τ).loc Cert.FfnOut1Ideal.main_arg1) = m ((c.tc : Thread Cert.FfnOut1Ideal.nD Cert.FfnOut1Ideal.τ).loc Cert.FfnOut1Ideal.main_arg1)
          ∧ r.2.mem ((c.tc : Thread Cert.FfnOut1Ideal.nD Cert.FfnOut1Ideal.τ).loc Cert.FfnOut1Ideal.main_arg2) = m ((c.tc : Thread Cert.FfnOut1Ideal.nD Cert.FfnOut1Ideal.τ).loc Cert.FfnOut1Ideal.main_arg2))
      ∧ θ_run (Cert.FfnOut1RefIdeal.defs (F := Ideal)) (onTc (τ := Cert.FfnOut1RefIdeal.τ) (Cert.FfnOut1RefIdeal.main (F := Ideal))) ⟨m', fun _ => 0, g'⟩ (fun r => ∀ c : Dev Cert.FfnOut1RefIdeal.nD,
          r.2.mem ((c.tc : Thread Cert.FfnOut1RefIdeal.nD Cert.FfnOut1RefIdeal.τ).loc Cert.FfnOut1RefIdeal.main_v3) = v0 c
          ∧ r.2.mem ((c.tc : Thread Cert.FfnOut1RefIdeal.nD Cert.FfnOut1RefIdeal.τ).loc Cert.FfnOut1RefIdeal.main_arg0) = m' ((c.tc : Thread Cert.FfnOut1RefIdeal.nD Cert.FfnOut1RefIdeal.τ).loc Cert.FfnOut1RefIdeal.main_arg0)
          ∧ r.2.mem ((c.tc : Thread Cert.FfnOut1RefIdeal.nD Cert.FfnOut1RefIdeal.τ).loc Cert.FfnOut1RefIdeal.main_arg1) = m' ((c.tc : Thread Cert.FfnOut1RefIdeal.nD Cert.FfnOut1RefIdeal.τ).loc Cert.FfnOut1RefIdeal.main_arg1)
          ∧ r.2.mem ((c.tc : Thread Cert.FfnOut1RefIdeal.nD Cert.FfnOut1RefIdeal.τ).loc Cert.FfnOut1RefIdeal.main_arg2) = m' ((c.tc : Thread Cert.FfnOut1RefIdeal.nD Cert.FfnOut1RefIdeal.τ).loc Cert.FfnOut1RefIdeal.main_arg2))

def preserves_FfnOut2_FfnOut2Ideal : Prop :=
  True

def algebraic_FfnOut2Ideal_FfnOut2RefIdeal [hFfnOut2Ideal : Cert.FfnOut2Ideal.Facts] [hFfnOut2RefIdeal : Cert.FfnOut2RefIdeal.Facts] : Prop :=
  ∀ (m : (ℓ : Loc Cert.FfnOut2Ideal.nD Cert.FfnOut2Ideal.τ Cert.FfnOut2Ideal.sig) → Buf (Elt Ideal) ℓ) (g : Dev Cert.FfnOut2Ideal.nD → PrngReg)
    (m' : (ℓ : Loc Cert.FfnOut2RefIdeal.nD Cert.FfnOut2RefIdeal.τ Cert.FfnOut2RefIdeal.sig) → Buf (Elt Ideal) ℓ) (g' : Dev Cert.FfnOut2RefIdeal.nD → PrngReg), Pre_FfnOut2Ideal m →
    (∀ c : Dev Cert.FfnOut2Ideal.nD,
      m' ((c.tc : Thread Cert.FfnOut2RefIdeal.nD Cert.FfnOut2RefIdeal.τ).loc Cert.FfnOut2RefIdeal.main_arg0) = m ((c.tc : Thread Cert.FfnOut2Ideal.nD Cert.FfnOut2Ideal.τ).loc Cert.FfnOut2Ideal.main_arg0)
      ∧ m' ((c.tc : Thread Cert.FfnOut2RefIdeal.nD Cert.FfnOut2RefIdeal.τ).loc Cert.FfnOut2RefIdeal.main_arg1) = m ((c.tc : Thread Cert.FfnOut2Ideal.nD Cert.FfnOut2Ideal.τ).loc Cert.FfnOut2Ideal.main_arg1)
      ∧ m' ((c.tc : Thread Cert.FfnOut2RefIdeal.nD Cert.FfnOut2RefIdeal.τ).loc Cert.FfnOut2RefIdeal.main_arg2) = m ((c.tc : Thread Cert.FfnOut2Ideal.nD Cert.FfnOut2Ideal.τ).loc Cert.FfnOut2Ideal.main_arg2)) →
    ∃ (v0 : (c : Dev Cert.FfnOut2Ideal.nD) → Buf (Elt Ideal) ((c.tc : Thread Cert.FfnOut2Ideal.nD Cert.FfnOut2Ideal.τ).loc Cert.FfnOut2Ideal.main_v2)),
      θ_run (Cert.FfnOut2Ideal.defs (F := Ideal)) (onTc (τ := Cert.FfnOut2Ideal.τ) (Cert.FfnOut2Ideal.main (F := Ideal))) ⟨m, fun _ => 0, g⟩ (fun r => ∀ c : Dev Cert.FfnOut2Ideal.nD,
          r.2.mem ((c.tc : Thread Cert.FfnOut2Ideal.nD Cert.FfnOut2Ideal.τ).loc Cert.FfnOut2Ideal.main_v2) = v0 c
          ∧ r.2.mem ((c.tc : Thread Cert.FfnOut2Ideal.nD Cert.FfnOut2Ideal.τ).loc Cert.FfnOut2Ideal.main_arg0) = m ((c.tc : Thread Cert.FfnOut2Ideal.nD Cert.FfnOut2Ideal.τ).loc Cert.FfnOut2Ideal.main_arg0)
          ∧ r.2.mem ((c.tc : Thread Cert.FfnOut2Ideal.nD Cert.FfnOut2Ideal.τ).loc Cert.FfnOut2Ideal.main_arg1) = m ((c.tc : Thread Cert.FfnOut2Ideal.nD Cert.FfnOut2Ideal.τ).loc Cert.FfnOut2Ideal.main_arg1)
          ∧ r.2.mem ((c.tc : Thread Cert.FfnOut2Ideal.nD Cert.FfnOut2Ideal.τ).loc Cert.FfnOut2Ideal.main_arg2) = m ((c.tc : Thread Cert.FfnOut2Ideal.nD Cert.FfnOut2Ideal.τ).loc Cert.FfnOut2Ideal.main_arg2))
      ∧ θ_run (Cert.FfnOut2RefIdeal.defs (F := Ideal)) (onTc (τ := Cert.FfnOut2RefIdeal.τ) (Cert.FfnOut2RefIdeal.main (F := Ideal))) ⟨m', fun _ => 0, g'⟩ (fun r => ∀ c : Dev Cert.FfnOut2RefIdeal.nD,
          r.2.mem ((c.tc : Thread Cert.FfnOut2RefIdeal.nD Cert.FfnOut2RefIdeal.τ).loc Cert.FfnOut2RefIdeal.main_v3) = v0 c
          ∧ r.2.mem ((c.tc : Thread Cert.FfnOut2RefIdeal.nD Cert.FfnOut2RefIdeal.τ).loc Cert.FfnOut2RefIdeal.main_arg0) = m' ((c.tc : Thread Cert.FfnOut2RefIdeal.nD Cert.FfnOut2RefIdeal.τ).loc Cert.FfnOut2RefIdeal.main_arg0)
          ∧ r.2.mem ((c.tc : Thread Cert.FfnOut2RefIdeal.nD Cert.FfnOut2RefIdeal.τ).loc Cert.FfnOut2RefIdeal.main_arg1) = m' ((c.tc : Thread Cert.FfnOut2RefIdeal.nD Cert.FfnOut2RefIdeal.τ).loc Cert.FfnOut2RefIdeal.main_arg1)
          ∧ r.2.mem ((c.tc : Thread Cert.FfnOut2RefIdeal.nD Cert.FfnOut2RefIdeal.τ).loc Cert.FfnOut2RefIdeal.main_arg2) = m' ((c.tc : Thread Cert.FfnOut2RefIdeal.nD Cert.FfnOut2RefIdeal.τ).loc Cert.FfnOut2RefIdeal.main_arg2))

def preserves_FfnOut3_FfnOut3Ideal : Prop :=
  True

def algebraic_FfnOut3Ideal_FfnOut3RefIdeal [hFfnOut3Ideal : Cert.FfnOut3Ideal.Facts] [hFfnOut3RefIdeal : Cert.FfnOut3RefIdeal.Facts] : Prop :=
  ∀ (m : (ℓ : Loc Cert.FfnOut3Ideal.nD Cert.FfnOut3Ideal.τ Cert.FfnOut3Ideal.sig) → Buf (Elt Ideal) ℓ) (g : Dev Cert.FfnOut3Ideal.nD → PrngReg)
    (m' : (ℓ : Loc Cert.FfnOut3RefIdeal.nD Cert.FfnOut3RefIdeal.τ Cert.FfnOut3RefIdeal.sig) → Buf (Elt Ideal) ℓ) (g' : Dev Cert.FfnOut3RefIdeal.nD → PrngReg), Pre_FfnOut3Ideal m →
    (∀ c : Dev Cert.FfnOut3Ideal.nD,
      m' ((c.tc : Thread Cert.FfnOut3RefIdeal.nD Cert.FfnOut3RefIdeal.τ).loc Cert.FfnOut3RefIdeal.main_arg0) = m ((c.tc : Thread Cert.FfnOut3Ideal.nD Cert.FfnOut3Ideal.τ).loc Cert.FfnOut3Ideal.main_arg0)
      ∧ m' ((c.tc : Thread Cert.FfnOut3RefIdeal.nD Cert.FfnOut3RefIdeal.τ).loc Cert.FfnOut3RefIdeal.main_arg1) = m ((c.tc : Thread Cert.FfnOut3Ideal.nD Cert.FfnOut3Ideal.τ).loc Cert.FfnOut3Ideal.main_arg1)
      ∧ m' ((c.tc : Thread Cert.FfnOut3RefIdeal.nD Cert.FfnOut3RefIdeal.τ).loc Cert.FfnOut3RefIdeal.main_arg2) = m ((c.tc : Thread Cert.FfnOut3Ideal.nD Cert.FfnOut3Ideal.τ).loc Cert.FfnOut3Ideal.main_arg2)) →
    ∃ (v0 : (c : Dev Cert.FfnOut3Ideal.nD) → Buf (Elt Ideal) ((c.tc : Thread Cert.FfnOut3Ideal.nD Cert.FfnOut3Ideal.τ).loc Cert.FfnOut3Ideal.main_v2)),
      θ_run (Cert.FfnOut3Ideal.defs (F := Ideal)) (onTc (τ := Cert.FfnOut3Ideal.τ) (Cert.FfnOut3Ideal.main (F := Ideal))) ⟨m, fun _ => 0, g⟩ (fun r => ∀ c : Dev Cert.FfnOut3Ideal.nD,
          r.2.mem ((c.tc : Thread Cert.FfnOut3Ideal.nD Cert.FfnOut3Ideal.τ).loc Cert.FfnOut3Ideal.main_v2) = v0 c
          ∧ r.2.mem ((c.tc : Thread Cert.FfnOut3Ideal.nD Cert.FfnOut3Ideal.τ).loc Cert.FfnOut3Ideal.main_arg0) = m ((c.tc : Thread Cert.FfnOut3Ideal.nD Cert.FfnOut3Ideal.τ).loc Cert.FfnOut3Ideal.main_arg0)
          ∧ r.2.mem ((c.tc : Thread Cert.FfnOut3Ideal.nD Cert.FfnOut3Ideal.τ).loc Cert.FfnOut3Ideal.main_arg1) = m ((c.tc : Thread Cert.FfnOut3Ideal.nD Cert.FfnOut3Ideal.τ).loc Cert.FfnOut3Ideal.main_arg1)
          ∧ r.2.mem ((c.tc : Thread Cert.FfnOut3Ideal.nD Cert.FfnOut3Ideal.τ).loc Cert.FfnOut3Ideal.main_arg2) = m ((c.tc : Thread Cert.FfnOut3Ideal.nD Cert.FfnOut3Ideal.τ).loc Cert.FfnOut3Ideal.main_arg2))
      ∧ θ_run (Cert.FfnOut3RefIdeal.defs (F := Ideal)) (onTc (τ := Cert.FfnOut3RefIdeal.τ) (Cert.FfnOut3RefIdeal.main (F := Ideal))) ⟨m', fun _ => 0, g'⟩ (fun r => ∀ c : Dev Cert.FfnOut3RefIdeal.nD,
          r.2.mem ((c.tc : Thread Cert.FfnOut3RefIdeal.nD Cert.FfnOut3RefIdeal.τ).loc Cert.FfnOut3RefIdeal.main_v3) = v0 c
          ∧ r.2.mem ((c.tc : Thread Cert.FfnOut3RefIdeal.nD Cert.FfnOut3RefIdeal.τ).loc Cert.FfnOut3RefIdeal.main_arg0) = m' ((c.tc : Thread Cert.FfnOut3RefIdeal.nD Cert.FfnOut3RefIdeal.τ).loc Cert.FfnOut3RefIdeal.main_arg0)
          ∧ r.2.mem ((c.tc : Thread Cert.FfnOut3RefIdeal.nD Cert.FfnOut3RefIdeal.τ).loc Cert.FfnOut3RefIdeal.main_arg1) = m' ((c.tc : Thread Cert.FfnOut3RefIdeal.nD Cert.FfnOut3RefIdeal.τ).loc Cert.FfnOut3RefIdeal.main_arg1)
          ∧ r.2.mem ((c.tc : Thread Cert.FfnOut3RefIdeal.nD Cert.FfnOut3RefIdeal.τ).loc Cert.FfnOut3RefIdeal.main_arg2) = m' ((c.tc : Thread Cert.FfnOut3RefIdeal.nD Cert.FfnOut3RefIdeal.τ).loc Cert.FfnOut3RefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_QkvA_QkvAIdeal : Prop :=
  True

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v1_0)) (v1 : (c : Dev Cert.QkvAIdeal.nD) → Buf (Elt Ideal) ((c.tc : Thread Cert.QkvAIdeal.nD Cert.QkvAIdeal.τ).loc Cert.QkvAIdeal.main_v1_1)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v1_0) = v0 c
          ∧ r.2.mem ((c.tc : Thread Cert.QkvAIdeal.nD Cert.QkvAIdeal.τ).loc Cert.QkvAIdeal.main_v1_1) = v1 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v0) = v0 c
          ∧ r.2.mem ((c.tc : Thread Cert.QkvARefIdeal.nD Cert.QkvARefIdeal.τ).loc Cert.QkvARefIdeal.main_v1) = v1 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v1_0)) (v1 : (c : Dev Cert.QkvBIdeal.nD) → Buf (Elt Ideal) ((c.tc : Thread Cert.QkvBIdeal.nD Cert.QkvBIdeal.τ).loc Cert.QkvBIdeal.main_v1_1)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v1_0) = v0 c
          ∧ r.2.mem ((c.tc : Thread Cert.QkvBIdeal.nD Cert.QkvBIdeal.τ).loc Cert.QkvBIdeal.main_v1_1) = v1 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v0) = v0 c
          ∧ r.2.mem ((c.tc : Thread Cert.QkvBRefIdeal.nD Cert.QkvBRefIdeal.τ).loc Cert.QkvBRefIdeal.main_v1) = v1 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def preserves_QkvC_QkvCIdeal : Prop :=
  True

def algebraic_QkvCIdeal_QkvCRefIdeal [hQkvCIdeal : Cert.QkvCIdeal.Facts] [hQkvCRefIdeal : Cert.QkvCRefIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCRefIdeal.nD Cert.QkvCRefIdeal.τ Cert.QkvCRefIdeal.sig) → Buf (Elt Ideal) ℓ) (g' : Dev Cert.QkvCRefIdeal.nD → PrngReg), Pre_QkvCIdeal m →
    (∀ c : Dev Cert.QkvCIdeal.nD,
      m' ((c.tc : Thread Cert.QkvCRefIdeal.nD Cert.QkvCRefIdeal.τ).loc Cert.QkvCRefIdeal.main_arg0) = m ((c.tc : Thread Cert.QkvCIdeal.nD Cert.QkvCIdeal.τ).loc Cert.QkvCIdeal.main_arg0)
      ∧ m' ((c.tc : Thread Cert.QkvCRefIdeal.nD Cert.QkvCRefIdeal.τ).loc Cert.QkvCRefIdeal.main_arg1) = m ((c.tc : Thread Cert.QkvCIdeal.nD Cert.QkvCIdeal.τ).loc Cert.QkvCIdeal.main_arg1)) →
    ∃ (v0 : (c : Dev Cert.QkvCIdeal.nD) → Buf (Elt Ideal) ((c.tc : Thread Cert.QkvCIdeal.nD Cert.QkvCIdeal.τ).loc Cert.QkvCIdeal.main_v1_0)) (v1 : (c : Dev Cert.QkvCIdeal.nD) → Buf (Elt Ideal) ((c.tc : Thread Cert.QkvCIdeal.nD Cert.QkvCIdeal.τ).loc Cert.QkvCIdeal.main_v1_1)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v1_0) = v0 c
          ∧ r.2.mem ((c.tc : Thread Cert.QkvCIdeal.nD Cert.QkvCIdeal.τ).loc Cert.QkvCIdeal.main_v1_1) = v1 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ θ_run (Cert.QkvCRefIdeal.defs (F := Ideal)) (onTc (τ := Cert.QkvCRefIdeal.τ) (Cert.QkvCRefIdeal.main (F := Ideal))) ⟨m', fun _ => 0, g'⟩ (fun r => ∀ c : Dev Cert.QkvCRefIdeal.nD,
          r.2.mem ((c.tc : Thread Cert.QkvCRefIdeal.nD Cert.QkvCRefIdeal.τ).loc Cert.QkvCRefIdeal.main_v0) = v0 c
          ∧ r.2.mem ((c.tc : Thread Cert.QkvCRefIdeal.nD Cert.QkvCRefIdeal.τ).loc Cert.QkvCRefIdeal.main_v1) = v1 c
          ∧ r.2.mem ((c.tc : Thread Cert.QkvCRefIdeal.nD Cert.QkvCRefIdeal.τ).loc Cert.QkvCRefIdeal.main_arg0) = m' ((c.tc : Thread Cert.QkvCRefIdeal.nD Cert.QkvCRefIdeal.τ).loc Cert.QkvCRefIdeal.main_arg0)
          ∧ r.2.mem ((c.tc : Thread Cert.QkvCRefIdeal.nD Cert.QkvCRefIdeal.τ).loc Cert.QkvCRefIdeal.main_arg1) = m' ((c.tc : Thread Cert.QkvCRefIdeal.nD Cert.QkvCRefIdeal.τ).loc Cert.QkvCRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Qa_QaIdeal : Prop :=
  True

def algebraic_QaIdeal_QaRefIdeal [hQaIdeal : Cert.QaIdeal.Facts] [hQaRefIdeal : Cert.QaRefIdeal.Facts] : Prop :=
  ∀ (m : (ℓ : Loc Cert.QaIdeal.nD Cert.QaIdeal.τ Cert.QaIdeal.sig) → Buf (Elt Ideal) ℓ) (g : Dev Cert.QaIdeal.nD → PrngReg)
    (m' : (ℓ : Loc Cert.QaRefIdeal.nD Cert.QaRefIdeal.τ Cert.QaRefIdeal.sig) → Buf (Elt Ideal) ℓ) (g' : Dev Cert.QaRefIdeal.nD → PrngReg), Pre_QaIdeal m →
    (∀ c : Dev Cert.QaIdeal.nD,
      m' ((c.tc : Thread Cert.QaRefIdeal.nD Cert.QaRefIdeal.τ).loc Cert.QaRefIdeal.main_arg0) = m ((c.tc : Thread Cert.QaIdeal.nD Cert.QaIdeal.τ).loc Cert.QaIdeal.main_arg0)
      ∧ m' ((c.tc : Thread Cert.QaRefIdeal.nD Cert.QaRefIdeal.τ).loc Cert.QaRefIdeal.main_arg1) = m ((c.tc : Thread Cert.QaIdeal.nD Cert.QaIdeal.τ).loc Cert.QaIdeal.main_arg1)) →
    ∃ (v0 : (c : Dev Cert.QaIdeal.nD) → Buf (Elt Ideal) ((c.tc : Thread Cert.QaIdeal.nD Cert.QaIdeal.τ).loc Cert.QaIdeal.main_v1)),
      θ_run (Cert.QaIdeal.defs (F := Ideal)) (onTc (τ := Cert.QaIdeal.τ) (Cert.QaIdeal.main (F := Ideal))) ⟨m, fun _ => 0, g⟩ (fun r => ∀ c : Dev Cert.QaIdeal.nD,
          r.2.mem ((c.tc : Thread Cert.QaIdeal.nD Cert.QaIdeal.τ).loc Cert.QaIdeal.main_v1) = v0 c
          ∧ r.2.mem ((c.tc : Thread Cert.QaIdeal.nD Cert.QaIdeal.τ).loc Cert.QaIdeal.main_arg0) = m ((c.tc : Thread Cert.QaIdeal.nD Cert.QaIdeal.τ).loc Cert.QaIdeal.main_arg0)
          ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ θ_run (Cert.QaRefIdeal.defs (F := Ideal)) (onTc (τ := Cert.QaRefIdeal.τ) (Cert.QaRefIdeal.main (F := Ideal))) ⟨m', fun _ => 0, g'⟩ (fun r => ∀ c : Dev Cert.QaRefIdeal.nD,
          r.2.mem ((c.tc : Thread Cert.QaRefIdeal.nD Cert.QaRefIdeal.τ).loc Cert.QaRefIdeal.main_v0) = v0 c
          ∧ r.2.mem ((c.tc : Thread Cert.QaRefIdeal.nD Cert.QaRefIdeal.τ).loc Cert.QaRefIdeal.main_arg0) = m' ((c.tc : Thread Cert.QaRefIdeal.nD Cert.QaRefIdeal.τ).loc Cert.QaRefIdeal.main_arg0)
          ∧ r.2.mem ((c.tc : Thread Cert.QaRefIdeal.nD Cert.QaRefIdeal.τ).loc Cert.QaRefIdeal.main_arg1) = m' ((c.tc : Thread Cert.QaRefIdeal.nD Cert.QaRefIdeal.τ).loc Cert.QaRefIdeal.main_arg1))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)) →
    ∃ (v0 : (c : Dev Cert.QbIdeal.nD) → Buf (Elt Ideal) ((c.tc : Thread Cert.QbIdeal.nD Cert.QbIdeal.τ).loc Cert.QbIdeal.main_v1)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v1) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v0) = v0 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1))

def preserves_Kva_KvaIdeal : Prop :=
  True

def algebraic_KvaIdeal_KvaRefIdeal [hKvaIdeal : Cert.KvaIdeal.Facts] [hKvaRefIdeal : Cert.KvaRefIdeal.Facts] : Prop :=
  ∀ (m : (ℓ : Loc Cert.KvaIdeal.nD Cert.KvaIdeal.τ Cert.KvaIdeal.sig) → Buf (Elt Ideal) ℓ) (g : Dev Cert.KvaIdeal.nD → PrngReg)
    (m' : (ℓ : Loc Cert.KvaRefIdeal.nD Cert.KvaRefIdeal.τ Cert.KvaRefIdeal.sig) → Buf (Elt Ideal) ℓ) (g' : Dev Cert.KvaRefIdeal.nD → PrngReg), Pre_KvaIdeal m →
    (∀ c : Dev Cert.KvaIdeal.nD,
      m' ((c.tc : Thread Cert.KvaRefIdeal.nD Cert.KvaRefIdeal.τ).loc Cert.KvaRefIdeal.main_arg0) = m ((c.tc : Thread Cert.KvaIdeal.nD Cert.KvaIdeal.τ).loc Cert.KvaIdeal.main_arg0)
      ∧ m' ((c.tc : Thread Cert.KvaRefIdeal.nD Cert.KvaRefIdeal.τ).loc Cert.KvaRefIdeal.main_arg1) = m ((c.tc : Thread Cert.KvaIdeal.nD Cert.KvaIdeal.τ).loc Cert.KvaIdeal.main_arg1)) →
    ∃ (v0 : (c : Dev Cert.KvaIdeal.nD) → Buf (Elt Ideal) ((c.tc : Thread Cert.KvaIdeal.nD Cert.KvaIdeal.τ).loc Cert.KvaIdeal.main_v1)),
      θ_run (Cert.KvaIdeal.defs (F := Ideal)) (onTc (τ := Cert.KvaIdeal.τ) (Cert.KvaIdeal.main (F := Ideal))) ⟨m, fun _ => 0, g⟩ (fun r => ∀ c : Dev Cert.KvaIdeal.nD,
          r.2.mem ((c.tc : Thread Cert.KvaIdeal.nD Cert.KvaIdeal.τ).loc Cert.KvaIdeal.main_v1) = v0 c
          ∧ r.2.mem ((c.tc : Thread Cert.KvaIdeal.nD Cert.KvaIdeal.τ).loc Cert.KvaIdeal.main_arg0) = m ((c.tc : Thread Cert.KvaIdeal.nD Cert.KvaIdeal.τ).loc Cert.KvaIdeal.main_arg0)
          ∧ r.2.mem ((c.tc : Thread Cert.KvaIdeal.nD Cert.KvaIdeal.τ).loc Cert.KvaIdeal.main_arg1) = m ((c.tc : Thread Cert.KvaIdeal.nD Cert.KvaIdeal.τ).loc Cert.KvaIdeal.main_arg1))
      ∧ θ_run (Cert.KvaRefIdeal.defs (F := Ideal)) (onTc (τ := Cert.KvaRefIdeal.τ) (Cert.KvaRefIdeal.main (F := Ideal))) ⟨m', fun _ => 0, g'⟩ (fun r => ∀ c : Dev Cert.KvaRefIdeal.nD,
          r.2.mem ((c.tc : Thread Cert.KvaRefIdeal.nD Cert.KvaRefIdeal.τ).loc Cert.KvaRefIdeal.main_v0) = v0 c
          ∧ r.2.mem ((c.tc : Thread Cert.KvaRefIdeal.nD Cert.KvaRefIdeal.τ).loc Cert.KvaRefIdeal.main_arg0) = m' ((c.tc : Thread Cert.KvaRefIdeal.nD Cert.KvaRefIdeal.τ).loc Cert.KvaRefIdeal.main_arg0)
          ∧ r.2.mem ((c.tc : Thread Cert.KvaRefIdeal.nD Cert.KvaRefIdeal.τ).loc Cert.KvaRefIdeal.main_arg1) = m' ((c.tc : Thread Cert.KvaRefIdeal.nD Cert.KvaRefIdeal.τ).loc Cert.KvaRefIdeal.main_arg1))

def preserves_NormBf_NormBfIdeal : Prop :=
  True

def algebraic_NormBfIdeal_NormBfRefIdeal [hNormBfIdeal : Cert.NormBfIdeal.Facts] [hNormBfRefIdeal : Cert.NormBfRefIdeal.Facts] : Prop :=
  ∀ (m : (ℓ : Loc Cert.NormBfIdeal.nD Cert.NormBfIdeal.τ Cert.NormBfIdeal.sig) → Buf (Elt Ideal) ℓ) (g : Dev Cert.NormBfIdeal.nD → PrngReg)
    (m' : (ℓ : Loc Cert.NormBfRefIdeal.nD Cert.NormBfRefIdeal.τ Cert.NormBfRefIdeal.sig) → Buf (Elt Ideal) ℓ) (g' : Dev Cert.NormBfRefIdeal.nD → PrngReg), Pre_NormBfIdeal m →
    (∀ c : Dev Cert.NormBfIdeal.nD,
      m' ((c.tc : Thread Cert.NormBfRefIdeal.nD Cert.NormBfRefIdeal.τ).loc Cert.NormBfRefIdeal.main_arg0) = m ((c.tc : Thread Cert.NormBfIdeal.nD Cert.NormBfIdeal.τ).loc Cert.NormBfIdeal.main_arg0)
      ∧ m' ((c.tc : Thread Cert.NormBfRefIdeal.nD Cert.NormBfRefIdeal.τ).loc Cert.NormBfRefIdeal.main_arg1) = m ((c.tc : Thread Cert.NormBfIdeal.nD Cert.NormBfIdeal.τ).loc Cert.NormBfIdeal.main_arg1)) →
    ∃ (v0 : (c : Dev Cert.NormBfIdeal.nD) → Buf (Elt Ideal) ((c.tc : Thread Cert.NormBfIdeal.nD Cert.NormBfIdeal.τ).loc Cert.NormBfIdeal.main_v1)),
      θ_run (Cert.NormBfIdeal.defs (F := Ideal)) (onTc (τ := Cert.NormBfIdeal.τ) (Cert.NormBfIdeal.main (F := Ideal))) ⟨m, fun _ => 0, g⟩ (fun r => ∀ c : Dev Cert.NormBfIdeal.nD,
          r.2.mem ((c.tc : Thread Cert.NormBfIdeal.nD Cert.NormBfIdeal.τ).loc Cert.NormBfIdeal.main_v1) = v0 c
          ∧ r.2.mem ((c.tc : Thread Cert.NormBfIdeal.nD Cert.NormBfIdeal.τ).loc Cert.NormBfIdeal.main_arg0) = m ((c.tc : Thread Cert.NormBfIdeal.nD Cert.NormBfIdeal.τ).loc Cert.NormBfIdeal.main_arg0)
          ∧ r.2.mem ((c.tc : Thread Cert.NormBfIdeal.nD Cert.NormBfIdeal.τ).loc Cert.NormBfIdeal.main_arg1) = m ((c.tc : Thread Cert.NormBfIdeal.nD Cert.NormBfIdeal.τ).loc Cert.NormBfIdeal.main_arg1))
      ∧ θ_run (Cert.NormBfRefIdeal.defs (F := Ideal)) (onTc (τ := Cert.NormBfRefIdeal.τ) (Cert.NormBfRefIdeal.main (F := Ideal))) ⟨m', fun _ => 0, g'⟩ (fun r => ∀ c : Dev Cert.NormBfRefIdeal.nD,
          r.2.mem ((c.tc : Thread Cert.NormBfRefIdeal.nD Cert.NormBfRefIdeal.τ).loc Cert.NormBfRefIdeal.main_v13) = v0 c
          ∧ r.2.mem ((c.tc : Thread Cert.NormBfRefIdeal.nD Cert.NormBfRefIdeal.τ).loc Cert.NormBfRefIdeal.main_arg0) = m' ((c.tc : Thread Cert.NormBfRefIdeal.nD Cert.NormBfRefIdeal.τ).loc Cert.NormBfRefIdeal.main_arg0)
          ∧ r.2.mem ((c.tc : Thread Cert.NormBfRefIdeal.nD Cert.NormBfRefIdeal.τ).loc Cert.NormBfRefIdeal.main_arg1) = m' ((c.tc : Thread Cert.NormBfRefIdeal.nD Cert.NormBfRefIdeal.τ).loc Cert.NormBfRefIdeal.main_arg1))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)) →
    ∃ (v0 : (c : Dev Cert.NormFIdeal.nD) → Buf (Elt Ideal) ((c.tc : Thread Cert.NormFIdeal.nD Cert.NormFIdeal.τ).loc Cert.NormFIdeal.main_v1)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v1) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v12) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1) = v0 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v13) = v0 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def preserves_AKv_AKvIdeal : Prop :=
  True

def algebraic_AKvIdeal_AKvRefIdeal [hAKvIdeal : Cert.AKvIdeal.Facts] [hAKvRefIdeal : Cert.AKvRefIdeal.Facts] : Prop :=
  ∀ (m : (ℓ : Loc Cert.AKvIdeal.nD Cert.AKvIdeal.τ Cert.AKvIdeal.sig) → Buf (Elt Ideal) ℓ) (g : Dev Cert.AKvIdeal.nD → PrngReg)
    (m' : (ℓ : Loc Cert.AKvRefIdeal.nD Cert.AKvRefIdeal.τ Cert.AKvRefIdeal.sig) → Buf (Elt Ideal) ℓ) (g' : Dev Cert.AKvRefIdeal.nD → PrngReg), Pre_AKvIdeal m →
    (∀ c : Dev Cert.AKvIdeal.nD,
      m' ((c.tc : Thread Cert.AKvRefIdeal.nD Cert.AKvRefIdeal.τ).loc Cert.AKvRefIdeal.main_arg0) = m ((c.tc : Thread Cert.AKvIdeal.nD Cert.AKvIdeal.τ).loc Cert.AKvIdeal.main_arg0)
      ∧ m' ((c.tc : Thread Cert.AKvRefIdeal.nD Cert.AKvRefIdeal.τ).loc Cert.AKvRefIdeal.main_arg1) = m ((c.tc : Thread Cert.AKvIdeal.nD Cert.AKvIdeal.τ).loc Cert.AKvIdeal.main_arg1)
      ∧ m' ((c.tc : Thread Cert.AKvRefIdeal.nD Cert.AKvRefIdeal.τ).loc Cert.AKvRefIdeal.main_arg2) = m ((c.tc : Thread Cert.AKvIdeal.nD Cert.AKvIdeal.τ).loc Cert.AKvIdeal.main_arg2)
      ∧ m' ((c.tc : Thread Cert.AKvRefIdeal.nD Cert.AKvRefIdeal.τ).loc Cert.AKvRefIdeal.main_arg3) = m ((c.tc : Thread Cert.AKvIdeal.nD Cert.AKvIdeal.τ).loc Cert.AKvIdeal.main_arg3)) →
    ∃ (v0 : (c : Dev Cert.AKvIdeal.nD) → Buf (Elt Ideal) ((c.tc : Thread Cert.AKvIdeal.nD Cert.AKvIdeal.τ).loc Cert.AKvIdeal.main_v11)) (v1 : (c : Dev Cert.AKvIdeal.nD) → Buf (Elt Ideal) ((c.tc : Thread Cert.AKvIdeal.nD Cert.AKvIdeal.τ).loc Cert.AKvIdeal.main_v13)),
      θ_run (Cert.AKvIdeal.defs (F := Ideal)) (onTc (τ := Cert.AKvIdeal.τ) (Cert.AKvIdeal.main (F := Ideal))) ⟨m, fun _ => 0, g⟩ (fun r => ∀ c : Dev Cert.AKvIdeal.nD,
          r.2.mem ((c.tc : Thread Cert.AKvIdeal.nD Cert.AKvIdeal.τ).loc Cert.AKvIdeal.main_v11) = v0 c
          ∧ r.2.mem ((c.tc : Thread Cert.AKvIdeal.nD Cert.AKvIdeal.τ).loc Cert.AKvIdeal.main_v13) = v1 c
          ∧ r.2.mem ((c.tc : Thread Cert.AKvIdeal.nD Cert.AKvIdeal.τ).loc Cert.AKvIdeal.main_arg0) = m ((c.tc : Thread Cert.AKvIdeal.nD Cert.AKvIdeal.τ).loc Cert.AKvIdeal.main_arg0)
          ∧ r.2.mem ((c.tc : Thread Cert.AKvIdeal.nD Cert.AKvIdeal.τ).loc Cert.AKvIdeal.main_arg1) = m ((c.tc : Thread Cert.AKvIdeal.nD Cert.AKvIdeal.τ).loc Cert.AKvIdeal.main_arg1)
          ∧ r.2.mem ((c.tc : Thread Cert.AKvIdeal.nD Cert.AKvIdeal.τ).loc Cert.AKvIdeal.main_arg2) = m ((c.tc : Thread Cert.AKvIdeal.nD Cert.AKvIdeal.τ).loc Cert.AKvIdeal.main_arg2)
          ∧ r.2.mem ((c.tc : Thread Cert.AKvIdeal.nD Cert.AKvIdeal.τ).loc Cert.AKvIdeal.main_arg3) = m ((c.tc : Thread Cert.AKvIdeal.nD Cert.AKvIdeal.τ).loc Cert.AKvIdeal.main_arg3))
      ∧ θ_run (Cert.AKvRefIdeal.defs (F := Ideal)) (onTc (τ := Cert.AKvRefIdeal.τ) (Cert.AKvRefIdeal.main (F := Ideal))) ⟨m', fun _ => 0, g'⟩ (fun r => ∀ c : Dev Cert.AKvRefIdeal.nD,
          r.2.mem ((c.tc : Thread Cert.AKvRefIdeal.nD Cert.AKvRefIdeal.τ).loc Cert.AKvRefIdeal.main_v17) = v0 c
          ∧ r.2.mem ((c.tc : Thread Cert.AKvRefIdeal.nD Cert.AKvRefIdeal.τ).loc Cert.AKvRefIdeal.main_v35) = v1 c
          ∧ r.2.mem ((c.tc : Thread Cert.AKvRefIdeal.nD Cert.AKvRefIdeal.τ).loc Cert.AKvRefIdeal.main_arg0) = m' ((c.tc : Thread Cert.AKvRefIdeal.nD Cert.AKvRefIdeal.τ).loc Cert.AKvRefIdeal.main_arg0)
          ∧ r.2.mem ((c.tc : Thread Cert.AKvRefIdeal.nD Cert.AKvRefIdeal.τ).loc Cert.AKvRefIdeal.main_arg1) = m' ((c.tc : Thread Cert.AKvRefIdeal.nD Cert.AKvRefIdeal.τ).loc Cert.AKvRefIdeal.main_arg1)
          ∧ r.2.mem ((c.tc : Thread Cert.AKvRefIdeal.nD Cert.AKvRefIdeal.τ).loc Cert.AKvRefIdeal.main_arg2) = m' ((c.tc : Thread Cert.AKvRefIdeal.nD Cert.AKvRefIdeal.τ).loc Cert.AKvRefIdeal.main_arg2)
          ∧ r.2.mem ((c.tc : Thread Cert.AKvRefIdeal.nD Cert.AKvRefIdeal.τ).loc Cert.AKvRefIdeal.main_arg3) = m' ((c.tc : Thread Cert.AKvRefIdeal.nD Cert.AKvRefIdeal.τ).loc Cert.AKvRefIdeal.main_arg3))

def preserves_MlaS_MlaSIdeal : Prop :=
  True

def algebraic_MlaSIdeal_MlaSRefIdeal_pre_paged [hMlaSIdeal : Cert.MlaSIdeal.Facts] [hMlaSRefIdeal : Cert.MlaSRefIdeal.Facts] [hPre_paged : Cert.Pre_paged.Facts] : Prop :=
  ∀ (m : (ℓ : Loc Cert.MlaSIdeal.nD Cert.MlaSIdeal.τ Cert.MlaSIdeal.sig) → Buf (Elt Ideal) ℓ) (g : Dev Cert.MlaSIdeal.nD → PrngReg)
    (m' : (ℓ : Loc Cert.MlaSRefIdeal.nD Cert.MlaSRefIdeal.τ Cert.MlaSRefIdeal.sig) → Buf (Elt Ideal) ℓ) (g' : Dev Cert.MlaSRefIdeal.nD → PrngReg), Pre_MlaSIdeal_paged m →
    (∀ c : Dev Cert.MlaSIdeal.nD,
      m' ((c.tc : Thread Cert.MlaSRefIdeal.nD Cert.MlaSRefIdeal.τ).loc Cert.MlaSRefIdeal.main_arg0) = m ((c.tc : Thread Cert.MlaSIdeal.nD Cert.MlaSIdeal.τ).loc Cert.MlaSIdeal.main_arg0)
      ∧ m' ((c.tc : Thread Cert.MlaSRefIdeal.nD Cert.MlaSRefIdeal.τ).loc Cert.MlaSRefIdeal.main_arg1) = m ((c.tc : Thread Cert.MlaSIdeal.nD Cert.MlaSIdeal.τ).loc Cert.MlaSIdeal.main_arg1)
      ∧ m' ((c.tc : Thread Cert.MlaSRefIdeal.nD Cert.MlaSRefIdeal.τ).loc Cert.MlaSRefIdeal.main_arg2) = m ((c.tc : Thread Cert.MlaSIdeal.nD Cert.MlaSIdeal.τ).loc Cert.MlaSIdeal.main_arg2)
      ∧ m' ((c.tc : Thread Cert.MlaSRefIdeal.nD Cert.MlaSRefIdeal.τ).loc Cert.MlaSRefIdeal.main_arg3) = m ((c.tc : Thread Cert.MlaSIdeal.nD Cert.MlaSIdeal.τ).loc Cert.MlaSIdeal.main_arg3)) →
    ∃ (v0 : (c : Dev Cert.MlaSIdeal.nD) → Buf (Elt Ideal) ((c.tc : Thread Cert.MlaSIdeal.nD Cert.MlaSIdeal.τ).loc Cert.MlaSIdeal.main_v0)),
      θ_run (Cert.MlaSIdeal.defs (F := Ideal)) (onTc (τ := Cert.MlaSIdeal.τ) (Cert.MlaSIdeal.main (F := Ideal))) ⟨m, fun _ => 0, g⟩ (fun r => ∀ c : Dev Cert.MlaSIdeal.nD,
          r.2.mem ((c.tc : Thread Cert.MlaSIdeal.nD Cert.MlaSIdeal.τ).loc Cert.MlaSIdeal.main_v0) = v0 c
          ∧ r.2.mem ((c.tc : Thread Cert.MlaSIdeal.nD Cert.MlaSIdeal.τ).loc Cert.MlaSIdeal.main_arg0) = m ((c.tc : Thread Cert.MlaSIdeal.nD Cert.MlaSIdeal.τ).loc Cert.MlaSIdeal.main_arg0)
          ∧ r.2.mem ((c.tc : Thread Cert.MlaSIdeal.nD Cert.MlaSIdeal.τ).loc Cert.MlaSIdeal.main_arg1) = m ((c.tc : Thread Cert.MlaSIdeal.nD Cert.MlaSIdeal.τ).loc Cert.MlaSIdeal.main_arg1)
          ∧ r.2.mem ((c.tc : Thread Cert.MlaSIdeal.nD Cert.MlaSIdeal.τ).loc Cert.MlaSIdeal.main_arg2) = m ((c.tc : Thread Cert.MlaSIdeal.nD Cert.MlaSIdeal.τ).loc Cert.MlaSIdeal.main_arg2)
          ∧ r.2.mem ((c.tc : Thread Cert.MlaSIdeal.nD Cert.MlaSIdeal.τ).loc Cert.MlaSIdeal.main_arg3) = m ((c.tc : Thread Cert.MlaSIdeal.nD Cert.MlaSIdeal.τ).loc Cert.MlaSIdeal.main_arg3))
      ∧ θ_run (Cert.MlaSRefIdeal.defs (F := Ideal)) (onTc (τ := Cert.MlaSRefIdeal.τ) (Cert.MlaSRefIdeal.main (F := Ideal))) ⟨m', fun _ => 0, g'⟩ (fun r => ∀ c : Dev Cert.MlaSRefIdeal.nD,
          r.2.mem ((c.tc : Thread Cert.MlaSRefIdeal.nD Cert.MlaSRefIdeal.τ).loc Cert.MlaSRefIdeal.main_v40) = v0 c
          ∧ r.2.mem ((c.tc : Thread Cert.MlaSRefIdeal.nD Cert.MlaSRefIdeal.τ).loc Cert.MlaSRefIdeal.main_arg0) = m' ((c.tc : Thread Cert.MlaSRefIdeal.nD Cert.MlaSRefIdeal.τ).loc Cert.MlaSRefIdeal.main_arg0)
          ∧ r.2.mem ((c.tc : Thread Cert.MlaSRefIdeal.nD Cert.MlaSRefIdeal.τ).loc Cert.MlaSRefIdeal.main_arg1) = m' ((c.tc : Thread Cert.MlaSRefIdeal.nD Cert.MlaSRefIdeal.τ).loc Cert.MlaSRefIdeal.main_arg1)
          ∧ r.2.mem ((c.tc : Thread Cert.MlaSRefIdeal.nD Cert.MlaSRefIdeal.τ).loc Cert.MlaSRefIdeal.main_arg2) = m' ((c.tc : Thread Cert.MlaSRefIdeal.nD Cert.MlaSRefIdeal.τ).loc Cert.MlaSRefIdeal.main_arg2)
          ∧ r.2.mem ((c.tc : Thread Cert.MlaSRefIdeal.nD Cert.MlaSRefIdeal.τ).loc Cert.MlaSRefIdeal.main_arg3) = m' ((c.tc : Thread Cert.MlaSRefIdeal.nD Cert.MlaSRefIdeal.τ).loc Cert.MlaSRefIdeal.main_arg3))

def Claim : Prop :=
  ∃ (hKernel : Cert.Kernel.Facts) (hKernelIdeal : Cert.KernelIdeal.Facts) (hReferenceIdeal : Cert.ReferenceIdeal.Facts) (hFfnIn0 : Cert.FfnIn0.Facts) (hFfnIn0Ideal : Cert.FfnIn0Ideal.Facts) (hFfnIn0RefIdeal : Cert.FfnIn0RefIdeal.Facts) (hFfnIn1 : Cert.FfnIn1.Facts) (hFfnIn1Ideal : Cert.FfnIn1Ideal.Facts) (hFfnIn1RefIdeal : Cert.FfnIn1RefIdeal.Facts) (hFfnIn2 : Cert.FfnIn2.Facts) (hFfnIn2Ideal : Cert.FfnIn2Ideal.Facts) (hFfnIn2RefIdeal : Cert.FfnIn2RefIdeal.Facts) (hFfnIn3 : Cert.FfnIn3.Facts) (hFfnIn3Ideal : Cert.FfnIn3Ideal.Facts) (hFfnIn3RefIdeal : Cert.FfnIn3RefIdeal.Facts) (hFfnOut0 : Cert.FfnOut0.Facts) (hFfnOut0Ideal : Cert.FfnOut0Ideal.Facts) (hFfnOut0RefIdeal : Cert.FfnOut0RefIdeal.Facts) (hFfnOut1 : Cert.FfnOut1.Facts) (hFfnOut1Ideal : Cert.FfnOut1Ideal.Facts) (hFfnOut1RefIdeal : Cert.FfnOut1RefIdeal.Facts) (hFfnOut2 : Cert.FfnOut2.Facts) (hFfnOut2Ideal : Cert.FfnOut2Ideal.Facts) (hFfnOut2RefIdeal : Cert.FfnOut2RefIdeal.Facts) (hFfnOut3 : Cert.FfnOut3.Facts) (hFfnOut3Ideal : Cert.FfnOut3Ideal.Facts) (hFfnOut3RefIdeal : Cert.FfnOut3RefIdeal.Facts) (hOut : Cert.Out.Facts) (hOutIdeal : Cert.OutIdeal.Facts) (hOutRefIdeal : Cert.OutRefIdeal.Facts) (hQkvA : Cert.QkvA.Facts) (hQkvAIdeal : Cert.QkvAIdeal.Facts) (hQkvARefIdeal : Cert.QkvARefIdeal.Facts) (hQkvB : Cert.QkvB.Facts) (hQkvBIdeal : Cert.QkvBIdeal.Facts) (hQkvBRefIdeal : Cert.QkvBRefIdeal.Facts) (hQkvC : Cert.QkvC.Facts) (hQkvCIdeal : Cert.QkvCIdeal.Facts) (hQkvCRefIdeal : Cert.QkvCRefIdeal.Facts) (hGate : Cert.Gate.Facts) (hGateIdeal : Cert.GateIdeal.Facts) (hGateRefIdeal : Cert.GateRefIdeal.Facts) (hQa : Cert.Qa.Facts) (hQaIdeal : Cert.QaIdeal.Facts) (hQaRefIdeal : Cert.QaRefIdeal.Facts) (hQb : Cert.Qb.Facts) (hQbIdeal : Cert.QbIdeal.Facts) (hQbRefIdeal : Cert.QbRefIdeal.Facts) (hKva : Cert.Kva.Facts) (hKvaIdeal : Cert.KvaIdeal.Facts) (hKvaRefIdeal : Cert.KvaRefIdeal.Facts) (hNormBf : Cert.NormBf.Facts) (hNormBfIdeal : Cert.NormBfIdeal.Facts) (hNormBfRefIdeal : Cert.NormBfRefIdeal.Facts) (hNormF : Cert.NormF.Facts) (hNormFIdeal : Cert.NormFIdeal.Facts) (hNormFRefIdeal : Cert.NormFRefIdeal.Facts) (hNormQ : Cert.NormQ.Facts) (hNormQIdeal : Cert.NormQIdeal.Facts) (hNormQRefIdeal : Cert.NormQRefIdeal.Facts) (hAKv : Cert.AKv.Facts) (hAKvIdeal : Cert.AKvIdeal.Facts) (hAKvRefIdeal : Cert.AKvRefIdeal.Facts) (hMlaS : Cert.MlaS.Facts) (hMlaSIdeal : Cert.MlaSIdeal.Facts) (hMlaSRefIdeal : Cert.MlaSRefIdeal.Facts) (hPre_bounded : Cert.Pre_bounded.Facts) (hPre_in_pool : Cert.Pre_in_pool.Facts) (hPre_paged : Cert.Pre_paged.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_FfnIn0 (hFfnIn0 := hFfnIn0)
    ∧ quiescent_FfnIn0Ideal (hFfnIn0Ideal := hFfnIn0Ideal)
    ∧ quiescent_FfnIn0RefIdeal (hFfnIn0RefIdeal := hFfnIn0RefIdeal)
    ∧ quiescent_FfnIn1 (hFfnIn1 := hFfnIn1)
    ∧ quiescent_FfnIn1Ideal (hFfnIn1Ideal := hFfnIn1Ideal)
    ∧ quiescent_FfnIn1RefIdeal (hFfnIn1RefIdeal := hFfnIn1RefIdeal)
    ∧ quiescent_FfnIn2 (hFfnIn2 := hFfnIn2)
    ∧ quiescent_FfnIn2Ideal (hFfnIn2Ideal := hFfnIn2Ideal)
    ∧ quiescent_FfnIn2RefIdeal (hFfnIn2RefIdeal := hFfnIn2RefIdeal)
    ∧ quiescent_FfnIn3 (hFfnIn3 := hFfnIn3)
    ∧ quiescent_FfnIn3Ideal (hFfnIn3Ideal := hFfnIn3Ideal)
    ∧ quiescent_FfnIn3RefIdeal (hFfnIn3RefIdeal := hFfnIn3RefIdeal)
    ∧ quiescent_FfnOut0 (hFfnOut0 := hFfnOut0)
    ∧ quiescent_FfnOut0Ideal (hFfnOut0Ideal := hFfnOut0Ideal)
    ∧ quiescent_FfnOut0RefIdeal (hFfnOut0RefIdeal := hFfnOut0RefIdeal)
    ∧ quiescent_FfnOut1 (hFfnOut1 := hFfnOut1)
    ∧ quiescent_FfnOut1Ideal (hFfnOut1Ideal := hFfnOut1Ideal)
    ∧ quiescent_FfnOut1RefIdeal (hFfnOut1RefIdeal := hFfnOut1RefIdeal)
    ∧ quiescent_FfnOut2 (hFfnOut2 := hFfnOut2)
    ∧ quiescent_FfnOut2Ideal (hFfnOut2Ideal := hFfnOut2Ideal)
    ∧ quiescent_FfnOut2RefIdeal (hFfnOut2RefIdeal := hFfnOut2RefIdeal)
    ∧ quiescent_FfnOut3 (hFfnOut3 := hFfnOut3)
    ∧ quiescent_FfnOut3Ideal (hFfnOut3Ideal := hFfnOut3Ideal)
    ∧ quiescent_FfnOut3RefIdeal (hFfnOut3RefIdeal := hFfnOut3RefIdeal)
    ∧ quiescent_Out (hOut := hOut)
    ∧ quiescent_OutIdeal (hOutIdeal := hOutIdeal)
    ∧ quiescent_OutRefIdeal (hOutRefIdeal := hOutRefIdeal)
    ∧ quiescent_QkvA (hQkvA := hQkvA)
    ∧ quiescent_QkvAIdeal (hQkvAIdeal := hQkvAIdeal)
    ∧ quiescent_QkvARefIdeal (hQkvARefIdeal := hQkvARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_QkvC (hQkvC := hQkvC)
    ∧ quiescent_QkvCIdeal (hQkvCIdeal := hQkvCIdeal)
    ∧ quiescent_QkvCRefIdeal (hQkvCRefIdeal := hQkvCRefIdeal)
    ∧ quiescent_Gate (hGate := hGate)
    ∧ quiescent_GateIdeal (hGateIdeal := hGateIdeal)
    ∧ quiescent_GateRefIdeal (hGateRefIdeal := hGateRefIdeal)
    ∧ quiescent_Qa (hQa := hQa)
    ∧ quiescent_QaIdeal (hQaIdeal := hQaIdeal)
    ∧ quiescent_QaRefIdeal (hQaRefIdeal := hQaRefIdeal)
    ∧ quiescent_Qb (hQb := hQb)
    ∧ quiescent_QbIdeal (hQbIdeal := hQbIdeal)
    ∧ quiescent_QbRefIdeal (hQbRefIdeal := hQbRefIdeal)
    ∧ quiescent_Kva (hKva := hKva)
    ∧ quiescent_KvaIdeal (hKvaIdeal := hKvaIdeal)
    ∧ quiescent_KvaRefIdeal (hKvaRefIdeal := hKvaRefIdeal)
    ∧ quiescent_NormBf (hNormBf := hNormBf)
    ∧ quiescent_NormBfIdeal (hNormBfIdeal := hNormBfIdeal)
    ∧ quiescent_NormBfRefIdeal (hNormBfRefIdeal := hNormBfRefIdeal)
    ∧ quiescent_NormF (hNormF := hNormF)
    ∧ quiescent_NormFIdeal (hNormFIdeal := hNormFIdeal)
    ∧ quiescent_NormFRefIdeal (hNormFRefIdeal := hNormFRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_AKv (hAKv := hAKv)
    ∧ quiescent_AKvIdeal (hAKvIdeal := hAKvIdeal)
    ∧ quiescent_AKvRefIdeal (hAKvRefIdeal := hAKvRefIdeal)
    ∧ quiescent_MlaS (hMlaS := hMlaS) (hPre_in_pool := hPre_in_pool)
    ∧ quiescent_MlaSIdeal (hMlaSIdeal := hMlaSIdeal) (hPre_in_pool := hPre_in_pool)
    ∧ quiescent_MlaSIdeal_pre_paged (hMlaSIdeal := hMlaSIdeal) (hPre_paged := hPre_paged)
    ∧ quiescent_MlaSRefIdeal (hMlaSRefIdeal := hMlaSRefIdeal)
    ∧ quiescent_MlaSRefIdeal_pre_paged (hMlaSRefIdeal := hMlaSRefIdeal) (hPre_paged := hPre_paged)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_FfnIn0_FfnIn0Ideal
    ∧ algebraic_FfnIn0Ideal_FfnIn0RefIdeal (hFfnIn0Ideal := hFfnIn0Ideal) (hFfnIn0RefIdeal := hFfnIn0RefIdeal)
    ∧ preserves_FfnIn1_FfnIn1Ideal
    ∧ algebraic_FfnIn1Ideal_FfnIn1RefIdeal (hFfnIn1Ideal := hFfnIn1Ideal) (hFfnIn1RefIdeal := hFfnIn1RefIdeal)
    ∧ preserves_FfnIn2_FfnIn2Ideal
    ∧ algebraic_FfnIn2Ideal_FfnIn2RefIdeal (hFfnIn2Ideal := hFfnIn2Ideal) (hFfnIn2RefIdeal := hFfnIn2RefIdeal)
    ∧ preserves_FfnIn3_FfnIn3Ideal
    ∧ algebraic_FfnIn3Ideal_FfnIn3RefIdeal (hFfnIn3Ideal := hFfnIn3Ideal) (hFfnIn3RefIdeal := hFfnIn3RefIdeal)
    ∧ preserves_FfnOut0_FfnOut0Ideal
    ∧ algebraic_FfnOut0Ideal_FfnOut0RefIdeal (hFfnOut0Ideal := hFfnOut0Ideal) (hFfnOut0RefIdeal := hFfnOut0RefIdeal)
    ∧ preserves_FfnOut1_FfnOut1Ideal
    ∧ algebraic_FfnOut1Ideal_FfnOut1RefIdeal (hFfnOut1Ideal := hFfnOut1Ideal) (hFfnOut1RefIdeal := hFfnOut1RefIdeal)
    ∧ preserves_FfnOut2_FfnOut2Ideal
    ∧ algebraic_FfnOut2Ideal_FfnOut2RefIdeal (hFfnOut2Ideal := hFfnOut2Ideal) (hFfnOut2RefIdeal := hFfnOut2RefIdeal)
    ∧ preserves_FfnOut3_FfnOut3Ideal
    ∧ algebraic_FfnOut3Ideal_FfnOut3RefIdeal (hFfnOut3Ideal := hFfnOut3Ideal) (hFfnOut3RefIdeal := hFfnOut3RefIdeal)
    ∧ preserves_Out_OutIdeal
    ∧ algebraic_OutIdeal_OutRefIdeal (hOutIdeal := hOutIdeal) (hOutRefIdeal := hOutRefIdeal)
    ∧ preserves_QkvA_QkvAIdeal
    ∧ algebraic_QkvAIdeal_QkvARefIdeal (hQkvAIdeal := hQkvAIdeal) (hQkvARefIdeal := hQkvARefIdeal)
    ∧ preserves_QkvB_QkvBIdeal
    ∧ algebraic_QkvBIdeal_QkvBRefIdeal (hQkvBIdeal := hQkvBIdeal) (hQkvBRefIdeal := hQkvBRefIdeal)
    ∧ preserves_QkvC_QkvCIdeal
    ∧ algebraic_QkvCIdeal_QkvCRefIdeal (hQkvCIdeal := hQkvCIdeal) (hQkvCRefIdeal := hQkvCRefIdeal)
    ∧ preserves_Gate_GateIdeal
    ∧ algebraic_GateIdeal_GateRefIdeal (hGateIdeal := hGateIdeal) (hGateRefIdeal := hGateRefIdeal)
    ∧ preserves_Qa_QaIdeal
    ∧ algebraic_QaIdeal_QaRefIdeal (hQaIdeal := hQaIdeal) (hQaRefIdeal := hQaRefIdeal)
    ∧ preserves_Qb_QbIdeal
    ∧ algebraic_QbIdeal_QbRefIdeal (hQbIdeal := hQbIdeal) (hQbRefIdeal := hQbRefIdeal)
    ∧ preserves_Kva_KvaIdeal
    ∧ algebraic_KvaIdeal_KvaRefIdeal (hKvaIdeal := hKvaIdeal) (hKvaRefIdeal := hKvaRefIdeal)
    ∧ preserves_NormBf_NormBfIdeal
    ∧ algebraic_NormBfIdeal_NormBfRefIdeal (hNormBfIdeal := hNormBfIdeal) (hNormBfRefIdeal := hNormBfRefIdeal)
    ∧ preserves_NormF_NormFIdeal
    ∧ algebraic_NormFIdeal_NormFRefIdeal (hNormFIdeal := hNormFIdeal) (hNormFRefIdeal := hNormFRefIdeal)
    ∧ preserves_NormQ_NormQIdeal
    ∧ algebraic_NormQIdeal_NormQRefIdeal (hNormQIdeal := hNormQIdeal) (hNormQRefIdeal := hNormQRefIdeal)
    ∧ preserves_AKv_AKvIdeal
    ∧ algebraic_AKvIdeal_AKvRefIdeal (hAKvIdeal := hAKvIdeal) (hAKvRefIdeal := hAKvRefIdeal)
    ∧ preserves_MlaS_MlaSIdeal
    ∧ algebraic_MlaSIdeal_MlaSRefIdeal_pre_paged (hMlaSIdeal := hMlaSIdeal) (hMlaSRefIdeal := hMlaSRefIdeal) (hPre_paged := hPre_paged)
-- ==== Pre_bounded.lean ====
abbrev S2x4096x16x576 : Shape := ⟨4, ![2, 4096, 16, 576]⟩
abbrev S2x4096x576 : Shape := ⟨3, ![2, 4096, 576]⟩
abbrev S512x4096 : Shape := ⟨2, ![512, 4096]⟩
abbrev S_ : Shape := ⟨0, ![]⟩

class Facts : Prop where
  bcast_S_S2x4096x16x576 : S_.BroadcastsInDim S2x4096x16x576 (![] : Fin 0 → Fin S2x4096x16x576.rank)
  reducesTo_S2x4096x16x576_S_d0_1_2_3 : S2x4096x16x576.ReducesTo [0, 1, 2, 3] S_
  h_S_ : 0 < S_.numel
  bcast_S_S2x4096x576 : S_.BroadcastsInDim S2x4096x576 (![] : Fin 0 → Fin S2x4096x576.rank)
  reducesTo_S2x4096x576_S_d0_1_2 : S2x4096x576.ReducesTo [0, 1, 2] S_

variable [Facts]

def fn {F : FTy → Type} [FloatOps F] (main_arg0 : FVec F S2x4096x16x576 .f32) (main_arg1 : FVec F S2x4096x576 .f32) (main_arg2 : FVec F S512x4096 .f32) : IVec S_ 1 :=
  let main_v0 : FVec F S2x4096x16x576 .f32 := Host.absf main_arg0
  let main_cst : FVec F S_ .f32 := constant S_ .f32 0x56B5E621#32
  let main_v1 : FVec F S2x4096x16x576 .f32 := broadcastInDim S2x4096x16x576 ![] bcast_S_S2x4096x16x576 main_cst
  let main_v2 : IVec S2x4096x16x576 1 := cmpf .ole main_v0 main_v1
  let main_c : IVec S_ 1 := constantI S_ 1 1#1
  let main_v3 : IVec S_ 1 := (fun x v => Host.reduce IntOp.andi x v reducesTo_S2x4096x16x576_S_d0_1_2_3 h_S_) main_v2 main_c
  let main_v4 : FVec F S2x4096x576 .f32 := Host.absf main_arg1
  let main_cst_0 : FVec F S_ .f32 := constant S_ .f32 0x56B5E621#32
  let main_v5 : FVec F S2x4096x576 .f32 := broadcastInDim S2x4096x576 ![] bcast_S_S2x4096x576 main_cst_0
  let main_v6 : IVec S2x4096x576 1 := cmpf .ole main_v4 main_v5
  let main_c_1 : IVec S_ 1 := constantI S_ 1 1#1
  let main_v7 : IVec S_ 1 := (fun x v => Host.reduce IntOp.andi x v reducesTo_S2x4096x576_S_d0_1_2 h_S_) main_v6 main_c_1
  let main_v8 : IVec S_ 1 := andi main_v3 main_v7
  main_v8
-- ==== Pre_in_pool.lean ====
abbrev S128x16x576 : Shape := ⟨3, ![128, 16, 576]⟩
abbrev S128x1x576 : Shape := ⟨3, ![128, 1, 576]⟩
abbrev S10240x576x128 : Shape := ⟨3, ![10240, 576, 128]⟩
abbrev S128x64 : Shape := ⟨2, ![128, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : FVec F S128x16x576 .f32) (main_arg1 : FVec F S128x1x576 .f32) (main_arg2 : FVec F S10240x576x128 .f32) (main_arg3 : IVec S128x64 32) : IVec S_ 1 :=
  let main_c : IVec S_ 32 := constantI S_ 32 0#32
  let main_v0 : IVec S128x64 32 := broadcastInDim S128x64 ![] bcast_S_S128x64 main_c
  let main_v1 : IVec S128x64 1 := cmpi .sge main_arg3 main_v0
  let main_c_0 : IVec S_ 1 := constantI S_ 1 1#1
  let main_v2 : IVec S_ 1 := (fun x v => Host.reduce IntOp.andi x v reducesTo_S128x64_S_d0_1 h_S_) main_v1 main_c_0
  let main_c_1 : IVec S_ 32 := constantI S_ 32 10240#32
  let main_v3 : IVec S128x64 32 := broadcastInDim S128x64 ![] bcast_S_S128x64 main_c_1
  let main_v4 : IVec S128x64 1 := cmpi .slt main_arg3 main_v3
  let main_c_2 : IVec S_ 1 := constantI S_ 1 1#1
  let main_v5 : IVec S_ 1 := (fun x v => Host.reduce IntOp.andi x v reducesTo_S128x64_S_d0_1 h_S_) main_v4 main_c_2
  let main_v6 : IVec S_ 1 := andi main_v2 main_v5
  main_v6
-- ==== Pre_paged.lean ====
abbrev S128x16x576 : Shape := ⟨3, ![128, 16, 576]⟩
abbrev S128x1x576 : Shape := ⟨3, ![128, 1, 576]⟩
abbrev S10240x576x128 : Shape := ⟨3, ![10240, 576, 128]⟩
abbrev S128x64 : Shape := ⟨2, ![128, 64]⟩
abbrev S_ : Shape := ⟨0, ![]⟩

class Facts : Prop where
  bcast_S_S128x16x576 : S_.BroadcastsInDim S128x16x576 (![] : Fin 0 → Fin S128x16x576.rank)
  reducesTo_S128x16x576_S_d0_1_2 : S128x16x576.ReducesTo [0, 1, 2] S_
  h_S_ : 0 < S_.numel
  bcast_S_S128x1x576 : S_.BroadcastsInDim S128x1x576 (![] : Fin 0 → Fin S128x1x576.rank)
  reducesTo_S128x1x576_S_d0_1_2 : S128x1x576.ReducesTo [0, 1, 2] S_
  bcast_S_S10240x576x128 : S_.BroadcastsInDim S10240x576x128 (![] : Fin 0 → Fin S10240x576x128.rank)
  reducesTo_S10240x576x128_S_d0_1_2 : S10240x576x128.ReducesTo [0, 1, 2] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg3 : IVec S128x64 32) (main_v13 : IVec S_ 1) (main_v15 : IVec S128x64 1) (main_c_5 : IVec S_ 1) : IVec S_ 1 :=
  let main_v16 : IVec S_ 1 := (fun x v => Host.reduce IntOp.andi x v reducesTo_S128x64_S_d0_1 h_S_) main_v15 main_c_5
  let main_v17 : IVec S_ 1 := andi main_v13 main_v16
  let main_c_6 : IVec S_ 32 := constantI S_ 32 10240#32
  let main_v18 : IVec S128x64 32 := broadcastInDim S128x64 ![] bcast_S_S128x64 main_c_6
  let main_v19 : IVec S128x64 1 := cmpi .slt main_arg3 main_v18
  let main_c_7 : IVec S_ 1 := constantI S_ 1 1#1
  let main_v20 : IVec S_ 1 := (fun x v => Host.reduce IntOp.andi x v reducesTo_S128x64_S_d0_1 h_S_) main_v19 main_c_7
  let main_v21 : IVec S_ 1 := andi main_v17 main_v20
  main_v21

def fn {F : FTy → Type} [FloatOps F] (main_arg0 : FVec F S128x16x576 .f32) (main_arg1 : FVec F S128x1x576 .f32) (main_arg2 : FVec F S10240x576x128 .f32) (main_arg3 : IVec S128x64 32) : IVec S_ 1 :=
  let main_v0 : FVec F S128x16x576 .f32 := Host.absf main_arg0
  let main_cst : FVec F S_ .f32 := constant S_ .f32 0x7F800000#32
  let main_v1 : FVec F S128x16x576 .f32 := broadcastInDim S128x16x576 ![] bcast_S_S128x16x576 main_cst
  let main_v2 : IVec S128x16x576 1 := cmpf .olt main_v0 main_v1
  let main_c : IVec S_ 1 := constantI S_ 1 1#1
  let main_v3 : IVec S_ 1 := (fun x v => Host.reduce IntOp.andi x v reducesTo_S128x16x576_S_d0_1_2 h_S_) main_v2 main_c
  let main_v4 : FVec F S128x1x576 .f32 := Host.absf main_arg1
  let main_cst_0 : FVec F S_ .f32 := constant S_ .f32 0x7F800000#32
  let main_v5 : FVec F S128x1x576 .f32 := broadcastInDim S128x1x576 ![] bcast_S_S128x1x576 main_cst_0
  let main_v6 : IVec S128x1x576 1 := cmpf .olt main_v4 main_v5
  let main_c_1 : IVec S_ 1 := constantI S_ 1 1#1
  let main_v7 : IVec S_ 1 := (fun x v => Host.reduce IntOp.andi x v reducesTo_S128x1x576_S_d0_1_2 h_S_) main_v6 main_c_1
  let main_v8 : IVec S_ 1 := andi main_v3 main_v7
  let main_v9 : FVec F S10240x576x128 .f32 := Host.absf main_arg2
  let main_cst_2 : FVec F S_ .f32 := constant S_ .f32 0x7F800000#32
  let main_v10 : FVec F S10240x576x128 .f32 := broadcastInDim S10240x576x128 ![] bcast_S_S10240x576x128 main_cst_2
  let main_v11 : IVec S10240x576x128 1 := cmpf .olt main_v9 main_v10
  let main_c_3 : IVec S_ 1 := constantI S_ 1 1#1
  let main_v12 : IVec S_ 1 := (fun x v => Host.reduce IntOp.andi x v reducesTo_S10240x576x128_S_d0_1_2 h_S_) main_v11 main_c_3
  let main_v13 : IVec S_ 1 := andi main_v8 main_v12
  let main_c_4 : IVec S_ 32 := constantI S_ 32 0#32
  let main_v14 : IVec S128x64 32 := broadcastInDim S128x64 ![] bcast_S_S128x64 main_c_4
  let main_v15 : IVec S128x64 1 := cmpi .sge main_arg3 main_v14
  let main_c_5 : IVec S_ 1 := constantI S_ 1 1#1
  fn_part1 (F := F) main_arg3 main_v13 main_v15 main_c_5
-- ==== Kernel.lean ====
abbrev S2x4096x16x576 : Shape := ⟨4, ![2, 4096, 16, 576]⟩
abbrev S2x4096x576 : Shape := ⟨3, ![2, 4096, 576]⟩
abbrev S512x4096 : Shape := ⟨2, ![512, 4096]⟩
abbrev S8192x16x576 : Shape := ⟨3, ![8192, 16, 576]⟩
abbrev S8192x576 : Shape := ⟨2, ![8192, 576]⟩
abbrev S16x8192x576 : Shape := ⟨3, ![16, 8192, 576]⟩
abbrev S8192x2048 : Shape := ⟨2, ![8192, 2048]⟩
abbrev S1x512x576 : Shape := ⟨3, ![1, 512, 576]⟩
abbrev S4096x576 : Shape := ⟨2, ![4096, 576]⟩
abbrev S512x128 : Shape := ⟨2, ![512, 128]⟩
abbrev S512x512 : Shape := ⟨2, ![512, 512]⟩
abbrev S512x576 : Shape := ⟨2, ![512, 576]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x4096x16x576, .f32⟩
  | .hbm, ⟨1, _⟩ => ⟨S2x4096x576, .f32⟩
  | .hbm, ⟨2, _⟩ => ⟨S512x4096, .f32⟩
  | .hbm, ⟨3, _⟩ => ⟨S8192x16x576, .f32⟩
  | .hbm, ⟨4, _⟩ => ⟨S8192x576, .f32⟩
  | .hbm, ⟨5, _⟩ => ⟨S16x8192x576, .f32⟩
  | .hbm, ⟨6, _⟩ => ⟨S16x8192x576, .bf16⟩
  | .hbm, ⟨7, _⟩ => ⟨S8192x576, .bf16⟩
  | .hbm, ⟨8, _⟩ => ⟨S8192x2048, .bf16⟩
  | .local _ .vmem, ⟨0, _⟩ => ⟨S1x512x576, .bf16⟩
  | .local _ .vmem, ⟨1, _⟩ => ⟨S1x512x576, .bf16⟩
  | .local _ .vmem, ⟨2, _⟩ => ⟨S4096x576, .bf16⟩
  | .local _ .vmem, ⟨3, _⟩ => ⟨S4096x576, .bf16⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x512, .f32⟩
  | _, _ => ⟨S2x4096x16x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 2 → Nat :=
  let arg2 : BitVec 32 := BitVec.ofNat 32 (i 2).val
  let c512_i32 : BitVec 32 := 512#32
  let v2 : BitVec 32 := Scalar.muli arg2 c512_i32
  let v3 : BitVec 32 := v2
  let v4 : Index := Scalar.indexCast v3
  let c0_2 : Index := 0#32
  ![v4.toNat, 0]
@[reducible] def k0_t1_loop (i : grid0.Coords) : Scf.Loop 32 :=
  let c0_i32 : BitVec 32 := 0#32
  let arg2 : BitVec 32 := BitVec.ofNat 32 (i 2).val
  let v28 : BitVec 32 := Scalar.subi arg2 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_10 : BitVec 32 := 1#32
  ⟨c0_i32, v32, c1_i32_10⟩
def k0_mult2 (i : grid0.Coords) (k0_t1 : Fin (k0_t1_loop i).trips) : BitVec 32 :=
  let c0_i32 : BitVec 32 := 0#32
  let c1_i32_10 : BitVec 32 := 1#32
  let arg8 : BitVec 32 := Scf.iv c0_i32 c1_i32_10 k0_t1
  let c512_i32_19 : BitVec 32 := 512#32
  let v44 : BitVec 32 := Scalar.muli arg8 c512_i32_19
  v44
def k0_off2 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_19 : BitVec 32 := 512#32
  let v44 : BitVec 32 := Scalar.muli arg8 c512_i32_19
  let v45 : BitVec 32 := v44
  let v46 : Index := Scalar.indexCast v45
  let c0_20 : Index := 0#32
  ![v46.toNat, 0]
@[reducible] def k0_t2_loop (i : grid0.Coords) : Scf.Loop 32 :=
  let c0_i32 : BitVec 32 := 0#32
  let arg2 : BitVec 32 := BitVec.ofNat 32 (i 2).val
  let v28 : BitVec 32 := Scalar.subi arg2 c0_i32
  let c1_i32 : BitVec 32 := 1#32
  let v30 : BitVec 32 := Scalar.divsi v28 c1_i32
  let v31 : BitVec 32 := Scalar.muli v30 c1_i32
  let v32 : BitVec 32 := Scalar.addi c0_i32 v31
  let v29 : BitVec 32 := Scalar.addi c0_i32 v28
  let c1_i32_11 : BitVec 32 := 1#32
  ⟨v32, v29, c1_i32_11⟩
def k0_mult3 (i : grid0.Coords) (k0_t2 : Fin (k0_t2_loop i).trips) : BitVec 32 :=
  let c0_i32 : BitVec 32 := 0#32
  let arg2 : BitVec 32 := BitVec.ofNat 32 (i 2).val
  let v28 : BitVec 32 := Scalar.subi arg2 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_11 : BitVec 32 := 1#32
  let arg8 : BitVec 32 := Scf.iv v32 c1_i32_11 k0_t2
  let c512_i32_19 : BitVec 32 := 512#32
  let v44 : BitVec 32 := Scalar.muli arg8 c512_i32_19
  v44
def k0_off3 (i : grid0.Coords) (k0_t2 : Fin (k0_t2_loop i).trips) : Fin 2 → Nat :=
  let c0_i32 : BitVec 32 := 0#32
  let arg2 : BitVec 32 := BitVec.ofNat 32 (i 2).val
  let v28 : BitVec 32 := Scalar.subi arg2 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_11 : BitVec 32 := 1#32
  let arg8 : BitVec 32 := Scf.iv v32 c1_i32_11 k0_t2
  let c512_i32_19 : BitVec 32 := 512#32
  let v44 : BitVec 32 := Scalar.muli arg8 c512_i32_19
  let v45 : BitVec 32 := v44
  let v46 : Index := Scalar.indexCast v45
  let c0_20 : Index := 0#32
  ![v46.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x512x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x16x576 : Shape := ⟨4, ![2, 4096, 16, 576]⟩
abbrev S2x4096x576 : Shape := ⟨3, ![2, 4096, 576]⟩
abbrev S512x4096 : Shape := ⟨2, ![512, 4096]⟩
abbrev S512x16x256 : Shape := ⟨3, ![512, 16, 256]⟩
abbrev S512x16x128 : Shape := ⟨3, ![512, 16, 128]⟩
abbrev S4096 : Shape := ⟨1, ![4096]⟩
abbrev S2x4096x512 : Shape := ⟨3, ![2, 4096, 512]⟩
abbrev S2x4096x4096x16 : Shape := ⟨4, ![2, 4096, 4096, 16]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x512x16x4096 : Shape := ⟨4, ![2, 512, 16, 4096]⟩
abbrev S2x4096x16x512 : Shape := ⟨4, ![2, 4096, 16, 512]⟩
abbrev S16x128x2x4096 : Shape := ⟨4, ![16, 128, 2, 4096]⟩
abbrev S2x4096x16x128 : Shape := ⟨4, ![2, 4096, 16, 128]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x16x576, .f32⟩
  | .hbm, ⟨1, _⟩ => ⟨S2x4096x576, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S4096, .i32⟩
  | .hbm, ⟨6, _⟩ => ⟨S4096, .i32⟩
  | .hbm, ⟨7, _⟩ => ⟨S2x4096x512, .f32⟩
  | .hbm, ⟨8, _⟩ => ⟨S2x4096x4096x16, .f32⟩
  | .hbm, ⟨9, _⟩ => ⟨S2x16x4096x4096, .f32⟩
  | .hbm, ⟨10, _⟩ => ⟨S_, .f32⟩
  | .hbm, ⟨11, _⟩ => ⟨S2x16x4096x4096, .f32⟩
  | .hbm, ⟨12, _⟩ => ⟨S2x16x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S1x1x4096x4096, .i1⟩
  | .hbm, ⟨19, _⟩ => ⟨S_, .f32⟩
  | .hbm, ⟨20, _⟩ => ⟨S_, .f32⟩
  | .hbm, ⟨21, _⟩ => ⟨S2x16x4096x4096, .i1⟩
  | .hbm, ⟨22, _⟩ => ⟨S2x16x4096x4096, .f32⟩
  | .hbm, ⟨23, _⟩ => ⟨S2x16x4096x4096, .f32⟩
  | .hbm, ⟨24, _⟩ => ⟨S_, .f32⟩
  | .hbm, ⟨25, _⟩ => ⟨S2x16x4096, .f32⟩
  | .hbm, ⟨26, _⟩ => ⟨S2x16x4096x1, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S_, .f32⟩
  | .hbm, ⟨32, _⟩ => ⟨S2x16x4096x4096, .i1⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S2x16x4096x1, .f32⟩
  | .hbm, ⟨38, _⟩ => ⟨S_, .f32⟩
  | .hbm, ⟨39, _⟩ => ⟨S2x16x4096x1, .f32⟩
  | .hbm, ⟨40, _⟩ => ⟨S2x16x4096x1, .f32⟩
  | .hbm, ⟨41, _⟩ => ⟨S2x16x4096x4096, .f32⟩
  | .hbm, ⟨42, _⟩ => ⟨S2x16x4096x4096, .f32⟩
  | .hbm, ⟨43, _⟩ => ⟨S2x512x16x4096, .f32⟩
  | .hbm, ⟨44, _⟩ => ⟨S2x4096x16x512, .f32⟩
  | .hbm, ⟨45, _⟩ => ⟨S16x128x2x4096, .f32⟩
  | .hbm, ⟨46, _⟩ => ⟨S2x4096x16x128, .f32⟩
  | .hbm, ⟨47, _⟩ => ⟨S8192x2048, .f32⟩
  | .hbm, ⟨48, _⟩ => ⟨S8192x2048, .bf16⟩
  | _, _ => ⟨S2x4096x16x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== FfnIn0.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn0Ideal.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn0RefIdeal.lean ====
abbrev S8320x2048 : Shape := ⟨2, ![8320, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S8320x11264, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnIn1.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn1Ideal.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn1RefIdeal.lean ====
abbrev S8320x2048 : Shape := ⟨2, ![8320, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S8320x11264, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnIn2.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c2_i32 : BitVec 32 := 2#32
  let c0_i32 : BitVec 32 := 0#32
  let c0_i32_0 : BitVec 32 := 0#32
  ![c2_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn2Ideal.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c2_i32 : BitVec 32 := 2#32
  let c0_i32 : BitVec 32 := 0#32
  let c0_i32_0 : BitVec 32 := 0#32
  ![c2_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn2RefIdeal.lean ====
abbrev S8320x2048 : Shape := ⟨2, ![8320, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S8320x11264, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnIn3.lean ====
abbrev S8320x2048 : Shape := ⟨2, ![8320, 2048]⟩
abbrev S4x2048x11264 : Shape := ⟨3, ![4, 2048, 11264]⟩
abbrev S8320x5632 : Shape := ⟨2, ![8320, 5632]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S8320x2048, .bf16⟩
  | .hbm, ⟨3, _⟩ => ⟨S8320x5632, .bf16⟩
  | .local _ .vmem, ⟨0, _⟩ => ⟨S640x2048, .bf16⟩
  | .local _ .vmem, ⟨1, _⟩ => ⟨S640x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | .local _ .vmem, ⟨9, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnIn3RefIdeal.lean ====
abbrev S8320x2048 : Shape := ⟨2, ![8320, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S8320x11264 : Shape := ⟨2, ![8320, 11264]⟩
abbrev S8320x5632 : Shape := ⟨2, ![8320, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S4x2048x11264, .f32⟩
  | .hbm, ⟨2, _⟩ => ⟨S1x2048x11264, .f32⟩
  | .hbm, ⟨3, _⟩ => ⟨S2048x11264, .f32⟩
  | .hbm, ⟨4, _⟩ => ⟨S8320x11264, .f32⟩
  | .hbm, ⟨5, _⟩ => ⟨S8320x5632, .f32⟩
  | .hbm, ⟨6, _⟩ => ⟨S8320x5632, .f32⟩
  | .hbm, ⟨7, _⟩ => ⟨S8320x5632, .f32⟩
  | .hbm, ⟨8, _⟩ => ⟨S_, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .f32⟩
  | .hbm, ⟨17, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnOut0.lean ====
abbrev S8320x5632 : Shape := ⟨2, ![8320, 5632]⟩
abbrev S8320x2048 : Shape := ⟨2, ![8320, 2048]⟩
abbrev S4x5632x2048 : Shape := ⟨3, ![4, 5632, 2048]⟩
abbrev S640x5632 : Shape := ⟨2, ![640, 5632]⟩
abbrev S1x5632x512 : Shape := ⟨3, ![1, 5632, 512]⟩
abbrev S640x512 : Shape := ⟨2, ![640, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S8320x5632, .bf16⟩
  | .hbm, ⟨4, _⟩ => ⟨S4x5632x2048, .bf16⟩
  | .hbm, ⟨5, _⟩ => ⟨S8320x2048, .f32⟩
  | .local _ .vmem, ⟨0, _⟩ => ⟨S640x5632, .bf16⟩
  | .local _ .vmem, ⟨1, _⟩ => ⟨S640x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOut0Ideal.lean ====
  let c0_i32_2 : BitVec 32 := 0#32
  ![c0_i32_0.toNat, c0_i32_1.toNat, v0.toNat]
-- ==== FfnOut0RefIdeal.lean ====
abbrev S8320x5632 : Shape := ⟨2, ![8320, 5632]⟩
abbrev S8320x2048 : Shape := ⟨2, ![8320, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S1x5632x2048, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOut1.lean ====
abbrev S8320x5632 : Shape := ⟨2, ![8320, 5632]⟩
abbrev S8320x2048 : Shape := ⟨2, ![8320, 2048]⟩
abbrev S4x5632x2048 : Shape := ⟨3, ![4, 5632, 2048]⟩
abbrev S640x5632 : Shape := ⟨2, ![640, 5632]⟩
abbrev S1x5632x512 : Shape := ⟨3, ![1, 5632, 512]⟩
abbrev S640x512 : Shape := ⟨2, ![640, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S8320x5632, .bf16⟩
  | .hbm, ⟨4, _⟩ => ⟨S4x5632x2048, .bf16⟩
  | .hbm, ⟨5, _⟩ => ⟨S8320x2048, .f32⟩
  | .local _ .vmem, ⟨0, _⟩ => ⟨S640x5632, .bf16⟩
  | .local _ .vmem, ⟨1, _⟩ => ⟨S640x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOut1Ideal.lean ====
  let c1_i32 : BitVec 32 := 1#32
  ![c1_i32.toNat, c0_i32_0.toNat, v0.toNat]
-- ==== FfnOut1RefIdeal.lean ====
abbrev S8320x5632 : Shape := ⟨2, ![8320, 5632]⟩
abbrev S8320x2048 : Shape := ⟨2, ![8320, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S1x5632x2048, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOut2.lean ====
abbrev S8320x5632 : Shape := ⟨2, ![8320, 5632]⟩
abbrev S8320x2048 : Shape := ⟨2, ![8320, 2048]⟩
abbrev S4x5632x2048 : Shape := ⟨3, ![4, 5632, 2048]⟩
abbrev S640x5632 : Shape := ⟨2, ![640, 5632]⟩
abbrev S1x5632x512 : Shape := ⟨3, ![1, 5632, 512]⟩
abbrev S640x512 : Shape := ⟨2, ![640, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S8320x5632, .bf16⟩
  | .hbm, ⟨4, _⟩ => ⟨S4x5632x2048, .bf16⟩
  | .hbm, ⟨5, _⟩ => ⟨S8320x2048, .f32⟩
  | .local _ .vmem, ⟨0, _⟩ => ⟨S640x5632, .bf16⟩
  | .local _ .vmem, ⟨1, _⟩ => ⟨S640x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOut2Ideal.lean ====
  let c2_i32 : BitVec 32 := 2#32
  ![c2_i32.toNat, c0_i32_0.toNat, v0.toNat]
-- ==== FfnOut2RefIdeal.lean ====
abbrev S8320x5632 : Shape := ⟨2, ![8320, 5632]⟩
abbrev S8320x2048 : Shape := ⟨2, ![8320, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S1x5632x2048, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOut3.lean ====
abbrev S8320x5632 : Shape := ⟨2, ![8320, 5632]⟩
abbrev S8320x2048 : Shape := ⟨2, ![8320, 2048]⟩
abbrev S4x5632x2048 : Shape := ⟨3, ![4, 5632, 2048]⟩
abbrev S640x5632 : Shape := ⟨2, ![640, 5632]⟩
abbrev S1x5632x512 : Shape := ⟨3, ![1, 5632, 512]⟩
abbrev S640x512 : Shape := ⟨2, ![640, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S8320x5632, .bf16⟩
  | .hbm, ⟨4, _⟩ => ⟨S4x5632x2048, .bf16⟩
  | .hbm, ⟨5, _⟩ => ⟨S8320x2048, .f32⟩
  | .local _ .vmem, ⟨0, _⟩ => ⟨S640x5632, .bf16⟩
  | .local _ .vmem, ⟨1, _⟩ => ⟨S640x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOut3RefIdeal.lean ====
abbrev S8320x5632 : Shape := ⟨2, ![8320, 5632]⟩
abbrev S8320x2048 : Shape := ⟨2, ![8320, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .f32⟩
  | .hbm, ⟨1, _⟩ => ⟨S8320x2048, .f32⟩
  | .hbm, ⟨2, _⟩ => ⟨S4x5632x2048, .f32⟩
  | .hbm, ⟨3, _⟩ => ⟨S1x5632x2048, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S8320x2048 : Shape := ⟨2, ![8320, 2048]⟩
abbrev S2048x2048 : Shape := ⟨2, ![2048, 2048]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048x2048, .f32⟩
  | .hbm, ⟨3, _⟩ => ⟨S8320x2048, .bf16⟩
  | .hbm, ⟨4, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S2048x512, .f32⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048x2048, .f32⟩
  | .hbm, ⟨3, _⟩ => ⟨S8320x2048, .f32⟩
  | .hbm, ⟨4, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== QkvA.lean ====
abbrev S8320x2048 : Shape := ⟨2, ![8320, 2048]⟩
abbrev S2048x2560 : Shape := ⟨2, ![2048, 2560]⟩
abbrev S8320x2560 : Shape := ⟨2, ![8320, 2560]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x2560, .f32⟩
  | .hbm, ⟨2, _⟩ => ⟨S8320x2048, .bf16⟩
  | .hbm, ⟨3, _⟩ => ⟨S8320x2560, .f32⟩
  | .hbm, ⟨4, _⟩ => ⟨S8320x2560, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S2048x512, .f32⟩
  | .local _ .vmem, ⟨4, _⟩ => ⟨S640x512, .f32⟩
  | .local _ .vmem, ⟨5, _⟩ => ⟨S640x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvAIdeal.lean ====
abbrev S8320x2048 : Shape := ⟨2, ![8320, 2048]⟩
abbrev S2048x2560 : Shape := ⟨2, ![2048, 2560]⟩
abbrev S8320x2560 : Shape := ⟨2, ![8320, 2560]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x2560, .f32⟩
  | .hbm, ⟨2, _⟩ => ⟨S8320x2048, .bf16⟩
  | .hbm, ⟨3, _⟩ => ⟨S8320x2560, .f32⟩
  | .hbm, ⟨4, _⟩ => ⟨S8320x2560, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S2048x512, .f32⟩
  | .local _ .vmem, ⟨4, _⟩ => ⟨S640x512, .f32⟩
  | .local _ .vmem, ⟨5, _⟩ => ⟨S640x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvARefIdeal.lean ====
abbrev S8320x2048 : Shape := ⟨2, ![8320, 2048]⟩
abbrev S2048x2560 : Shape := ⟨2, ![2048, 2560]⟩
abbrev S8320x2560 : Shape := ⟨2, ![8320, 2560]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2560, .f32⟩
  | .hbm, ⟨2, _⟩ => ⟨S8320x2560, .f32⟩
  | .hbm, ⟨3, _⟩ => ⟨S8320x2560, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QkvB.lean ====
abbrev S8320x2048 : Shape := ⟨2, ![8320, 2048]⟩
abbrev S2048x9216 : Shape := ⟨2, ![2048, 9216]⟩
abbrev S8320x9216 : Shape := ⟨2, ![8320, 9216]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x9216, .f32⟩
  | .hbm, ⟨2, _⟩ => ⟨S8320x2048, .bf16⟩
  | .hbm, ⟨3, _⟩ => ⟨S8320x9216, .f32⟩
  | .hbm, ⟨4, _⟩ => ⟨S8320x9216, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S2048x512, .f32⟩
  | .local _ .vmem, ⟨4, _⟩ => ⟨S640x512, .f32⟩
  | .local _ .vmem, ⟨5, _⟩ => ⟨S640x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvBIdeal.lean ====
abbrev S8320x2048 : Shape := ⟨2, ![8320, 2048]⟩
abbrev S2048x9216 : Shape := ⟨2, ![2048, 9216]⟩
abbrev S8320x9216 : Shape := ⟨2, ![8320, 9216]⟩
abbrev S640x2048 : Shape := ⟨2, ![640, 2048]⟩
abbrev S2048x512 : Shape := ⟨2, ![2048, 512]⟩
abbrev S640x512 : Shape := ⟨2, ![640, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x9216, .f32⟩
  | .hbm, ⟨2, _⟩ => ⟨S8320x2048, .bf16⟩
  | .hbm, ⟨3, _⟩ => ⟨S8320x9216, .f32⟩
  | .hbm, ⟨4, _⟩ => ⟨S8320x9216, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S2048x512, .f32⟩
  | .local _ .vmem, ⟨4, _⟩ => ⟨S640x512, .f32⟩
  | .local _ .vmem, ⟨5, _⟩ => ⟨S640x512, .f32⟩
  | .local _ .vmem, ⟨6, _⟩ => ⟨S640x512, .bf16⟩
  | .local _ .vmem, ⟨7, _⟩ => ⟨S640x512, .bf16⟩
  | .local _ .vmem, ⟨8, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvBRefIdeal.lean ====
abbrev S8320x2048 : Shape := ⟨2, ![8320, 2048]⟩
abbrev S2048x9216 : Shape := ⟨2, ![2048, 9216]⟩
abbrev S8320x9216 : Shape := ⟨2, ![8320, 9216]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x9216, .f32⟩
  | .hbm, ⟨2, _⟩ => ⟨S8320x9216, .f32⟩
  | .hbm, ⟨3, _⟩ => ⟨S8320x9216, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QkvC.lean ====
abbrev S8320x2048 : Shape := ⟨2, ![8320, 2048]⟩
abbrev S2048x2816 : Shape := ⟨2, ![2048, 2816]⟩
abbrev S8320x2816 : Shape := ⟨2, ![8320, 2816]⟩
abbrev S640x2048 : Shape := ⟨2, ![640, 2048]⟩
abbrev S2048x256 : Shape := ⟨2, ![2048, 256]⟩
abbrev S640x256 : Shape := ⟨2, ![640, 256]⟩

abbrev nBuf : Space → Nat
  | .hbm => 5
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x2816, .f32⟩
  | .hbm, ⟨2, _⟩ => ⟨S8320x2048, .bf16⟩
  | .hbm, ⟨3, _⟩ => ⟨S8320x2816, .f32⟩
  | .hbm, ⟨4, _⟩ => ⟨S8320x2816, .bf16⟩
  | .local _ .vmem, ⟨0, _⟩ => ⟨S640x2048, .bf16⟩
  | .local _ .vmem, ⟨1, _⟩ => ⟨S640x2048, .bf16⟩
  | .local _ .vmem, ⟨2, _⟩ => ⟨S2048x256, .f32⟩
  | .local _ .vmem, ⟨3, _⟩ => ⟨S2048x256, .f32⟩
  | .local _ .vmem, ⟨4, _⟩ => ⟨S640x256, .f32⟩
  | .local _ .vmem, ⟨5, _⟩ => ⟨S640x256, .f32⟩
  | .local _ .vmem, ⟨6, _⟩ => ⟨S640x256, .bf16⟩
  | .local _ .vmem, ⟨7, _⟩ => ⟨S640x256, .bf16⟩
  | .local _ .vmem, ⟨8, _⟩ => ⟨S2048x256, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvCRefIdeal.lean ====
abbrev S8320x2048 : Shape := ⟨2, ![8320, 2048]⟩
abbrev S2048x2816 : Shape := ⟨2, ![2048, 2816]⟩
abbrev S8320x2816 : Shape := ⟨2, ![8320, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2816, .f32⟩
  | .hbm, ⟨2, _⟩ => ⟨S8320x2816, .f32⟩
  | .hbm, ⟨3, _⟩ => ⟨S8320x2816, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gate.lean ====
abbrev S8320x2048 : Shape := ⟨2, ![8320, 2048]⟩
abbrev S2048x48 : Shape := ⟨2, ![2048, 48]⟩
abbrev S8320x48 : Shape := ⟨2, ![8320, 48]⟩
abbrev S640x2048 : Shape := ⟨2, ![640, 2048]⟩
abbrev S640x48 : Shape := ⟨2, ![640, 48]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x48, .f32⟩
  | .hbm, ⟨2, _⟩ => ⟨S8320x2048, .bf16⟩
  | .hbm, ⟨3, _⟩ => ⟨S8320x48, .f32⟩
  | .local _ .vmem, ⟨0, _⟩ => ⟨S640x2048, .bf16⟩
  | .local _ .vmem, ⟨1, _⟩ => ⟨S640x2048, .bf16⟩
  | .local _ .vmem, ⟨2, _⟩ => ⟨S2048x48, .f32⟩
  | .local _ .vmem, ⟨3, _⟩ => ⟨S640x48, .f32⟩
  | .local _ .vmem, ⟨4, _⟩ => ⟨S640x48, .f32⟩
  | .local _ .vmem, ⟨5, _⟩ => ⟨S2048x48, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateIdeal.lean ====
abbrev S8320x2048 : Shape := ⟨2, ![8320, 2048]⟩
abbrev S2048x48 : Shape := ⟨2, ![2048, 48]⟩
abbrev S8320x48 : Shape := ⟨2, ![8320, 48]⟩
abbrev S640x2048 : Shape := ⟨2, ![640, 2048]⟩
abbrev S640x48 : Shape := ⟨2, ![640, 48]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x48, .f32⟩
  | .hbm, ⟨2, _⟩ => ⟨S8320x2048, .bf16⟩
  | .hbm, ⟨3, _⟩ => ⟨S8320x48, .f32⟩
  | .local _ .vmem, ⟨0, _⟩ => ⟨S640x2048, .bf16⟩
  | .local _ .vmem, ⟨1, _⟩ => ⟨S640x2048, .bf16⟩
  | .local _ .vmem, ⟨2, _⟩ => ⟨S2048x48, .f32⟩
  | .local _ .vmem, ⟨3, _⟩ => ⟨S640x48, .f32⟩
  | .local _ .vmem, ⟨4, _⟩ => ⟨S640x48, .f32⟩
  | .local _ .vmem, ⟨5, _⟩ => ⟨S2048x48, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S8320x2048 : Shape := ⟨2, ![8320, 2048]⟩
abbrev S2048x48 : Shape := ⟨2, ![2048, 48]⟩
abbrev S8320x48 : Shape := ⟨2, ![8320, 48]⟩

abbrev nBuf : Space → Nat
  | .hbm => 3
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x48, .f32⟩
  | .hbm, ⟨2, _⟩ => ⟨S8320x48, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Qa.lean ====
abbrev S8320x2048 : Shape := ⟨2, ![8320, 2048]⟩
abbrev S2048x512 : Shape := ⟨2, ![2048, 512]⟩
abbrev S8320x512 : Shape := ⟨2, ![8320, 512]⟩
abbrev S640x2048 : Shape := ⟨2, ![640, 2048]⟩
abbrev S640x512 : Shape := ⟨2, ![640, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x512, .f32⟩
  | .hbm, ⟨2, _⟩ => ⟨S8320x2048, .bf16⟩
  | .hbm, ⟨3, _⟩ => ⟨S8320x512, .f32⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S640x512, .f32⟩
  | .local _ .vmem, ⟨4, _⟩ => ⟨S640x512, .f32⟩
  | .local _ .vmem, ⟨5, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QaIdeal.lean ====
abbrev S8320x2048 : Shape := ⟨2, ![8320, 2048]⟩
abbrev S2048x512 : Shape := ⟨2, ![2048, 512]⟩
abbrev S8320x512 : Shape := ⟨2, ![8320, 512]⟩
abbrev S640x2048 : Shape := ⟨2, ![640, 2048]⟩
abbrev S640x512 : Shape := ⟨2, ![640, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x512, .f32⟩
  | .hbm, ⟨2, _⟩ => ⟨S8320x2048, .bf16⟩
  | .hbm, ⟨3, _⟩ => ⟨S8320x512, .f32⟩
  | .local _ .vmem, ⟨0, _⟩ => ⟨S640x2048, .bf16⟩
  | .local _ .vmem, ⟨1, _⟩ => ⟨S640x2048, .bf16⟩
  | .local _ .vmem, ⟨2, _⟩ => ⟨S2048x512, .f32⟩
  | .local _ .vmem, ⟨3, _⟩ => ⟨S640x512, .f32⟩
  | .local _ .vmem, ⟨4, _⟩ => ⟨S640x512, .f32⟩
  | .local _ .vmem, ⟨5, _⟩ => ⟨S2048x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QaRefIdeal.lean ====
abbrev S8320x2048 : Shape := ⟨2, ![8320, 2048]⟩
abbrev S2048x512 : Shape := ⟨2, ![2048, 512]⟩
abbrev S8320x512 : Shape := ⟨2, ![8320, 512]⟩

abbrev nBuf : Space → Nat
  | .hbm => 3
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x512, .f32⟩
  | .hbm, ⟨2, _⟩ => ⟨S8320x512, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Qb.lean ====
abbrev S8320x512 : Shape := ⟨2, ![8320, 512]⟩
abbrev S512x3072 : Shape := ⟨2, ![512, 3072]⟩
abbrev S8320x3072 : Shape := ⟨2, ![8320, 3072]⟩
abbrev S640x512 : Shape := ⟨2, ![640, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x512, .f32⟩
  | .hbm, ⟨1, _⟩ => ⟨S512x3072, .f32⟩
  | .hbm, ⟨2, _⟩ => ⟨S8320x512, .bf16⟩
  | .hbm, ⟨3, _⟩ => ⟨S8320x3072, .f32⟩
  | .local _ .vmem, ⟨0, _⟩ => ⟨S640x512, .bf16⟩
  | .local _ .vmem, ⟨1, _⟩ => ⟨S640x512, .bf16⟩
  | .local _ .vmem, ⟨2, _⟩ => ⟨S512x512, .f32⟩
  | .local _ .vmem, ⟨3, _⟩ => ⟨S512x512, .f32⟩
  | .local _ .vmem, ⟨4, _⟩ => ⟨S640x512, .f32⟩
  | .local _ .vmem, ⟨5, _⟩ => ⟨S640x512, .f32⟩
  | .local _ .vmem, ⟨6, _⟩ => ⟨S512x512, .bf16⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QbIdeal.lean ====
abbrev S8320x512 : Shape := ⟨2, ![8320, 512]⟩
abbrev S512x3072 : Shape := ⟨2, ![512, 3072]⟩
abbrev S8320x3072 : Shape := ⟨2, ![8320, 3072]⟩
abbrev S640x512 : Shape := ⟨2, ![640, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x512, .f32⟩
  | .hbm, ⟨1, _⟩ => ⟨S512x3072, .f32⟩
  | .hbm, ⟨2, _⟩ => ⟨S8320x512, .bf16⟩
  | .hbm, ⟨3, _⟩ => ⟨S8320x3072, .f32⟩
  | .local _ .vmem, ⟨0, _⟩ => ⟨S640x512, .bf16⟩
  | .local _ .vmem, ⟨1, _⟩ => ⟨S640x512, .bf16⟩
  | .local _ .vmem, ⟨2, _⟩ => ⟨S512x512, .f32⟩
  | .local _ .vmem, ⟨3, _⟩ => ⟨S512x512, .f32⟩
  | .local _ .vmem, ⟨4, _⟩ => ⟨S640x512, .f32⟩
  | .local _ .vmem, ⟨5, _⟩ => ⟨S640x512, .f32⟩
  | .local _ .vmem, ⟨6, _⟩ => ⟨S512x512, .bf16⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QbRefIdeal.lean ====
abbrev S8320x512 : Shape := ⟨2, ![8320, 512]⟩
abbrev S512x3072 : Shape := ⟨2, ![512, 3072]⟩
abbrev S8320x3072 : Shape := ⟨2, ![8320, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S512x3072, .f32⟩
  | .hbm, ⟨2, _⟩ => ⟨S8320x3072, .f32⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kva.lean ====
abbrev S8320x2048 : Shape := ⟨2, ![8320, 2048]⟩
abbrev S2048x576 : Shape := ⟨2, ![2048, 576]⟩
abbrev S8320x576 : Shape := ⟨2, ![8320, 576]⟩
abbrev S640x2048 : Shape := ⟨2, ![640, 2048]⟩
abbrev S640x576 : Shape := ⟨2, ![640, 576]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x576, .f32⟩
  | .hbm, ⟨2, _⟩ => ⟨S8320x2048, .bf16⟩
  | .hbm, ⟨3, _⟩ => ⟨S8320x576, .f32⟩
  | .local _ .vmem, ⟨0, _⟩ => ⟨S640x2048, .bf16⟩
  | .local _ .vmem, ⟨1, _⟩ => ⟨S640x2048, .bf16⟩
  | .local _ .vmem, ⟨2, _⟩ => ⟨S2048x576, .f32⟩
  | .local _ .vmem, ⟨3, _⟩ => ⟨S640x576, .f32⟩
  | .local _ .vmem, ⟨4, _⟩ => ⟨S640x576, .f32⟩
  | .local _ .vmem, ⟨5, _⟩ => ⟨S2048x576, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvaRefIdeal.lean ====
abbrev S8320x2048 : Shape := ⟨2, ![8320, 2048]⟩
abbrev S2048x576 : Shape := ⟨2, ![2048, 576]⟩
abbrev S8320x576 : Shape := ⟨2, ![8320, 576]⟩

abbrev nBuf : Space → Nat
  | .hbm => 3
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x576, .f32⟩
  | .hbm, ⟨2, _⟩ => ⟨S8320x576, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormBf.lean ====
abbrev S8320x2048 : Shape := ⟨2, ![8320, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .bf16⟩
  | .local _ .vmem, ⟨4, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormBfIdeal.lean ====
abbrev S8320x2048 : Shape := ⟨2, ![8320, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .bf16⟩
  | .local _ .vmem, ⟨4, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormBfRefIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormF.lean ====
abbrev S8320x2048 : Shape := ⟨2, ![8320, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .f32⟩
  | .local _ .vmem, ⟨4, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFRefIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormQ.lean ====
abbrev S8320x512 : Shape := ⟨2, ![8320, 512]⟩
abbrev S512 : Shape := ⟨1, ![512]⟩
abbrev S1x512 : Shape := ⟨2, ![1, 512]⟩
abbrev S640x512 : Shape := ⟨2, ![640, 512]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x512, .f32⟩
  | .hbm, ⟨1, _⟩ => ⟨S512, .f32⟩
  | .hbm, ⟨2, _⟩ => ⟨S1x512, .f32⟩
  | .hbm, ⟨3, _⟩ => ⟨S8320x512, .bf16⟩
  | .local _ .vmem, ⟨0, _⟩ => ⟨S640x512, .f32⟩
  | .local _ .vmem, ⟨1, _⟩ => ⟨S640x512, .f32⟩
  | .local _ .vmem, ⟨2, _⟩ => ⟨S1x512, .f32⟩
  | .local _ .vmem, ⟨3, _⟩ => ⟨S640x512, .bf16⟩
  | .local _ .vmem, ⟨4, _⟩ => ⟨S640x512, .bf16⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQRefIdeal.lean ====
abbrev S8320x512 : Shape := ⟨2, ![8320, 512]⟩
abbrev S512 : Shape := ⟨1, ![512]⟩
abbrev S_ : Shape := ⟨0, ![]⟩
abbrev S8320 : Shape := ⟨1, ![8320]⟩
abbrev S8320x1 : Shape := ⟨2, ![8320, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S512, .f32⟩
  | .hbm, ⟨2, _⟩ => ⟨S8320x512, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x512, .f32⟩
  | .hbm, ⟨14, _⟩ => ⟨S8320x512, .f32⟩
  | .hbm, ⟨15, _⟩ => ⟨S1x512, .f32⟩
  | .hbm, ⟨16, _⟩ => ⟨S8320x512, .f32⟩
  | .hbm, ⟨17, _⟩ => ⟨S8320x512, .f32⟩
  | .hbm, ⟨18, _⟩ => ⟨S8320x512, .bf16⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AKv.lean ====
abbrev S2x4096x2048 : Shape := ⟨3, ![2, 4096, 2048]⟩
abbrev S128x1x2048 : Shape := ⟨3, ![128, 1, 2048]⟩
abbrev S4x2048 : Shape := ⟨2, ![4, 2048]⟩
abbrev S2048x2560 : Shape := ⟨2, ![2048, 2560]⟩
abbrev S8192x2048 : Shape := ⟨2, ![8192, 2048]⟩
abbrev S128x2048 : Shape := ⟨2, ![128, 2048]⟩
abbrev S8320x2048 : Shape := ⟨2, ![8320, 2048]⟩
abbrev S1x2048 : Shape := ⟨2, ![1, 2048]⟩
abbrev S2048 : Shape := ⟨1, ![2048]⟩
abbrev S640x2048 : Shape := ⟨2, ![640, 2048]⟩
abbrev S640 : Shape := ⟨1, ![640]⟩
abbrev S640x1 : Shape := ⟨2, ![640, 1]⟩
abbrev S8320x2560 : Shape := ⟨2, ![8320, 2560]⟩
abbrev S2048x512 : Shape := ⟨2, ![2048, 512]⟩
abbrev S640x512 : Shape := ⟨2, ![640, 512]⟩
abbrev S8320x512 : Shape := ⟨2, ![8320, 512]⟩
abbrev S8320x2x2x128 : Shape := ⟨4, ![8320, 2, 2, 128]⟩
abbrev S8192x2x2x128 : Shape := ⟨4, ![8192, 2, 2, 128]⟩
abbrev S2x4096x2x2x128 : Shape := ⟨5, ![2, 4096, 2, 2, 128]⟩
abbrev S128x2x2x128 : Shape := ⟨4, ![128, 2, 2, 128]⟩
abbrev S128x1x2x2x128 : Shape := ⟨5, ![128, 1, 2, 2, 128]⟩

abbrev nBuf : Space → Nat
  | .hbm => 19
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S128x1x2048, .f32⟩
  | .hbm, ⟨2, _⟩ => ⟨S4x2048, .f32⟩
  | .hbm, ⟨3, _⟩ => ⟨S2048x2560, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8320x2048, .bf16⟩
  | .hbm, ⟨11, _⟩ => ⟨S8320x2560, .f32⟩
  | .hbm, ⟨12, _⟩ => ⟨S8320x2560, .bf16⟩
  | .hbm, ⟨13, _⟩ => ⟨S8320x512, .f32⟩
  | .hbm, ⟨14, _⟩ => ⟨S8320x2x2x128, .f32⟩
  | .hbm, ⟨15, _⟩ => ⟨S8192x2x2x128, .f32⟩
  | .hbm, ⟨16, _⟩ => ⟨S2x4096x2x2x128, .f32⟩
  | .hbm, ⟨17, _⟩ => ⟨S128x2x2x128, .f32⟩
  | .hbm, ⟨18, _⟩ => ⟨S128x1x2x2x128, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .bf16⟩
  | .local _ .vmem, ⟨7, _⟩ => ⟨S2048x512, .f32⟩
  | .local _ .vmem, ⟨8, _⟩ => ⟨S2048x512, .f32⟩
  | .local _ .vmem, ⟨9, _⟩ => ⟨S640x512, .f32⟩
  | .local _ .vmem, ⟨10, _⟩ => ⟨S640x512, .f32⟩
  | .local _ .vmem, ⟨11, _⟩ => ⟨S640x512, .bf16⟩
  | .local _ .vmem, ⟨12, _⟩ => ⟨S640x512, .bf16⟩
  | .local _ .vmem, ⟨13, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 13], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S640x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S640x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== AKvRefIdeal.lean ====
abbrev S2x4096x2048 : Shape := ⟨3, ![2, 4096, 2048]⟩
abbrev S128x1x2048 : Shape := ⟨3, ![128, 1, 2048]⟩
abbrev S4x2048 : Shape := ⟨2, ![4, 2048]⟩
abbrev S2048x2560 : Shape := ⟨2, ![2048, 2560]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x2560 : Shape := ⟨3, ![2, 4096, 2560]⟩
abbrev S2x4096x512 : Shape := ⟨3, ![2, 4096, 512]⟩
abbrev S2x4096x2x2x128 : Shape := ⟨5, ![2, 4096, 2, 2, 128]⟩
abbrev S128x1 : Shape := ⟨2, ![128, 1]⟩
abbrev S128x1x1 : Shape := ⟨3, ![128, 1, 1]⟩
abbrev S128x1x2560 : Shape := ⟨3, ![128, 1, 2560]⟩
abbrev S128x1x512 : Shape := ⟨3, ![128, 1, 512]⟩
abbrev S128x1x2x2x128 : Shape := ⟨5, ![128, 1, 2, 2, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x1x2048, .f32⟩
  | .hbm, ⟨2, _⟩ => ⟨S4x2048, .f32⟩
  | .hbm, ⟨3, _⟩ => ⟨S2048x2560, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x2560, .f32⟩
  | .hbm, ⟨23, _⟩ => ⟨S2x4096x512, .f32⟩
  | .hbm, ⟨24, _⟩ => ⟨S2x4096x2x2x128, .f32⟩
  | .hbm, ⟨25, _⟩ => ⟨S1x2048, .f32⟩
  | .hbm, ⟨26, _⟩ => ⟨S2048, .f32⟩
  | .hbm, ⟨27, _⟩ => ⟨S128x1x2048, .f32⟩
  | .hbm, ⟨28, _⟩ => ⟨S_, .f32⟩
  | .hbm, ⟨29, _⟩ => ⟨S128x1, .f32⟩
  | .hbm, ⟨30, _⟩ => ⟨S128x1x1, .f32⟩
  | .hbm, ⟨31, _⟩ => ⟨S_, .f32⟩
  | .hbm, ⟨32, _⟩ => ⟨S128x1x1, .f32⟩
  | .hbm, ⟨33, _⟩ => ⟨S128x1x1, .f32⟩
  | .hbm, ⟨34, _⟩ => ⟨S_, .f32⟩
  | .hbm, ⟨35, _⟩ => ⟨S128x1x1, .f32⟩
  | .hbm, ⟨36, _⟩ => ⟨S128x1x1, .f32⟩
  | .hbm, ⟨37, _⟩ => ⟨S128x1x1, .f32⟩
  | .hbm, ⟨38, _⟩ => ⟨S128x1x2048, .f32⟩
  | .hbm, ⟨39, _⟩ => ⟨S128x1x2048, .f32⟩
  | .hbm, ⟨40, _⟩ => ⟨S1x1x2048, .f32⟩
  | .hbm, ⟨41, _⟩ => ⟨S128x1x2048, .f32⟩
  | .hbm, ⟨42, _⟩ => ⟨S128x1x2048, .f32⟩
  | .hbm, ⟨43, _⟩ => ⟨S128x1x2560, .f32⟩
  | .hbm, ⟨44, _⟩ => ⟨S128x1x512, .f32⟩
  | .hbm, ⟨45, _⟩ => ⟨S128x1x2x2x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== MlaS.lean ====
abbrev S128x16x576 : Shape := ⟨3, ![128, 16, 576]⟩
abbrev S128x1x576 : Shape := ⟨3, ![128, 1, 576]⟩
abbrev S10240x576x128 : Shape := ⟨3, ![10240, 576, 128]⟩
abbrev S128x64 : Shape := ⟨2, ![128, 64]⟩
abbrev S128x16x512 : Shape := ⟨3, ![128, 16, 512]⟩
abbrev S1x16x576 : Shape := ⟨3, ![1, 16, 576]⟩
abbrev S1x1x576 : Shape := ⟨3, ![1, 1, 576]⟩
abbrev S1x576x128 : Shape := ⟨3, ![1, 576, 128]⟩
abbrev S1x1 : Shape := ⟨2, ![1, 1]⟩
abbrev S1x16x512 : Shape := ⟨3, ![1, 16, 512]⟩
abbrev S16x128 : Shape := ⟨2, ![16, 128]⟩
abbrev S16x512 : Shape := ⟨2, ![16, 512]⟩
abbrev S16x576 : Shape := ⟨2, ![16, 576]⟩
abbrev S576x128 : Shape := ⟨2, ![576, 128]⟩
abbrev S576x1024 : Shape := ⟨2, ![576, 1024]⟩
abbrev S16x1024 : Shape := ⟨2, ![16, 1024]⟩
abbrev S16 : Shape := ⟨1, ![16]⟩
abbrev S16x1 : Shape := ⟨2, ![16, 1]⟩
abbrev S512x1024 : Shape := ⟨2, ![512, 1024]⟩
abbrev S1x576 : Shape := ⟨2, ![1, 576]⟩
abbrev S1x512 : Shape := ⟨2, ![1, 512]⟩

abbrev nBuf : Space → Nat
  | .hbm => 4
  | .vmem => 25
  | .smem => 1
  | _ => 0

abbrev bufTy : (tb : Table) → Fin (tcTables nBuf tb) → BufTy
  | .hbm, ⟨0, _⟩ => ⟨S128x16x576, .f32⟩
  | .hbm, ⟨1, _⟩ => ⟨S128x1x576, .f32⟩
  | .hbm, ⟨2, _⟩ => ⟨S10240x576x128, .f32⟩
  | .hbm, ⟨3, _⟩ => ⟨S128x16x512, .f32⟩
  | .local _ .vmem, ⟨0, _⟩ => ⟨S1x16x576, .f32⟩
  | .local _ .vmem, ⟨1, _⟩ => ⟨S1x16x576, .f32⟩
  | .local _ .vmem, ⟨2, _⟩ => ⟨S1x1x576, .f32⟩
  | .local _ .vmem, ⟨3, _⟩ => ⟨S1x1x576, .f32⟩
  | .local _ .vmem, ⟨4, _⟩ => ⟨S1x576x128, .f32⟩
  | .local _ .vmem, ⟨5, _⟩ => ⟨S1x576x128, .f32⟩
  | .local _ .vmem, ⟨6, _⟩ => ⟨S1x576x128, .f32⟩
  | .local _ .vmem, ⟨7, _⟩ => ⟨S1x576x128, .f32⟩
  | .local _ .vmem, ⟨8, _⟩ => ⟨S1x576x128, .f32⟩
  | .local _ .vmem, ⟨9, _⟩ => ⟨S1x576x128, .f32⟩
  | .local _ .vmem, ⟨10, _⟩ => ⟨S1x576x128, .f32⟩
  | .local _ .vmem, ⟨11, _⟩ => ⟨S1x576x128, .f32⟩
  | .local _ .vmem, ⟨12, _⟩ => ⟨S1x576x128, .f32⟩
  | .local _ .vmem, ⟨13, _⟩ => ⟨S1x576x128, .f32⟩
  | .local _ .vmem, ⟨14, _⟩ => ⟨S1x576x128, .f32⟩
  | .local _ .vmem, ⟨15, _⟩ => ⟨S1x576x128, .f32⟩
  | .local _ .vmem, ⟨16, _⟩ => ⟨S1x576x128, .f32⟩
  | .local _ .vmem, ⟨17, _⟩ => ⟨S1x576x128, .f32⟩
  | .local _ .vmem, ⟨18, _⟩ => ⟨S1x576x128, .f32⟩
  | .local _ .vmem, ⟨19, _⟩ => ⟨S1x576x128, .f32⟩
  | .local _ .vmem, ⟨20, _⟩ => ⟨S1x16x512, .f32⟩
  | .local _ .vmem, ⟨21, _⟩ => ⟨S1x16x512, .f32⟩
  | .local _ .vmem, ⟨22, _⟩ => ⟨S16x128, .f32⟩
  | .local _ .vmem, ⟨23, _⟩ => ⟨S16x128, .f32⟩
  | .local _ .vmem, ⟨24, _⟩ => ⟨S16x512, .f32⟩
  | .local _ .smem, ⟨0, _⟩ => ⟨S128x64, .i32⟩
  | _, _ => ⟨S128x16x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![128, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c7_i32 : BitVec 32 := 7#32
  let v61 : BitVec 1 := Scalar.cmpi .eq arg1 c7_i32
  let v62 : BitVec 32 := Scalar.extui v61
  let c0_i32_43 : BitVec 32 := 0#32
  let v63 : BitVec 1 := Scalar.cmpi .ne v62 c0_i32_43
  v63

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_3 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_4 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_5 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_6 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_7 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 8), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x576x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x576x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x576x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x576x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x576x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x576x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x576x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x576x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlaSRefIdeal.lean ====
abbrev S128x16x576 : Shape := ⟨3, ![128, 16, 576]⟩
abbrev S128x1x576 : Shape := ⟨3, ![128, 1, 576]⟩
abbrev S10240x576x128 : Shape := ⟨3, ![10240, 576, 128]⟩
abbrev S128x64 : Shape := ⟨2, ![128, 64]⟩
abbrev S10240x128x576 : Shape := ⟨3, ![10240, 128, 576]⟩
abbrev S_ : Shape := ⟨0, ![]⟩
abbrev S128x64x1 : Shape := ⟨3, ![128, 64, 1]⟩
abbrev S128x64x128x576 : Shape := ⟨4, ![128, 64, 128, 576]⟩
abbrev S128x8192x576 : Shape := ⟨3, ![128, 8192, 576]⟩
abbrev S128x8193x576 : Shape := ⟨3, ![128, 8193, 576]⟩
abbrev S1 : Shape := ⟨1, ![1]⟩
abbrev S8193 : Shape := ⟨1, ![8193]⟩
abbrev S128x8193x512 : Shape := ⟨3, ![128, 8193, 512]⟩
abbrev S128x1x16x576 : Shape := ⟨4, ![128, 1, 16, 576]⟩
abbrev S128x8193x1x16 : Shape := ⟨4, ![128, 8193, 1, 16]⟩
abbrev S128x16x1x8193 : Shape := ⟨4, ![128, 16, 1, 8193]⟩
abbrev S1x8193 : Shape := ⟨2, ![1, 8193]⟩
abbrev S1x1 : Shape := ⟨2, ![1, 1]⟩
abbrev S1x1x1x8193 : Shape := ⟨4, ![1, 1, 1, 8193]⟩
abbrev S128x16x1 : Shape := ⟨3, ![128, 16, 1]⟩
abbrev S128x16x1x1 : Shape := ⟨4, ![128, 16, 1, 1]⟩
abbrev S128x512x16x1 : Shape := ⟨4, ![128, 512, 16, 1]⟩
abbrev S128x1x16x512 : Shape := ⟨4, ![128, 1, 16, 512]⟩
abbrev S128x16x512 : Shape := ⟨3, ![128, 16, 512]⟩

abbrev nBuf : Space → Nat
  | .hbm => 60
  | .vmem => 0
  | .smem => 0
  | _ => 0

abbrev bufTy : (tb : Table) → Fin (tcTables nBuf tb) → BufTy
  | .hbm, ⟨0, _⟩ => ⟨S128x16x576, .f32⟩
  | .hbm, ⟨1, _⟩ => ⟨S128x1x576, .f32⟩
  | .hbm, ⟨2, _⟩ => ⟨S10240x576x128, .f32⟩
  | .hbm, ⟨3, _⟩ => ⟨S128x64, .i32⟩
  | .hbm, ⟨4, _⟩ => ⟨S10240x128x576, .f32⟩
  | .hbm, ⟨5, _⟩ => ⟨S_, .i32⟩
  | .hbm, ⟨6, _⟩ => ⟨S128x64, .i32⟩
  | .hbm, ⟨7, _⟩ => ⟨S128x64, .i1⟩
  | .hbm, ⟨8, _⟩ => ⟨S_, .i32⟩
  | .hbm, ⟨9, _⟩ => ⟨S128x64, .i32⟩
  | .hbm, ⟨10, _⟩ => ⟨S128x64, .i32⟩
  | .hbm, ⟨11, _⟩ => ⟨S128x64, .i32⟩
  | .hbm, ⟨12, _⟩ => ⟨S128x64x1, .i32⟩
  | .hbm, ⟨13, _⟩ => ⟨S128x64x128x576, .f32⟩
  | .hbm, ⟨14, _⟩ => ⟨S128x8192x576, .f32⟩
  | .hbm, ⟨15, _⟩ => ⟨S128x8193x576, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S8193, .i32⟩
  | .hbm, ⟨21, _⟩ => ⟨S128x8193x512, .f32⟩
  | .hbm, ⟨22, _⟩ => ⟨S128x1x16x576, .f32⟩
  | .hbm, ⟨23, _⟩ => ⟨S128x8193x1x16, .f32⟩
  | .hbm, ⟨24, _⟩ => ⟨S128x16x1x8193, .f32⟩
  | .hbm, ⟨25, _⟩ => ⟨S_, .f32⟩
  | .hbm, ⟨26, _⟩ => ⟨S128x16x1x8193, .f32⟩
  | .hbm, ⟨27, _⟩ => ⟨S128x16x1x8193, .f32⟩
  | .hbm, ⟨28, _⟩ => ⟨S1x8193, .i32⟩
  | .hbm, ⟨29, _⟩ => ⟨S1x1, .i32⟩
  | .hbm, ⟨30, _⟩ => ⟨S1x8193, .i32⟩
  | .hbm, ⟨31, _⟩ => ⟨S1x8193, .i1⟩
  | .hbm, ⟨32, _⟩ => ⟨S1x1x1x8193, .i1⟩
  | .hbm, ⟨33, _⟩ => ⟨S_, .f32⟩
  | .hbm, ⟨34, _⟩ => ⟨S_, .f32⟩
  | .hbm, ⟨35, _⟩ => ⟨S128x16x1x8193, .i1⟩
  | .hbm, ⟨36, _⟩ => ⟨S128x16x1x8193, .f32⟩
  | .hbm, ⟨37, _⟩ => ⟨S128x16x1x8193, .f32⟩
  | .hbm, ⟨38, _⟩ => ⟨S_, .f32⟩
  | .hbm, ⟨39, _⟩ => ⟨S128x16x1, .f32⟩
  | .hbm, ⟨40, _⟩ => ⟨S128x16x1x1, .f32⟩
  | .hbm, ⟨41, _⟩ => ⟨S128x16x1x8193, .f32⟩
  | .hbm, ⟨42, _⟩ => ⟨S128x16x1x8193, .f32⟩
  | .hbm, ⟨43, _⟩ => ⟨S128x16x1x8193, .f32⟩
  | .hbm, ⟨44, _⟩ => ⟨S_, .f32⟩
  | .hbm, ⟨45, _⟩ => ⟨S_, .f32⟩
  | .hbm, ⟨46, _⟩ => ⟨S128x16x1x8193, .i1⟩
  | .hbm, ⟨47, _⟩ => ⟨S128x16x1x8193, .f32⟩
  | .hbm, ⟨48, _⟩ => ⟨S128x16x1x8193, .f32⟩
  | .hbm, ⟨49, _⟩ => ⟨S_, .f32⟩
  | .hbm, ⟨50, _⟩ => ⟨S128x16x1, .f32⟩
  | .hbm, ⟨51, _⟩ => ⟨S128x16x1x1, .f32⟩
  | .hbm, ⟨52, _⟩ => ⟨S_, .f32⟩
  | .hbm, ⟨53, _⟩ => ⟨S128x16x1x1, .f32⟩
  | .hbm, ⟨54, _⟩ => ⟨S128x16x1x1, .f32⟩
  | .hbm, ⟨55, _⟩ => ⟨S128x16x1x8193, .f32⟩
  | .hbm, ⟨56, _⟩ => ⟨S128x16x1x8193, .f32⟩
  | .hbm, ⟨57, _⟩ => ⟨S128x512x16x1, .f32⟩
  | .hbm, ⟨58, _⟩ => ⟨S128x1x16x512, .f32⟩
  | .hbm, ⟨59, _⟩ => ⟨S128x16x512, .f32⟩
  | _, _ => ⟨S128x16x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.VecWindow
public import Idealize.ShloMosaic.Lib.LoopRemainder
public import Idealize.ShloMosaic.Lib.Pointwise

@[expose] public section
set_option maxRecDepth 16384
noncomputable section
namespace Cert.KernelIdeal.Block
open Idealize.ShloMosaic Idealize.ShloMosaic.TcCoe Idealize.SL.Sem Cert.KernelIdeal.Gen

variable {F : FTy → Type} [FloatOps F] [Named F]

/-! What one grid point writes, as a recursion over the key tiles: the running maximum, the running
sum and the accumulator after the diagonal tile, then after each earlier tile. -/

/-- Key tile `n` of a batch's latents: rows `512 n … 512 n + 511` (row numbers taken modulo 4096). -/
def tile (x1 : Vec F S4096x576 .bf16) (n : ℕ) : Vec F S512x576 .bf16 := fun j =>
  x1 (ix2 (⟨(512 * n + (j 0).val) % 4096, Nat.mod_lt _ (by decide)⟩ : Fin 4096) (⟨(j 1).val, (j 1).isLt⟩ : Fin 576))

/-- The carried values: running maximum and running sum of each row, and the accumulator. -/
abbrev Carry (F : FTy → Type) := (FVec F S512x1 .f32 × FVec F S512x1 .f32) × FVec F S512x512 .f32

/-- After the diagonal tile. -/
def first (v0 : Vec F S1x512x576 .bf16) (T : Vec F S512x576 .bf16) : Carry F := ((k0_pay5 v0 T, k0_pay7 v0 T), k0_pay8 v0 T)

/-- One earlier tile. -/
def next (v0 : Vec F S1x512x576 .bf16) (T : Vec F S512x576 .bf16) (s : Carry F) : Carry F :=
  ((k0_pay11 v0 s.1.1 T, k0_pay15 v0 s.1.1 s.1.2 T), k0_pay14 v0 s.1.1 T s.2)

/-- After the diagonal tile `q` and the tiles before `n`. -/
def upto (v0 : Vec F S1x512x576 .bf16) (x1 : Vec F S4096x576 .bf16) (q : ℕ) : ℕ → Carry F
  | 0 => first v0 (tile x1 q)
  | n + 1 => next v0 (tile x1 n) (upto v0 x1 q n)

theorem upto_zero (v0 : Vec F S1x512x576 .bf16) (x1 : Vec F S4096x576 .bf16) (q : ℕ) : upto v0 x1 q 0 = first v0 (tile x1 q) := rfl
theorem upto_succ (v0 : Vec F S1x512x576 .bf16) (x1 : Vec F S4096x576 .bf16) (q n : ℕ) :
    upto v0 x1 q (n + 1) = next v0 (tile x1 n) (upto v0 x1 q n) := rfl

theorem zero2 : (![0, 0] : Fin 2 → Nat) = fun _ => 0 := funext fun a => by fin_cases a <;> rfl
theorem zero3 : (![0, 0, 0] : Fin 3 → Nat) = fun _ => 0 := funext fun a => by fin_cases a <;> rfl

/-- A load of 512 latent rows at offset `512 n` is the tile. -/
theorem ld_tile (x1 : Vec F S4096x576 .bf16) (n : ℕ) {off : Fin 2 → ℕ} (h : off = ![512 * n, 0])
    (inb : ∀ a, off a + S512x576.size a ≤ S4096x576.size a) :
    View.ld x1 (Rect.unit (s := S4096x576) off S512x576.size inb) = tile x1 n := by
  subst h
  funext j
  show x1 _ = _
  unfold tile
  refine congrArg x1 (funext fun a => Fin.ext ?_)
  have h0 := inb 0
  have hj := (j 0).isLt
  change 512 * n + 512 ≤ 4096 at h0
  change (j 0).val < 512 at hj
  match a with
  | ⟨0, _⟩ => show 512 * n + 1 * (j 0).val = (512 * n + (j 0).val) % 4096; rw [Nat.mod_eq_of_lt (by omega)]; omega
  | ⟨1, _⟩ => show 0 + 1 * (j 1).val = (j 1).val; omega

theorem trips1 : ∀ i : grid0.Coords, (k0_t1_loop i).trips = (i 2).val := by
  intro i
  have h : ∀ x : Fin 8, Scf.trips 0#32 (Scalar.addi 0#32 (Scalar.muli (Scalar.divsi (Scalar.subi (BitVec.ofNat 32 x.val) 0#32) 1#32) 1#32)) 1#32 = x.val := by
    decide +kernel
  exact h (i 2)

theorem trips2 (i : grid0.Coords) : (k0_t2_loop i).trips = 0 := Nat.le_zero.1 (k0_t2_abs i).2.1

section
variable (𝒱 : Variants) (c : Dev nD) (bd : Option 𝒱.V) (i : grid0.Coords)
  (arg3 : Memref sig .tc .vmem S1x512x576 .bf16) (harg3 : arg3.IsWhole) (arg4 : Memref sig .tc .vmem S4096x576 .bf16) (harg4 : arg4.IsWhole)
  (arg5 : Memref sig .tc .vmem S512x128 .f32) (harg5 : arg5.IsWhole) (arg6 : Memref sig .tc .vmem S512x128 .bf16) (harg6 : arg6.IsWhole)
  (arg7 : Memref sig .tc .vmem S512x512 .f32) (harg7 : arg7.IsWhole)

/-- One trip's carried pair, and the store it does. -/
theorem trip_eq (v0 : Vec F S1x512x576 .bf16) (X : BufTy.Contents (Elt F) arg4.view.ty) (k : Fin (k0_t1_loop i).trips)
    (acc : FVec F S512x1 .f32 × FVec F S512x1 .f32) (f : BufTy.Contents (Elt F) arg7.view.ty) :
    (tripR_k0_t1 𝒱 c bd i arg3 harg3 arg4 harg4 arg5 harg5 arg6 harg6 arg7 harg7 v0 X k acc f,
     tripL_k0_t1 𝒱 c bd i arg3 harg3 arg4 harg4 arg5 harg5 arg6 harg6 arg7 harg7 v0 X k acc f)
    = ((next v0 (View.readAt (Elt F) arg4.view (Rect.unit (s := S4096x576) (k0_off2 i k) S512x576.size (k0_off2_inb i k)).toLoadRect X)
          (acc, View.readAt (Elt F) arg7.view (Rect.unit (s := S512x512) ![0, 0] S512x512.size inb_S512x512_S512x512_0_0).toLoadRect f)).1,
       [⟨Rect.unit (s := S512x512) ![0, 0] S512x512.size inb_S512x512_S512x512_0_0,
         (next v0 (View.readAt (Elt F) arg4.view (Rect.unit (s := S4096x576) (k0_off2 i k) S512x576.size (k0_off2_inb i k)).toLoadRect X)
          (acc, View.readAt (Elt F) arg7.view (Rect.unit (s := S512x512) ![0, 0] S512x512.size inb_S512x512_S512x512_0_0).toLoadRect f)).2⟩]) := by
  unfold tripR_k0_t1 tripL_k0_t1 trip_k0_t1
  dsimp only
  sl_unfold_words
  rfl

/-- The loop's state before trip `n`: the recursion's carried pair, and its accumulator in the scratch buffer. -/
theorem st_eq (v0 : Vec F S1x512x576 .bf16) (x1 : Vec F S4096x576 .bf16) (q : ℕ) (G : BufTy.Contents (Elt F) arg7.view.ty)
    (hG : arg7.view.read (Elt F) G = (first v0 (tile x1 q)).2) : ∀ n : ℕ, n ≤ (k0_t1_loop i).trips →
    (st_k0_t1 𝒱 c bd i arg3 harg3 arg4 harg4 arg5 harg5 arg6 harg6 arg7 harg7 v0 (harg4.unread x1) G (first v0 (tile x1 q)).1 n).1
      = (upto v0 x1 q n).1
    ∧ arg7.view.read (Elt F) (arg7.view.writes (Elt F) G
        (st_k0_t1 𝒱 c bd i arg3 harg3 arg4 harg4 arg5 harg5 arg6 harg6 arg7 harg7 v0 (harg4.unread x1) G (first v0 (tile x1 q)).1 n).2)
      = (upto v0 x1 q n).2
  | 0, _ => ⟨rfl, hG⟩
  | n + 1, h => by
    obtain ⟨ih1, ih2⟩ := st_eq v0 x1 q G hG n (by omega)
    have hs := st_k0_t1_succ 𝒱 c bd i arg3 harg3 arg4 harg4 arg5 harg5 arg6 harg6 arg7 harg7 v0 (harg4.unread x1) G
      (first v0 (tile x1 q)).1 ⟨n, by omega⟩
    dsimp only at hs
    rw [hs, ih1]
    have ht := trip_eq 𝒱 c bd i arg3 harg3 arg4 harg4 arg5 harg5 arg6 harg6 arg7 harg7 v0 (harg4.unread x1) ⟨n, by omega⟩ (upto v0 x1 q n).1
      (arg7.view.writes (Elt F) G (st_k0_t1 𝒱 c bd i arg3 harg3 arg4 harg4 arg5 harg5 arg6 harg6 arg7 harg7 v0 (harg4.unread x1) G (first v0 (tile x1 q)).1 n).2)
    rw [View.readAt_eq_ld, harg4.read_unread, ld_tile x1 n (k0_off2_eq i ⟨n, by omega⟩), View.readAt_eq_ld,
      View.ld_unit_zero (S := S512x512) zero2, ih2] at ht
    have h1 := congrArg Prod.fst ht
    have h2 := congrArg Prod.snd ht
    dsimp only at h1 h2
    rw [h1, h2]
    exact ⟨rfl, View.read_writes_full _ _ _ _ _⟩

/-- What a grid point's window is left holding: the accumulator over the sum, times the value projection. -/
theorem out_eq (x0 : Vec F S1x512x576 .bf16) (x1 : Vec F S4096x576 .bf16) (x2 : Vec F S512x128 .f32) :
    out0_A_3 c i arg3 harg3 arg4 harg4 arg5 harg5 arg6 harg6 arg7 harg7 x0 x1 x2
      = k0_pay1 (upto x0 x1 (i 2).val (i 2).val).2 (k0_pay23 (upto x0 x1 (i 2).val (i 2).val).1.2) x2 := by
  unfold out0_A_3
  rw [View.read_writes_eq_canon _ _ _ (cover0_A_3 c i arg3 harg3 arg4 harg4 arg5 harg5 arg6 harg6 arg7 harg7 x0 x1 x2)]
  unfold kernelRun0_A
  dsimp only
  sl_unfold_words
  rw [View.canon_unit_zero zero2]
  rw [View.readAt_eq_ld arg3.view, harg3.read_unread, View.ld_unit_zero (S := S1x512x576) zero3,
    View.readAt_eq_ld arg5.view, harg5.read_unread, View.ld_unit_zero (S := S512x128) zero2]
  rw [show Scf.trips (k0_t2_loop i).lb (k0_t2_loop i).ub (k0_t2_loop i).st = 0 from trips2 i,
    show Scf.trips (k0_t1_loop i).lb (k0_t1_loop i).ub (k0_t1_loop i).st = (i 2).val from trips1 i]
  have hT : View.readAt (Elt F) arg4.view (Rect.unit (s := S4096x576) (k0_off1 i) S512x576.size (k0_off1_inb i)).toLoadRect (harg4.unread x1)
      = tile x1 (i 2).val := by
    rw [View.readAt_eq_ld, harg4.read_unread, ld_tile x1 (i 2).val (k0_off1_eq i)]
  have hs := st_eq Variants.none c none i arg3 harg3 arg4 harg4 arg5 harg5 arg6 harg6 arg7 harg7 x0 x1 (i 2).val
    (arg7.view.writes (Elt F) arg7.view.junk [⟨Rect.unit (s := S512x512) ![0, 0] S512x512.size inb_S512x512_S512x512_0_0, (first x0 (tile x1 (i 2).val)).2⟩])
    (View.read_writes_full _ _ _ _ _) (i 2).val (le_of_eq (trips1 i).symm)
  rw [← hT] at hs
  obtain ⟨h1, h2⟩ := hs
  rw [← View.writes_append] at h2
  refine congrArg₂ (fun a b => k0_pay1 a (k0_pay23 b) x2) ?_ (congrArg Prod.snd h1)
  refine Eq.trans ?_ h2
  unfold View.readCov
  rw [View.readAt_eq_ld, View.ld_unit_zero (S := S512x512) zero2]
  rfl
end
end Cert.KernelIdeal.Block
-- ==== Proof.Pay.lean ====
module

public import proofs.«01_k».proof.Proof.Block
public import Idealize.ShloMosaic.Lib.WordCmp

@[expose] public section
set_option maxRecDepth 16384
noncomputable section
namespace Cert.KernelIdeal.Pay
open Idealize.ShloMosaic Idealize.ShloMosaic.TcCoe Idealize.SL.Sem Cert.KernelIdeal.Gen

variable (v0 : Vec Ideal S1x512x576 .bf16) (T : Vec Ideal S512x576 .bf16)

/-- A logit of the tile: query row `r` with key row `j`, times the scale. -/
def lg (r j : Fin 512) : EReal := (∑ k : Fin 576, v0 (ix3 (0 : Fin 1) r k) * T (ix2 j k)) * Ideal.ofBits .f32 0x3D93CD3A#32

theorem pay10_apply (r j : Fin 512) : k0_pay10 v0 T (ix2 r j) = lg v0 T r j := by
  unfold lg
  pointwise [Gen.k0_pay10, Gen.k0_pay2, Gen.k0_pay9]

theorem pay4_apply (r j : Fin 512) : k0_pay4 v0 T (ix2 r j) = if j ≤ r then lg v0 T r j else ⊥ := by
  unfold lg
  pointwise [Gen.k0_pay4, Gen.k0_pay2, Gen.k0_pay3]
  rw [WordCmp.cmpi_sge_ofNat (by omega) (by omega), IdealRules.named_const.ideal_named_scalar κ "mask" _ ⊥ rfl]
  by_cases h : j ≤ r
  · rw [if_pos h, decide_eq_true (show j.val ≤ r.val from h)]; rfl
  · rw [if_neg h, decide_eq_false (show ¬ j.val ≤ r.val from h)]; rfl

theorem pay5_apply (r : Fin 512) : k0_pay5 v0 T (ix2 r (0 : Fin 1)) = Finset.univ.fold max (FloatOps.ofBits (F := Ideal) .f32 0xFF800000#32) fun k : Fin 512 => k0_pay4 v0 T (ix2 r k) := by
  pointwise [Gen.k0_pay5]

theorem pay6_apply (r j : Fin 512) : k0_pay6 v0 T (ix2 r j) = Ideal.exp (k0_pay4 v0 T (ix2 r j) - k0_pay5 v0 T (ix2 r (0 : Fin 1))) := by
  pointwise [Gen.k0_pay6]

theorem pay7_apply (r : Fin 512) : k0_pay7 v0 T (ix2 r (0 : Fin 1)) = ∑ k : Fin 512, k0_pay6 v0 T (ix2 r k) := by
  pointwise [Gen.k0_pay7]

theorem pay8_apply (r d : Fin 512) : k0_pay8 v0 T (ix2 r d) = ∑ k : Fin 512, k0_pay6 v0 T (ix2 r k) * T (ix2 k (⟨d.val, by omega⟩ : Fin 576)) := by
  pointwise [Gen.k0_pay8, Gen.k0_pay3]

variable (m l : FVec Ideal S512x1 .f32) (acc : FVec Ideal S512x512 .f32)

theorem pay11_apply (r : Fin 512) : k0_pay11 v0 m T (ix2 r (0 : Fin 1)) = max (m (ix2 r (0 : Fin 1))) (Finset.univ.fold max (FloatOps.ofBits (F := Ideal) .f32 0xFF800000#32) fun k : Fin 512 => k0_pay10 v0 T (ix2 r k)) := by
  pointwise [Gen.k0_pay11]

theorem pay12_apply (r : Fin 512) : k0_pay12 v0 m T (ix2 r (0 : Fin 1)) = Ideal.exp (m (ix2 r (0 : Fin 1)) - k0_pay11 v0 m T (ix2 r (0 : Fin 1))) := by
  pointwise [Gen.k0_pay12]

theorem pay13_apply (r j : Fin 512) : k0_pay13 v0 m T (ix2 r j) = Ideal.exp (k0_pay10 v0 T (ix2 r j) - k0_pay11 v0 m T (ix2 r (0 : Fin 1))) := by
  pointwise [Gen.k0_pay13]

theorem pay14_apply (r d : Fin 512) : k0_pay14 v0 m T acc (ix2 r d)
    = k0_pay12 v0 m T (ix2 r (0 : Fin 1)) * acc (ix2 r d) + ∑ k : Fin 512, k0_pay13 v0 m T (ix2 r k) * T (ix2 k (⟨d.val, by omega⟩ : Fin 576)) := by
  pointwise [Gen.k0_pay14, Gen.k0_pay9]

theorem pay15_apply (r : Fin 512) : k0_pay15 v0 m l T (ix2 r (0 : Fin 1))
    = k0_pay12 v0 m T (ix2 r (0 : Fin 1)) * l (ix2 r (0 : Fin 1)) + ∑ k : Fin 512, k0_pay13 v0 m T (ix2 r k) := by
  pointwise [Gen.k0_pay15]

theorem pay1_apply (w : Vec Ideal S512x128 .f32) (r : Fin 512) (e : Fin 128) : k0_pay1 acc (k0_pay23 l) w (ix2 r e)
    = ∑ d : Fin 512, Ideal.div (acc (ix2 r d)) (l (ix2 r (0 : Fin 1))) * w (ix2 d e) := by
  pointwise [Gen.k0_pay1, Gen.k0_pay23]

end Cert.KernelIdeal.Pay
-- ==== Proof.Math.lean ====
module

public import Idealize.ShloMosaic.PureOps.Ideal
public import Idealize.ShloMosaic.PureOps.Ideal.Laws
public import Mathlib.Tactic.Ring
public import Mathlib.Tactic.LinearCombination
public import Mathlib.Tactic.FieldSimp

@[expose] public section
noncomputable section
namespace Cert.Attn
open Idealize.ShloMosaic

/-! Softmax attention of one query row, over the reals: what the reference's row computes, and what the
running form keeps. -/

/-- Sum of a weight over the keys up to the query. -/
def total (g : Fin 4096 → ℝ) (t : ℕ) : ℝ := ∑ k : Fin 4096, if k.val ≤ t then g k else 0

/-- The attention of the row: the values weighted by the exponentials of the logits, over their sum. -/
def attn (x v : Fin 4096 → ℝ) (t : ℕ) : ℝ := total (fun k => Real.exp (x k) * v k) t / total (fun k => Real.exp (x k)) t

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum from `⊥` over values none of which is `⊤` and one of which is not `⊥` is real. -/
theorem fold_max_real {n : ℕ} (f : Fin n → EReal) (h : ∀ k, f k ≠ ⊤) (k0 : Fin n) (h0 : f k0 ≠ ⊥) :
    ∃ μ : ℝ, Finset.univ.fold max ⊥ f = (μ : EReal) := by
  have h1 : Finset.univ.fold max ⊥ f < ⊤ := by
    rw [Finset.fold_max_lt]; exact ⟨bot_lt_top, fun x _ => lt_top_iff_ne_top.2 (h x)⟩
  have h2 : f k0 ≤ Finset.univ.fold max ⊥ f := by
    rw [Finset.le_fold_max]; exact Or.inr ⟨k0, Finset.mem_univ _, le_rfl⟩
  have h3 : Finset.univ.fold max ⊥ f ≠ ⊥ := fun e => h0 (le_bot_iff.1 (e ▸ h2))
  exact ⟨_, (EReal.coe_toReal h1.ne h3).symm⟩

/-- The exponential of a logit's distance to a real shift. -/
theorem exp_sub_coe (x μ : ℝ) : Ideal.exp ((x : EReal) - (μ : EReal)) = ((Real.exp (-μ) * Real.exp x : ℝ) : EReal) := by
  rw [← EReal.coe_sub, Ideal.exp_coe, ← Real.exp_add]; congr 2; ring

/-! ### The running form -/

/-- The carried row holds the sums `L` and `A d`, up to one common shift. -/
def Holds (m l : EReal) (a : Fin 512 → EReal) (L : ℝ) (A : Fin 512 → ℝ) : Prop :=
  ∃ μ : ℝ, m = (μ : EReal) ∧ l = ((Real.exp (-μ) * L : ℝ) : EReal) ∧ ∀ d, a d = ((Real.exp (-μ) * A d : ℝ) : EReal)

/-- The diagonal tile: keys after the query are masked by `⊥`. -/
theorem holds_first (p : Fin 512 → Prop) [DecidablePred p] (r : Fin 512) (hr : p r) (x : Fin 512 → ℝ) (v : Fin 512 → Fin 512 → ℝ)
    (f e : Fin 512 → EReal) (m l : EReal) (a : Fin 512 → EReal) (T : Fin 512 → Fin 512 → EReal)
    (hf : ∀ k, f k = if p k then ((x k : ℝ) : EReal) else ⊥)
    (hm : m = Finset.univ.fold max ⊥ f) (he : ∀ k, e k = Ideal.exp (f k - m)) (hl : l = ∑ k, e k)
    (hT : ∀ k d, T k d = ((v k d : ℝ) : EReal)) (ha : ∀ d, a d = ∑ k, e k * T k d) :
    Holds m l a (∑ k, if p k then Real.exp (x k) else 0) (fun d => ∑ k, if p k then Real.exp (x k) * v k d else 0) := by
  obtain ⟨μ, hμ⟩ := fold_max_real f (fun k => by rw [hf]; split_ifs <;> simp) r (by rw [hf, if_pos hr]; simp)
  rw [hμ] at hm
  have he' : ∀ k, e k = ((Real.exp (-μ) * (if p k then Real.exp (x k) else 0) : ℝ) : EReal) := by
    intro k
    rw [he, hf, hm]
    split_ifs with h
    · exact exp_sub_coe _ _
    · rw [EReal.bot_sub, Ideal.exp_bot]; simp
  refine ⟨μ, hm, ?_, fun d => ?_⟩
  · rw [hl, Finset.sum_congr rfl fun k _ => he' k, coe_sum, Finset.mul_sum]
  · rw [ha, Finset.mul_sum, ← coe_sum]
    refine Finset.sum_congr rfl fun k _ => ?_
    rw [he', hT, ← EReal.coe_mul]
    congr 1
    split_ifs <;> ring

/-- One more tile, of any number of keys: the carried row is rescaled to the new maximum and the tile's terms are added. -/
theorem holds_next {κ : ℕ} [NeZero κ] (x : Fin κ → ℝ) (v : Fin κ → Fin 512 → ℝ) (f e : Fin κ → EReal) (m l m' l' al : EReal) (a a' : Fin 512 → EReal)
    (T : Fin κ → Fin 512 → EReal) (L : ℝ) (A : Fin 512 → ℝ) (H : Holds m l a L A)
    (hf : ∀ k, f k = ((x k : ℝ) : EReal))
    (hm : m' = max m (Finset.univ.fold max ⊥ f)) (hal : al = Ideal.exp (m - m')) (he : ∀ k, e k = Ideal.exp (f k - m'))
    (hl : l' = al * l + ∑ k, e k) (hT : ∀ k d, T k d = ((v k d : ℝ) : EReal)) (ha : ∀ d, a' d = al * a d + ∑ k, e k * T k d) :
    Holds m' l' a' (L + ∑ k, Real.exp (x k)) (fun d => A d + ∑ k, Real.exp (x k) * v k d) := by
  obtain ⟨μ, h1, h2, h3⟩ := H
  obtain ⟨ν, hν⟩ := fold_max_real f (fun k => by rw [hf]; simp) 0 (by rw [hf]; simp)
  obtain ⟨μ', hμ'⟩ : ∃ μ' : ℝ, m' = (μ' : EReal) := ⟨max μ ν, by rw [hm, h1, hν]; exact (EReal.coe_strictMono.monotone.map_max).symm⟩
  have hal' : al = ((Real.exp (-μ') * Real.exp μ : ℝ) : EReal) := by rw [hal, h1, hμ', exp_sub_coe]
  have hmul : ∀ y : ℝ, al * ((Real.exp (-μ) * y : ℝ) : EReal) = ((Real.exp (-μ') * y : ℝ) : EReal) := fun y => by
    rw [hal', ← EReal.coe_mul]; congr 1
    have : Real.exp μ * Real.exp (-μ) = 1 := by rw [← Real.exp_add]; simp
    linear_combination (Real.exp (-μ') * y) * this
  have he' : ∀ k, e k = ((Real.exp (-μ') * Real.exp (x k) : ℝ) : EReal) := fun k => by rw [he, hf, hμ', exp_sub_coe]
  refine ⟨μ', hμ', ?_, fun d => ?_⟩
  · rw [hl, h2, hmul, Finset.sum_congr rfl fun k _ => he' k, coe_sum, ← EReal.coe_add, ← Finset.mul_sum, ← mul_add]
  · rw [ha, h3, hmul, Finset.sum_congr rfl fun k _ => show e k * T k d = ((Real.exp (-μ') * (Real.exp (x k) * v k d) : ℝ) : EReal) by
      rw [he', hT, ← EReal.coe_mul, mul_assoc], coe_sum, ← EReal.coe_add, ← Finset.mul_sum, ← mul_add]

/-- The quotient does not depend on the shift. -/
theorem holds_div {m l : EReal} {a : Fin 512 → EReal} {L : ℝ} {A : Fin 512 → ℝ} (H : Holds m l a L A) (hL : L ≠ 0) (d : Fin 512) :
    Ideal.div (a d) l = ((A d / L : ℝ) : EReal) := by
  obtain ⟨μ, -, h2, h3⟩ := H
  have := (Real.exp_pos (-μ)).ne'
  rw [h2, h3, Ideal.div_coe (mul_ne_zero this hL), ← EReal.coe_mul]
  congr 1
  field_simp

/-! ### The tiles make up the row -/

/-- Row `k` of the keys, the number taken modulo 4096. -/
def key (k : ℕ) : Fin 4096 := ⟨k % 4096, Nat.mod_lt _ (by decide)⟩

/-- The weight of the diagonal tile `q` up to row `r`, and of the tiles before `n`. -/
def upto (g : Fin 4096 → ℝ) (q : ℕ) (r : Fin 512) (n : ℕ) : ℝ :=
  (∑ k ∈ Finset.range (512 * n), g (key k)) + ∑ j : Fin 512, if j ≤ r then g (key (512 * q + j.val)) else 0

theorem upto_zero (g : Fin 4096 → ℝ) (q : ℕ) (r : Fin 512) : upto g q r 0 = ∑ j : Fin 512, if j ≤ r then g (key (512 * q + j.val)) else 0 := by
  unfold upto; simp

theorem upto_succ (g : Fin 4096 → ℝ) (q : ℕ) (r : Fin 512) (n : ℕ) : upto g q r (n + 1) = upto g q r n + ∑ j : Fin 512, g (key (512 * n + j.val)) := by
  unfold upto
  rw [show 512 * (n + 1) = 512 * n + 512 from by ring, Finset.sum_range_add, Fin.sum_univ_eq_sum_range fun j => g (key (512 * n + j))]
  ring

theorem upto_last (g : Fin 4096 → ℝ) (q : ℕ) (hq : q < 8) (r : Fin 512) : upto g q r q = total g (512 * q + r.val) := by
  unfold upto total
  have e : ∀ k : Fin 4096, (if k.val ≤ 512 * q + r.val then g k else 0) = (fun k : ℕ => if k ≤ 512 * q + r.val then g (key k) else 0) k.val := fun k => by
    have : key k.val = k := Fin.ext (Nat.mod_eq_of_lt k.isLt)
    simp only [this]
  have e' : ∀ j : Fin 512, (if j ≤ r then g (key (512 * q + j.val)) else 0) = (fun j : ℕ => if j ≤ r.val then g (key (512 * q + j)) else 0) j.val := fun j => rfl
  rw [Finset.sum_congr rfl fun k _ => e k, Finset.sum_congr rfl fun j _ => e' j,
    Fin.sum_univ_eq_sum_range (fun k : ℕ => if k ≤ 512 * q + r.val then g (key k) else 0),
    Fin.sum_univ_eq_sum_range (fun j : ℕ => if j ≤ r.val then g (key (512 * q + j)) else 0)]
  have hr := r.isLt
  obtain ⟨R, hR⟩ : ∃ R, 4096 = 512 * q + 512 + R := ⟨4096 - (512 * q + 512), by omega⟩
  rw [hR, Finset.sum_range_add, Finset.sum_range_add]
  rw [Finset.sum_eq_zero (s := Finset.range R) fun x _ => if_neg (by omega), add_zero]
  congr 1
  · refine Finset.sum_congr rfl fun k hk => (if_pos ?_).symm
    have := Finset.mem_range.1 hk; omega
  · exact Finset.sum_congr rfl fun j _ => by simp

theorem total_exp_pos (x : Fin 4096 → ℝ) (t : ℕ) : 0 < total (fun k => Real.exp (x k)) t := by
  unfold total
  refine Finset.sum_pos' (fun k _ => ?_) ⟨0, Finset.mem_univ _, ?_⟩
  · split_ifs
    · exact (Real.exp_pos _).le
    · exact le_rfl
  · rw [if_pos (by simp)]; exact Real.exp_pos _

/-! ### The reference's row -/

/-- The reference's softmax of one row: masked logits, their maximum, the masked exponentials, their sum kept
    away from zero, and the quotients against the values. -/
theorem ref_row (x v : Fin 4096 → ℝ) (t : ℕ) (ht : t < 4096) (neg eps : ℝ) (hneg : ∀ k, neg ≤ x k) (heps : eps ≤ 1)
    (f e : Fin 4096 → EReal) (m s : EReal)
    (hf : ∀ k, f k = if k.val ≤ t then ((x k : ℝ) : EReal) else (neg : EReal))
    (hm : m = Finset.univ.fold max ⊥ f)
    (he : ∀ k, e k = if k.val ≤ t then Ideal.exp (f k - m) else 0)
    (hs : s = max (∑ k, e k) (eps : EReal)) :
    ∑ k, ((v k : ℝ) : EReal) * Ideal.div (e k) s = ((attn x v t : ℝ) : EReal) := by
  have hreal : ∀ k, f k = (((if k.val ≤ t then x k else neg) : ℝ) : EReal) := fun k => by rw [hf]; split_ifs <;> rfl
  obtain ⟨M, hM⟩ := fold_max_real f (fun k => by rw [hreal]; simp) ⟨t, ht⟩ (by rw [hreal]; simp)
  rw [hM] at hm
  -- the maximum is the logit of an allowed key
  obtain ⟨k0, hk0, hx0⟩ : ∃ k0 : Fin 4096, k0.val ≤ t ∧ x k0 = M := by
    have hle : ∀ k, (if k.val ≤ t then x k else neg) ≤ M := fun k => by
      have : f k ≤ Finset.univ.fold max ⊥ f := by rw [Finset.le_fold_max]; exact Or.inr ⟨k, Finset.mem_univ _, le_rfl⟩
      rw [hM, hreal] at this; exact EReal.coe_le_coe_iff.1 this
    have hat : ∃ k, M ≤ (if k.val ≤ t then x k else neg) := by
      have : (M : EReal) ≤ Finset.univ.fold max ⊥ f := hM.ge
      rw [Finset.le_fold_max] at this
      rcases this with h | ⟨k, -, h⟩
      · exact absurd (le_bot_iff.1 h) (EReal.coe_ne_bot M)
      · rw [hreal] at h; exact ⟨k, EReal.coe_le_coe_iff.1 h⟩
    obtain ⟨k, hk⟩ := hat
    by_cases h : k.val ≤ t
    · have := hle k; rw [if_pos h] at this hk; exact ⟨k, h, le_antisymm this hk⟩
    · rw [if_neg h] at hk
      have := hle ⟨t, ht⟩; rw [if_pos le_rfl] at this
      exact ⟨⟨t, ht⟩, le_rfl, le_antisymm this (hk.trans (hneg _))⟩
  have he' : ∀ k, e k = ((Real.exp (-M) * (if k.val ≤ t then Real.exp (x k) else 0) : ℝ) : EReal) := fun k => by
    rw [he, hf, hm]
    split_ifs with h
    · exact exp_sub_coe _ _
    · simp
  have hsum : ∑ k, e k = ((Real.exp (-M) * total (fun k => Real.exp (x k)) t : ℝ) : EReal) := by
    rw [Finset.sum_congr rfl fun k _ => he' k, coe_sum, ← Finset.mul_sum]; rfl
  have hone : 1 ≤ Real.exp (-M) * total (fun k => Real.exp (x k)) t := by
    have h1 : Real.exp M ≤ total (fun k => Real.exp (x k)) t := by
      unfold total
      refine le_trans (le_of_eq ?_) (Finset.single_le_sum (f := fun k : Fin 4096 => if k.val ≤ t then Real.exp (x k) else 0)
        (fun k _ => ?_) (Finset.mem_univ k0))
      · rw [if_pos hk0, hx0]
      · split_ifs
        · exact (Real.exp_pos _).le
        · exact le_rfl
    have h2 : Real.exp (-M) * Real.exp M = 1 := by rw [← Real.exp_add]; simp
    rw [← h2]; exact mul_le_mul_of_nonneg_left h1 (Real.exp_pos _).le
  have hs' : s = ((Real.exp (-M) * total (fun k => Real.exp (x k)) t : ℝ) : EReal) := by
    rw [hs, hsum, max_eq_left (EReal.coe_le_coe_iff.2 (heps.trans hone))]
  have hpos := total_exp_pos x t
  have hexp := (Real.exp_pos (-M)).ne'
  have hterm : ∀ k, ((v k : ℝ) : EReal) * Ideal.div (e k) s
      = (((if k.val ≤ t then Real.exp (x k) * v k else 0) * (1 / total (fun k => Real.exp (x k)) t) : ℝ) : EReal) := fun k => by
    rw [hs', he', Ideal.div_coe (mul_ne_zero hexp hpos.ne'), ← EReal.coe_mul, ← EReal.coe_mul]
    congr 1
    split_ifs
    · field_simp
    · simp
  rw [Finset.sum_congr rfl fun k _ => hterm k, coe_sum, ← Finset.sum_mul]
  unfold attn
  exact congrArg _ (div_eq_mul_one_div _ _).symm

end Cert.Attn
-- ==== Proof.Consts.lean ====
module

public import Idealize.ShloMosaic.PureOps.Ideal
public import Idealize.ShloMosaic.PureOps.Ideal.Laws
public import Mathlib.Tactic.NormNum
public import Mathlib.Tactic.Ring

@[expose] public section
noncomputable section
namespace Cert.Consts
open Idealize.ShloMosaic

/-! The constants of the programs, as real numbers. -/

/-- The scale, the `f32` nearest `192 ^ (-1/2)`. -/
def scale : ℝ := 9686330 / 2 ^ 27
/-- The reference's mask, the `f32` nearest `-10 ^ 30`. -/
def neg : ℝ := -(13234890 * 2 ^ 76)
/-- The bound of the precondition, the `f32` nearest `10 ^ 14`. -/
def bound : ℝ := 11920929 * 2 ^ 23
/-- The reference's smallest divisor, the `f32` nearest `10 ^ (-30)`. -/
def eps : ℝ := 10633824 / 2 ^ 123

theorem ofBits_scale : Ideal.ofBits .f32 0x3D93CD3A#32 = (scale : EReal) := by
  simp [Ideal.ofBits, Ideal.ieee, -EReal.coe_mul, scale]; norm_num
theorem ofBits_neg : Ideal.ofBits .f32 0xF149F2CA#32 = (neg : EReal) := by
  simp [Ideal.ofBits, Ideal.ieee, -EReal.coe_mul, neg]
theorem ofBits_bound : Ideal.ofBits .f32 0x56B5E621#32 = (bound : EReal) := by
  simp [Ideal.ofBits, Ideal.ieee, -EReal.coe_mul, bound]
theorem ofBits_eps : Ideal.ofBits .f32 0x0DA24260#32 = (eps : EReal) := by
  simp [Ideal.ofBits, Ideal.ieee, -EReal.coe_mul, eps]; norm_num
theorem ofBits_minus_infinity : Ideal.ofBits .f32 0xFF800000#32 = ⊥ := by
  simp [Ideal.ofBits, Ideal.ieee]

theorem scale_nonneg : 0 ≤ scale := by unfold scale; norm_num
theorem eps_le_one : eps ≤ 1 := by unfold eps; norm_num
/-- A logit of bounded operands is above the mask. -/
theorem neg_le : neg ≤ -(576 * (bound * bound) * scale) := by unfold neg bound scale; norm_num

end Cert.Consts
-- ==== Proof.Row.lean ====
module

public import proofs.«01_k».proof.Proof.Pay
public import proofs.«01_k».proof.Proof.Math
public import proofs.«01_k».proof.Proof.Consts

@[expose] public section
set_option maxRecDepth 16384
noncomputable section
namespace Cert.KernelIdeal.Row
open Idealize.ShloMosaic Idealize.ShloMosaic.TcCoe Idealize.SL.Sem Cert.KernelIdeal.Gen Cert.KernelIdeal.Block Cert.KernelIdeal.Pay
open Cert.Attn (Holds key attn total)

/-- A logit: a query row with a key row, scaled. -/
def logit (q k : Fin 576 → ℝ) : ℝ := (∑ c, q c * k c) * Consts.scale

variable (x0 : Vec Ideal S1x512x576 .bf16) (x1 : Vec Ideal S4096x576 .bf16) (qr : Fin 512 → Fin 576 → ℝ) (kr : Fin 4096 → Fin 576 → ℝ)
  (hq : ∀ r c, x0 (ix3 (0 : Fin 1) r c) = ((qr r c : ℝ) : EReal)) (hk : ∀ k c, x1 (ix2 k c) = ((kr k c : ℝ) : EReal))

include hk in
theorem tile_real (n : ℕ) (j : Fin 512) (c : Fin 576) : tile x1 n (ix2 j c) = ((kr (key (512 * n + j.val)) c : ℝ) : EReal) :=
  hk (key (512 * n + j.val)) c

include hq hk in
theorem lg_real (n : ℕ) (r j : Fin 512) : lg x0 (tile x1 n) r j = ((logit (qr r) (kr (key (512 * n + j.val))) : ℝ) : EReal) := by
  unfold lg logit
  rw [Consts.ofBits_scale, EReal.coe_mul, ← Cert.Attn.coe_sum]
  congr 1
  refine Finset.sum_congr rfl fun c _ => ?_
  rw [hq, tile_real x1 kr hk, EReal.coe_mul]

/-- Feature `d` of a key's value: its first 512 features. -/
def feat (d : Fin 512) : Fin 576 := ⟨d.val, by omega⟩

/-- The maxima of the tiles start at minus infinity. -/
theorem start_bot : (FloatOps.ofBits .f32 0xFF800000#32 : Ideal .f32) = (⊥ : EReal) := Consts.ofBits_minus_infinity

theorem max_first (q : ℕ) (r : Fin 512) : k0_pay5 x0 (tile x1 q) (ix2 r (0 : Fin 1))
    = Finset.univ.fold max ⊥ fun j : Fin 512 => k0_pay4 x0 (tile x1 q) (ix2 r j) := by
  rw [pay5_apply, start_bot]

theorem max_next (n : ℕ) (r : Fin 512) (m : FVec Ideal S512x1 .f32) : k0_pay11 x0 m (tile x1 n) (ix2 r (0 : Fin 1))
    = max (m (ix2 r (0 : Fin 1))) (Finset.univ.fold max ⊥ fun j : Fin 512 => k0_pay10 x0 (tile x1 n) (ix2 r j)) := by
  rw [pay11_apply, start_bot]

include hq hk in
/-- The carried row `r` after the diagonal tile `q` and the tiles before `n`. -/
theorem upto_holds (q : ℕ) (r : Fin 512) : ∀ n : ℕ,
    Holds ((upto x0 x1 q n).1.1 (ix2 r (0 : Fin 1))) ((upto x0 x1 q n).1.2 (ix2 r (0 : Fin 1))) (fun d => (upto x0 x1 q n).2 (ix2 r d))
      (Cert.Attn.upto (fun k => Real.exp (logit (qr r) (kr k))) q r n)
      (fun d => Cert.Attn.upto (fun k => Real.exp (logit (qr r) (kr k)) * kr k (feat d)) q r n)
  | 0 => by
    simp only [Cert.Attn.upto_zero]
    rw [Block.upto_zero]
    dsimp only [first]
    exact Cert.Attn.holds_first (fun j => j ≤ r) r le_rfl (fun j => logit (qr r) (kr (key (512 * q + j.val))))
      (fun j d => kr (key (512 * q + j.val)) (feat d)) (fun j => k0_pay4 x0 (tile x1 q) (ix2 r j)) (fun j => k0_pay6 x0 (tile x1 q) (ix2 r j))
      _ _ _ (fun j d => tile x1 q (ix2 j (feat d)))
      (fun j => by rw [pay4_apply, lg_real x0 x1 qr kr hq hk])
      (max_first x0 x1 q r)
      (fun j => pay6_apply x0 (tile x1 q) r j) (pay7_apply x0 (tile x1 q) r)
      (fun j d => tile_real x1 kr hk q j (feat d)) (fun d => pay8_apply x0 (tile x1 q) r d)
  | n + 1 => by
    simp only [Cert.Attn.upto_succ]
    rw [Block.upto_succ]
    dsimp only [next]
    refine Cert.Attn.holds_next (fun j => logit (qr r) (kr (key (512 * n + j.val))))
      (fun j d => kr (key (512 * n + j.val)) (feat d)) (fun j => k0_pay10 x0 (tile x1 n) (ix2 r j))
      (fun j => k0_pay13 x0 (upto x0 x1 q n).1.1 (tile x1 n) (ix2 r j))
      _ _ _ _ (k0_pay12 x0 (upto x0 x1 q n).1.1 (tile x1 n) (ix2 r (0 : Fin 1))) _ _ (fun j d => tile x1 n (ix2 j (feat d))) _ _ (upto_holds q r n)
      (fun j => by rw [pay10_apply, lg_real x0 x1 qr kr hq hk])
      (max_next x0 x1 n r _)
      (pay12_apply x0 (tile x1 n) _ r) (fun j => pay13_apply x0 (tile x1 n) _ r j)
      (pay15_apply x0 (tile x1 n) _ _ r)
      (fun j d => tile_real x1 kr hk n j (feat d)) (fun d => pay14_apply x0 (tile x1 n) _ _ r d)

include hq hk in
/-- What a grid point writes at `(r, e)`: the attention of the row, projected. -/
theorem block_value (x2 : Vec Ideal S512x128 .f32) (q : ℕ) (hq8 : q < 8) (r : Fin 512) (e : Fin 128) :
    k0_pay1 (upto x0 x1 q q).2 (k0_pay23 (upto x0 x1 q q).1.2) x2 (ix2 r e)
      = ∑ d : Fin 512, ((attn (fun k => logit (qr r) (kr k)) (fun k => kr k (feat d)) (512 * q + r.val) : ℝ) : EReal) * x2 (ix2 d e) := by
  rw [pay1_apply]
  refine Finset.sum_congr rfl fun d _ => ?_
  have H := upto_holds x0 x1 qr kr hq hk q r q
  simp only [Cert.Attn.upto_last _ q hq8] at H
  rw [Cert.Attn.holds_div H (Cert.Attn.total_exp_pos _ _).ne' d]
  rfl

end Cert.KernelIdeal.Row
-- ==== Proof.Answer.lean ====
module

public import proofs.«01_k».proof.Proof.Row

@[expose] public section
noncomputable section
namespace Cert.Answer
open Idealize.ShloMosaic Idealize.ShloMosaic.TcCoe Cert.KernelIdeal.Row
open Cert.Attn (attn)

/-- Column `j` of the projection's values: head `j / 128` keeps its 128 key columns before its 128 value columns. -/
def wcol (j : ℕ) (h : j < 2048) : Fin 4096 := ⟨256 * (j / 128) + 128 + j % 128, by omega⟩

/-- The answer at prompt row `p` and column `j`: causal attention of row `p`'s head over its own prompt's latents, projected. -/
def answer (q : Fin 2 → Fin 4096 → Fin 16 → Fin 576 → ℝ) (k : Fin 2 → Fin 4096 → Fin 576 → ℝ) (w : Fin 512 → Fin 4096 → EReal)
    (p : Fin 8192) (j : Fin 2048) : EReal :=
  ∑ d : Fin 512, ((attn (fun n => logit (q ⟨p.val / 4096, by omega⟩ ⟨p.val % 4096, by omega⟩ ⟨j.val / 128, by omega⟩) (k ⟨p.val / 4096, by omega⟩ n))
    (fun n => k ⟨p.val / 4096, by omega⟩ n (feat d)) (p.val % 4096) : ℝ) : EReal) * w d (wcol j.val j.isLt)

end Cert.Answer
-- ==== Proof.Array.lean ====
module

public import proofs.«01_k».proof.Proof.Answer
public import proofs.«01_k».proof.Proof.Gen.KernelIdeal.Value
public import Idealize.ShloMosaic.Lib.StableHlo.ReadAt

@[expose] public section
set_option maxRecDepth 16384
noncomputable section
namespace Cert.KernelIdeal.Array
open Idealize.ShloMosaic Idealize.ShloMosaic.TcCoe Idealize.SL.Sem Cert.KernelIdeal Cert.KernelIdeal.Gen Cert.KernelIdeal.Block
open Cert.Answer (answer wcol)

variable (m : (ℓ : Loc nD τ sig) → Buf (Elt Ideal) ℓ) (c : Dev nD)
  (q : Fin 2 → Fin 4096 → Fin 16 → Fin 576 → ℝ) (k : Fin 2 → Fin 4096 → Fin 576 → ℝ)
  (hq : ∀ b t h e, (m ((c : Thread nD τ).loc main_arg0) : FVec Ideal S2x4096x16x576 .f32) (ix4 b t h e) = ((q b t h e : ℝ) : EReal))
  (hk : ∀ b t e, (m ((c : Thread nD τ).loc main_arg1) : FVec Ideal S2x4096x576 .f32) (ix3 b t e) = ((k b t e : ℝ) : EReal))

/-- The queries as the grid finds them: head by head, the two prompts one after the other. -/
theorem queries_at (h : Fin 16) (p : Fin 8192) (e : Fin 576) :
    (V m c main_v3 : FVec Ideal S16x8192x576 .bf16) (ix3 h p e)
      = (m ((c : Thread nD τ).loc main_arg0) : FVec Ideal S2x4096x16x576 .f32) (ix4 ⟨p.val / 4096, by omega⟩ ⟨p.val % 4096, by omega⟩ h e) := by
  unfold V
  after_reads_at

theorem latents_at (p : Fin 8192) (e : Fin 576) :
    (V m c main_v4 : FVec Ideal S8192x576 .bf16) (ix2 p e)
      = (m ((c : Thread nD τ).loc main_arg1) : FVec Ideal S2x4096x576 .f32) (ix3 ⟨p.val / 4096, by omega⟩ ⟨p.val % 4096, by omega⟩ e) := by
  unfold V
  after_reads_at

/-- The blocks the windows take at a grid point, and its coordinates. -/
theorem index_0 : ∀ t : Fin grid0.N, win0_0.index t 0 = t.val / 8 % 16 ∧ win0_0.index t 1 = t.val / 128 * 8 + t.val % 8 ∧ win0_0.index t 2 = 0 := by decide +kernel
theorem index_1 : ∀ t : Fin grid0.N, win0_1.index t 0 = t.val / 128 ∧ win0_1.index t 1 = 0 := by decide +kernel
theorem index_2 : ∀ t : Fin grid0.N, win0_2.index t 0 = 0 ∧ win0_2.index t 1 = 2 * (t.val / 8 % 16) + 1 := by decide +kernel
theorem index_3 : ∀ t : Fin grid0.N, win0_3.index t 0 = t.val / 128 * 8 + t.val % 8 ∧ win0_3.index t 1 = t.val / 8 % 16 := by decide +kernel
theorem coord_2 : ∀ t : Fin grid0.N, (grid0.coords t 2).val = t.val % 8 := by decide +kernel

theorem lt_N (t : Fin cfg0.N) : t.val < 256 := lt_of_lt_of_eq t.isLt N_0

include hq in
theorem block_0 (t : Fin cfg0.N) (r : Fin 512) (e : Fin 576) :
    (iblk m c 0 t : Vec Ideal S1x512x576 .bf16) (ix3 (0 : Fin 1) r e)
      = ((q ⟨t.val / 128, by have := lt_N t; omega⟩ ⟨512 * (t.val % 8) + r.val, by omega⟩ ⟨t.val / 8 % 16, by omega⟩ e : ℝ) : EReal) := by
  obtain ⟨h0, h1, h2⟩ := index_0 t
  have ht := lt_N t
  have hix : (iblk m c 0 t : Vec Ideal S1x512x576 .bf16) (ix3 (0 : Fin 1) r e)
      = (V m c main_v3 : FVec Ideal S16x8192x576 .bf16) (ix3 ⟨t.val / 8 % 16, by omega⟩ ⟨(t.val / 128 * 8 + t.val % 8) * 512 + r.val, by omega⟩ e) := by
    unfold iblk
    rw [View.read_apply]
    show V m c main_v3 _ = V m c main_v3 _
    congr 1
    funext a
    apply Fin.ext
    match a with
    | ⟨0, _⟩ => show win0_0.index t 0 * 1 + 1 * 0 = t.val / 8 % 16; rw [h0]; omega
    | ⟨1, _⟩ => show win0_0.index t 1 * 512 + 1 * r.val = (t.val / 128 * 8 + t.val % 8) * 512 + r.val; rw [h1]; omega
    | ⟨2, _⟩ => show win0_0.index t 2 * 576 + 1 * e.val = e.val; rw [h2]; omega
  rw [hix, queries_at, hq]
  congr 3 <;> first | (apply Fin.ext; dsimp only; omega) | (dsimp only; omega)

include hk in
theorem block_1 (t : Fin cfg0.N) (r : Fin 4096) (e : Fin 576) :
    (iblk m c 1 t : Vec Ideal S4096x576 .bf16) (ix2 r e) = ((k ⟨t.val / 128, by have := lt_N t; omega⟩ r e : ℝ) : EReal) := by
  obtain ⟨h0, h1⟩ := index_1 t
  have ht := lt_N t
  have hix : (iblk m c 1 t : Vec Ideal S4096x576 .bf16) (ix2 r e)
      = (V m c main_v4 : FVec Ideal S8192x576 .bf16) (ix2 ⟨t.val / 128 * 4096 + r.val, by omega⟩ e) := by
    unfold iblk
    rw [View.read_apply]
    show V m c main_v4 _ = V m c main_v4 _
    congr 1
    funext a
    apply Fin.ext
    match a with
    | ⟨0, _⟩ => show win0_1.index t 0 * 4096 + 1 * r.val = t.val / 128 * 4096 + r.val; rw [h0]; omega
    | ⟨1, _⟩ => show win0_1.index t 1 * 576 + 1 * e.val = e.val; rw [h1]; omega
  rw [hix, latents_at, hk]
  congr 2 <;> apply Fin.ext <;> dsimp only <;> omega

theorem block_2 (t : Fin cfg0.N) (d : Fin 512) (e : Fin 128) :
    (iblk m c 2 t : Vec Ideal S512x128 .f32) (ix2 d e)
      = (m ((c : Thread nD τ).loc main_arg2) : FVec Ideal S512x4096 .f32) (ix2 d ⟨256 * (t.val / 8 % 16) + 128 + e.val, by omega⟩) := by
  obtain ⟨h0, h1⟩ := index_2 t
  have ht := lt_N t
  unfold iblk
  rw [View.read_apply]
  show V m c main_arg2 _ = _
  rw [V_main_arg2]
  congr 1
  funext a
  apply Fin.ext
  match a with
  | ⟨0, _⟩ => show win0_2.index t 0 * 512 + 1 * d.val = d.val; rw [h0]; omega
  | ⟨1, _⟩ => show win0_2.index t 1 * 128 + 1 * e.val = 256 * (t.val / 8 % 16) + 128 + e.val; rw [h1]; omega

/-- The answer as contents of the result array. -/
def result : FVec Ideal S8192x2048 .bf16 := fun i =>
  answer q k (fun d n => (m ((c : Thread nD τ).loc main_arg2) : FVec Ideal S512x4096 .f32) (ix2 d n)) (i 0) (i 1)

include hq hk in
theorem value_at (t : Fin cfg0.N) (r : Fin 512) (e : Fin 128) :
    (k0_pay1 (upto (iblk m c 0 t : Vec Ideal S1x512x576 .bf16) (iblk m c 1 t : Vec Ideal S4096x576 .bf16) (t.val % 8) (t.val % 8)).2
      (k0_pay23 (upto (iblk m c 0 t : Vec Ideal S1x512x576 .bf16) (iblk m c 1 t : Vec Ideal S4096x576 .bf16) (t.val % 8) (t.val % 8)).1.2)
      (iblk m c 2 t : Vec Ideal S512x128 .f32) : FVec Ideal S512x128 .bf16) (ix2 r e)
    = answer q k (fun d n => (m ((c : Thread nD τ).loc main_arg2) : FVec Ideal S512x4096 .f32) (ix2 d n))
        ⟨(t.val / 128 * 8 + t.val % 8) * 512 + r.val, by have := lt_N t; omega⟩ ⟨t.val / 8 % 16 * 128 + e.val, by omega⟩ := by
  have ht := lt_N t
  rw [Row.block_value _ _ _ _ (block_0 m c q hq t) (block_1 m c k hk t) _ _ (by omega) r e]
  unfold answer
  refine Finset.sum_congr rfl fun d _ => ?_
  rw [block_2]
  have e1 : ((t.val / 128 * 8 + t.val % 8) * 512 + r.val) / 4096 = t.val / 128 := by omega
  have e2 : ((t.val / 128 * 8 + t.val % 8) * 512 + r.val) % 4096 = 512 * (t.val % 8) + r.val := by omega
  have e3 : (t.val / 8 % 16 * 128 + e.val) / 128 = t.val / 8 % 16 := by omega
  have e4 : wcol (t.val / 8 % 16 * 128 + e.val) (by omega) = ⟨256 * (t.val / 8 % 16) + 128 + e.val, by omega⟩ := by
    apply Fin.ext; unfold wcol; dsimp only; omega
  simp only [e1, e2, e3, e4]

/-- The result's blocks are never cut off at the array's edge. -/
theorem cut_whole (t : Fin cfg0.N) (X : Vec Ideal S512x128 .bf16) (r : Fin 512) (e : Fin 128) :
    (cfg0.win 3).cut (grid0.coords t) X (ix2 r e : S512x128.Idx) = X (ix2 r e) := rfl

/-- A block of the result array, at a row and a column. -/
theorem read_at (t : Fin cfg0.N) (G : FVec Ideal S8192x2048 .bf16) (r : Fin 512) (e : Fin 128) :
    ((cfg0.win 3).blk t).view.read (Elt Ideal) G (ix2 r e : S512x128.Idx)
      = G (ix2 ⟨(t.val / 128 * 8 + t.val % 8) * 512 + r.val, by have := lt_N t; omega⟩ ⟨t.val / 8 % 16 * 128 + e.val, by omega⟩) := by
  obtain ⟨h0, h1⟩ := index_3 t
  rw [View.read_apply, cast_eq]
  refine congrArg G (funext fun a => Fin.ext ?_)
  match a with
  | ⟨0, _⟩ => show win0_3.index t 0 * 512 + 1 * r.val = (t.val / 128 * 8 + t.val % 8) * 512 + r.val; rw [h0]; omega
  | ⟨1, _⟩ => show win0_3.index t 1 * 128 + 1 * e.val = t.val / 8 % 16 * 128 + e.val; rw [h1]; omega

include hq hk in
theorem flushed_eq (t : Fin cfg0.N) (_ : (cfg0.win 3).flush t = true) :
    (dats m 0 c).flushed 3 t = ((cfg0.win 3).blk t).view.read (Elt Ideal) (result m c q k) := by
  rw [Value.flushed3_A, out_eq, coord_2 t]
  funext j
  obtain ⟨r, e, rfl⟩ : ∃ (r : Fin 512) (e : Fin 128), (ix2 r e : S512x128.Idx) = j := ⟨j 0, j 1, funext fun a => by
    match a with
    | ⟨0, _⟩ => rfl
    | ⟨1, _⟩ => rfl⟩
  exact (cut_whole t _ r e).trans ((value_at m c q k hq hk t r e).trans (read_at t (result m c q k) r e).symm)

include hq hk in
/-- The result array after the grid: the answer. -/
theorem final : (dats m 0 c).arrAt 3 cfg0.N = result m c q k :=
  (dats m 0 c).arrAt_eq_of_cover 3 (result m c q k) (flushed_eq m c q k hq hk) fun i =>
    ⟨⟨(i 0).val / 4096 * 128 + (i 1).val / 128 * 8 + (i 0).val % 4096 / 512, by
        have h0 : (i 0 : Nat) < 8192 := (i 0).isLt
        have h1 : (i 1 : Nat) < 2048 := (i 1).isLt
        rw [show cfg0.N = 256 from N_0]; omega⟩, flush0_3 _, by
      have h0 : (i 0 : Nat) < 8192 := (i 0).isLt
      have h1 : (i 1 : Nat) < 2048 := (i 1).isLt
      generalize ht : (⟨(i 0).val / 4096 * 128 + (i 1).val / 128 * 8 + (i 0).val % 4096 / 512, _⟩ : Fin cfg0.N) = t
      have hv : t.val = (i 0).val / 4096 * 128 + (i 1).val / 128 * 8 + (i 0).val % 4096 / 512 := by rw [← ht]
      obtain ⟨e0, e1⟩ := index_3 t
      show i ∈ ((View.whole main_v5).slice (win0_3.rect t)).set
      rw [View.set_slice_whole, Rect.mem_set_unit]
      intro a
      match a with
      | ⟨0, _⟩ => show win0_3.index t 0 * 512 ≤ (i 0 : Nat) ∧ (i 0 : Nat) < win0_3.index t 0 * 512 + 512
                  rw [e0]; omega
      | ⟨1, _⟩ => show win0_3.index t 1 * 128 ≤ (i 1 : Nat) ∧ (i 1 : Nat) < win0_3.index t 1 * 128 + 128
                  rw [e1]; omega⟩

end Cert.KernelIdeal.Array
-- ==== Proof.Ref.lean ====
module

public import proofs.«01_k».proof.Proof.Answer
public import proofs.«01_k».proof.Proof.Gen.ReferenceIdeal.Read
public import Idealize.ShloMosaic.Lib.PointwiseCore
public import Idealize.ShloMosaic.Lib.WordCmp

@[expose] public section
set_option maxRecDepth 16384
noncomputable section
namespace Cert.ReferenceIdeal.Read
open Idealize.ShloMosaic Idealize.ShloMosaic.TcCoe Idealize.SL.Sem Cert.ReferenceIdeal Cert.ReferenceIdeal.Gen Cert.KernelIdeal.Row
open Cert.Answer (answer wcol)
open Cert.Attn (attn)

variable (x0 : FVec Ideal S2x4096x16x576 .f32) (x1 : FVec Ideal S2x4096x576 .f32) (x2 : FVec Ideal S512x4096 .f32)
  (q : Fin 2 → Fin 4096 → Fin 16 → Fin 576 → ℝ) (k : Fin 2 → Fin 4096 → Fin 576 → ℝ)
  (hq : ∀ b t h e, x0 (ix4 b t h e) = ((q b t h e : ℝ) : EReal)) (hk : ∀ b t e, x1 (ix3 b t e) = ((k b t e : ℝ) : EReal))

/-- A select on `n ≤ t`, the positions as words. -/
theorem select_at (n t : Fin 4096) (a b : EReal) :
    Scalar.select (IntOp.cmpi .sle (BitVec.ofNat 32 n.val) (BitVec.ofNat 32 t.val)) a b = if n.val ≤ t.val then a else b := by
  rw [WordCmp.cmpi_sle_ofNat (by omega) (by omega)]
  by_cases h : n.val ≤ t.val
  · rw [if_pos h, decide_eq_true h]; rfl
  · rw [if_neg h, decide_eq_false h]; rfl

include hq hk in
theorem score_at (b : Fin 2) (h : Fin 16) (t n : Fin 4096) :
    val_main_v8 (F := Ideal) x0 x1 (ix4 b h t n) = ((logit (q b t h) (k b n) : ℝ) : EReal) := by
  pointwise [val_main_v8, val_main_v7, val_main_cst, val_main_v6, val_main_v5]
  unfold logit
  rw [Consts.ofBits_scale, EReal.coe_mul, ← Cert.Attn.coe_sum]
  congr 1
  refine Finset.sum_congr rfl fun c _ => ?_
  rw [hq, hk, mul_comm, EReal.coe_mul]

theorem masked_at (b : Fin 2) (h : Fin 16) (t n : Fin 4096) :
    val_main_v15 (F := Ideal) x0 x1 (ix4 b h t n) = if n.val ≤ t.val then val_main_v8 (F := Ideal) x0 x1 (ix4 b h t n) else Ideal.ofBits .f32 0xF149F2CA#32 := by
  pointwise [val_main_v15, val_main_call0_v1, val_main_call0_v2, val_main_call0_v0, val_main_cst_0, val_main_v14, val_main_v13, val_main_v12, val_main_v11, val_main_v10, val_main_v9, val_main_v3, val_main_v2]
  exact select_at n t _ _

theorem max_at (b : Fin 2) (h : Fin 16) (t : Fin 4096) :
    val_main_v16 (F := Ideal) x0 x1 (ix3 b h t) = Finset.univ.fold max (FloatOps.ofBits (F := Ideal) .f32 0xFF800000#32) fun n : Fin 4096 => val_main_v15 (F := Ideal) x0 x1 (ix4 b h t n) := by
  pointwise [val_main_v16, val_main_cst_1]

theorem weight_at (b : Fin 2) (h : Fin 16) (t n : Fin 4096) :
    val_main_v21 (F := Ideal) x0 x1 (ix4 b h t n) = if n.val ≤ t.val then Ideal.exp (val_main_v15 (F := Ideal) x0 x1 (ix4 b h t n) - val_main_v16 (F := Ideal) x0 x1 (ix3 b h t)) else 0 := by
  pointwise [val_main_v21, val_main_v20, val_main_v19, val_main_v18, val_main_v17, val_main_call1_v1, val_main_call1_v2, val_main_call1_v0, val_main_cst_2, val_main_v14, val_main_v13, val_main_v12, val_main_v11, val_main_v10, val_main_v9, val_main_v3, val_main_v2]
  rw [select_at, show (id (constant (F := Ideal) S_ .f32 0x00000000#32) ix0 : EReal) = 0 from Ideal.ofBits_zero_f32]

theorem sum_at (b : Fin 2) (h : Fin 16) (t n : Fin 4096) :
    val_main_v26 (F := Ideal) x0 x1 (ix4 b h t n) = max (∑ n : Fin 4096, val_main_v21 (F := Ideal) x0 x1 (ix4 b h t n)) (Ideal.ofBits .f32 0x0DA24260#32) := by
  pointwise [val_main_v26, val_main_v25, val_main_v24, val_main_v23, val_main_v22, val_main_cst_3, val_main_cst_4]

theorem mixed_at (b : Fin 2) (t : Fin 4096) (h : Fin 16) (d : Fin 512) :
    val_main_v29 (F := Ideal) x0 x1 (ix4 b t h d) = ∑ n : Fin 4096, x1 (ix3 b n (feat d)) * Ideal.div (val_main_v21 (F := Ideal) x0 x1 (ix4 b h t n)) (val_main_v26 (F := Ideal) x0 x1 (ix4 b h t n)) := by
  pointwise [val_main_v29, val_main_v28, val_main_v27, val_main_v4]
  rfl

theorem out_at (p : Fin 8192) (j : Fin 2048) :
    val_main_v33 (F := Ideal) x0 x1 x2 (ix2 p j) = ∑ d : Fin 512, x2 (ix2 d (wcol j.val j.isLt))
      * val_main_v29 (F := Ideal) x0 x1 (ix4 ⟨p.val / 4096, by omega⟩ ⟨p.val % 4096, by omega⟩ ⟨j.val / 128, by omega⟩ d) := by
  pointwise [val_main_v33, val_main_v32, val_main_v31, val_main_v30, val_main_v1, val_main_v0]
  refine Finset.sum_congr rfl fun d _ => ?_
  congr 2
  funext a
  match a with
  | ⟨0, _⟩ => rfl
  | ⟨1, _⟩ => apply Fin.ext; show j.val / 128 * 256 + (128 + j.val % 128) = 256 * (j.val / 128) + 128 + j.val % 128; omega

/-- A logit of bounded operands is not below the mask. -/
theorem neg_le_logit (u v : Fin 576 → ℝ) (hu : ∀ c, |u c| ≤ Consts.bound) (hv : ∀ c, |v c| ≤ Consts.bound) : Consts.neg ≤ logit u v := by
  refine Consts.neg_le.trans ?_
  unfold logit
  rw [← neg_mul]
  refine mul_le_mul_of_nonneg_right ?_ Consts.scale_nonneg
  have h : ∀ c ∈ Finset.univ, -(Consts.bound * Consts.bound) ≤ u c * v c := fun c _ => by
    have := mul_le_mul (hu c) (hv c) (abs_nonneg _) ((abs_nonneg _).trans (hu c))
    rw [← abs_mul] at this
    exact (abs_le.1 this).1
  refine le_trans (le_of_eq ?_) (Finset.sum_le_sum h)
  rw [Finset.sum_const, Finset.card_univ, Fintype.card_fin, nsmul_eq_mul]
  push_cast
  ring

include hq hk in
/-- The reference's result is the answer. -/
theorem reference_eq (hqb : ∀ b t h e, |q b t h e| ≤ Consts.bound) (hkb : ∀ b t e, |k b t e| ≤ Consts.bound) (p : Fin 8192) (j : Fin 2048) :
    val_main_v33 (F := Ideal) x0 x1 x2 (ix2 p j) = answer q k (fun d n => x2 (ix2 d n)) p j := by
  rw [out_at]
  unfold answer
  refine Finset.sum_congr rfl fun d _ => ?_
  rw [mul_comm]
  congr 1
  rw [mixed_at]
  simp only [hk]
  simp only [sum_at]
  exact Cert.Attn.ref_row _ (fun n => k _ n (feat d)) _ (by omega) Consts.neg Consts.eps
    (fun n => neg_le_logit _ _ (hqb _ _ _) (hkb _ _)) Consts.eps_le_one
    (fun n => val_main_v15 (F := Ideal) x0 x1 (ix4 _ _ _ n)) _ _ _
    (fun n => by rw [masked_at, score_at x0 x1 q k hq hk, Consts.ofBits_neg])
    ((max_at x0 x1 _ _ _).trans (by rw [start_bot]))
    (fun n => weight_at x0 x1 _ _ _ n)
    (by rw [Consts.ofBits_eps])

end Cert.ReferenceIdeal.Read
-- ==== Proof.Pre.lean ====
module

public import proofs.«01_k».proof.Proof.Consts
public import proofs.«01_k».proof.Proof.Gen.Pre_bounded
public import Idealize.ShloMosaic.Lib.ReduceAll
public import Idealize.ShloMosaic.Lib.Pointwise

@[expose] public section
noncomputable section
namespace Cert.Pre_bounded
open Idealize.ShloMosaic Idealize.ShloMosaic.TcCoe

/-- An entry within the bound is a real number. -/
theorem real_of_abs_le (x : EReal) (h : FloatOps.cmpf (F := Ideal) (φ := .f32) .ole (FloatOps.absf (F := Ideal) (φ := .f32) x) (Ideal.ofBits .f32 0x56B5E621#32) = 1#1) :
    ∃ r : ℝ, x = (r : EReal) ∧ |r| ≤ Consts.bound := by
  rw [Ideal.cmpf_def, Ideal.absf_def, Consts.ofBits_bound] at h
  have hle : max x (-x) ≤ (Consts.bound : EReal) := by
    have h2 : BitVec.ofBool (decide (x ≤ (Consts.bound : EReal)) && decide (-x ≤ (Consts.bound : EReal))) = 1#1 := by simpa [Ideal.cmp] using h
    by_cases h3 : x ≤ (Consts.bound : EReal)
    · by_cases h4 : -x ≤ (Consts.bound : EReal)
      · exact max_le h3 h4
      · simp [h4] at h2
    · simp [h3] at h2
  induction x with
  | bot => simp at hle
  | top => simp at hle
  | coe r =>
    refine ⟨r, rfl, abs_le'.2 ⟨?_, ?_⟩⟩
    · exact_mod_cast (le_max_left _ _).trans hle
    · exact_mod_cast (le_max_right _ _).trans hle

variable (x0 : FVec Ideal S2x4096x16x576 .f32) (x1 : FVec Ideal S2x4096x576 .f32) (x2 : FVec Ideal S512x4096 .f32)

theorem entries (h : ∀ i, fn (F := Ideal) x0 x1 x2 i = 1#1) :
    (∀ i, ∃ r : ℝ, x0 i = (r : EReal) ∧ |r| ≤ Consts.bound) ∧ (∀ i, ∃ r : ℝ, x1 i = (r : EReal) ∧ |r| ≤ Consts.bound) := by
  have h0 := h (fun a => a.elim0)
  unfold fn at h0
  dsimp only at h0
  obtain ⟨ha, hb⟩ := IntOp.andi_eq_one.1 h0
  exact ⟨fun i => real_of_abs_le _ (Host.reduce_andi_all _ _ _ _ _ ha i), fun i => real_of_abs_le _ (Host.reduce_andi_all _ _ _ _ _ hb i)⟩

end Cert.Pre_bounded
-- ==== Proof.Dense.lean ====
module

public import Idealize.ShloMosaic.Lib.Pointwise
public import Idealize.ShloMosaic.Lib.VecWindow
public import Idealize.ShloMosaic.Lib.StableHlo.ReadAt
public import Idealize.ShloMosaic.Lib.Quiescent

@[expose] public section
set_option maxRecDepth 16384
noncomputable section
namespace Cert.Dense
open Idealize.ShloMosaic

/-! The maths of the dense layers, entry by entry: a product of a row with a column, the gated
product of the feed-forward layer, and the normalisation of a row. Every kernel and every reference of a dense layer is compared with these. -/

theorem zero2 : (![0, 0] : Fin 2 → Nat) = fun _ => 0 := funext fun a => by fin_cases a <;> rfl
theorem zero3 : (![0, 0, 0] : Fin 3 → Nat) = fun _ => 0 := funext fun a => by fin_cases a <;> rfl

/-- Row `x` times column `j` of `w`. -/
def dot {k n : ℕ} (x : Fin k → EReal) (w : Fin k → Fin n → EReal) (j : Fin n) : EReal := ∑ i : Fin k, x i * w i j

/-- The first half of the feed-forward layer: `silu` of the gate column times the matching up column. -/
def gated (x : Fin 2048 → EReal) (w : Fin 2048 → Fin 11264 → EReal) (j : Fin 5632) : EReal :=
  dot x w ⟨j.val, by omega⟩ * Ideal.logistic (dot x w ⟨j.val, by omega⟩) * dot x w ⟨5632 + j.val, by omega⟩

/-- A row scaled to unit mean square, then by `g`: `count` is the row's length, `0x358637BD` the small constant that
keeps the root away from zero. -/
def normed {n : ℕ} (count : BitVec 32) (x g : Fin n → EReal) (j : Fin n) : EReal :=
  x j * Ideal.rsqrt (Ideal.div (∑ i : Fin n, x i * x i) (Ideal.ofBits .f32 count) + Ideal.ofBits .f32 0x358637BD#32) * g j

/-- An index of a matrix is its row and its column. -/
theorem ix2_surj {a b : ℕ} (j : Shape.Idx ⟨2, ![a, b]⟩) : ∃ (r : Fin a) (e : Fin b), ix2 r e = j :=
  ⟨j 0, j 1, funext fun x => by
    match x with
    | ⟨0, _⟩ => rfl
    | ⟨1, _⟩ => rfl⟩

end Cert.Dense
-- ==== Proof.FfnIn0.lean ====
module

public import proofs.«01_k».proof.Proof.Dense
public import proofs.«01_k».proof.Proof.Gen.FfnIn0Ideal.Value
public import proofs.«01_k».proof.Proof.Gen.FfnIn0RefIdeal.Run
public import proofs.«01_k».proof.Proof.Gen.FfnIn0RefIdeal.Read

@[expose] public section
set_option maxRecDepth 16384
noncomputable section
namespace Cert.FfnIn0Ideal.Layer
open Idealize.ShloMosaic Idealize.ShloMosaic.TcCoe Idealize.SL.Sem Cert.FfnIn0Ideal Cert.FfnIn0Ideal.Gen
open Cert.Dense (zero2 zero3 dot gated ix2_surj)

/-! ## What one grid point leaves -/

section
variable {F : FTy → Type} [FloatOps F]
variable (c : Dev nD) (i : grid0.Coords)
  (arg2 : Memref sig .tc .vmem S640x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S640x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec F S640x2048 .bf16) (x1 x2 : Vec F S1x2048x512 .f32)

/-- At the first row block of a column block the result is computed from the weights just stored. -/
theorem first_out (hc : cond0_0 i) :
    out0_A_3 c i arg2 harg2 arg3 harg3 arg4 harg4 arg5 harg5 arg6 harg6 arg7 harg7 hc x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg2.read_unread, harg3.read_unread, harg4.read_unread, View.ld_unit_zero (S := S640x2048) zero2,
    View.ld_unit_zero (S := S1x2048x512) zero3]
  exact congrArg₂ (k0_pay3 x0) (View.readCov_full (s := S2048x512) _ _ _ _ _) (View.readCov_full (s := S2048x512) _ _ _ _ _)

/-- There the gate weights are stored, … -/
theorem first_gate (hc : cond0_0 i) :
    sout0_A_0 c i arg2 harg2 arg3 harg3 arg4 harg4 arg5 harg5 arg6 harg6 arg7 harg7 hc x0 x1 x2 = k0_pay1 x1 := by
  unfold sout0_A_0
  rw [View.read_writes_eq_canon _ _ _ (scover0_A_0 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg3.read_unread, View.ld_unit_zero (S := S1x2048x512) zero3]

/-- … and the up weights. -/
theorem first_up (hc : cond0_0 i) :
    sout0_A_1 c i arg2 harg2 arg3 harg3 arg4 harg4 arg5 harg5 arg6 harg6 arg7 harg7 hc x0 x1 x2 = k0_pay2 x2 := by
  unfold sout0_A_1
  rw [View.read_writes_eq_canon _ _ _ (scover0_A_1 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg4.read_unread, View.ld_unit_zero (S := S1x2048x512) zero3]

/-- At a later row block the result is computed from the weights kept. -/
theorem later_out (hc : ¬ cond0_0 i) (g u : Vec F S2048x512 .bf16) :
    out0_B_3 c i arg2 harg2 arg3 harg3 arg4 harg4 arg5 harg5 arg6 harg6 arg7 harg7 hc x0 x1 x2 g u = k0_pay3 x0 g u := by
  unfold out0_B_3
  rw [View.read_writes_eq_canon _ _ _ (cover0_B_3 c i arg2 harg2 arg3 harg3 arg4 harg4 arg5 harg5 arg6 harg6 arg7 harg7 hc x0 x1 x2 g u)]
  unfold kernelRun0_B
  dsimp only
  sl_unfold_words
  rw [View.canon_unit_zero zero2]
  simp only [View.readAt_eq_ld, harg2.read_unread, harg6.read_unread, harg7.read_unread, View.ld_unit_zero (S := S640x2048) zero2,
    View.ld_unit_zero (S := S2048x512) zero2]
end

theorem pay1_at (x1 : Vec Ideal S1x2048x512 .f32) (k : Fin 2048) (e : Fin 512) : k0_pay1 x1 (ix2 k e) = x1 (ix3 (0 : Fin 1) k e) := by
  pointwise [Gen.k0_pay1]

theorem pay2_at (x1 : Vec Ideal S1x2048x512 .f32) (k : Fin 2048) (e : Fin 512) : k0_pay2 x1 (ix2 k e) = x1 (ix3 (0 : Fin 1) k e) := by
  pointwise [Gen.k0_pay2]

theorem pay3_at (x0 : Vec Ideal S640x2048 .bf16) (g u : Vec Ideal S2048x512 .bf16) (r : Fin 640) (e : Fin 512) :
    k0_pay3 x0 g u (ix2 r e)
      = (∑ k : Fin 2048, x0 (ix2 r k) * g (ix2 k e)) * Ideal.logistic (∑ k : Fin 2048, x0 (ix2 r k) * g (ix2 k e))
        * ∑ k : Fin 2048, x0 (ix2 r k) * u (ix2 k e) := by
  pointwise [Gen.k0_pay3]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 11264) : EReal := (m ((c : Thread nD τ).loc main_arg1) : FVec Ideal S4x2048x11264 .f32) (ix3 (0 : Fin 4) k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = 0 ∧ win0_1.index t 2 = t.val / 13 := by decide +kernel
theorem index_2 : ∀ t : Fin grid0.N, win0_2.index t 0 = 0 ∧ win0_2.index t 1 = 0 ∧ win0_2.index t 2 = t.val / 13 + 11 := by decide +kernel
theorem index_3 : ∀ t : Fin grid0.N, win0_3.index t 0 = t.val % 13 ∧ win0_3.index t 1 = t.val / 13 := by decide +kernel

theorem lt_N (t : Fin cfg0.N) : t.val < 143 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S1x2048x512 .f32) (ix3 (0 : Fin 1) k e) = weights m c k ⟨t.val / 13 * 512 + e.val, by have := lt_N t; omega⟩ := by
  obtain ⟨h0, h1, h2⟩ := index_1 t
  unfold iblk
  rw [View.read_apply]
  show V m c main_arg1 _ = _
  rw [V_main_arg1]
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 512 + 1 * e.val = t.val / 13 * 512 + e.val; rw [h2]; omega

theorem block_2 (t : Fin cfg0.N) (k : Fin 2048) (e : Fin 512) :
    (iblk m c 2 t : Vec Ideal S1x2048x512 .f32) (ix3 (0 : Fin 1) k e) = weights m c k ⟨5632 + (t.val / 13 * 512 + e.val), by have := lt_N t; omega⟩ := by
  obtain ⟨h0, h1, h2⟩ := index_2 t
  unfold iblk
  rw [View.read_apply]
  show V m c main_arg1 _ = _
  rw [V_main_arg1]
  refine congrArg _ (funext fun a => Fin.ext ?_)
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 512 + 1 * e.val = 5632 + (t.val / 13 * 512 + e.val); rw [h2]; omega

/-! ## The kept weights: at every point, the two weight blocks of the point's column block -/

theorem kept (n : ℕ) : ∀ (hn : n < cfg0.N) (k : Fin 2048) (e : Fin 512),
    ((outsAt0 m c n hn).2.1 : Vec Ideal S2048x512 .bf16) (ix2 k e) = weights m c k ⟨n / 13 * 512 + e.val, by have := lt_N ⟨n, hn⟩; dsimp only at this; omega⟩
    ∧ ((outsAt0 m c n hn).2.2 : Vec Ideal S2048x512 .bf16) (ix2 k e) = weights m c k ⟨5632 + (n / 13 * 512 + e.val), by have := lt_N ⟨n, hn⟩; dsimp only at this; omega⟩ := by
  induction n with
  | zero =>
    intro hn k e
    rw [outsAt0_A m c ⟨0, hn⟩ rfl]
    dsimp only
    rw [first_gate, first_up, pay1_at, pay2_at]
    exact ⟨block_1 m c ⟨0, hn⟩ k e, block_2 m c ⟨0, hn⟩ k e⟩
  | succ n ih =>
    intro hn k e
    by_cases h : (n + 1) % 13 = 0
    · rw [outsAt0_A m c ⟨n + 1, hn⟩ h]
      dsimp only
      rw [first_gate, first_up, pay1_at, pay2_at]
      exact ⟨block_1 m c ⟨n + 1, hn⟩ k e, block_2 m c ⟨n + 1, hn⟩ k e⟩
    · rw [outsAt0_B m c ⟨n + 1, hn⟩ h]
      have hd : (n + 1) / 13 = n / 13 := by omega
      obtain ⟨i1, i2⟩ := ih (Nat.lt_of_succ_lt hn) k e
      simp only [hd]
      exact ⟨i1, i2⟩

/-- The result as contents of the result array. -/
def result : FVec Ideal S8320x5632 .bf16 := fun i => gated (rows m c (i 0)) (weights m c) (i 1)

/-- What is written at a grid point, from any weights that are the point's. -/
theorem value_at (t : Fin cfg0.N) (g u : Vec Ideal S2048x512 .bf16)
    (hg : ∀ (k : Fin 2048) (e : Fin 512), g (ix2 k e) = weights m c k ⟨t.val / 13 * 512 + e.val, by have := lt_N t; omega⟩)
    (hu : ∀ (k : Fin 2048) (e : Fin 512), u (ix2 k e) = weights m c k ⟨5632 + (t.val / 13 * 512 + e.val), by have := lt_N t; omega⟩)
    (r : Fin 640) (e : Fin 512) :
    k0_pay3 (iblk m c 0 t : Vec Ideal S640x2048 .bf16) g u (ix2 r e)
      = result m c (ix2 ⟨t.val % 13 * 640 + r.val, by omega⟩ ⟨t.val / 13 * 512 + e.val, by have := lt_N t; omega⟩) := by
  rw [pay3_at]
  simp only [block_0, hg, hu]
  rfl

theorem cut_whole (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x5632 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  by_cases h : t.val % 13 = 0
  · rw [Value.flushed3_A m c t h, first_out]
    funext j
    obtain ⟨r, e, rfl⟩ := ix2_surj (a := 640) (b := 512) j
    exact (cut_whole t _ r e).trans ((value_at m c t _ _ (fun k e => (pay1_at _ k e).trans (block_1 m c t k e))
      (fun k e => (pay2_at _ k e).trans (block_2 m c t k e)) r e).trans (read_at t (result m c) r e).symm)
  · rw [Value.flushed3_B m c t h, later_out]
    have hd : (t.val - 1) / 13 = t.val / 13 := by omega
    funext j
    obtain ⟨r, e, rfl⟩ := ix2_surj (a := 640) (b := 512) j
    refine (cut_whole t _ r e).trans ((value_at m c t _ _ (fun k e => ?_) (fun k e => ?_) r e).trans (read_at t (result m c) r e).symm)
    · rw [(kept m c (t.val - 1) _ k e).1]; simp only [hd]
    · rw [(kept m c (t.val - 1) _ k e).2]; simp only [hd]

/-- The result array after the grid. -/
theorem final : (dats m 0 c).arrAt 3 cfg0.N = result m c :=
  (dats m 0 c).arrAt_eq_of_cover 3 (result m c) (flushed_eq m c) fun i => (Value.covered_iff3 i).2 (by
    have h0 : (i 0 : Nat) < 8320 := (i 0).isLt
    have h1 : (i 1 : Nat) < 5632 := (i 1).isLt
    omega)

/-! ## The reference -/

section
open Cert.FfnIn0RefIdeal.Read
theorem reference_at (x0 : FVec Ideal S8320x2048 .f32) (x1 : FVec Ideal S4x2048x11264 .f32) (p : Fin 8320) (j : Fin 5632) :
    val_main_v7 (F := Ideal) x0 x1 (ix2 p j) = gated (fun k => x0 (ix2 p k)) (fun k n => x1 (ix3 (0 : Fin 4) k n)) j := by
  unfold gated dot Ideal.logistic
  pointwise [val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2, val_main_v1, val_main_v0]
end

end Cert.FfnIn0Ideal.Layer
-- ==== Proof.FfnIn1.lean ====
module

public import proofs.«01_k».proof.Proof.Dense
public import proofs.«01_k».proof.Proof.Gen.FfnIn1Ideal.Value
public import proofs.«01_k».proof.Proof.Gen.FfnIn1RefIdeal.Run
public import proofs.«01_k».proof.Proof.Gen.FfnIn1RefIdeal.Read

@[expose] public section
set_option maxRecDepth 16384
noncomputable section
namespace Cert.FfnIn1Ideal.Layer
open Idealize.ShloMosaic Idealize.ShloMosaic.TcCoe Idealize.SL.Sem Cert.FfnIn1Ideal Cert.FfnIn1Ideal.Gen
open Cert.Dense (zero2 zero3 dot gated ix2_surj)

/-! ## What one grid point leaves -/

section
variable {F : FTy → Type} [FloatOps F]
variable (c : Dev nD) (i : grid0.Coords)
  (arg2 : Memref sig .tc .vmem S640x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S640x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec F S640x2048 .bf16) (x1 x2 : Vec F S1x2048x512 .f32)

/-- At the first row block of a column block the result is computed from the weights just stored. -/
theorem first_out (hc : cond0_0 i) :
    out0_A_3 c i arg2 harg2 arg3 harg3 arg4 harg4 arg5 harg5 arg6 harg6 arg7 harg7 hc x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg2.read_unread, harg3.read_unread, harg4.read_unread, View.ld_unit_zero (S := S640x2048) zero2,
    View.ld_unit_zero (S := S1x2048x512) zero3]
  exact congrArg₂ (k0_pay3 x0) (View.readCov_full (s := S2048x512) _ _ _ _ _) (View.readCov_full (s := S2048x512) _ _ _ _ _)

/-- There the gate weights are stored, … -/
theorem first_gate (hc : cond0_0 i) :
    sout0_A_0 c i arg2 harg2 arg3 harg3 arg4 harg4 arg5 harg5 arg6 harg6 arg7 harg7 hc x0 x1 x2 = k0_pay1 x1 := by
  unfold sout0_A_0
  rw [View.read_writes_eq_canon _ _ _ (scover0_A_0 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg3.read_unread, View.ld_unit_zero (S := S1x2048x512) zero3]

/-- … and the up weights. -/
theorem first_up (hc : cond0_0 i) :
    sout0_A_1 c i arg2 harg2 arg3 harg3 arg4 harg4 arg5 harg5 arg6 harg6 arg7 harg7 hc x0 x1 x2 = k0_pay2 x2 := by
  unfold sout0_A_1
  rw [View.read_writes_eq_canon _ _ _ (scover0_A_1 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg4.read_unread, View.ld_unit_zero (S := S1x2048x512) zero3]

/-- At a later row block the result is computed from the weights kept. -/
theorem later_out (hc : ¬ cond0_0 i) (g u : Vec F S2048x512 .bf16) :
    out0_B_3 c i arg2 harg2 arg3 harg3 arg4 harg4 arg5 harg5 arg6 harg6 arg7 harg7 hc x0 x1 x2 g u = k0_pay3 x0 g u := by
  unfold out0_B_3
  rw [View.read_writes_eq_canon _ _ _ (cover0_B_3 c i arg2 harg2 arg3 harg3 arg4 harg4 arg5 harg5 arg6 harg6 arg7 harg7 hc x0 x1 x2 g u)]
  unfold kernelRun0_B
  dsimp only
  sl_unfold_words
  rw [View.canon_unit_zero zero2]
  simp only [View.readAt_eq_ld, harg2.read_unread, harg6.read_unread, harg7.read_unread, View.ld_unit_zero (S := S640x2048) zero2,
    View.ld_unit_zero (S := S2048x512) zero2]
end

theorem pay1_at (x1 : Vec Ideal S1x2048x512 .f32) (k : Fin 2048) (e : Fin 512) : k0_pay1 x1 (ix2 k e) = x1 (ix3 (0 : Fin 1) k e) := by
  pointwise [Gen.k0_pay1]

theorem pay2_at (x1 : Vec Ideal S1x2048x512 .f32) (k : Fin 2048) (e : Fin 512) : k0_pay2 x1 (ix2 k e) = x1 (ix3 (0 : Fin 1) k e) := by
  pointwise [Gen.k0_pay2]

theorem pay3_at (x0 : Vec Ideal S640x2048 .bf16) (g u : Vec Ideal S2048x512 .bf16) (r : Fin 640) (e : Fin 512) :
    k0_pay3 x0 g u (ix2 r e)
      = (∑ k : Fin 2048, x0 (ix2 r k) * g (ix2 k e)) * Ideal.logistic (∑ k : Fin 2048, x0 (ix2 r k) * g (ix2 k e))
        * ∑ k : Fin 2048, x0 (ix2 r k) * u (ix2 k e) := by
  pointwise [Gen.k0_pay3]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 11264) : EReal := (m ((c : Thread nD τ).loc main_arg1) : FVec Ideal S4x2048x11264 .f32) (ix3 (1 : Fin 4) k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 1 ∧ win0_1.index t 1 = 0 ∧ win0_1.index t 2 = t.val / 13 := by decide +kernel
theorem index_2 : ∀ t : Fin grid0.N, win0_2.index t 0 = 1 ∧ win0_2.index t 1 = 0 ∧ win0_2.index t 2 = t.val / 13 + 11 := by decide +kernel
theorem index_3 : ∀ t : Fin grid0.N, win0_3.index t 0 = t.val % 13 ∧ win0_3.index t 1 = t.val / 13 := by decide +kernel

theorem lt_N (t : Fin cfg0.N) : t.val < 143 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S1x2048x512 .f32) (ix3 (0 : Fin 1) k e) = weights m c k ⟨t.val / 13 * 512 + e.val, by have := lt_N t; omega⟩ := by
  obtain ⟨h0, h1, h2⟩ := index_1 t
  unfold iblk
  rw [View.read_apply]
  show V m c main_arg1 _ = _
  rw [V_main_arg1]
  refine congrArg _ (funext fun a => Fin.ext ?_)
  match a with
  | ⟨0, _⟩ => show win0_1.index t 0 * 1 + 1 * 0 = 1; rw [h0]
  | ⟨1, _⟩ => show win0_1.index t 1 * 2048 + 1 * k.val = k.val; rw [h1]; omega
  | ⟨2, _⟩ => show win0_1.index t 2 * 512 + 1 * e.val = t.val / 13 * 512 + e.val; rw [h2]; omega

theorem block_2 (t : Fin cfg0.N) (k : Fin 2048) (e : Fin 512) :
    (iblk m c 2 t : Vec Ideal S1x2048x512 .f32) (ix3 (0 : Fin 1) k e) = weights m c k ⟨5632 + (t.val / 13 * 512 + e.val), by have := lt_N t; omega⟩ := by
  obtain ⟨h0, h1, h2⟩ := index_2 t
  unfold iblk
  rw [View.read_apply]
  show V m c main_arg1 _ = _
  rw [V_main_arg1]
  refine congrArg _ (funext fun a => Fin.ext ?_)
  match a with
  | ⟨0, _⟩ => show win0_2.index t 0 * 1 + 1 * 0 = 1; rw [h0]
  | ⟨1, _⟩ => show win0_2.index t 1 * 2048 + 1 * k.val = k.val; rw [h1]; omega
  | ⟨2, _⟩ => show win0_2.index t 2 * 512 + 1 * e.val = 5632 + (t.val / 13 * 512 + e.val); rw [h2]; omega

/-! ## The kept weights: at every point, the two weight blocks of the point's column block -/

theorem kept (n : ℕ) : ∀ (hn : n < cfg0.N) (k : Fin 2048) (e : Fin 512),
    ((outsAt0 m c n hn).2.1 : Vec Ideal S2048x512 .bf16) (ix2 k e) = weights m c k ⟨n / 13 * 512 + e.val, by have := lt_N ⟨n, hn⟩; dsimp only at this; omega⟩
    ∧ ((outsAt0 m c n hn).2.2 : Vec Ideal S2048x512 .bf16) (ix2 k e) = weights m c k ⟨5632 + (n / 13 * 512 + e.val), by have := lt_N ⟨n, hn⟩; dsimp only at this; omega⟩ := by
  induction n with
  | zero =>
    intro hn k e
    rw [outsAt0_A m c ⟨0, hn⟩ rfl]
    dsimp only
    rw [first_gate, first_up, pay1_at, pay2_at]
    exact ⟨block_1 m c ⟨0, hn⟩ k e, block_2 m c ⟨0, hn⟩ k e⟩
  | succ n ih =>
    intro hn k e
    by_cases h : (n + 1) % 13 = 0
    · rw [outsAt0_A m c ⟨n + 1, hn⟩ h]
      dsimp only
      rw [first_gate, first_up, pay1_at, pay2_at]
      exact ⟨block_1 m c ⟨n + 1, hn⟩ k e, block_2 m c ⟨n + 1, hn⟩ k e⟩
    · rw [outsAt0_B m c ⟨n + 1, hn⟩ h]
      have hd : (n + 1) / 13 = n / 13 := by omega
      obtain ⟨i1, i2⟩ := ih (Nat.lt_of_succ_lt hn) k e
      simp only [hd]
      exact ⟨i1, i2⟩

/-- The result as contents of the result array. -/
def result : FVec Ideal S8320x5632 .bf16 := fun i => gated (rows m c (i 0)) (weights m c) (i 1)

/-- What is written at a grid point, from any weights that are the point's. -/
theorem value_at (t : Fin cfg0.N) (g u : Vec Ideal S2048x512 .bf16)
    (hg : ∀ (k : Fin 2048) (e : Fin 512), g (ix2 k e) = weights m c k ⟨t.val / 13 * 512 + e.val, by have := lt_N t; omega⟩)
    (hu : ∀ (k : Fin 2048) (e : Fin 512), u (ix2 k e) = weights m c k ⟨5632 + (t.val / 13 * 512 + e.val), by have := lt_N t; omega⟩)
    (r : Fin 640) (e : Fin 512) :
    k0_pay3 (iblk m c 0 t : Vec Ideal S640x2048 .bf16) g u (ix2 r e)
      = result m c (ix2 ⟨t.val % 13 * 640 + r.val, by omega⟩ ⟨t.val / 13 * 512 + e.val, by have := lt_N t; omega⟩) := by
  rw [pay3_at]
  simp only [block_0, hg, hu]
  rfl

theorem cut_whole (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x5632 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  by_cases h : t.val % 13 = 0
  · rw [Value.flushed3_A m c t h, first_out]
    funext j
    obtain ⟨r, e, rfl⟩ := ix2_surj (a := 640) (b := 512) j
    exact (cut_whole t _ r e).trans ((value_at m c t _ _ (fun k e => (pay1_at _ k e).trans (block_1 m c t k e))
      (fun k e => (pay2_at _ k e).trans (block_2 m c t k e)) r e).trans (read_at t (result m c) r e).symm)
  · rw [Value.flushed3_B m c t h, later_out]
    have hd : (t.val - 1) / 13 = t.val / 13 := by omega
    funext j
    obtain ⟨r, e, rfl⟩ := ix2_surj (a := 640) (b := 512) j
    refine (cut_whole t _ r e).trans ((value_at m c t _ _ (fun k e => ?_) (fun k e => ?_) r e).trans (read_at t (result m c) r e).symm)
    · rw [(kept m c (t.val - 1) _ k e).1]; simp only [hd]
    · rw [(kept m c (t.val - 1) _ k e).2]; simp only [hd]

/-- The result array after the grid. -/
theorem final : (dats m 0 c).arrAt 3 cfg0.N = result m c :=
  (dats m 0 c).arrAt_eq_of_cover 3 (result m c) (flushed_eq m c) fun i => (Value.covered_iff3 i).2 (by
    have h0 : (i 0 : Nat) < 8320 := (i 0).isLt
    have h1 : (i 1 : Nat) < 5632 := (i 1).isLt
    omega)

/-! ## The reference -/

section
open Cert.FfnIn1RefIdeal.Read
theorem reference_at (x0 : FVec Ideal S8320x2048 .f32) (x1 : FVec Ideal S4x2048x11264 .f32) (p : Fin 8320) (j : Fin 5632) :
    val_main_v7 (F := Ideal) x0 x1 (ix2 p j) = gated (fun k => x0 (ix2 p k)) (fun k n => x1 (ix3 (1 : Fin 4) k n)) j := by
  unfold gated dot Ideal.logistic
  pointwise [val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2, val_main_v1, val_main_v0]
end

end Cert.FfnIn1Ideal.Layer
-- ==== Proof.FfnIn2.lean ====
module

public import proofs.«01_k».proof.Proof.Dense
public import proofs.«01_k».proof.Proof.Gen.FfnIn2Ideal.Value
public import proofs.«01_k».proof.Proof.Gen.FfnIn2RefIdeal.Run
public import proofs.«01_k».proof.Proof.Gen.FfnIn2RefIdeal.Read

@[expose] public section
set_option maxRecDepth 16384
noncomputable section
namespace Cert.FfnIn2Ideal.Layer
open Idealize.ShloMosaic Idealize.ShloMosaic.TcCoe Idealize.SL.Sem Cert.FfnIn2Ideal Cert.FfnIn2Ideal.Gen
open Cert.Dense (zero2 zero3 dot gated ix2_surj)

/-! ## What one grid point leaves -/

section
variable {F : FTy → Type} [FloatOps F]
variable (c : Dev nD) (i : grid0.Coords)
  (arg2 : Memref sig .tc .vmem S640x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S640x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec F S640x2048 .bf16) (x1 x2 : Vec F S1x2048x512 .f32)

/-- At the first row block of a column block the result is computed from the weights just stored. -/
theorem first_out (hc : cond0_0 i) :
    out0_A_3 c i arg2 harg2 arg3 harg3 arg4 harg4 arg5 harg5 arg6 harg6 arg7 harg7 hc x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg2.read_unread, harg3.read_unread, harg4.read_unread, View.ld_unit_zero (S := S640x2048) zero2,
    View.ld_unit_zero (S := S1x2048x512) zero3]
  exact congrArg₂ (k0_pay3 x0) (View.readCov_full (s := S2048x512) _ _ _ _ _) (View.readCov_full (s := S2048x512) _ _ _ _ _)

/-- There the gate weights are stored, … -/
theorem first_gate (hc : cond0_0 i) :
    sout0_A_0 c i arg2 harg2 arg3 harg3 arg4 harg4 arg5 harg5 arg6 harg6 arg7 harg7 hc x0 x1 x2 = k0_pay1 x1 := by
  unfold sout0_A_0
  rw [View.read_writes_eq_canon _ _ _ (scover0_A_0 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg3.read_unread, View.ld_unit_zero (S := S1x2048x512) zero3]

/-- … and the up weights. -/
theorem first_up (hc : cond0_0 i) :
    sout0_A_1 c i arg2 harg2 arg3 harg3 arg4 harg4 arg5 harg5 arg6 harg6 arg7 harg7 hc x0 x1 x2 = k0_pay2 x2 := by
  unfold sout0_A_1
  rw [View.read_writes_eq_canon _ _ _ (scover0_A_1 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg4.read_unread, View.ld_unit_zero (S := S1x2048x512) zero3]

/-- At a later row block the result is computed from the weights kept. -/
theorem later_out (hc : ¬ cond0_0 i) (g u : Vec F S2048x512 .bf16) :
    out0_B_3 c i arg2 harg2 arg3 harg3 arg4 harg4 arg5 harg5 arg6 harg6 arg7 harg7 hc x0 x1 x2 g u = k0_pay3 x0 g u := by
  unfold out0_B_3
  rw [View.read_writes_eq_canon _ _ _ (cover0_B_3 c i arg2 harg2 arg3 harg3 arg4 harg4 arg5 harg5 arg6 harg6 arg7 harg7 hc x0 x1 x2 g u)]
  unfold kernelRun0_B
  dsimp only
  sl_unfold_words
  rw [View.canon_unit_zero zero2]
  simp only [View.readAt_eq_ld, harg2.read_unread, harg6.read_unread, harg7.read_unread, View.ld_unit_zero (S := S640x2048) zero2,
    View.ld_unit_zero (S := S2048x512) zero2]
end

theorem pay1_at (x1 : Vec Ideal S1x2048x512 .f32) (k : Fin 2048) (e : Fin 512) : k0_pay1 x1 (ix2 k e) = x1 (ix3 (0 : Fin 1) k e) := by
  pointwise [Gen.k0_pay1]

theorem pay2_at (x1 : Vec Ideal S1x2048x512 .f32) (k : Fin 2048) (e : Fin 512) : k0_pay2 x1 (ix2 k e) = x1 (ix3 (0 : Fin 1) k e) := by
  pointwise [Gen.k0_pay2]

theorem pay3_at (x0 : Vec Ideal S640x2048 .bf16) (g u : Vec Ideal S2048x512 .bf16) (r : Fin 640) (e : Fin 512) :
    k0_pay3 x0 g u (ix2 r e)
      = (∑ k : Fin 2048, x0 (ix2 r k) * g (ix2 k e)) * Ideal.logistic (∑ k : Fin 2048, x0 (ix2 r k) * g (ix2 k e))
        * ∑ k : Fin 2048, x0 (ix2 r k) * u (ix2 k e) := by
  pointwise [Gen.k0_pay3]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 11264) : EReal := (m ((c : Thread nD τ).loc main_arg1) : FVec Ideal S4x2048x11264 .f32) (ix3 (2 : Fin 4) k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 2 ∧ win0_1.index t 1 = 0 ∧ win0_1.index t 2 = t.val / 13 := by decide +kernel
theorem index_2 : ∀ t : Fin grid0.N, win0_2.index t 0 = 2 ∧ win0_2.index t 1 = 0 ∧ win0_2.index t 2 = t.val / 13 + 11 := by decide +kernel
theorem index_3 : ∀ t : Fin grid0.N, win0_3.index t 0 = t.val % 13 ∧ win0_3.index t 1 = t.val / 13 := by decide +kernel

theorem lt_N (t : Fin cfg0.N) : t.val < 143 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S1x2048x512 .f32) (ix3 (0 : Fin 1) k e) = weights m c k ⟨t.val / 13 * 512 + e.val, by have := lt_N t; omega⟩ := by
  obtain ⟨h0, h1, h2⟩ := index_1 t
  unfold iblk
  rw [View.read_apply]
  show V m c main_arg1 _ = _
  rw [V_main_arg1]
  refine congrArg _ (funext fun a => Fin.ext ?_)
  match a with
  | ⟨0, _⟩ => show win0_1.index t 0 * 1 + 1 * 0 = 2; rw [h0]
  | ⟨1, _⟩ => show win0_1.index t 1 * 2048 + 1 * k.val = k.val; rw [h1]; omega
  | ⟨2, _⟩ => show win0_1.index t 2 * 512 + 1 * e.val = t.val / 13 * 512 + e.val; rw [h2]; omega

theorem block_2 (t : Fin cfg0.N) (k : Fin 2048) (e : Fin 512) :
    (iblk m c 2 t : Vec Ideal S1x2048x512 .f32) (ix3 (0 : Fin 1) k e) = weights m c k ⟨5632 + (t.val / 13 * 512 + e.val), by have := lt_N t; omega⟩ := by
  obtain ⟨h0, h1, h2⟩ := index_2 t
  unfold iblk
  rw [View.read_apply]
  show V m c main_arg1 _ = _
  rw [V_main_arg1]
  refine congrArg _ (funext fun a => Fin.ext ?_)
  match a with
  | ⟨0, _⟩ => show win0_2.index t 0 * 1 + 1 * 0 = 2; rw [h0]
  | ⟨1, _⟩ => show win0_2.index t 1 * 2048 + 1 * k.val = k.val; rw [h1]; omega
  | ⟨2, _⟩ => show win0_2.index t 2 * 512 + 1 * e.val = 5632 + (t.val / 13 * 512 + e.val); rw [h2]; omega

/-! ## The kept weights: at every point, the two weight blocks of the point's column block -/

theorem kept (n : ℕ) : ∀ (hn : n < cfg0.N) (k : Fin 2048) (e : Fin 512),
    ((outsAt0 m c n hn).2.1 : Vec Ideal S2048x512 .bf16) (ix2 k e) = weights m c k ⟨n / 13 * 512 + e.val, by have := lt_N ⟨n, hn⟩; dsimp only at this; omega⟩
    ∧ ((outsAt0 m c n hn).2.2 : Vec Ideal S2048x512 .bf16) (ix2 k e) = weights m c k ⟨5632 + (n / 13 * 512 + e.val), by have := lt_N ⟨n, hn⟩; dsimp only at this; omega⟩ := by
  induction n with
  | zero =>
    intro hn k e
    rw [outsAt0_A m c ⟨0, hn⟩ rfl]
    dsimp only
    rw [first_gate, first_up, pay1_at, pay2_at]
    exact ⟨block_1 m c ⟨0, hn⟩ k e, block_2 m c ⟨0, hn⟩ k e⟩
  | succ n ih =>
    intro hn k e
    by_cases h : (n + 1) % 13 = 0
    · rw [outsAt0_A m c ⟨n + 1, hn⟩ h]
      dsimp only
      rw [first_gate, first_up, pay1_at, pay2_at]
      exact ⟨block_1 m c ⟨n + 1, hn⟩ k e, block_2 m c ⟨n + 1, hn⟩ k e⟩
    · rw [outsAt0_B m c ⟨n + 1, hn⟩ h]
      have hd : (n + 1) / 13 = n / 13 := by omega
      obtain ⟨i1, i2⟩ := ih (Nat.lt_of_succ_lt hn) k e
      simp only [hd]
      exact ⟨i1, i2⟩

/-- The result as contents of the result array. -/
def result : FVec Ideal S8320x5632 .bf16 := fun i => gated (rows m c (i 0)) (weights m c) (i 1)

/-- What is written at a grid point, from any weights that are the point's. -/
theorem value_at (t : Fin cfg0.N) (g u : Vec Ideal S2048x512 .bf16)
    (hg : ∀ (k : Fin 2048) (e : Fin 512), g (ix2 k e) = weights m c k ⟨t.val / 13 * 512 + e.val, by have := lt_N t; omega⟩)
    (hu : ∀ (k : Fin 2048) (e : Fin 512), u (ix2 k e) = weights m c k ⟨5632 + (t.val / 13 * 512 + e.val), by have := lt_N t; omega⟩)
    (r : Fin 640) (e : Fin 512) :
    k0_pay3 (iblk m c 0 t : Vec Ideal S640x2048 .bf16) g u (ix2 r e)
      = result m c (ix2 ⟨t.val % 13 * 640 + r.val, by omega⟩ ⟨t.val / 13 * 512 + e.val, by have := lt_N t; omega⟩) := by
  rw [pay3_at]
  simp only [block_0, hg, hu]
  rfl

theorem cut_whole (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x5632 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  by_cases h : t.val % 13 = 0
  · rw [Value.flushed3_A m c t h, first_out]
    funext j
    obtain ⟨r, e, rfl⟩ := ix2_surj (a := 640) (b := 512) j
    exact (cut_whole t _ r e).trans ((value_at m c t _ _ (fun k e => (pay1_at _ k e).trans (block_1 m c t k e))
      (fun k e => (pay2_at _ k e).trans (block_2 m c t k e)) r e).trans (read_at t (result m c) r e).symm)
  · rw [Value.flushed3_B m c t h, later_out]
    have hd : (t.val - 1) / 13 = t.val / 13 := by omega
    funext j
    obtain ⟨r, e, rfl⟩ := ix2_surj (a := 640) (b := 512) j
    refine (cut_whole t _ r e).trans ((value_at m c t _ _ (fun k e => ?_) (fun k e => ?_) r e).trans (read_at t (result m c) r e).symm)
    · rw [(kept m c (t.val - 1) _ k e).1]; simp only [hd]
    · rw [(kept m c (t.val - 1) _ k e).2]; simp only [hd]

/-- The result array after the grid. -/
theorem final : (dats m 0 c).arrAt 3 cfg0.N = result m c :=
  (dats m 0 c).arrAt_eq_of_cover 3 (result m c) (flushed_eq m c) fun i => (Value.covered_iff3 i).2 (by
    have h0 : (i 0 : Nat) < 8320 := (i 0).isLt
    have h1 : (i 1 : Nat) < 5632 := (i 1).isLt
    omega)

/-! ## The reference -/

section
open Cert.FfnIn2RefIdeal.Read
theorem reference_at (x0 : FVec Ideal S8320x2048 .f32) (x1 : FVec Ideal S4x2048x11264 .f32) (p : Fin 8320) (j : Fin 5632) :
    val_main_v7 (F := Ideal) x0 x1 (ix2 p j) = gated (fun k => x0 (ix2 p k)) (fun k n => x1 (ix3 (2 : Fin 4) k n)) j := by
  unfold gated dot Ideal.logistic
  pointwise [val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2, val_main_v1, val_main_v0]
end

end Cert.FfnIn2Ideal.Layer
-- ==== Proof.FfnIn3.lean ====
module

public import proofs.«01_k».proof.Proof.Dense
public import proofs.«01_k».proof.Proof.Gen.FfnIn3Ideal.Value
public import proofs.«01_k».proof.Proof.Gen.FfnIn3RefIdeal.Run
public import proofs.«01_k».proof.Proof.Gen.FfnIn3RefIdeal.Read

@[expose] public section
set_option maxRecDepth 16384
noncomputable section
namespace Cert.FfnIn3Ideal.Layer
open Idealize.ShloMosaic Idealize.ShloMosaic.TcCoe Idealize.SL.Sem Cert.FfnIn3Ideal Cert.FfnIn3Ideal.Gen
open Cert.Dense (zero2 zero3 dot gated ix2_surj)

/-! ## What one grid point leaves -/

section
variable {F : FTy → Type} [FloatOps F]
variable (c : Dev nD) (i : grid0.Coords)
  (arg2 : Memref sig .tc .vmem S640x2048 .bf16) (harg2 : arg2.IsWhole) (arg3 : Memref sig .tc .vmem S1x2048x512 .f32) (harg3 : arg3.IsWhole)
  (arg4 : Memref sig .tc .vmem S1x2048x512 .f32) (harg4 : arg4.IsWhole) (arg5 : Memref sig .tc .vmem S640x512 .bf16) (harg5 : arg5.IsWhole)
  (arg6 : Memref sig .tc .vmem S2048x512 .bf16) (harg6 : arg6.IsWhole) (arg7 : Memref sig .tc .vmem S2048x512 .bf16) (harg7 : arg7.IsWhole)
  (x0 : Vec F S640x2048 .bf16) (x1 x2 : Vec F S1x2048x512 .f32)

/-- At the first row block of a column block the result is computed from the weights just stored. -/
theorem first_out (hc : cond0_0 i) :
    out0_A_3 c i arg2 harg2 arg3 harg3 arg4 harg4 arg5 harg5 arg6 harg6 arg7 harg7 hc x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg2.read_unread, harg3.read_unread, harg4.read_unread, View.ld_unit_zero (S := S640x2048) zero2,
    View.ld_unit_zero (S := S1x2048x512) zero3]
  exact congrArg₂ (k0_pay3 x0) (View.readCov_full (s := S2048x512) _ _ _ _ _) (View.readCov_full (s := S2048x512) _ _ _ _ _)

/-- There the gate weights are stored, … -/
theorem first_gate (hc : cond0_0 i) :
    sout0_A_0 c i arg2 harg2 arg3 harg3 arg4 harg4 arg5 harg5 arg6 harg6 arg7 harg7 hc x0 x1 x2 = k0_pay1 x1 := by
  unfold sout0_A_0
  rw [View.read_writes_eq_canon _ _ _ (scover0_A_0 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg3.read_unread, View.ld_unit_zero (S := S1x2048x512) zero3]

/-- … and the up weights. -/
theorem first_up (hc : cond0_0 i) :
    sout0_A_1 c i arg2 harg2 arg3 harg3 arg4 harg4 arg5 harg5 arg6 harg6 arg7 harg7 hc x0 x1 x2 = k0_pay2 x2 := by
  unfold sout0_A_1
  rw [View.read_writes_eq_canon _ _ _ (scover0_A_1 c i arg2 harg2 arg3 harg3 arg4 harg4 arg5 harg5 arg6 harg6 arg7 harg7 hc x0 x1 x2)]
  unfold kernelRun0_A
  dsimp only
  sl_unfold_words
  rw [View.canon_unit_zero zero2]
  simp only [View.readAt_eq_ld, harg4.read_unread, View.ld_unit_zero (S := S1x2048x512) zero3]

/-- At a later row block the result is computed from the weights kept. -/
theorem later_out (hc : ¬ cond0_0 i) (g u : Vec F S2048x512 .bf16) :
    out0_B_3 c i arg2 harg2 arg3 harg3 arg4 harg4 arg5 harg5 arg6 harg6 arg7 harg7 hc x0 x1 x2 g u = k0_pay3 x0 g u := by
  unfold out0_B_3
  rw [View.read_writes_eq_canon _ _ _ (cover0_B_3 c i arg2 harg2 arg3 harg3 arg4 harg4 arg5 harg5 arg6 harg6 arg7 harg7 hc x0 x1 x2 g u)]
  unfold kernelRun0_B
  dsimp only
  sl_unfold_words
  rw [View.canon_unit_zero zero2]
  simp only [View.readAt_eq_ld, harg2.read_unread, harg6.read_unread, harg7.read_unread, View.ld_unit_zero (S := S640x2048) zero2,
    View.ld_unit_zero (S := S2048x512) zero2]
end

theorem pay1_at (x1 : Vec Ideal S1x2048x512 .f32) (k : Fin 2048) (e : Fin 512) : k0_pay1 x1 (ix2 k e) = x1 (ix3 (0 : Fin 1) k e) := by
  pointwise [Gen.k0_pay1]

theorem pay2_at (x1 : Vec Ideal S1x2048x512 .f32) (k : Fin 2048) (e : Fin 512) : k0_pay2 x1 (ix2 k e) = x1 (ix3 (0 : Fin 1) k e) := by
  pointwise [Gen.k0_pay2]

theorem pay3_at (x0 : Vec Ideal S640x2048 .bf16) (g u : Vec Ideal S2048x512 .bf16) (r : Fin 640) (e : Fin 512) :
    k0_pay3 x0 g u (ix2 r e)
      = (∑ k : Fin 2048, x0 (ix2 r k) * g (ix2 k e)) * Ideal.logistic (∑ k : Fin 2048, x0 (ix2 r k) * g (ix2 k e))
        * ∑ k : Fin 2048, x0 (ix2 r k) * u (ix2 k e) := by
  pointwise [Gen.k0_pay3]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 11264) : EReal := (m ((c : Thread nD τ).loc main_arg1) : FVec Ideal S4x2048x11264 .f32) (ix3 (3 : Fin 4) k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 3 ∧ win0_1.index t 1 = 0 ∧ win0_1.index t 2 = t.val / 13 := by decide +kernel
theorem index_2 : ∀ t : Fin grid0.N, win0_2.index t 0 = 3 ∧ win0_2.index t 1 = 0 ∧ win0_2.index t 2 = t.val / 13 + 11 := by decide +kernel
theorem index_3 : ∀ t : Fin grid0.N, win0_3.index t 0 = t.val % 13 ∧ win0_3.index t 1 = t.val / 13 := by decide +kernel

theorem lt_N (t : Fin cfg0.N) : t.val < 143 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S1x2048x512 .f32) (ix3 (0 : Fin 1) k e) = weights m c k ⟨t.val / 13 * 512 + e.val, by have := lt_N t; omega⟩ := by
  obtain ⟨h0, h1, h2⟩ := index_1 t
  unfold iblk
  rw [View.read_apply]
  show V m c main_arg1 _ = _
  rw [V_main_arg1]
  refine congrArg _ (funext fun a => Fin.ext ?_)
  match a with
  | ⟨0, _⟩ => show win0_1.index t 0 * 1 + 1 * 0 = 3; rw [h0]
  | ⟨1, _⟩ => show win0_1.index t 1 * 2048 + 1 * k.val = k.val; rw [h1]; omega
  | ⟨2, _⟩ => show win0_1.index t 2 * 512 + 1 * e.val = t.val / 13 * 512 + e.val; rw [h2]; omega

theorem block_2 (t : Fin cfg0.N) (k : Fin 2048) (e : Fin 512) :
    (iblk m c 2 t : Vec Ideal S1x2048x512 .f32) (ix3 (0 : Fin 1) k e) = weights m c k ⟨5632 + (t.val / 13 * 512 + e.val), by have := lt_N t; omega⟩ := by
  obtain ⟨h0, h1, h2⟩ := index_2 t
  unfold iblk
  rw [View.read_apply]
  show V m c main_arg1 _ = _
  rw [V_main_arg1]
  refine congrArg _ (funext fun a => Fin.ext ?_)
  match a with
  | ⟨0, _⟩ => show win0_2.index t 0 * 1 + 1 * 0 = 3; rw [h0]
  | ⟨1, _⟩ => show win0_2.index t 1 * 2048 + 1 * k.val = k.val; rw [h1]; omega
  | ⟨2, _⟩ => show win0_2.index t 2 * 512 + 1 * e.val = 5632 + (t.val / 13 * 512 + e.val); rw [h2]; omega

/-! ## The kept weights: at every point, the two weight blocks of the point's column block -/

theorem kept (n : ℕ) : ∀ (hn : n < cfg0.N) (k : Fin 2048) (e : Fin 512),
    ((outsAt0 m c n hn).2.1 : Vec Ideal S2048x512 .bf16) (ix2 k e) = weights m c k ⟨n / 13 * 512 + e.val, by have := lt_N ⟨n, hn⟩; dsimp only at this; omega⟩
    ∧ ((outsAt0 m c n hn).2.2 : Vec Ideal S2048x512 .bf16) (ix2 k e) = weights m c k ⟨5632 + (n / 13 * 512 + e.val), by have := lt_N ⟨n, hn⟩; dsimp only at this; omega⟩ := by
  induction n with
  | zero =>
    intro hn k e
    rw [outsAt0_A m c ⟨0, hn⟩ rfl]
    dsimp only
    rw [first_gate, first_up, pay1_at, pay2_at]
    exact ⟨block_1 m c ⟨0, hn⟩ k e, block_2 m c ⟨0, hn⟩ k e⟩
  | succ n ih =>
    intro hn k e
    by_cases h : (n + 1) % 13 = 0
    · rw [outsAt0_A m c ⟨n + 1, hn⟩ h]
      dsimp only
      rw [first_gate, first_up, pay1_at, pay2_at]
      exact ⟨block_1 m c ⟨n + 1, hn⟩ k e, block_2 m c ⟨n + 1, hn⟩ k e⟩
    · rw [outsAt0_B m c ⟨n + 1, hn⟩ h]
      have hd : (n + 1) / 13 = n / 13 := by omega
      obtain ⟨i1, i2⟩ := ih (Nat.lt_of_succ_lt hn) k e
      simp only [hd]
      exact ⟨i1, i2⟩

/-- The result as contents of the result array. -/
def result : FVec Ideal S8320x5632 .bf16 := fun i => gated (rows m c (i 0)) (weights m c) (i 1)

/-- What is written at a grid point, from any weights that are the point's. -/
theorem value_at (t : Fin cfg0.N) (g u : Vec Ideal S2048x512 .bf16)
    (hg : ∀ (k : Fin 2048) (e : Fin 512), g (ix2 k e) = weights m c k ⟨t.val / 13 * 512 + e.val, by have := lt_N t; omega⟩)
    (hu : ∀ (k : Fin 2048) (e : Fin 512), u (ix2 k e) = weights m c k ⟨5632 + (t.val / 13 * 512 + e.val), by have := lt_N t; omega⟩)
    (r : Fin 640) (e : Fin 512) :
    k0_pay3 (iblk m c 0 t : Vec Ideal S640x2048 .bf16) g u (ix2 r e)
      = result m c (ix2 ⟨t.val % 13 * 640 + r.val, by omega⟩ ⟨t.val / 13 * 512 + e.val, by have := lt_N t; omega⟩) := by
  rw [pay3_at]
  simp only [block_0, hg, hu]
  rfl

theorem cut_whole (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x5632 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  by_cases h : t.val % 13 = 0
  · rw [Value.flushed3_A m c t h, first_out]
    funext j
    obtain ⟨r, e, rfl⟩ := ix2_surj (a := 640) (b := 512) j
    exact (cut_whole t _ r e).trans ((value_at m c t _ _ (fun k e => (pay1_at _ k e).trans (block_1 m c t k e))
      (fun k e => (pay2_at _ k e).trans (block_2 m c t k e)) r e).trans (read_at t (result m c) r e).symm)
  · rw [Value.flushed3_B m c t h, later_out]
    have hd : (t.val - 1) / 13 = t.val / 13 := by omega
    funext j
    obtain ⟨r, e, rfl⟩ := ix2_surj (a := 640) (b := 512) j
    refine (cut_whole t _ r e).trans ((value_at m c t _ _ (fun k e => ?_) (fun k e => ?_) r e).trans (read_at t (result m c) r e).symm)
    · rw [(kept m c (t.val - 1) _ k e).1]; simp only [hd]
    · rw [(kept m c (t.val - 1) _ k e).2]; simp only [hd]

/-- The result array after the grid. -/
theorem final : (dats m 0 c).arrAt 3 cfg0.N = result m c :=
  (dats m 0 c).arrAt_eq_of_cover 3 (result m c) (flushed_eq m c) fun i => (Value.covered_iff3 i).2 (by
    have h0 : (i 0 : Nat) < 8320 := (i 0).isLt
    have h1 : (i 1 : Nat) < 5632 := (i 1).isLt
    omega)

/-! ## The reference -/

section
open Cert.FfnIn3RefIdeal.Read
theorem reference_at (x0 : FVec Ideal S8320x2048 .f32) (x1 : FVec Ideal S4x2048x11264 .f32) (p : Fin 8320) (j : Fin 5632) :
    val_main_v7 (F := Ideal) x0 x1 (ix2 p j) = gated (fun k => x0 (ix2 p k)) (fun k n => x1 (ix3 (3 : Fin 4) k n)) j := by
  unfold gated dot Ideal.logistic
  pointwise [val_main_v7, val_main_v6, val_main_v5, val_main_v4, val_main_call0_v5, val_main_call0_v4, val_main_call0_cst_0,
    val_main_call0_v3, val_main_call0_v2, val_main_call0_cst, val_main_call0_v1, val_main_call0_v0, val_main_v3, val_main_v2, val_main_v1, val_main_v0]
end

end Cert.FfnIn3Ideal.Layer
-- ==== Proof.FfnOut0.lean ====
module

public import proofs.«01_k».proof.Proof.Dense
public import proofs.«01_k».proof.Proof.Gen.FfnOut0Ideal.Value
public import proofs.«01_k».proof.Proof.Gen.FfnOut0RefIdeal.Run
public import proofs.«01_k».proof.Proof.Gen.FfnOut0RefIdeal.Read

@[expose] public section
set_option maxRecDepth 16384
noncomputable section
namespace Cert.FfnOut0Ideal.Layer
open Idealize.ShloMosaic Idealize.ShloMosaic.TcCoe Idealize.SL.Sem Cert.FfnOut0Ideal Cert.FfnOut0Ideal.Gen
open Cert.Dense (zero2 zero3 dot ix2_surj)

/-! The second feed-forward product of layer 0, with its residual: in row blocks of 640 and column blocks of 512. -/

theorem pay1_at (w : Vec Ideal S1x5632x512 .bf16) (x0 : Vec Ideal S640x5632 .bf16) (x2 : Vec Ideal S640x512 .f32) (r : Fin 640) (e : Fin 512) :
    k0_pay1 w x0 x2 (ix2 r e) = x2 (ix2 r e) + ∑ k : Fin 5632, x0 (ix2 r k) * w (ix3 (0 : Fin 1) k e) := by
  pointwise [Gen.k0_pay1]

/-- What a grid point leaves is computed from its whole blocks. -/
theorem out_eq (x0 : Vec Ideal S640x5632 .bf16) (x1 : Vec Ideal S1x5632x512 .bf16) (x2 : Vec Ideal S640x512 .f32) :
    out0_3 x0 x1 x2 = k0_pay1 x1 x0 x2 := by
  unfold out0_3 r0_0 r0_1 r0_2
  rw [View.canon_unit_zero zero2, View.ld_unit_zero zero3, View.ld_unit_zero zero2, View.ld_unit_zero zero2]

variable (m : (ℓ : Loc nD τ sig) → Buf (Elt Ideal) ℓ) (c : Dev nD)

/-- The rows, the layer's weights and the rows the product is added to, as launched. -/
abbrev rows (p : Fin 8320) (k : Fin 5632) : EReal := (m ((c : Thread nD τ).loc main_arg0) : FVec Ideal S8320x5632 .f32) (ix2 p k)
abbrev weights (k : Fin 5632) (j : Fin 2048) : EReal := (m ((c : Thread nD τ).loc main_arg2) : FVec Ideal S4x5632x2048 .f32) (ix3 (0 : Fin 4) k j)
abbrev added (p : Fin 8320) (j : Fin 2048) : EReal := (m ((c : Thread nD τ).loc main_arg1) : FVec Ideal S8320x2048 .f32) (ix2 p j)

theorem rows_at (p : Fin 8320) (k : Fin 5632) : (V m c main_v0 : FVec Ideal S8320x5632 .bf16) (ix2 p k) = rows m c p k := by
  unfold V
  after_reads_at

theorem weights_at (k : Fin 5632) (j : Fin 2048) :
    (V m c main_v1 : FVec Ideal S4x5632x2048 .bf16) (ix3 (0 : Fin 4) k j) = weights m c k j := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = 0 ∧ win0_1.index t 2 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 52 := lt_of_lt_of_eq t.isLt N_0

theorem block_0 (t : Fin cfg0.N) (r : Fin 640) (k : Fin 5632) :
    (iblk m c 0 t : Vec Ideal S640x5632 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 5632 + 1 * k.val = k.val; rw [h1]; omega

theorem block_1 (t : Fin cfg0.N) (k : Fin 5632) (e : Fin 512) :
    (iblk m c 1 t : Vec Ideal S1x5632x512 .bf16) (ix3 (0 : Fin 1) k e)
      = weights m c k ⟨t.val / 13 * 512 + e.val, by have := lt_N t; omega⟩ := by
  obtain ⟨h0, h1, h2⟩ := index_1 t
  rw [← weights_at]
  unfold iblk
  rw [View.read_apply]
  show V m c main_v1 _ = V m c main_v1 _
  congr 1
  funext a
  apply Fin.ext
  match a with
  | ⟨0, _⟩ => show win0_1.index t 0 * 1 + 1 * 0 = 0; rw [h0]
  | ⟨1, _⟩ => show win0_1.index t 1 * 5632 + 1 * k.val = k.val; rw [h1]; omega
  | ⟨2, _⟩ => show win0_1.index t 2 * 512 + 1 * e.val = t.val / 13 * 512 + e.val; rw [h2]; omega

theorem block_2 (t : Fin cfg0.N) (r : Fin 640) (e : Fin 512) :
    (iblk m c 2 t : Vec Ideal S640x512 .f32) (ix2 r e)
      = added m c ⟨t.val % 13 * 640 + r.val, by omega⟩ ⟨t.val / 13 * 512 + e.val, by have := lt_N t; omega⟩ := by
  obtain ⟨h0, h1⟩ := index_2 t
  unfold iblk
  rw [View.read_apply]
  show V m c main_arg1 _ = _
  rw [V_main_arg1]
  refine congrArg _ (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

/-- The result, entry by entry, and as the contents of the result array. -/
def value (p : Fin 8320) (j : Fin 2048) : EReal := added m c p j + dot (rows m c p) (weights m c) j
def result : FVec Ideal S8320x2048 .f32 := fun i => value m c (i 0) (i 1)

theorem value_at (t : Fin cfg0.N) (r : Fin 640) (e : Fin 512) :
    k0_pay1 (iblk m c 1 t : Vec Ideal S1x5632x512 .bf16) (iblk m c 0 t : Vec Ideal S640x5632 .bf16) (iblk m c 2 t : Vec Ideal S640x512 .f32) (ix2 r e)
      = result m c (ix2 ⟨t.val % 13 * 640 + r.val, by omega⟩ ⟨t.val / 13 * 512 + e.val, by have := lt_N t; omega⟩) := by
  rw [pay1_at]
  simp only [block_0, block_1, block_2]
  rfl

theorem cut_whole (t : Fin cfg0.N) (X : Vec Ideal S640x512 .f32) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x2048 .f32) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  rw [Value.flushed3, out_eq]
  funext j
  obtain ⟨r, e, rfl⟩ := ix2_surj (a := 640) (b := 512) j
  exact (cut_whole t _ r e).trans ((value_at m c t r e).trans (read_at t (result m c) r e).symm)

/-- The result array after the grid. -/
theorem final : (dats m 0 c).arrAt 3 cfg0.N = result m c :=
  (dats m 0 c).arrAt_eq_of_cover 3 (result m c) (flushed_eq m c) fun i =>
    ⟨⟨(i 1).val / 512 * 13 + (i 0).val / 640, by
        have h0 : (i 0 : Nat) < 8320 := (i 0).isLt
        have h1 : (i 1 : Nat) < 2048 := (i 1).isLt
        rw [show cfg0.N = 52 from N_0]; omega⟩, flush0_3 _, by
      have h0 : (i 0 : Nat) < 8320 := (i 0).isLt
      have h1 : (i 1 : Nat) < 2048 := (i 1).isLt
      generalize ht : (⟨(i 1).val / 512 * 13 + (i 0).val / 640, _⟩ : Fin cfg0.N) = t
      have hv : t.val = (i 1).val / 512 * 13 + (i 0).val / 640 := by rw [← ht]
      obtain ⟨e0, e1⟩ := index_3 t
      show i ∈ ((View.whole main_v2).slice (win0_3.rect t)).set
      rw [View.set_slice_whole, Rect.mem_set_unit]
      intro a
      match a with
      | ⟨0, _⟩ => show win0_3.index t 0 * 640 ≤ (i 0 : Nat) ∧ (i 0 : Nat) < win0_3.index t 0 * 640 + 640
                  rw [e0]; omega
      | ⟨1, _⟩ => show win0_3.index t 1 * 512 ≤ (i 1 : Nat) ∧ (i 1 : Nat) < win0_3.index t 1 * 512 + 512
                  rw [e1]; omega⟩

/-! ## The reference -/

section
open Cert.FfnOut0RefIdeal.Read
theorem reference_at (x0 : FVec Ideal S8320x5632 .f32) (x1 : FVec Ideal S8320x2048 .f32) (x2 : FVec Ideal S4x5632x2048 .f32) (p : Fin 8320) (j : Fin 2048) :
    val_main_v3 (F := Ideal) x0 x1 x2 (ix2 p j) = x1 (ix2 p j) + dot (fun k => x0 (ix2 p k)) (fun k n => x2 (ix3 (0 : Fin 4) k n)) j := by
  unfold dot
  pointwise [val_main_v3, val_main_v2, val_main_v1, val_main_v0]
end

end Cert.FfnOut0Ideal.Layer
-- ==== Proof.FfnOut1.lean ====
module

public import proofs.«01_k».proof.Proof.Dense
public import proofs.«01_k».proof.Proof.Gen.FfnOut1Ideal.Value
public import proofs.«01_k».proof.Proof.Gen.FfnOut1RefIdeal.Run
public import proofs.«01_k».proof.Proof.Gen.FfnOut1RefIdeal.Read

@[expose] public section
set_option maxRecDepth 16384
noncomputable section
namespace Cert.FfnOut1Ideal.Layer
open Idealize.ShloMosaic Idealize.ShloMosaic.TcCoe Idealize.SL.Sem Cert.FfnOut1Ideal Cert.FfnOut1Ideal.Gen
open Cert.Dense (zero2 zero3 dot ix2_surj)

/-! The second feed-forward product of layer 1, with its residual: in row blocks of 640 and column blocks of 512. -/

theorem pay1_at (w : Vec Ideal S1x5632x512 .bf16) (x0 : Vec Ideal S640x5632 .bf16) (x2 : Vec Ideal S640x512 .f32) (r : Fin 640) (e : Fin 512) :
    k0_pay1 w x0 x2 (ix2 r e) = x2 (ix2 r e) + ∑ k : Fin 5632, x0 (ix2 r k) * w (ix3 (0 : Fin 1) k e) := by
  pointwise [Gen.k0_pay1]

/-- What a grid point leaves is computed from its whole blocks. -/
theorem out_eq (x0 : Vec Ideal S640x5632 .bf16) (x1 : Vec Ideal S1x5632x512 .bf16) (x2 : Vec Ideal S640x512 .f32) :
    out0_3 x0 x1 x2 = k0_pay1 x1 x0 x2 := by
  unfold out0_3 r0_0 r0_1 r0_2
  rw [View.canon_unit_zero zero2, View.ld_unit_zero zero3, View.ld_unit_zero zero2, View.ld_unit_zero zero2]

variable (m : (ℓ : Loc nD τ sig) → Buf (Elt Ideal) ℓ) (c : Dev nD)

/-- The rows, the layer's weights and the rows the product is added to, as launched. -/
abbrev rows (p : Fin 8320) (k : Fin 5632) : EReal := (m ((c : Thread nD τ).loc main_arg0) : FVec Ideal S8320x5632 .f32) (ix2 p k)
abbrev weights (k : Fin 5632) (j : Fin 2048) : EReal := (m ((c : Thread nD τ).loc main_arg2) : FVec Ideal S4x5632x2048 .f32) (ix3 (1 : Fin 4) k j)
abbrev added (p : Fin 8320) (j : Fin 2048) : EReal := (m ((c : Thread nD τ).loc main_arg1) : FVec Ideal S8320x2048 .f32) (ix2 p j)

theorem rows_at (p : Fin 8320) (k : Fin 5632) : (V m c main_v0 : FVec Ideal S8320x5632 .bf16) (ix2 p k) = rows m c p k := by
  unfold V
  after_reads_at

theorem weights_at (k : Fin 5632) (j : Fin 2048) :
    (V m c main_v1 : FVec Ideal S4x5632x2048 .bf16) (ix3 (1 : Fin 4) k j) = weights m c k j := by
  unfold V
  after_reads_at

theorem index_0 : ∀ t : Fin grid0.N, win0_0.index t 0 = t.val % 13 ∧ win0_0.index t 1 = 0 := by decide +kernel
theorem index_1 : ∀ t : Fin grid0.N, win0_1.index t 0 = 1 ∧ win0_1.index t 1 = 0 ∧ win0_1.index t 2 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 52 := lt_of_lt_of_eq t.isLt N_0

theorem block_0 (t : Fin cfg0.N) (r : Fin 640) (k : Fin 5632) :
    (iblk m c 0 t : Vec Ideal S640x5632 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 5632 + 1 * k.val = k.val; rw [h1]; omega

theorem block_1 (t : Fin cfg0.N) (k : Fin 5632) (e : Fin 512) :
    (iblk m c 1 t : Vec Ideal S1x5632x512 .bf16) (ix3 (0 : Fin 1) k e)
      = weights m c k ⟨t.val / 13 * 512 + e.val, by have := lt_N t; omega⟩ := by
  obtain ⟨h0, h1, h2⟩ := index_1 t
  rw [← weights_at]
  unfold iblk
  rw [View.read_apply]
  show V m c main_v1 _ = V m c main_v1 _
  congr 1
  funext a
  apply Fin.ext
  match a with
  | ⟨0, _⟩ => show win0_1.index t 0 * 1 + 1 * 0 = 1; rw [h0]
  | ⟨1, _⟩ => show win0_1.index t 1 * 5632 + 1 * k.val = k.val; rw [h1]; omega
  | ⟨2, _⟩ => show win0_1.index t 2 * 512 + 1 * e.val = t.val / 13 * 512 + e.val; rw [h2]; omega

theorem block_2 (t : Fin cfg0.N) (r : Fin 640) (e : Fin 512) :
    (iblk m c 2 t : Vec Ideal S640x512 .f32) (ix2 r e)
      = added m c ⟨t.val % 13 * 640 + r.val, by omega⟩ ⟨t.val / 13 * 512 + e.val, by have := lt_N t; omega⟩ := by
  obtain ⟨h0, h1⟩ := index_2 t
  unfold iblk
  rw [View.read_apply]
  show V m c main_arg1 _ = _
  rw [V_main_arg1]
  refine congrArg _ (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

/-- The result, entry by entry, and as the contents of the result array. -/
def value (p : Fin 8320) (j : Fin 2048) : EReal := added m c p j + dot (rows m c p) (weights m c) j
def result : FVec Ideal S8320x2048 .f32 := fun i => value m c (i 0) (i 1)

theorem value_at (t : Fin cfg0.N) (r : Fin 640) (e : Fin 512) :
    k0_pay1 (iblk m c 1 t : Vec Ideal S1x5632x512 .bf16) (iblk m c 0 t : Vec Ideal S640x5632 .bf16) (iblk m c 2 t : Vec Ideal S640x512 .f32) (ix2 r e)
      = result m c (ix2 ⟨t.val % 13 * 640 + r.val, by omega⟩ ⟨t.val / 13 * 512 + e.val, by have := lt_N t; omega⟩) := by
  rw [pay1_at]
  simp only [block_0, block_1, block_2]
  rfl

theorem cut_whole (t : Fin cfg0.N) (X : Vec Ideal S640x512 .f32) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x2048 .f32) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  rw [Value.flushed3, out_eq]
  funext j
  obtain ⟨r, e, rfl⟩ := ix2_surj (a := 640) (b := 512) j
  exact (cut_whole t _ r e).trans ((value_at m c t r e).trans (read_at t (result m c) r e).symm)

/-- The result array after the grid. -/
theorem final : (dats m 0 c).arrAt 3 cfg0.N = result m c :=
  (dats m 0 c).arrAt_eq_of_cover 3 (result m c) (flushed_eq m c) fun i =>
    ⟨⟨(i 1).val / 512 * 13 + (i 0).val / 640, by
        have h0 : (i 0 : Nat) < 8320 := (i 0).isLt
        have h1 : (i 1 : Nat) < 2048 := (i 1).isLt
        rw [show cfg0.N = 52 from N_0]; omega⟩, flush0_3 _, by
      have h0 : (i 0 : Nat) < 8320 := (i 0).isLt
      have h1 : (i 1 : Nat) < 2048 := (i 1).isLt
      generalize ht : (⟨(i 1).val / 512 * 13 + (i 0).val / 640, _⟩ : Fin cfg0.N) = t
      have hv : t.val = (i 1).val / 512 * 13 + (i 0).val / 640 := by rw [← ht]
      obtain ⟨e0, e1⟩ := index_3 t
      show i ∈ ((View.whole main_v2).slice (win0_3.rect t)).set
      rw [View.set_slice_whole, Rect.mem_set_unit]
      intro a
      match a with
      | ⟨0, _⟩ => show win0_3.index t 0 * 640 ≤ (i 0 : Nat) ∧ (i 0 : Nat) < win0_3.index t 0 * 640 + 640
                  rw [e0]; omega
      | ⟨1, _⟩ => show win0_3.index t 1 * 512 ≤ (i 1 : Nat) ∧ (i 1 : Nat) < win0_3.index t 1 * 512 + 512
                  rw [e1]; omega⟩

/-! ## The reference -/

section
open Cert.FfnOut1RefIdeal.Read
theorem reference_at (x0 : FVec Ideal S8320x5632 .f32) (x1 : FVec Ideal S8320x2048 .f32) (x2 : FVec Ideal S4x5632x2048 .f32) (p : Fin 8320) (j : Fin 2048) :
    val_main_v3 (F := Ideal) x0 x1 x2 (ix2 p j) = x1 (ix2 p j) + dot (fun k => x0 (ix2 p k)) (fun k n => x2 (ix3 (1 : Fin 4) k n)) j := by
  unfold dot
  pointwise [val_main_v3, val_main_v2, val_main_v1, val_main_v0]
end

end Cert.FfnOut1Ideal.Layer
-- ==== Proof.FfnOut2.lean ====
module

public import proofs.«01_k».proof.Proof.Dense
public import proofs.«01_k».proof.Proof.Gen.FfnOut2Ideal.Value
public import proofs.«01_k».proof.Proof.Gen.FfnOut2RefIdeal.Run
public import proofs.«01_k».proof.Proof.Gen.FfnOut2RefIdeal.Read

@[expose] public section
set_option maxRecDepth 16384
noncomputable section
namespace Cert.FfnOut2Ideal.Layer
open Idealize.ShloMosaic Idealize.ShloMosaic.TcCoe Idealize.SL.Sem Cert.FfnOut2Ideal Cert.FfnOut2Ideal.Gen
open Cert.Dense (zero2 zero3 dot ix2_surj)

/-! The second feed-forward product of layer 2, with its residual: in row blocks of 640 and column blocks of 512. -/

theorem pay1_at (w : Vec Ideal S1x5632x512 .bf16) (x0 : Vec Ideal S640x5632 .bf16) (x2 : Vec Ideal S640x512 .f32) (r : Fin 640) (e : Fin 512) :
    k0_pay1 w x0 x2 (ix2 r e) = x2 (ix2 r e) + ∑ k : Fin 5632, x0 (ix2 r k) * w (ix3 (0 : Fin 1) k e) := by
  pointwise [Gen.k0_pay1]

/-- What a grid point leaves is computed from its whole blocks. -/
theorem out_eq (x0 : Vec Ideal S640x5632 .bf16) (x1 : Vec Ideal S1x5632x512 .bf16) (x2 : Vec Ideal S640x512 .f32) :
    out0_3 x0 x1 x2 = k0_pay1 x1 x0 x2 := by
  unfold out0_3 r0_0 r0_1 r0_2
  rw [View.canon_unit_zero zero2, View.ld_unit_zero zero3, View.ld_unit_zero zero2, View.ld_unit_zero zero2]

variable (m : (ℓ : Loc nD τ sig) → Buf (Elt Ideal) ℓ) (c : Dev nD)

/-- The rows, the layer's weights and the rows the product is added to, as launched. -/
abbrev rows (p : Fin 8320) (k : Fin 5632) : EReal := (m ((c : Thread nD τ).loc main_arg0) : FVec Ideal S8320x5632 .f32) (ix2 p k)
abbrev weights (k : Fin 5632) (j : Fin 2048) : EReal := (m ((c : Thread nD τ).loc main_arg2) : FVec Ideal S4x5632x2048 .f32) (ix3 (2 : Fin 4) k j)
abbrev added (p : Fin 8320) (j : Fin 2048) : EReal := (m ((c : Thread nD τ).loc main_arg1) : FVec Ideal S8320x2048 .f32) (ix2 p j)

theorem rows_at (p : Fin 8320) (k : Fin 5632) : (V m c main_v0 : FVec Ideal S8320x5632 .bf16) (ix2 p k) = rows m c p k := by
  unfold V
  after_reads_at

theorem weights_at (k : Fin 5632) (j : Fin 2048) :
    (V m c main_v1 : FVec Ideal S4x5632x2048 .bf16) (ix3 (2 : Fin 4) k j) = weights m c k j := by
  unfold V
  after_reads_at

theorem index_0 : ∀ t : Fin grid0.N, win0_0.index t 0 = t.val % 13 ∧ win0_0.index t 1 = 0 := by decide +kernel
theorem index_1 : ∀ t : Fin grid0.N, win0_1.index t 0 = 2 ∧ win0_1.index t 1 = 0 ∧ win0_1.index t 2 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 52 := lt_of_lt_of_eq t.isLt N_0

theorem block_0 (t : Fin cfg0.N) (r : Fin 640) (k : Fin 5632) :
    (iblk m c 0 t : Vec Ideal S640x5632 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 5632 + 1 * k.val = k.val; rw [h1]; omega

theorem block_1 (t : Fin cfg0.N) (k : Fin 5632) (e : Fin 512) :
    (iblk m c 1 t : Vec Ideal S1x5632x512 .bf16) (ix3 (0 : Fin 1) k e)
      = weights m c k ⟨t.val / 13 * 512 + e.val, by have := lt_N t; omega⟩ := by
  obtain ⟨h0, h1, h2⟩ := index_1 t
  rw [← weights_at]
  unfold iblk
  rw [View.read_apply]
  show V m c main_v1 _ = V m c main_v1 _
  congr 1
  funext a
  apply Fin.ext
  match a with
  | ⟨0, _⟩ => show win0_1.index t 0 * 1 + 1 * 0 = 2; rw [h0]
  | ⟨1, _⟩ => show win0_1.index t 1 * 5632 + 1 * k.val = k.val; rw [h1]; omega
  | ⟨2, _⟩ => show win0_1.index t 2 * 512 + 1 * e.val = t.val / 13 * 512 + e.val; rw [h2]; omega

theorem block_2 (t : Fin cfg0.N) (r : Fin 640) (e : Fin 512) :
    (iblk m c 2 t : Vec Ideal S640x512 .f32) (ix2 r e)
      = added m c ⟨t.val % 13 * 640 + r.val, by omega⟩ ⟨t.val / 13 * 512 + e.val, by have := lt_N t; omega⟩ := by
  obtain ⟨h0, h1⟩ := index_2 t
  unfold iblk
  rw [View.read_apply]
  show V m c main_arg1 _ = _
  rw [V_main_arg1]
  refine congrArg _ (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

/-- The result, entry by entry, and as the contents of the result array. -/
def value (p : Fin 8320) (j : Fin 2048) : EReal := added m c p j + dot (rows m c p) (weights m c) j
def result : FVec Ideal S8320x2048 .f32 := fun i => value m c (i 0) (i 1)

theorem value_at (t : Fin cfg0.N) (r : Fin 640) (e : Fin 512) :
    k0_pay1 (iblk m c 1 t : Vec Ideal S1x5632x512 .bf16) (iblk m c 0 t : Vec Ideal S640x5632 .bf16) (iblk m c 2 t : Vec Ideal S640x512 .f32) (ix2 r e)
      = result m c (ix2 ⟨t.val % 13 * 640 + r.val, by omega⟩ ⟨t.val / 13 * 512 + e.val, by have := lt_N t; omega⟩) := by
  rw [pay1_at]
  simp only [block_0, block_1, block_2]
  rfl

theorem cut_whole (t : Fin cfg0.N) (X : Vec Ideal S640x512 .f32) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x2048 .f32) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  rw [Value.flushed3, out_eq]
  funext j
  obtain ⟨r, e, rfl⟩ := ix2_surj (a := 640) (b := 512) j
  exact (cut_whole t _ r e).trans ((value_at m c t r e).trans (read_at t (result m c) r e).symm)

/-- The result array after the grid. -/
theorem final : (dats m 0 c).arrAt 3 cfg0.N = result m c :=
  (dats m 0 c).arrAt_eq_of_cover 3 (result m c) (flushed_eq m c) fun i =>
    ⟨⟨(i 1).val / 512 * 13 + (i 0).val / 640, by
        have h0 : (i 0 : Nat) < 8320 := (i 0).isLt
        have h1 : (i 1 : Nat) < 2048 := (i 1).isLt
        rw [show cfg0.N = 52 from N_0]; omega⟩, flush0_3 _, by
      have h0 : (i 0 : Nat) < 8320 := (i 0).isLt
      have h1 : (i 1 : Nat) < 2048 := (i 1).isLt
      generalize ht : (⟨(i 1).val / 512 * 13 + (i 0).val / 640, _⟩ : Fin cfg0.N) = t
      have hv : t.val = (i 1).val / 512 * 13 + (i 0).val / 640 := by rw [← ht]
      obtain ⟨e0, e1⟩ := index_3 t
      show i ∈ ((View.whole main_v2).slice (win0_3.rect t)).set
      rw [View.set_slice_whole, Rect.mem_set_unit]
      intro a
      match a with
      | ⟨0, _⟩ => show win0_3.index t 0 * 640 ≤ (i 0 : Nat) ∧ (i 0 : Nat) < win0_3.index t 0 * 640 + 640
                  rw [e0]; omega
      | ⟨1, _⟩ => show win0_3.index t 1 * 512 ≤ (i 1 : Nat) ∧ (i 1 : Nat) < win0_3.index t 1 * 512 + 512
                  rw [e1]; omega⟩

/-! ## The reference -/

section
open Cert.FfnOut2RefIdeal.Read
theorem reference_at (x0 : FVec Ideal S8320x5632 .f32) (x1 : FVec Ideal S8320x2048 .f32) (x2 : FVec Ideal S4x5632x2048 .f32) (p : Fin 8320) (j : Fin 2048) :
    val_main_v3 (F := Ideal) x0 x1 x2 (ix2 p j) = x1 (ix2 p j) + dot (fun k => x0 (ix2 p k)) (fun k n => x2 (ix3 (2 : Fin 4) k n)) j := by
  unfold dot
  pointwise [val_main_v3, val_main_v2, val_main_v1, val_main_v0]
end

end Cert.FfnOut2Ideal.Layer
-- ==== Proof.FfnOut3.lean ====
module

public import proofs.«01_k».proof.Proof.Dense
public import proofs.«01_k».proof.Proof.Gen.FfnOut3Ideal.Value
public import proofs.«01_k».proof.Proof.Gen.FfnOut3RefIdeal.Run
public import proofs.«01_k».proof.Proof.Gen.FfnOut3RefIdeal.Read

@[expose] public section
set_option maxRecDepth 16384
noncomputable section
namespace Cert.FfnOut3Ideal.Layer
open Idealize.ShloMosaic Idealize.ShloMosaic.TcCoe Idealize.SL.Sem Cert.FfnOut3Ideal Cert.FfnOut3Ideal.Gen
open Cert.Dense (zero2 zero3 dot ix2_surj)

/-! The second feed-forward product of layer 3, with its residual: in row blocks of 640 and column blocks of 512. -/

theorem pay1_at (w : Vec Ideal S1x5632x512 .bf16) (x0 : Vec Ideal S640x5632 .bf16) (x2 : Vec Ideal S640x512 .f32) (r : Fin 640) (e : Fin 512) :
    k0_pay1 w x0 x2 (ix2 r e) = x2 (ix2 r e) + ∑ k : Fin 5632, x0 (ix2 r k) * w (ix3 (0 : Fin 1) k e) := by
  pointwise [Gen.k0_pay1]

/-- What a grid point leaves is computed from its whole blocks. -/
theorem out_eq (x0 : Vec Ideal S640x5632 .bf16) (x1 : Vec Ideal S1x5632x512 .bf16) (x2 : Vec Ideal S640x512 .f32) :
    out0_3 x0 x1 x2 = k0_pay1 x1 x0 x2 := by
  unfold out0_3 r0_0 r0_1 r0_2
  rw [View.canon_unit_zero zero2, View.ld_unit_zero zero3, View.ld_unit_zero zero2, View.ld_unit_zero zero2]

variable (m : (ℓ : Loc nD τ sig) → Buf (Elt Ideal) ℓ) (c : Dev nD)

/-- The rows, the layer's weights and the rows the product is added to, as launched. -/
abbrev rows (p : Fin 8320) (k : Fin 5632) : EReal := (m ((c : Thread nD τ).loc main_arg0) : FVec Ideal S8320x5632 .f32) (ix2 p k)
abbrev weights (k : Fin 5632) (j : Fin 2048) : EReal := (m ((c : Thread nD τ).loc main_arg2) : FVec Ideal S4x5632x2048 .f32) (ix3 (3 : Fin 4) k j)
abbrev added (p : Fin 8320) (j : Fin 2048) : EReal := (m ((c : Thread nD τ).loc main_arg1) : FVec Ideal S8320x2048 .f32) (ix2 p j)

theorem rows_at (p : Fin 8320) (k : Fin 5632) : (V m c main_v0 : FVec Ideal S8320x5632 .bf16) (ix2 p k) = rows m c p k := by
  unfold V
  after_reads_at

theorem weights_at (k : Fin 5632) (j : Fin 2048) :
    (V m c main_v1 : FVec Ideal S4x5632x2048 .bf16) (ix3 (3 : Fin 4) k j) = weights m c k j := by
  unfold V
  after_reads_at

theorem index_0 : ∀ t : Fin grid0.N, win0_0.index t 0 = t.val % 13 ∧ win0_0.index t 1 = 0 := by decide +kernel
theorem index_1 : ∀ t : Fin grid0.N, win0_1.index t 0 = 3 ∧ win0_1.index t 1 = 0 ∧ win0_1.index t 2 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 52 := lt_of_lt_of_eq t.isLt N_0

theorem block_0 (t : Fin cfg0.N) (r : Fin 640) (k : Fin 5632) :
    (iblk m c 0 t : Vec Ideal S640x5632 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 5632 + 1 * k.val = k.val; rw [h1]; omega

theorem block_1 (t : Fin cfg0.N) (k : Fin 5632) (e : Fin 512) :
    (iblk m c 1 t : Vec Ideal S1x5632x512 .bf16) (ix3 (0 : Fin 1) k e)
      = weights m c k ⟨t.val / 13 * 512 + e.val, by have := lt_N t; omega⟩ := by
  obtain ⟨h0, h1, h2⟩ := index_1 t
  rw [← weights_at]
  unfold iblk
  rw [View.read_apply]
  show V m c main_v1 _ = V m c main_v1 _
  congr 1
  funext a
  apply Fin.ext
  match a with
  | ⟨0, _⟩ => show win0_1.index t 0 * 1 + 1 * 0 = 3; rw [h0]
  | ⟨1, _⟩ => show win0_1.index t 1 * 5632 + 1 * k.val = k.val; rw [h1]; omega
  | ⟨2, _⟩ => show win0_1.index t 2 * 512 + 1 * e.val = t.val / 13 * 512 + e.val; rw [h2]; omega

theorem block_2 (t : Fin cfg0.N) (r : Fin 640) (e : Fin 512) :
    (iblk m c 2 t : Vec Ideal S640x512 .f32) (ix2 r e)
      = added m c ⟨t.val % 13 * 640 + r.val, by omega⟩ ⟨t.val / 13 * 512 + e.val, by have := lt_N t; omega⟩ := by
  obtain ⟨h0, h1⟩ := index_2 t
  unfold iblk
  rw [View.read_apply]
  show V m c main_arg1 _ = _
  rw [V_main_arg1]
  refine congrArg _ (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

/-- The result, entry by entry, and as the contents of the result array. -/
def value (p : Fin 8320) (j : Fin 2048) : EReal := added m c p j + dot (rows m c p) (weights m c) j
def result : FVec Ideal S8320x2048 .f32 := fun i => value m c (i 0) (i 1)

theorem value_at (t : Fin cfg0.N) (r : Fin 640) (e : Fin 512) :
    k0_pay1 (iblk m c 1 t : Vec Ideal S1x5632x512 .bf16) (iblk m c 0 t : Vec Ideal S640x5632 .bf16) (iblk m c 2 t : Vec Ideal S640x512 .f32) (ix2 r e)
      = result m c (ix2 ⟨t.val % 13 * 640 + r.val, by omega⟩ ⟨t.val / 13 * 512 + e.val, by have := lt_N t; omega⟩) := by
  rw [pay1_at]
  simp only [block_0, block_1, block_2]
  rfl

theorem cut_whole (t : Fin cfg0.N) (X : Vec Ideal S640x512 .f32) (r : Fin 640) (e : Fin 512) :
    (cfg0.win 3).cut (grid0.coords t) X (ix2 r e : S640x512.Idx) = X (ix2 r e) := rfl

/-- A block of the result array, at a row and a column. -/
theorem read_at (t : Fin cfg0.N) (G : FVec Ideal S8320x2048 .f32) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq (t : Fin cfg0.N) (_ : (cfg0.win 3).flush t = true) :
    (dats m 0 c).flushed 3 t = ((cfg0.win 3).blk t).view.read (Elt Ideal) (result m c) := by
  rw [Value.flushed3, out_eq]
  funext j
  obtain ⟨r, e, rfl⟩ := ix2_surj (a := 640) (b := 512) j
  exact (cut_whole t _ r e).trans ((value_at m c t r e).trans (read_at t (result m c) r e).symm)

/-- The result array after the grid. -/
theorem final : (dats m 0 c).arrAt 3 cfg0.N = result m c :=
  (dats m 0 c).arrAt_eq_of_cover 3 (result m c) (flushed_eq m c) fun i =>
    ⟨⟨(i 1).val / 512 * 13 + (i 0).val / 640, by
        have h0 : (i 0 : Nat) < 8320 := (i 0).isLt
        have h1 : (i 1 : Nat) < 2048 := (i 1).isLt
        rw [show cfg0.N = 52 from N_0]; omega⟩, flush0_3 _, by
      have h0 : (i 0 : Nat) < 8320 := (i 0).isLt
      have h1 : (i 1 : Nat) < 2048 := (i 1).isLt
      generalize ht : (⟨(i 1).val / 512 * 13 + (i 0).val / 640, _⟩ : Fin cfg0.N) = t
      have hv : t.val = (i 1).val / 512 * 13 + (i 0).val / 640 := by rw [← ht]
      obtain ⟨e0, e1⟩ := index_3 t
      show i ∈ ((View.whole main_v2).slice (win0_3.rect t)).set
      rw [View.set_slice_whole, Rect.mem_set_unit]
      intro a
      match a with
      | ⟨0, _⟩ => show win0_3.index t 0 * 640 ≤ (i 0 : Nat) ∧ (i 0 : Nat) < win0_3.index t 0 * 640 + 640
                  rw [e0]; omega
      | ⟨1, _⟩ => show win0_3.index t 1 * 512 ≤ (i 1 : Nat) ∧ (i 1 : Nat) < win0_3.index t 1 * 512 + 512
                  rw [e1]; omega⟩

/-! ## The reference -/

section
open Cert.FfnOut3RefIdeal.Read
theorem reference_at (x0 : FVec Ideal S8320x5632 .f32) (x1 : FVec Ideal S8320x2048 .f32) (x2 : FVec Ideal S4x5632x2048 .f32) (p : Fin 8320) (j : Fin 2048) :
    val_main_v3 (F := Ideal) x0 x1 x2 (ix2 p j) = x1 (ix2 p j) + dot (fun k => x0 (ix2 p k)) (fun k n => x2 (ix3 (3 : Fin 4) k n)) j := by
  unfold dot
  pointwise [val_main_v3, val_main_v2, val_main_v1, val_main_v0]
end

end Cert.FfnOut3Ideal.Layer
-- ==== Proof.Out.lean ====
module

public import proofs.«01_k».proof.Proof.Dense
public import proofs.«01_k».proof.Proof.Gen.OutIdeal.Value
public import proofs.«01_k».proof.Proof.Gen.OutRefIdeal.Run
public import proofs.«01_k».proof.Proof.Gen.OutRefIdeal.Read

@[expose] public section
set_option maxRecDepth 16384
noncomputable section
namespace Cert.OutIdeal.Layer
open Idealize.ShloMosaic Idealize.ShloMosaic.TcCoe Idealize.SL.Sem Cert.OutIdeal Cert.OutIdeal.Gen
open Cert.Dense (zero2 zero3 dot ix2_surj)

/-! The output projection of a mixer, with its residual: rows of 2048 entries times a matrix of 2048 columns,
in row blocks of 640 and column blocks of 512. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x512 .f32) (harg3 : arg3.IsWhole)
  (arg4 : Memref sig .tc .vmem S640x512 .f32) (harg4 : arg4.IsWhole)
  (arg5 : Memref sig .tc .vmem S640x512 .f32) (harg5 : arg5.IsWhole)
  (arg6 : Memref sig .tc .vmem S2048x512 .bf16) (harg6 : arg6.IsWhole)
  (x0 : Vec F S640x2048 .bf16) (x1 : Vec F S2048x512 .f32) (x2 : Vec F S640x512 .f32)

/-- At the first row block of a column block the result is computed from the weights just stored. -/
theorem first_out3 (hc : cond0_0 i) :
    out0_A_3 c i arg2 harg2 arg3 harg3 arg4 harg4 arg5 harg5 arg6 harg6 hc x0 x1 x2 = k0_pay2 (k0_pay1 x1) x0 x2 := by
  unfold out0_A_3
  rw [View.read_writes_eq_canon _ _ _ (cover0_A_3 c i arg2 harg2 arg3 harg3 arg4 harg4 arg5 harg5 arg6 harg6 hc x0 x1 x2)]
  unfold kernelRun0_A
  dsimp only
  sl_unfold_words
  rw [View.canon_unit_zero zero2]
  simp only [View.readAt_eq_ld, harg2.read_unread, harg3.read_unread, harg4.read_unread, View.ld_unit_zero (S := S640x2048) zero2,
    View.ld_unit_zero (S := S2048x512) zero2, View.ld_unit_zero (S := S640x512) zero2]
  exact congrArg (fun w => k0_pay2 w x0 x2) (View.readCov_full (s := S2048x512) _ _ _ _ _)

/-- At a later row block the result is computed from the weights kept. -/
theorem later_out3 (hc : ¬ cond0_0 i) (g : Vec F S2048x512 .bf16) :
    out0_B_3 c i arg2 harg2 arg3 harg3 arg4 harg4 arg5 harg5 arg6 harg6 hc x0 x1 x2 g = k0_pay2 g x0 x2 := by
  unfold out0_B_3
  rw [View.read_writes_eq_canon _ _ _ (cover0_B_3 c i arg2 harg2 arg3 harg3 arg4 harg4 arg5 harg5 arg6 harg6 hc x0 x1 x2 g)]
  unfold kernelRun0_B
  dsimp only
  sl_unfold_words
  rw [View.canon_unit_zero zero2]
  simp only [View.readAt_eq_ld, harg2.read_unread, harg4.read_unread, harg6.read_unread, View.ld_unit_zero (S := S640x2048) zero2,
    View.ld_unit_zero (S := S2048x512) zero2, View.ld_unit_zero (S := S640x512) zero2]

/-- At the first row block the weights are stored. -/
theorem first_kept (hc : cond0_0 i) :
    sout0_A_0 c i arg2 harg2 arg3 harg3 arg4 harg4 arg5 harg5 arg6 harg6 hc x0 x1 x2 = k0_pay1 x1 := by
  unfold sout0_A_0
  rw [View.read_writes_eq_canon _ _ _ (scover0_A_0 c i arg2 harg2 arg3 harg3 arg4 harg4 arg5 harg5 arg6 harg6 hc x0 x1 x2)]
  unfold kernelRun0_A
  dsimp only
  sl_unfold_words
  rw [View.canon_unit_zero zero2]
  simp only [View.readAt_eq_ld, harg3.read_unread, View.ld_unit_zero (S := S2048x512) zero2]
end

theorem pay1_at (x1 : Vec Ideal S2048x512 .f32) (k : Fin 2048) (e : Fin 512) : k0_pay1 x1 (ix2 k e) = x1 (ix2 k e) := by
  pointwise [Gen.k0_pay1]

theorem pay2_at (g : Vec Ideal S2048x512 .bf16) (x0 : Vec Ideal S640x2048 .bf16) (x2 : Vec Ideal S640x512 .f32) (r : Fin 640) (e : Fin 512) :
    k0_pay2 g x0 x2 (ix2 r e) = x2 (ix2 r e) + ∑ k : Fin 2048, x0 (ix2 r k) * g (ix2 k e) := by
  pointwise [Gen.k0_pay2]

/-! ## The arrays -/

variable (m : (ℓ : Loc nD τ sig) → Buf (Elt Ideal) ℓ) (c : Dev nD)

/-- The rows and the weights as launched, and the rows the product is added to. -/
abbrev rows (p : Fin 8320) (k : Fin 2048) : EReal := (m ((c : Thread nD τ).loc main_arg0) : FVec Ideal S8320x2048 .f32) (ix2 p k)
abbrev weights (k : Fin 2048) (j : Fin 2048) : EReal := (m ((c : Thread nD τ).loc main_arg2) : FVec Ideal S2048x2048 .f32) (ix2 k j)
abbrev added (p : Fin 8320) (j : Fin 2048) : EReal := (m ((c : Thread nD τ).loc main_arg1) : FVec Ideal S8320x2048 .f32) (ix2 p j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 52 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S2048x512 .f32) (ix2 k e) = weights m c k ⟨t.val / 13 * 512 + e.val, by have := lt_N t; omega⟩ := by
  obtain ⟨h0, h1⟩ := index_1 t
  unfold iblk
  rw [View.read_apply]
  show V m c main_arg2 _ = _
  rw [V_main_arg2]
  refine congrArg _ (funext fun a => Fin.ext ?_)
  match a with
  | ⟨0, _⟩ => show win0_1.index t 0 * 2048 + 1 * k.val = k.val; rw [h0]; omega
  | ⟨1, _⟩ => show win0_1.index t 1 * 512 + 1 * e.val = t.val / 13 * 512 + e.val; rw [h1]; omega

theorem block_2 (t : Fin cfg0.N) (r : Fin 640) (e : Fin 512) :
    (iblk m c 2 t : Vec Ideal S640x512 .f32) (ix2 r e)
      = added m c ⟨t.val % 13 * 640 + r.val, by omega⟩ ⟨t.val / 13 * 512 + e.val, by have := lt_N t; omega⟩ := by
  obtain ⟨h0, h1⟩ := index_2 t
  unfold iblk
  rw [View.read_apply]
  show V m c main_arg1 _ = _
  rw [V_main_arg1]
  refine congrArg _ (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

/-! ## The kept weights: at every point, the weight block of the point's column block -/

theorem kept (n : ℕ) : ∀ (hn : n < cfg0.N) (k : Fin 2048) (e : Fin 512),
    ((outsAt0 m c n hn).2 : Vec Ideal S2048x512 .bf16) (ix2 k e)
      = weights m c k ⟨n / 13 * 512 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 2048) : EReal := added m c p j + dot (rows m c p) (weights m c) j

/-- The result as contents of result array 0. -/
def result3 : FVec Ideal S8320x2048 .f32 := fun i => value m c (i 0) (i 1)

/-- What is written there at a grid point, from any weights that are the point's. -/
theorem value_at3 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay2 g (iblk m c 0 t : Vec Ideal S640x2048 .bf16) (iblk m c 2 t : Vec Ideal S640x512 .f32) (ix2 r e)
      = result3 m c (ix2 ⟨t.val % 13 * 640 + r.val, by omega⟩ ⟨t.val / 13 * 512 + e.val, by have := lt_N t; omega⟩) := by
  rw [pay2_at]
  simp only [block_0, block_2, hg]
  rfl

theorem cut_whole3 (t : Fin cfg0.N) (X : Vec Ideal S640x512 .f32) (r : Fin 640) (e : Fin 512) :
    (cfg0.win 3).cut (grid0.coords t) X (ix2 r e : S640x512.Idx) = X (ix2 r e) := rfl

/-- A block of the result array, at a row and a column. -/
theorem read_at3 (t : Fin cfg0.N) (G : FVec Ideal S8320x2048 .f32) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq3 (t : Fin cfg0.N) (_ : (cfg0.win 3).flush t = true) :
    (dats m 0 c).flushed 3 t = ((cfg0.win 3).blk t).view.read (Elt Ideal) (result3 m c) := by
  by_cases h : t.val % 13 = 0
  · rw [Value.flushed3_A m c t h, first_out3]
    funext j
    obtain ⟨r, e, rfl⟩ := ix2_surj (a := 640) (b := 512) j
    exact (cut_whole3 t _ r e).trans ((value_at3 m c t _ (fun k e => (pay1_at _ k e).trans (block_1 m c t k e)) r e).trans
      (read_at3 t (result3 m c) r e).symm)
  · rw [Value.flushed3_B m c t h, later_out3]
    have hd : (t.val - 1) / 13 = t.val / 13 := by omega
    funext j
    obtain ⟨r, e, rfl⟩ := ix2_surj (a := 640) (b := 512) j
    refine (cut_whole3 t _ r e).trans ((value_at3 m c t _ (fun k e => ?_) r e).trans (read_at3 t (result3 m c) r e).symm)
    rw [kept m c (t.val - 1) _ k e]; simp only [hd]

/-- The result array after the grid. -/
theorem final3 : (dats m 0 c).arrAt 3 cfg0.N = result3 m c :=
  (dats m 0 c).arrAt_eq_of_cover 3 (result3 m c) (flushed_eq3 m c) fun i => (Value.covered_iff3 i).2 (by
    have h0 : (i 0 : Nat) < 8320 := (i 0).isLt
    have h1 : (i 1 : Nat) < 2048 := (i 1).isLt
    omega)

/-! ## The reference -/

section
open Cert.OutRefIdeal.Read
theorem reference_at (x0 : FVec Ideal S8320x2048 .f32) (x1 : FVec Ideal S8320x2048 .f32) (x2 : FVec Ideal S2048x2048 .f32) (p : Fin 8320) (j : Fin 2048) :
    val_main_v1 (F := Ideal) x0 x1 x2 (ix2 p j) = x1 (ix2 p j) + dot (fun k => x0 (ix2 p k)) (fun k n => x2 (ix2 k n)) j := by
  unfold dot
  pointwise [val_main_v1, val_main_v0]
end

end Cert.OutIdeal.Layer
-- ==== Proof.QkvA.lean ====
module

public import proofs.«01_k».proof.Proof.Dense
public import proofs.«01_k».proof.Proof.Gen.QkvAIdeal.Value
public import proofs.«01_k».proof.Proof.Gen.QkvARefIdeal.Run
public import proofs.«01_k».proof.Proof.Gen.QkvARefIdeal.Read

@[expose] public section
set_option maxRecDepth 16384
noncomputable section
namespace Cert.QkvAIdeal.Layer
open Idealize.ShloMosaic Idealize.ShloMosaic.TcCoe Idealize.SL.Sem Cert.QkvAIdeal Cert.QkvAIdeal.Gen
open Cert.Dense (zero2 zero3 dot ix2_surj)

/-! The query, key and value projection of layer 0: rows of 2048 entries times a matrix of 2560 columns,
in row blocks of 640 and column blocks of 512. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x512 .f32) (harg3 : arg3.IsWhole)
  (arg4 : Memref sig .tc .vmem S640x512 .f32) (harg4 : arg4.IsWhole)
  (arg5 : Memref sig .tc .vmem S640x512 .bf16) (harg5 : arg5.IsWhole)
  (arg6 : Memref sig .tc .vmem S2048x512 .bf16) (harg6 : arg6.IsWhole)
  (x0 : Vec F S640x2048 .bf16) (x1 : Vec F S2048x512 .f32)

/-- At the first row block of a column block the result is computed from the weights just stored. -/
theorem first_out2 (hc : cond0_0 i) :
    out0_A_2 c i arg2 harg2 arg3 harg3 arg4 harg4 arg5 harg5 arg6 harg6 hc x0 x1 = k0_pay2 (k0_pay1 x1) x0 := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x512) zero2]
  exact congrArg (fun w => k0_pay2 w x0) (View.readCov_full (s := S2048x512) _ _ _ _ _)

/-- At a later row block the result is computed from the weights kept. -/
theorem later_out2 (hc : ¬ cond0_0 i) (g : Vec F S2048x512 .bf16) :
    out0_B_2 c i arg2 harg2 arg3 harg3 arg4 harg4 arg5 harg5 arg6 harg6 hc x0 x1 g = k0_pay2 g x0 := by
  unfold out0_B_2
  rw [View.read_writes_eq_canon _ _ _ (cover0_B_2 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x512) zero2]

/-- At the first row block of a column block the result is computed from the weights just stored. -/
theorem first_out3 (hc : cond0_0 i) :
    out0_A_3 c i arg2 harg2 arg3 harg3 arg4 harg4 arg5 harg5 arg6 harg6 hc x0 x1 = k0_pay3 (k0_pay1 x1) x0 := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x512) zero2]
  exact congrArg (fun w => k0_pay3 w x0) (View.readCov_full (s := S2048x512) _ _ _ _ _)

/-- At a later row block the result is computed from the weights kept. -/
theorem later_out3 (hc : ¬ cond0_0 i) (g : Vec F S2048x512 .bf16) :
    out0_B_3 c i arg2 harg2 arg3 harg3 arg4 harg4 arg5 harg5 arg6 harg6 hc x0 x1 g = k0_pay3 g x0 := by
  unfold out0_B_3
  rw [View.read_writes_eq_canon _ _ _ (cover0_B_3 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x512) zero2]

/-- At the first row block the weights are stored. -/
theorem first_kept (hc : cond0_0 i) :
    sout0_A_0 c i arg2 harg2 arg3 harg3 arg4 harg4 arg5 harg5 arg6 harg6 hc x0 x1 = k0_pay1 x1 := by
  unfold sout0_A_0
  rw [View.read_writes_eq_canon _ _ _ (scover0_A_0 c i arg2 harg2 arg3 harg3 arg4 harg4 arg5 harg5 arg6 harg6 hc x0 x1)]
  unfold kernelRun0_A
  dsimp only
  sl_unfold_words
  rw [View.canon_unit_zero zero2]
  simp only [View.readAt_eq_ld, harg3.read_unread, View.ld_unit_zero (S := S2048x512) zero2]
end

theorem pay1_at (x1 : Vec Ideal S2048x512 .f32) (k : Fin 2048) (e : Fin 512) : k0_pay1 x1 (ix2 k e) = x1 (ix2 k e) := by
  pointwise [Gen.k0_pay1]

theorem pay2_at (g : Vec Ideal S2048x512 .bf16) (x0 : Vec Ideal S640x2048 .bf16) (r : Fin 640) (e : Fin 512) :
    k0_pay2 g x0 (ix2 r e) = ∑ k : Fin 2048, x0 (ix2 r k) * g (ix2 k e) := by
  pointwise [Gen.k0_pay2]

theorem pay3_at (g : Vec Ideal S2048x512 .bf16) (x0 : Vec Ideal S640x2048 .bf16) (r : Fin 640) (e : Fin 512) :
    k0_pay3 g x0 (ix2 r e) = ∑ k : Fin 2048, x0 (ix2 r k) * g (ix2 k e) := by
  pointwise [Gen.k0_pay3, Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 2560) : EReal := (m ((c : Thread nD τ).loc main_arg1) : FVec Ideal S2048x2560 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 65 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S2048x512 .f32) (ix2 k e) = weights m c k ⟨t.val / 13 * 512 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 512 + 1 * e.val = t.val / 13 * 512 + e.val; rw [h1]; omega

/-! ## The kept weights: at every point, the weight block of the point's column block -/

theorem kept (n : ℕ) : ∀ (hn : n < cfg0.N) (k : Fin 2048) (e : Fin 512),
    ((outsAt0 m c n hn).2.2 : Vec Ideal S2048x512 .bf16) (ix2 k e)
      = weights m c k ⟨n / 13 * 512 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 2560) : EReal := dot (rows m c p) (weights m c) j

/-- The result as contents of result array 0. -/
def result2 : FVec Ideal S8320x2560 .f32 := fun i => value m c (i 0) (i 1)

/-- What is written there at a grid point, from any weights that are the point's. -/
theorem value_at2 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay2 g (iblk m c 0 t : Vec Ideal S640x2048 .bf16) (ix2 r e)
      = result2 m c (ix2 ⟨t.val % 13 * 640 + r.val, by omega⟩ ⟨t.val / 13 * 512 + e.val, by have := lt_N t; omega⟩) := by
  rw [pay2_at]
  simp only [block_0, hg]
  rfl

theorem cut_whole2 (t : Fin cfg0.N) (X : Vec Ideal S640x512 .f32) (r : Fin 640) (e : Fin 512) :
    (cfg0.win 2).cut (grid0.coords t) X (ix2 r e : S640x512.Idx) = X (ix2 r e) := rfl

/-- A block of the result array, at a row and a column. -/
theorem read_at2 (t : Fin cfg0.N) (G : FVec Ideal S8320x2560 .f32) (r : Fin 640) (e : Fin 512) :
    ((cfg0.win 2).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 512) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 512) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 2560 := (i 1).isLt
    omega)

/-- The result as contents of result array 1. -/
def result3 : FVec Ideal S8320x2560 .bf16 := fun i => value m c (i 0) (i 1)

/-- What is written there at a grid point, from any weights that are the point's. -/
theorem value_at3 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay3 g (iblk m c 0 t : Vec Ideal S640x2048 .bf16) (ix2 r e)
      = result3 m c (ix2 ⟨t.val % 13 * 640 + r.val, by omega⟩ ⟨t.val / 13 * 512 + e.val, by have := lt_N t; omega⟩) := by
  rw [pay3_at]
  simp only [block_0, hg]
  rfl

theorem cut_whole3 (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at3 (t : Fin cfg0.N) (G : FVec Ideal S8320x2560 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq3 (t : Fin cfg0.N) (_ : (cfg0.win 3).flush t = true) :
    (dats m 0 c).flushed 3 t = ((cfg0.win 3).blk t).view.read (Elt Ideal) (result3 m c) := by
  by_cases h : t.val % 13 = 0
  · rw [Value.flushed3_A m c t h, first_out3]
    funext j
    obtain ⟨r, e, rfl⟩ := ix2_surj (a := 640) (b := 512) j
    exact (cut_whole3 t _ r e).trans ((value_at3 m c t _ (fun k e => (pay1_at _ k e).trans (block_1 m c t k e)) r e).trans
      (read_at3 t (result3 m c) r e).symm)
  · rw [Value.flushed3_B m c t h, later_out3]
    have hd : (t.val - 1) / 13 = t.val / 13 := by omega
    funext j
    obtain ⟨r, e, rfl⟩ := ix2_surj (a := 640) (b := 512) j
    refine (cut_whole3 t _ r e).trans ((value_at3 m c t _ (fun k e => ?_) r e).trans (read_at3 t (result3 m c) r e).symm)
    rw [kept m c (t.val - 1) _ k e]; simp only [hd]

/-- The result array after the grid. -/
theorem final3 : (dats m 0 c).arrAt 3 cfg0.N = result3 m c :=
  (dats m 0 c).arrAt_eq_of_cover 3 (result3 m c) (flushed_eq3 m c) fun i => (Value.covered_iff3 i).2 (by
    have h0 : (i 0 : Nat) < 8320 := (i 0).isLt
    have h1 : (i 1 : Nat) < 2560 := (i 1).isLt
    omega)

/-! ## The reference -/

section
open Cert.QkvARefIdeal.Read
theorem reference_at (x0 : FVec Ideal S8320x2048 .f32) (x1 : FVec Ideal S2048x2560 .f32) (p : Fin 8320) (j : Fin 2560) :
    val_main_v0 (F := Ideal) x0 x1 (ix2 p j) = dot (fun k => x0 (ix2 p k)) (fun k n => x1 (ix2 k n)) j := by
  unfold dot
  pointwise [val_main_v0]

theorem reference_copy_at (x0 : FVec Ideal S8320x2048 .f32) (x1 : FVec Ideal S2048x2560 .f32) (p : Fin 8320) (j : Fin 2560) :
    val_main_v1 (F := Ideal) x0 x1 (ix2 p j) = dot (fun k => x0 (ix2 p k)) (fun k n => x1 (ix2 k n)) j := by
  unfold dot
  pointwise [val_main_v1, val_main_v0]
end

end Cert.QkvAIdeal.Layer
-- ==== Proof.QkvB.lean ====
module

public import proofs.«01_k».proof.Proof.Dense
public import proofs.«01_k».proof.Proof.Gen.QkvBIdeal.Value
public import proofs.«01_k».proof.Proof.Gen.QkvBRefIdeal.Run
public import proofs.«01_k».proof.Proof.Gen.QkvBRefIdeal.Read

@[expose] public section
set_option maxRecDepth 16384
noncomputable section
namespace Cert.QkvBIdeal.Layer
open Idealize.ShloMosaic Idealize.ShloMosaic.TcCoe Idealize.SL.Sem Cert.QkvBIdeal Cert.QkvBIdeal.Gen
open Cert.Dense (zero2 zero3 dot ix2_surj)

/-! The query, key and value projection of layer 1: rows of 2048 entries times a matrix of 9216 columns,
in row blocks of 640 and column blocks of 512. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x512 .f32) (harg3 : arg3.IsWhole)
  (arg4 : Memref sig .tc .vmem S640x512 .f32) (harg4 : arg4.IsWhole)
  (arg5 : Memref sig .tc .vmem S640x512 .bf16) (harg5 : arg5.IsWhole)
  (arg6 : Memref sig .tc .vmem S2048x512 .bf16) (harg6 : arg6.IsWhole)
  (x0 : Vec F S640x2048 .bf16) (x1 : Vec F S2048x512 .f32)

/-- At the first row block of a column block the result is computed from the weights just stored. -/
theorem first_out2 (hc : cond0_0 i) :
    out0_A_2 c i arg2 harg2 arg3 harg3 arg4 harg4 arg5 harg5 arg6 harg6 hc x0 x1 = k0_pay2 (k0_pay1 x1) x0 := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x512) zero2]
  exact congrArg (fun w => k0_pay2 w x0) (View.readCov_full (s := S2048x512) _ _ _ _ _)

/-- At a later row block the result is computed from the weights kept. -/
theorem later_out2 (hc : ¬ cond0_0 i) (g : Vec F S2048x512 .bf16) :
    out0_B_2 c i arg2 harg2 arg3 harg3 arg4 harg4 arg5 harg5 arg6 harg6 hc x0 x1 g = k0_pay2 g x0 := by
  unfold out0_B_2
  rw [View.read_writes_eq_canon _ _ _ (cover0_B_2 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x512) zero2]

/-- At the first row block of a column block the result is computed from the weights just stored. -/
theorem first_out3 (hc : cond0_0 i) :
    out0_A_3 c i arg2 harg2 arg3 harg3 arg4 harg4 arg5 harg5 arg6 harg6 hc x0 x1 = k0_pay3 (k0_pay1 x1) x0 := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x512) zero2]
  exact congrArg (fun w => k0_pay3 w x0) (View.readCov_full (s := S2048x512) _ _ _ _ _)

/-- At a later row block the result is computed from the weights kept. -/
theorem later_out3 (hc : ¬ cond0_0 i) (g : Vec F S2048x512 .bf16) :
    out0_B_3 c i arg2 harg2 arg3 harg3 arg4 harg4 arg5 harg5 arg6 harg6 hc x0 x1 g = k0_pay3 g x0 := by
  unfold out0_B_3
  rw [View.read_writes_eq_canon _ _ _ (cover0_B_3 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x512) zero2]

/-- At the first row block the weights are stored. -/
theorem first_kept (hc : cond0_0 i) :
    sout0_A_0 c i arg2 harg2 arg3 harg3 arg4 harg4 arg5 harg5 arg6 harg6 hc x0 x1 = k0_pay1 x1 := by
  unfold sout0_A_0
  rw [View.read_writes_eq_canon _ _ _ (scover0_A_0 c i arg2 harg2 arg3 harg3 arg4 harg4 arg5 harg5 arg6 harg6 hc x0 x1)]
  unfold kernelRun0_A
  dsimp only
  sl_unfold_words
  rw [View.canon_unit_zero zero2]
  simp only [View.readAt_eq_ld, harg3.read_unread, View.ld_unit_zero (S := S2048x512) zero2]
end

theorem pay1_at (x1 : Vec Ideal S2048x512 .f32) (k : Fin 2048) (e : Fin 512) : k0_pay1 x1 (ix2 k e) = x1 (ix2 k e) := by
  pointwise [Gen.k0_pay1]

theorem pay2_at (g : Vec Ideal S2048x512 .bf16) (x0 : Vec Ideal S640x2048 .bf16) (r : Fin 640) (e : Fin 512) :
    k0_pay2 g x0 (ix2 r e) = ∑ k : Fin 2048, x0 (ix2 r k) * g (ix2 k e) := by
  pointwise [Gen.k0_pay2]

theorem pay3_at (g : Vec Ideal S2048x512 .bf16) (x0 : Vec Ideal S640x2048 .bf16) (r : Fin 640) (e : Fin 512) :
    k0_pay3 g x0 (ix2 r e) = ∑ k : Fin 2048, x0 (ix2 r k) * g (ix2 k e) := by
  pointwise [Gen.k0_pay3, Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 9216) : EReal := (m ((c : Thread nD τ).loc main_arg1) : FVec Ideal S2048x9216 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 234 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S2048x512 .f32) (ix2 k e) = weights m c k ⟨t.val / 13 * 512 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 512 + 1 * e.val = t.val / 13 * 512 + e.val; rw [h1]; omega

/-! ## The kept weights: at every point, the weight block of the point's column block -/

theorem kept (n : ℕ) : ∀ (hn : n < cfg0.N) (k : Fin 2048) (e : Fin 512),
    ((outsAt0 m c n hn).2.2 : Vec Ideal S2048x512 .bf16) (ix2 k e)
      = weights m c k ⟨n / 13 * 512 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 9216) : EReal := dot (rows m c p) (weights m c) j

/-- The result as contents of result array 0. -/
def result2 : FVec Ideal S8320x9216 .f32 := fun i => value m c (i 0) (i 1)

/-- What is written there at a grid point, from any weights that are the point's. -/
theorem value_at2 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay2 g (iblk m c 0 t : Vec Ideal S640x2048 .bf16) (ix2 r e)
      = result2 m c (ix2 ⟨t.val % 13 * 640 + r.val, by omega⟩ ⟨t.val / 13 * 512 + e.val, by have := lt_N t; omega⟩) := by
  rw [pay2_at]
  simp only [block_0, hg]
  rfl

theorem cut_whole2 (t : Fin cfg0.N) (X : Vec Ideal S640x512 .f32) (r : Fin 640) (e : Fin 512) :
    (cfg0.win 2).cut (grid0.coords t) X (ix2 r e : S640x512.Idx) = X (ix2 r e) := rfl

/-- A block of the result array, at a row and a column. -/
theorem read_at2 (t : Fin cfg0.N) (G : FVec Ideal S8320x9216 .f32) (r : Fin 640) (e : Fin 512) :
    ((cfg0.win 2).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 512) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 512) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 9216 := (i 1).isLt
    omega)

/-- The result as contents of result array 1. -/
def result3 : FVec Ideal S8320x9216 .bf16 := fun i => value m c (i 0) (i 1)

/-- What is written there at a grid point, from any weights that are the point's. -/
theorem value_at3 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay3 g (iblk m c 0 t : Vec Ideal S640x2048 .bf16) (ix2 r e)
      = result3 m c (ix2 ⟨t.val % 13 * 640 + r.val, by omega⟩ ⟨t.val / 13 * 512 + e.val, by have := lt_N t; omega⟩) := by
  rw [pay3_at]
  simp only [block_0, hg]
  rfl

theorem cut_whole3 (t : Fin cfg0.N) (X : Vec Ideal S640x512 .bf16) (r : Fin 640) (e : Fin 512) :
    (cfg0.win 3).cut (grid0.coords t) X (ix2 r e : S640x512.Idx) = X (ix2 r e) := rfl

/-- A block of the result array, at a row and a column. -/
theorem read_at3 (t : Fin cfg0.N) (G : FVec Ideal S8320x9216 .bf16) (r : Fin 640) (e : Fin 512) :
    ((cfg0.win 3).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 512 + 1 * e.val = t.val / 13 * 512 + e.val; rw [h1]; omega

theorem flushed_eq3 (t : Fin cfg0.N) (_ : (cfg0.win 3).flush t = true) :
    (dats m 0 c).flushed 3 t = ((cfg0.win 3).blk t).view.read (Elt Ideal) (result3 m c) := by
  by_cases h : t.val % 13 = 0
  · rw [Value.flushed3_A m c t h, first_out3]
    funext j
    obtain ⟨r, e, rfl⟩ := ix2_surj (a := 640) (b := 512) j
    exact (cut_whole3 t _ r e).trans ((value_at3 m c t _ (fun k e => (pay1_at _ k e).trans (block_1 m c t k e)) r e).trans
      (read_at3 t (result3 m c) r e).symm)
  · rw [Value.flushed3_B m c t h, later_out3]
    have hd : (t.val - 1) / 13 = t.val / 13 := by omega
    funext j
    obtain ⟨r, e, rfl⟩ := ix2_surj (a := 640) (b := 512) j
    refine (cut_whole3 t _ r e).trans ((value_at3 m c t _ (fun k e => ?_) r e).trans (read_at3 t (result3 m c) r e).symm)
    rw [kept m c (t.val - 1) _ k e]; simp only [hd]

/-- The result array after the grid. -/
theorem final3 : (dats m 0 c).arrAt 3 cfg0.N = result3 m c :=
  (dats m 0 c).arrAt_eq_of_cover 3 (result3 m c) (flushed_eq3 m c) fun i => (Value.covered_iff3 i).2 (by
    have h0 : (i 0 : Nat) < 8320 := (i 0).isLt
    have h1 : (i 1 : Nat) < 9216 := (i 1).isLt
    omega)

/-! ## The reference -/

section
open Cert.QkvBRefIdeal.Read
theorem reference_at (x0 : FVec Ideal S8320x2048 .f32) (x1 : FVec Ideal S2048x9216 .f32) (p : Fin 8320) (j : Fin 9216) :
    val_main_v0 (F := Ideal) x0 x1 (ix2 p j) = dot (fun k => x0 (ix2 p k)) (fun k n => x1 (ix2 k n)) j := by
  unfold dot
  pointwise [val_main_v0]

theorem reference_copy_at (x0 : FVec Ideal S8320x2048 .f32) (x1 : FVec Ideal S2048x9216 .f32) (p : Fin 8320) (j : Fin 9216) :
    val_main_v1 (F := Ideal) x0 x1 (ix2 p j) = dot (fun k => x0 (ix2 p k)) (fun k n => x1 (ix2 k n)) j := by
  unfold dot
  pointwise [val_main_v1, val_main_v0]
end

end Cert.QkvBIdeal.Layer
-- ==== Proof.QkvC.lean ====
module

public import proofs.«01_k».proof.Proof.Dense
public import proofs.«01_k».proof.Proof.Gen.QkvCIdeal.Value
public import proofs.«01_k».proof.Proof.Gen.QkvCRefIdeal.Run
public import proofs.«01_k».proof.Proof.Gen.QkvCRefIdeal.Read

@[expose] public section
set_option maxRecDepth 16384
noncomputable section
namespace Cert.QkvCIdeal.Layer
open Idealize.ShloMosaic Idealize.ShloMosaic.TcCoe Idealize.SL.Sem Cert.QkvCIdeal Cert.QkvCIdeal.Gen
open Cert.Dense (zero2 zero3 dot ix2_surj)

/-! The query, key and value projection of layer 2: rows of 2048 entries times a matrix of 2816 columns,
in row blocks of 640 and column blocks of 256. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x256 .f32) (harg3 : arg3.IsWhole)
  (arg4 : Memref sig .tc .vmem S640x256 .f32) (harg4 : arg4.IsWhole)
  (arg5 : Memref sig .tc .vmem S640x256 .bf16) (harg5 : arg5.IsWhole)
  (arg6 : Memref sig .tc .vmem S2048x256 .bf16) (harg6 : arg6.IsWhole)
  (x0 : Vec F S640x2048 .bf16) (x1 : Vec F S2048x256 .f32)

/-- At the first row block of a column block the result is computed from the weights just stored. -/
theorem first_out2 (hc : cond0_0 i) :
    out0_A_2 c i arg2 harg2 arg3 harg3 arg4 harg4 arg5 harg5 arg6 harg6 hc x0 x1 = k0_pay2 (k0_pay1 x1) x0 := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x256) zero2]
  exact congrArg (fun w => k0_pay2 w x0) (View.readCov_full (s := S2048x256) _ _ _ _ _)

/-- At a later row block the result is computed from the weights kept. -/
theorem later_out2 (hc : ¬ cond0_0 i) (g : Vec F S2048x256 .bf16) :
    out0_B_2 c i arg2 harg2 arg3 harg3 arg4 harg4 arg5 harg5 arg6 harg6 hc x0 x1 g = k0_pay2 g x0 := by
  unfold out0_B_2
  rw [View.read_writes_eq_canon _ _ _ (cover0_B_2 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x256) zero2]

/-- At the first row block of a column block the result is computed from the weights just stored. -/
theorem first_out3 (hc : cond0_0 i) :
    out0_A_3 c i arg2 harg2 arg3 harg3 arg4 harg4 arg5 harg5 arg6 harg6 hc x0 x1 = k0_pay3 (k0_pay1 x1) x0 := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x256) zero2]
  exact congrArg (fun w => k0_pay3 w x0) (View.readCov_full (s := S2048x256) _ _ _ _ _)

/-- At a later row block the result is computed from the weights kept. -/
theorem later_out3 (hc : ¬ cond0_0 i) (g : Vec F S2048x256 .bf16) :
    out0_B_3 c i arg2 harg2 arg3 harg3 arg4 harg4 arg5 harg5 arg6 harg6 hc x0 x1 g = k0_pay3 g x0 := by
  unfold out0_B_3
  rw [View.read_writes_eq_canon _ _ _ (cover0_B_3 c i arg2 harg2 arg3 harg3 arg4 harg4 arg5 harg5 arg6 harg6 hc x0 x1 g)]
  unfold kernelRun0_B
  dsimp only
  sl_unfold_words
  rw [View.canon_unit_zero zero2]
  simp only [View.readAt_eq_ld, harg2.read_unread, harg6.read_unread, View.ld_unit_zero (S := S640x2048) zero2,
    View.ld_unit_zero (S := S2048x256) zero2]

/-- At the first row block the weights are stored. -/
theorem first_kept (hc : cond0_0 i) :
    sout0_A_0 c i arg2 harg2 arg3 harg3 arg4 harg4 arg5 harg5 arg6 harg6 hc x0 x1 = k0_pay1 x1 := by
  unfold sout0_A_0
  rw [View.read_writes_eq_canon _ _ _ (scover0_A_0 c i arg2 harg2 arg3 harg3 arg4 harg4 arg5 harg5 arg6 harg6 hc x0 x1)]
  unfold kernelRun0_A
  dsimp only
  sl_unfold_words
  rw [View.canon_unit_zero zero2]
  simp only [View.readAt_eq_ld, harg3.read_unread, View.ld_unit_zero (S := S2048x256) zero2]
end

theorem pay1_at (x1 : Vec Ideal S2048x256 .f32) (k : Fin 2048) (e : Fin 256) : k0_pay1 x1 (ix2 k e) = x1 (ix2 k e) := by
  pointwise [Gen.k0_pay1]

theorem pay2_at (g : Vec Ideal S2048x256 .bf16) (x0 : Vec Ideal S640x2048 .bf16) (r : Fin 640) (e : Fin 256) :
    k0_pay2 g x0 (ix2 r e) = ∑ k : Fin 2048, x0 (ix2 r k) * g (ix2 k e) := by
  pointwise [Gen.k0_pay2]

theorem pay3_at (g : Vec Ideal S2048x256 .bf16) (x0 : Vec Ideal S640x2048 .bf16) (r : Fin 640) (e : Fin 256) :
    k0_pay3 g x0 (ix2 r e) = ∑ k : Fin 2048, x0 (ix2 r k) * g (ix2 k e) := by
  pointwise [Gen.k0_pay3, Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 2816) : EReal := (m ((c : Thread nD τ).loc main_arg1) : FVec Ideal S2048x2816 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel
theorem index_3 : ∀ t : Fin grid0.N, win0_3.index t 0 = t.val % 13 ∧ win0_3.index t 1 = t.val / 13 := by decide +kernel

theorem lt_N (t : Fin cfg0.N) : t.val < 143 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 256) :
    (iblk m c 1 t : Vec Ideal S2048x256 .f32) (ix2 k e) = weights m c k ⟨t.val / 13 * 256 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 256 + 1 * e.val = t.val / 13 * 256 + e.val; rw [h1]; omega

/-! ## The kept weights: at every point, the weight block of the point's column block -/

theorem kept (n : ℕ) : ∀ (hn : n < cfg0.N) (k : Fin 2048) (e : Fin 256),
    ((outsAt0 m c n hn).2.2 : Vec Ideal S2048x256 .bf16) (ix2 k e)
      = weights m c k ⟨n / 13 * 256 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 2816) : EReal := dot (rows m c p) (weights m c) j

/-- The result as contents of result array 0. -/
def result2 : FVec Ideal S8320x2816 .f32 := fun i => value m c (i 0) (i 1)

/-- What is written there at a grid point, from any weights that are the point's. -/
theorem value_at2 (t : Fin cfg0.N) (g : Vec Ideal S2048x256 .bf16)
    (hg : ∀ (k : Fin 2048) (e : Fin 256), g (ix2 k e) = weights m c k ⟨t.val / 13 * 256 + e.val, by have := lt_N t; omega⟩)
    (r : Fin 640) (e : Fin 256) :
    k0_pay2 g (iblk m c 0 t : Vec Ideal S640x2048 .bf16) (ix2 r e)
      = result2 m c (ix2 ⟨t.val % 13 * 640 + r.val, by omega⟩ ⟨t.val / 13 * 256 + e.val, by have := lt_N t; omega⟩) := by
  rw [pay2_at]
  simp only [block_0, hg]
  rfl

theorem cut_whole2 (t : Fin cfg0.N) (X : Vec Ideal S640x256 .f32) (r : Fin 640) (e : Fin 256) :
    (cfg0.win 2).cut (grid0.coords t) X (ix2 r e : S640x256.Idx) = X (ix2 r e) := rfl

/-- A block of the result array, at a row and a column. -/
theorem read_at2 (t : Fin cfg0.N) (G : FVec Ideal S8320x2816 .f32) (r : Fin 640) (e : Fin 256) :
    ((cfg0.win 2).blk t).view.read (Elt Ideal) G (ix2 r e : S640x256.Idx)
      = G (ix2 ⟨t.val % 13 * 640 + r.val, by omega⟩ ⟨t.val / 13 * 256 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 256 + 1 * e.val = t.val / 13 * 256 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 256) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 256) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 2816 := (i 1).isLt
    omega)

/-- The result as contents of result array 1. -/
def result3 : FVec Ideal S8320x2816 .bf16 := fun i => value m c (i 0) (i 1)

/-- What is written there at a grid point, from any weights that are the point's. -/
theorem value_at3 (t : Fin cfg0.N) (g : Vec Ideal S2048x256 .bf16)
    (hg : ∀ (k : Fin 2048) (e : Fin 256), g (ix2 k e) = weights m c k ⟨t.val / 13 * 256 + e.val, by have := lt_N t; omega⟩)
    (r : Fin 640) (e : Fin 256) :
    k0_pay3 g (iblk m c 0 t : Vec Ideal S640x2048 .bf16) (ix2 r e)
      = result3 m c (ix2 ⟨t.val % 13 * 640 + r.val, by omega⟩ ⟨t.val / 13 * 256 + e.val, by have := lt_N t; omega⟩) := by
  rw [pay3_at]
  simp only [block_0, hg]
  rfl

theorem cut_whole3 (t : Fin cfg0.N) (X : Vec Ideal S640x256 .bf16) (r : Fin 640) (e : Fin 256) :
    (cfg0.win 3).cut (grid0.coords t) X (ix2 r e : S640x256.Idx) = X (ix2 r e) := rfl

/-- A block of the result array, at a row and a column. -/
theorem read_at3 (t : Fin cfg0.N) (G : FVec Ideal S8320x2816 .bf16) (r : Fin 640) (e : Fin 256) :
    ((cfg0.win 3).blk t).view.read (Elt Ideal) G (ix2 r e : S640x256.Idx)
      = G (ix2 ⟨t.val % 13 * 640 + r.val, by omega⟩ ⟨t.val / 13 * 256 + e.val, by have := lt_N t; omega⟩) := by
  obtain ⟨h0, h1⟩ := index_3 t
  rw [View.read_apply, cast_eq]
  refine congrArg G (funext fun a => Fin.ext ?_)
  match a with
  | ⟨0, _⟩ => show win0_3.index t 0 * 640 + 1 * r.val = t.val % 13 * 640 + r.val; rw [h0]; omega
  | ⟨1, _⟩ => show win0_3.index t 1 * 256 + 1 * e.val = t.val / 13 * 256 + e.val; rw [h1]; omega

theorem flushed_eq3 (t : Fin cfg0.N) (_ : (cfg0.win 3).flush t = true) :
    (dats m 0 c).flushed 3 t = ((cfg0.win 3).blk t).view.read (Elt Ideal) (result3 m c) := by
  by_cases h : t.val % 13 = 0
  · rw [Value.flushed3_A m c t h, first_out3]
    funext j
    obtain ⟨r, e, rfl⟩ := ix2_surj (a := 640) (b := 256) j
    exact (cut_whole3 t _ r e).trans ((value_at3 m c t _ (fun k e => (pay1_at _ k e).trans (block_1 m c t k e)) r e).trans
      (read_at3 t (result3 m c) r e).symm)
  · rw [Value.flushed3_B m c t h, later_out3]
    have hd : (t.val - 1) / 13 = t.val / 13 := by omega
    funext j
    obtain ⟨r, e, rfl⟩ := ix2_surj (a := 640) (b := 256) j
    refine (cut_whole3 t _ r e).trans ((value_at3 m c t _ (fun k e => ?_) r e).trans (read_at3 t (result3 m c) r e).symm)
    rw [kept m c (t.val - 1) _ k e]; simp only [hd]

/-- The result array after the grid. -/
theorem final3 : (dats m 0 c).arrAt 3 cfg0.N = result3 m c :=
  (dats m 0 c).arrAt_eq_of_cover 3 (result3 m c) (flushed_eq3 m c) fun i => (Value.covered_iff3 i).2 (by
    have h0 : (i 0 : Nat) < 8320 := (i 0).isLt
    have h1 : (i 1 : Nat) < 2816 := (i 1).isLt
    omega)

/-! ## The reference -/

section
open Cert.QkvCRefIdeal.Read
theorem reference_at (x0 : FVec Ideal S8320x2048 .f32) (x1 : FVec Ideal S2048x2816 .f32) (p : Fin 8320) (j : Fin 2816) :
    val_main_v0 (F := Ideal) x0 x1 (ix2 p j) = dot (fun k => x0 (ix2 p k)) (fun k n => x1 (ix2 k n)) j := by
  unfold dot
  pointwise [val_main_v0]

theorem reference_copy_at (x0 : FVec Ideal S8320x2048 .f32) (x1 : FVec Ideal S2048x2816 .f32) (p : Fin 8320) (j : Fin 2816) :
    val_main_v1 (F := Ideal) x0 x1 (ix2 p j) = dot (fun k => x0 (ix2 p k)) (fun k n => x1 (ix2 k n)) j := by
  unfold dot
  pointwise [val_main_v1, val_main_v0]
end

end Cert.QkvCIdeal.Layer
-- ==== Proof.Gate.lean ====
module

public import proofs.«01_k».proof.Proof.Dense
public import proofs.«01_k».proof.Proof.Gen.GateIdeal.Value
public import proofs.«01_k».proof.Proof.Gen.GateRefIdeal.Run
public import proofs.«01_k».proof.Proof.Gen.GateRefIdeal.Read

@[expose] public section
set_option maxRecDepth 16384
noncomputable section
namespace Cert.GateIdeal.Layer
open Idealize.ShloMosaic Idealize.ShloMosaic.TcCoe Idealize.SL.Sem Cert.GateIdeal Cert.GateIdeal.Gen
open Cert.Dense (zero2 zero3 dot ix2_surj)

/-! The gate projection of layer 2: rows of 2048 entries times a matrix of 48 columns,
in row blocks of 640 and column blocks of 48. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x48 .f32) (harg3 : arg3.IsWhole)
  (arg4 : Memref sig .tc .vmem S640x48 .f32) (harg4 : arg4.IsWhole)
  (arg5 : Memref sig .tc .vmem S2048x48 .bf16) (harg5 : arg5.IsWhole)
  (x0 : Vec F S640x2048 .bf16) (x1 : Vec F S2048x48 .f32)

/-- At the first row block of a column block the result is computed from the weights just stored. -/
theorem first_out2 (hc : cond0_0 i) :
    out0_A_2 c i arg2 harg2 arg3 harg3 arg4 harg4 arg5 harg5 hc x0 x1 = k0_pay2 (k0_pay1 x1) x0 := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x48) zero2]
  exact congrArg (fun w => k0_pay2 w x0) (View.readCov_full (s := S2048x48) _ _ _ _ _)

/-- At a later row block the result is computed from the weights kept. -/
theorem later_out2 (hc : ¬ cond0_0 i) (g : Vec F S2048x48 .bf16) :
    out0_B_2 c i arg2 harg2 arg3 harg3 arg4 harg4 arg5 harg5 hc x0 x1 g = k0_pay2 g x0 := by
  unfold out0_B_2
  rw [View.read_writes_eq_canon _ _ _ (cover0_B_2 c i arg2 harg2 arg3 harg3 arg4 harg4 arg5 harg5 hc x0 x1 g)]
  unfold kernelRun0_B
  dsimp only
  sl_unfold_words
  rw [View.canon_unit_zero zero2]
  simp only [View.readAt_eq_ld, harg2.read_unread, harg5.read_unread, View.ld_unit_zero (S := S640x2048) zero2,
    View.ld_unit_zero (S := S2048x48) zero2]

/-- At the first row block the weights are stored. -/
theorem first_kept (hc : cond0_0 i) :
    sout0_A_0 c i arg2 harg2 arg3 harg3 arg4 harg4 arg5 harg5 hc x0 x1 = k0_pay1 x1 := by
  unfold sout0_A_0
  rw [View.read_writes_eq_canon _ _ _ (scover0_A_0 c i arg2 harg2 arg3 harg3 arg4 harg4 arg5 harg5 hc x0 x1)]
  unfold kernelRun0_A
  dsimp only
  sl_unfold_words
  rw [View.canon_unit_zero zero2]
  simp only [View.readAt_eq_ld, harg3.read_unread, View.ld_unit_zero (S := S2048x48) zero2]
end

theorem pay1_at (x1 : Vec Ideal S2048x48 .f32) (k : Fin 2048) (e : Fin 48) : k0_pay1 x1 (ix2 k e) = x1 (ix2 k e) := by
  pointwise [Gen.k0_pay1]

theorem pay2_at (g : Vec Ideal S2048x48 .bf16) (x0 : Vec Ideal S640x2048 .bf16) (r : Fin 640) (e : Fin 48) :
    k0_pay2 g x0 (ix2 r e) = ∑ k : Fin 2048, x0 (ix2 r k) * g (ix2 k e) := by
  pointwise [Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 48) : EReal := (m ((c : Thread nD τ).loc main_arg1) : FVec Ideal S2048x48 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel

theorem lt_N (t : Fin cfg0.N) : t.val < 13 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 48) :
    (iblk m c 1 t : Vec Ideal S2048x48 .f32) (ix2 k e) = weights m c k ⟨t.val / 13 * 48 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 48 + 1 * e.val = t.val / 13 * 48 + e.val; rw [h1]; omega

/-! ## The kept weights: at every point, the weight block of the point's column block -/

theorem kept (n : ℕ) : ∀ (hn : n < cfg0.N) (k : Fin 2048) (e : Fin 48),
    ((outsAt0 m c n hn).2 : Vec Ideal S2048x48 .bf16) (ix2 k e)
      = weights m c k ⟨n / 13 * 48 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 48) : EReal := dot (rows m c p) (weights m c) j

/-- The result as contents of result array 0. -/
def result2 : FVec Ideal S8320x48 .f32 := fun i => value m c (i 0) (i 1)

/-- What is written there at a grid point, from any weights that are the point's. -/
theorem value_at2 (t : Fin cfg0.N) (g : Vec Ideal S2048x48 .bf16)
    (hg : ∀ (k : Fin 2048) (e : Fin 48), g (ix2 k e) = weights m c k ⟨t.val / 13 * 48 + e.val, by have := lt_N t; omega⟩)
    (r : Fin 640) (e : Fin 48) :
    k0_pay2 g (iblk m c 0 t : Vec Ideal S640x2048 .bf16) (ix2 r e)
      = result2 m c (ix2 ⟨t.val % 13 * 640 + r.val, by omega⟩ ⟨t.val / 13 * 48 + e.val, by have := lt_N t; omega⟩) := by
  rw [pay2_at]
  simp only [block_0, hg]
  rfl

theorem cut_whole2 (t : Fin cfg0.N) (X : Vec Ideal S640x48 .f32) (r : Fin 640) (e : Fin 48) :
    (cfg0.win 2).cut (grid0.coords t) X (ix2 r e : S640x48.Idx) = X (ix2 r e) := rfl

/-- A block of the result array, at a row and a column. -/
theorem read_at2 (t : Fin cfg0.N) (G : FVec Ideal S8320x48 .f32) (r : Fin 640) (e : Fin 48) :
    ((cfg0.win 2).blk t).view.read (Elt Ideal) G (ix2 r e : S640x48.Idx)
      = G (ix2 ⟨t.val % 13 * 640 + r.val, by omega⟩ ⟨t.val / 13 * 48 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 48 + 1 * e.val = t.val / 13 * 48 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 48) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 48) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 48 := (i 1).isLt
    omega)

/-! ## The reference -/

section
open Cert.GateRefIdeal.Read
theorem reference_at (x0 : FVec Ideal S8320x2048 .f32) (x1 : FVec Ideal S2048x48 .f32) (p : Fin 8320) (j : Fin 48) :
    val_main_v0 (F := Ideal) x0 x1 (ix2 p j) = dot (fun k => x0 (ix2 p k)) (fun k n => x1 (ix2 k n)) j := by
  unfold dot
  pointwise [val_main_v0]
end

end Cert.GateIdeal.Layer
-- ==== Proof.Qa.lean ====
module

public import proofs.«01_k».proof.Proof.Dense
public import proofs.«01_k».proof.Proof.Gen.QaIdeal.Value
public import proofs.«01_k».proof.Proof.Gen.QaRefIdeal.Run
public import proofs.«01_k».proof.Proof.Gen.QaRefIdeal.Read

@[expose] public section
set_option maxRecDepth 16384
noncomputable section
namespace Cert.QaIdeal.Layer
open Idealize.ShloMosaic Idealize.ShloMosaic.TcCoe Idealize.SL.Sem Cert.QaIdeal Cert.QaIdeal.Gen
open Cert.Dense (zero2 zero3 dot ix2_surj)

/-! The query down-projection of layer 3: rows of 2048 entries times a matrix of 512 columns,
in row blocks of 640 and column blocks of 512. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x512 .f32) (harg3 : arg3.IsWhole)
  (arg4 : Memref sig .tc .vmem S640x512 .f32) (harg4 : arg4.IsWhole)
  (arg5 : Memref sig .tc .vmem S2048x512 .bf16) (harg5 : arg5.IsWhole)
  (x0 : Vec F S640x2048 .bf16) (x1 : Vec F S2048x512 .f32)

/-- At the first row block of a column block the result is computed from the weights just stored. -/
theorem first_out2 (hc : cond0_0 i) :
    out0_A_2 c i arg2 harg2 arg3 harg3 arg4 harg4 arg5 harg5 hc x0 x1 = k0_pay2 (k0_pay1 x1) x0 := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x512) zero2]
  exact congrArg (fun w => k0_pay2 w x0) (View.readCov_full (s := S2048x512) _ _ _ _ _)

/-- At a later row block the result is computed from the weights kept. -/
theorem later_out2 (hc : ¬ cond0_0 i) (g : Vec F S2048x512 .bf16) :
    out0_B_2 c i arg2 harg2 arg3 harg3 arg4 harg4 arg5 harg5 hc x0 x1 g = k0_pay2 g x0 := by
  unfold out0_B_2
  rw [View.read_writes_eq_canon _ _ _ (cover0_B_2 c i arg2 harg2 arg3 harg3 arg4 harg4 arg5 harg5 hc x0 x1 g)]
  unfold kernelRun0_B
  dsimp only
  sl_unfold_words
  rw [View.canon_unit_zero zero2]
  simp only [View.readAt_eq_ld, harg2.read_unread, harg5.read_unread, View.ld_unit_zero (S := S640x2048) zero2,
    View.ld_unit_zero (S := S2048x512) zero2]

/-- At the first row block the weights are stored. -/
theorem first_kept (hc : cond0_0 i) :
    sout0_A_0 c i arg2 harg2 arg3 harg3 arg4 harg4 arg5 harg5 hc x0 x1 = k0_pay1 x1 := by
  unfold sout0_A_0
  rw [View.read_writes_eq_canon _ _ _ (scover0_A_0 c i arg2 harg2 arg3 harg3 arg4 harg4 arg5 harg5 hc x0 x1)]
  unfold kernelRun0_A
  dsimp only
  sl_unfold_words
  rw [View.canon_unit_zero zero2]
  simp only [View.readAt_eq_ld, harg3.read_unread, View.ld_unit_zero (S := S2048x512) zero2]
end

theorem pay1_at (x1 : Vec Ideal S2048x512 .f32) (k : Fin 2048) (e : Fin 512) : k0_pay1 x1 (ix2 k e) = x1 (ix2 k e) := by
  pointwise [Gen.k0_pay1]

theorem pay2_at (g : Vec Ideal S2048x512 .bf16) (x0 : Vec Ideal S640x2048 .bf16) (r : Fin 640) (e : Fin 512) :
    k0_pay2 g x0 (ix2 r e) = ∑ k : Fin 2048, x0 (ix2 r k) * g (ix2 k e) := by
  pointwise [Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 512) : EReal := (m ((c : Thread nD τ).loc main_arg1) : FVec Ideal S2048x512 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel

theorem lt_N (t : Fin cfg0.N) : t.val < 13 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 512) :
    (iblk m c 1 t : Vec Ideal S2048x512 .f32) (ix2 k e) = weights m c k ⟨t.val / 13 * 512 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 512 + 1 * e.val = t.val / 13 * 512 + e.val; rw [h1]; omega

/-! ## The kept weights: at every point, the weight block of the point's column block -/

theorem kept (n : ℕ) : ∀ (hn : n < cfg0.N) (k : Fin 2048) (e : Fin 512),
    ((outsAt0 m c n hn).2 : Vec Ideal S2048x512 .bf16) (ix2 k e)
      = weights m c k ⟨n / 13 * 512 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 512) : EReal := dot (rows m c p) (weights m c) j

/-- The result as contents of result array 0. -/
def result2 : FVec Ideal S8320x512 .f32 := fun i => value m c (i 0) (i 1)

/-- What is written there at a grid point, from any weights that are the point's. -/
theorem value_at2 (t : Fin cfg0.N) (g : Vec Ideal S2048x512 .bf16)
    (hg : ∀ (k : Fin 2048) (e : Fin 512), g (ix2 k e) = weights m c k ⟨t.val / 13 * 512 + e.val, by have := lt_N t; omega⟩)
    (r : Fin 640) (e : Fin 512) :
    k0_pay2 g (iblk m c 0 t : Vec Ideal S640x2048 .bf16) (ix2 r e)
      = result2 m c (ix2 ⟨t.val % 13 * 640 + r.val, by omega⟩ ⟨t.val / 13 * 512 + e.val, by have := lt_N t; omega⟩) := by
  rw [pay2_at]
  simp only [block_0, hg]
  rfl

theorem cut_whole2 (t : Fin cfg0.N) (X : Vec Ideal S640x512 .f32) (r : Fin 640) (e : Fin 512) :
    (cfg0.win 2).cut (grid0.coords t) X (ix2 r e : S640x512.Idx) = X (ix2 r e) := rfl

/-- A block of the result array, at a row and a column. -/
theorem read_at2 (t : Fin cfg0.N) (G : FVec Ideal S8320x512 .f32) (r : Fin 640) (e : Fin 512) :
    ((cfg0.win 2).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 512) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 512) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 512 := (i 1).isLt
    omega)

/-! ## The reference -/

section
open Cert.QaRefIdeal.Read
theorem reference_at (x0 : FVec Ideal S8320x2048 .f32) (x1 : FVec Ideal S2048x512 .f32) (p : Fin 8320) (j : Fin 512) :
    val_main_v0 (F := Ideal) x0 x1 (ix2 p j) = dot (fun k => x0 (ix2 p k)) (fun k n => x1 (ix2 k n)) j := by
  unfold dot
  pointwise [val_main_v0]
end

end Cert.QaIdeal.Layer
-- ==== Proof.Qb.lean ====
module

public import proofs.«01_k».proof.Proof.Dense
public import proofs.«01_k».proof.Proof.Gen.QbIdeal.Value
public import proofs.«01_k».proof.Proof.Gen.QbRefIdeal.Run
public import proofs.«01_k».proof.Proof.Gen.QbRefIdeal.Read

@[expose] public section
set_option maxRecDepth 16384
noncomputable section
namespace Cert.QbIdeal.Layer
open Idealize.ShloMosaic Idealize.ShloMosaic.TcCoe Idealize.SL.Sem Cert.QbIdeal Cert.QbIdeal.Gen
open Cert.Dense (zero2 zero3 dot ix2_surj)

/-! The query up-projection of layer 3: rows of 512 entries times a matrix of 3072 columns,
in row blocks of 640 and column blocks of 512. -/

/-! ## What one grid point leaves -/

section
variable {F : FTy → Type} [FloatOps F]
variable (c : Dev nD) (i : grid0.Coords)
  (arg2 : Memref sig .tc .vmem S640x512 .bf16) (harg2 : arg2.IsWhole)
  (arg3 : Memref sig .tc .vmem S512x512 .f32) (harg3 : arg3.IsWhole)
  (arg4 : Memref sig .tc .vmem S640x512 .f32) (harg4 : arg4.IsWhole)
  (arg5 : Memref sig .tc .vmem S512x512 .bf16) (harg5 : arg5.IsWhole)
  (x0 : Vec F S640x512 .bf16) (x1 : Vec F S512x512 .f32)

/-- At the first row block of a column block the result is computed from the weights just stored. -/
theorem first_out2 (hc : cond0_0 i) :
    out0_A_2 c i arg2 harg2 arg3 harg3 arg4 harg4 arg5 harg5 hc x0 x1 = k0_pay2 (k0_pay1 x1) x0 := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero zero2]
  simp only [View.readAt_eq_ld, harg2.read_unread, harg3.read_unread, View.ld_unit_zero (S := S640x512) zero2,
    View.ld_unit_zero (S := S512x512) zero2]
  exact congrArg (fun w => k0_pay2 w x0) (View.readCov_full (s := S512x512) _ _ _ _ _)

/-- At a later row block the result is computed from the weights kept. -/
theorem later_out2 (hc : ¬ cond0_0 i) (g : Vec F S512x512 .bf16) :
    out0_B_2 c i arg2 harg2 arg3 harg3 arg4 harg4 arg5 harg5 hc x0 x1 g = k0_pay2 g x0 := by
  unfold out0_B_2
  rw [View.read_writes_eq_canon _ _ _ (cover0_B_2 c i arg2 harg2 arg3 harg3 arg4 harg4 arg5 harg5 hc x0 x1 g)]
  unfold kernelRun0_B
  dsimp only
  sl_unfold_words
  rw [View.canon_unit_zero zero2]
  simp only [View.readAt_eq_ld, harg2.read_unread, harg5.read_unread, View.ld_unit_zero (S := S640x512) zero2,
    View.ld_unit_zero (S := S512x512) zero2]

/-- At the first row block the weights are stored. -/
theorem first_kept (hc : cond0_0 i) :
    sout0_A_0 c i arg2 harg2 arg3 harg3 arg4 harg4 arg5 harg5 hc x0 x1 = k0_pay1 x1 := by
  unfold sout0_A_0
  rw [View.read_writes_eq_canon _ _ _ (scover0_A_0 c i arg2 harg2 arg3 harg3 arg4 harg4 arg5 harg5 hc x0 x1)]
  unfold kernelRun0_A
  dsimp only
  sl_unfold_words
  rw [View.canon_unit_zero zero2]
  simp only [View.readAt_eq_ld, harg3.read_unread, View.ld_unit_zero (S := S512x512) zero2]
end

theorem pay1_at (x1 : Vec Ideal S512x512 .f32) (k : Fin 512) (e : Fin 512) : k0_pay1 x1 (ix2 k e) = x1 (ix2 k e) := by
  pointwise [Gen.k0_pay1]

theorem pay2_at (g : Vec Ideal S512x512 .bf16) (x0 : Vec Ideal S640x512 .bf16) (r : Fin 640) (e : Fin 512) :
    k0_pay2 g x0 (ix2 r e) = ∑ k : Fin 512, x0 (ix2 r k) * g (ix2 k e) := by
  pointwise [Gen.k0_pay2]

/-! ## The arrays -/

variable (m : (ℓ : Loc nD τ sig) → Buf (Elt Ideal) ℓ) (c : Dev nD)

/-- The rows and the weights as launched. -/
abbrev rows (p : Fin 8320) (k : Fin 512) : EReal := (m ((c : Thread nD τ).loc main_arg0) : FVec Ideal S8320x512 .f32) (ix2 p k)
abbrev weights (k : Fin 512) (j : Fin 3072) : EReal := (m ((c : Thread nD τ).loc main_arg1) : FVec Ideal S512x3072 .f32) (ix2 k j)

theorem rows_at (p : Fin 8320) (k : Fin 512) : (V m c main_v0 : FVec Ideal S8320x512 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel

theorem lt_N (t : Fin cfg0.N) : t.val < 78 := lt_of_lt_of_eq t.isLt N_0

theorem block_0 (t : Fin cfg0.N) (r : Fin 640) (k : Fin 512) :
    (iblk m c 0 t : Vec Ideal S640x512 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 512 + 1 * k.val = k.val; rw [h1]; omega

theorem block_1 (t : Fin cfg0.N) (k : Fin 512) (e : Fin 512) :
    (iblk m c 1 t : Vec Ideal S512x512 .f32) (ix2 k e) = weights m c k ⟨t.val / 13 * 512 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 512 + 1 * k.val = k.val; rw [h0]; omega
  | ⟨1, _⟩ => show win0_1.index t 1 * 512 + 1 * e.val = t.val / 13 * 512 + e.val; rw [h1]; omega

/-! ## The kept weights: at every point, the weight block of the point's column block -/

theorem kept (n : ℕ) : ∀ (hn : n < cfg0.N) (k : Fin 512) (e : Fin 512),
    ((outsAt0 m c n hn).2 : Vec Ideal S512x512 .bf16) (ix2 k e)
      = weights m c k ⟨n / 13 * 512 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 3072) : EReal := dot (rows m c p) (weights m c) j

/-- The result as contents of result array 0. -/
def result2 : FVec Ideal S8320x3072 .f32 := fun i => value m c (i 0) (i 1)

/-- What is written there at a grid point, from any weights that are the point's. -/
theorem value_at2 (t : Fin cfg0.N) (g : Vec Ideal S512x512 .bf16)
    (hg : ∀ (k : Fin 512) (e : Fin 512), g (ix2 k e) = weights m c k ⟨t.val / 13 * 512 + e.val, by have := lt_N t; omega⟩)
    (r : Fin 640) (e : Fin 512) :
    k0_pay2 g (iblk m c 0 t : Vec Ideal S640x512 .bf16) (ix2 r e)
      = result2 m c (ix2 ⟨t.val % 13 * 640 + r.val, by omega⟩ ⟨t.val / 13 * 512 + e.val, by have := lt_N t; omega⟩) := by
  rw [pay2_at]
  simp only [block_0, hg]
  rfl

theorem cut_whole2 (t : Fin cfg0.N) (X : Vec Ideal S640x512 .f32) (r : Fin 640) (e : Fin 512) :
    (cfg0.win 2).cut (grid0.coords t) X (ix2 r e : S640x512.Idx) = X (ix2 r e) := rfl

/-- A block of the result array, at a row and a column. -/
theorem read_at2 (t : Fin cfg0.N) (G : FVec Ideal S8320x3072 .f32) (r : Fin 640) (e : Fin 512) :
    ((cfg0.win 2).blk t).view.read (Elt Ideal) G (ix2 r e : S640x512.Idx)
      = G (ix2 ⟨t.val % 13 * 640 + r.val, by omega⟩ ⟨t.val / 13 * 512 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 512 + 1 * e.val = t.val / 13 * 512 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 512) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 512) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 3072 := (i 1).isLt
    omega)

/-! ## The reference -/

section
open Cert.QbRefIdeal.Read
theorem reference_at (x0 : FVec Ideal S8320x512 .f32) (x1 : FVec Ideal S512x3072 .f32) (p : Fin 8320) (j : Fin 3072) :
    val_main_v0 (F := Ideal) x0 x1 (ix2 p j) = dot (fun k => x0 (ix2 p k)) (fun k n => x1 (ix2 k n)) j := by
  unfold dot
  pointwise [val_main_v0]
end

end Cert.QbIdeal.Layer
-- ==== Proof.Kva.lean ====
module

public import proofs.«01_k».proof.Proof.Dense
public import proofs.«01_k».proof.Proof.Gen.KvaIdeal.Value
public import proofs.«01_k».proof.Proof.Gen.KvaRefIdeal.Run
public import proofs.«01_k».proof.Proof.Gen.KvaRefIdeal.Read

@[expose] public section
set_option maxRecDepth 16384
noncomputable section
namespace Cert.KvaIdeal.Layer
open Idealize.ShloMosaic Idealize.ShloMosaic.TcCoe Idealize.SL.Sem Cert.KvaIdeal Cert.KvaIdeal.Gen
open Cert.Dense (zero2 zero3 dot ix2_surj)

/-! The latent projection of layer 3: rows of 2048 entries times a matrix of 576 columns,
in row blocks of 640 and column blocks of 576. -/

/-! ## What one grid point leaves -/

section
variable {F : FTy → Type} [FloatOps F]
variable (c : Dev nD) (i : grid0.Coords)
  (arg2 : Memref sig .tc .vmem S640x2048 .bf16) (harg2 : arg2.IsWhole)
  (arg3 : Memref sig .tc .vmem S2048x576 .f32) (harg3 : arg3.IsWhole)
  (arg4 : Memref sig .tc .vmem S640x576 .f32) (harg4 : arg4.IsWhole)
  (arg5 : Memref sig .tc .vmem S2048x576 .bf16) (harg5 : arg5.IsWhole)
  (x0 : Vec F S640x2048 .bf16) (x1 : Vec F S2048x576 .f32)

/-- At the first row block of a column block the result is computed from the weights just stored. -/
theorem first_out2 (hc : cond0_0 i) :
    out0_A_2 c i arg2 harg2 arg3 harg3 arg4 harg4 arg5 harg5 hc x0 x1 = k0_pay2 (k0_pay1 x1) x0 := by
  unfold out0_A_2
  rw [View.read_writes_eq_canon _ _ _ (cover0_A_2 c i arg2 harg2 arg3 harg3 arg4 harg4 arg5 harg5 hc x0 x1)]
  unfold kernelRun0_A
  dsimp only
  sl_unfold_words
  rw [View.canon_unit_zero zero2]
  simp only [View.readAt_eq_ld, harg2.read_unread, harg3.read_unread, View.ld_unit_zero (S := S640x2048) zero2,
    View.ld_unit_zero (S := S2048x576) zero2]
  exact congrArg (fun w => k0_pay2 w x0) (View.readCov_full (s := S2048x576) _ _ _ _ _)

/-- At a later row block the result is computed from the weights kept. -/
theorem later_out2 (hc : ¬ cond0_0 i) (g : Vec F S2048x576 .bf16) :
    out0_B_2 c i arg2 harg2 arg3 harg3 arg4 harg4 arg5 harg5 hc x0 x1 g = k0_pay2 g x0 := by
  unfold out0_B_2
  rw [View.read_writes_eq_canon _ _ _ (cover0_B_2 c i arg2 harg2 arg3 harg3 arg4 harg4 arg5 harg5 hc x0 x1 g)]
  unfold kernelRun0_B
  dsimp only
  sl_unfold_words
  rw [View.canon_unit_zero zero2]
  simp only [View.readAt_eq_ld, harg2.read_unread, harg5.read_unread, View.ld_unit_zero (S := S640x2048) zero2,
    View.ld_unit_zero (S := S2048x576) zero2]

/-- At the first row block the weights are stored. -/
theorem first_kept (hc : cond0_0 i) :
    sout0_A_0 c i arg2 harg2 arg3 harg3 arg4 harg4 arg5 harg5 hc x0 x1 = k0_pay1 x1 := by
  unfold sout0_A_0
  rw [View.read_writes_eq_canon _ _ _ (scover0_A_0 c i arg2 harg2 arg3 harg3 arg4 harg4 arg5 harg5 hc x0 x1)]
  unfold kernelRun0_A
  dsimp only
  sl_unfold_words
  rw [View.canon_unit_zero zero2]
  simp only [View.readAt_eq_ld, harg3.read_unread, View.ld_unit_zero (S := S2048x576) zero2]
end

theorem pay1_at (x1 : Vec Ideal S2048x576 .f32) (k : Fin 2048) (e : Fin 576) : k0_pay1 x1 (ix2 k e) = x1 (ix2 k e) := by
  pointwise [Gen.k0_pay1]

theorem pay2_at (g : Vec Ideal S2048x576 .bf16) (x0 : Vec Ideal S640x2048 .bf16) (r : Fin 640) (e : Fin 576) :
    k0_pay2 g x0 (ix2 r e) = ∑ k : Fin 2048, x0 (ix2 r k) * g (ix2 k e) := by
  pointwise [Gen.k0_pay2]

/-! ## The arrays -/

variable (m : (ℓ : Loc nD τ sig) → Buf (Elt Ideal) ℓ) (c : Dev nD)

/-- The rows and the weights as launched. -/
abbrev rows (p : Fin 8320) (k : Fin 2048) : EReal := (m ((c : Thread nD τ).loc main_arg0) : FVec Ideal S8320x2048 .f32) (ix2 p k)
abbrev weights (k : Fin 2048) (j : Fin 576) : EReal := (m ((c : Thread nD τ).loc main_arg1) : FVec Ideal S2048x576 .f32) (ix2 k j)

theorem rows_at (p : Fin 8320) (k : Fin 2048) : (V m c main_v0 : FVec Ideal S8320x2048 .bf16) (ix2 p k) = rows m c p k := by
  unfold V
  after_reads_at

theorem index_0 : ∀ t : Fin grid0.N, win0_0.index t 0 = t.val % 13 ∧ win0_0.index t 1 = 0 := by decide +kernel
theorem index_1 : ∀ t : Fin grid0.N, win0_1.index t 0 = 0 ∧ win0_1.index t 1 = t.val / 13 := by decide +kernel
theorem index_2 : ∀ t : Fin grid0.N, win0_2.index t 0 = t.val % 13 ∧ win0_2.index t 1 = t.val / 13 := by decide +kernel

theorem lt_N (t : Fin cfg0.N) : t.val < 13 := lt_of_lt_of_eq t.isLt N_0

theorem block_0 (t : Fin cfg0.N) (r : Fin 640) (k : Fin 2048) :
    (iblk m c 0 t : Vec Ideal S640x2048 .bf16) (ix2 r k) = rows m c ⟨t.val % 13 * 640 + r.val, by omega⟩ k := by
  obtain ⟨h0, h1⟩ := index_0 t
  rw [← rows_at]
  unfold iblk
  rw [View.read_apply]
  show V m c main_v0 _ = V m c main_v0 _
  congr 1
  funext a
  apply Fin.ext
  match a with
  | ⟨0, _⟩ => show win0_0.index t 0 * 640 + 1 * r.val = t.val % 13 * 640 + r.val; rw [h0]; omega
  | ⟨1, _⟩ => show win0_0.index t 1 * 2048 + 1 * k.val = k.val; rw [h1]; omega

theorem block_1 (t : Fin cfg0.N) (k : Fin 2048) (e : Fin 576) :
    (iblk m c 1 t : Vec Ideal S2048x576 .f32) (ix2 k e) = weights m c k ⟨t.val / 13 * 576 + e.val, by have := lt_N t; omega⟩ := by
  obtain ⟨h0, h1⟩ := index_1 t
  unfold iblk
  rw [View.read_apply]
  show V m c main_arg1 _ = _
  rw [V_main_arg1]
  refine congrArg _ (funext fun a => Fin.ext ?_)
  match a with
  | ⟨0, _⟩ => show win0_1.index t 0 * 2048 + 1 * k.val = k.val; rw [h0]; omega
  | ⟨1, _⟩ => show win0_1.index t 1 * 576 + 1 * e.val = t.val / 13 * 576 + e.val; rw [h1]; omega

/-! ## The kept weights: at every point, the weight block of the point's column block -/

theorem kept (n : ℕ) : ∀ (hn : n < cfg0.N) (k : Fin 2048) (e : Fin 576),
    ((outsAt0 m c n hn).2 : Vec Ideal S2048x576 .bf16) (ix2 k e)
      = weights m c k ⟨n / 13 * 576 + e.val, by have := lt_N ⟨n, hn⟩; dsimp only at this; omega⟩ := by
  induction n with
  | zero =>
    intro hn k e
    rw [outsAt0_A m c ⟨0, hn⟩ rfl]
    dsimp only
    rw [first_kept, pay1_at]
    exact block_1 m c ⟨0, hn⟩ k e
  | succ n ih =>
    intro hn k e
    by_cases h : (n + 1) % 13 = 0
    · rw [outsAt0_A m c ⟨n + 1, hn⟩ h]
      dsimp only
      rw [first_kept, pay1_at]
      exact block_1 m c ⟨n + 1, hn⟩ k e
    · rw [outsAt0_B m c ⟨n + 1, hn⟩ h]
      have hd : (n + 1) / 13 = n / 13 := by omega
      have := ih (Nat.lt_of_succ_lt hn) k e
      simp only [hd]
      exact this

/-- The result, entry by entry. -/
def value (p : Fin 8320) (j : Fin 576) : EReal := dot (rows m c p) (weights m c) j

/-- The result as contents of result array 0. -/
def result2 : FVec Ideal S8320x576 .f32 := fun i => value m c (i 0) (i 1)

/-- What is written there at a grid point, from any weights that are the point's. -/
theorem value_at2 (t : Fin cfg0.N) (g : Vec Ideal S2048x576 .bf16)
    (hg : ∀ (k : Fin 2048) (e : Fin 576), g (ix2 k e) = weights m c k ⟨t.val / 13 * 576 + e.val, by have := lt_N t; omega⟩)
    (r : Fin 640) (e : Fin 576) :
    k0_pay2 g (iblk m c 0 t : Vec Ideal S640x2048 .bf16) (ix2 r e)
      = result2 m c (ix2 ⟨t.val % 13 * 640 + r.val, by omega⟩ ⟨t.val / 13 * 576 + e.val, by have := lt_N t; omega⟩) := by
  rw [pay2_at]
  simp only [block_0, hg]
  rfl

theorem cut_whole2 (t : Fin cfg0.N) (X : Vec Ideal S640x576 .f32) (r : Fin 640) (e : Fin 576) :
    (cfg0.win 2).cut (grid0.coords t) X (ix2 r e : S640x576.Idx) = X (ix2 r e) := rfl

/-- A block of the result array, at a row and a column. -/
theorem read_at2 (t : Fin cfg0.N) (G : FVec Ideal S8320x576 .f32) (r : Fin 640) (e : Fin 576) :
    ((cfg0.win 2).blk t).view.read (Elt Ideal) G (ix2 r e : S640x576.Idx)
      = G (ix2 ⟨t.val % 13 * 640 + r.val, by omega⟩ ⟨t.val / 13 * 576 + e.val, by have := lt_N t; omega⟩) := by
  obtain ⟨h0, h1⟩ := index_2 t
  rw [View.read_apply, cast_eq]
  refine congrArg G (funext fun a => Fin.ext ?_)
  match a with
  | ⟨0, _⟩ => show win0_2.index t 0 * 640 + 1 * r.val = t.val % 13 * 640 + r.val; rw [h0]; omega
  | ⟨1, _⟩ => show win0_2.index t 1 * 576 + 1 * e.val = t.val / 13 * 576 + e.val; rw [h1]; omega

theorem flushed_eq2 (t : Fin cfg0.N) (_ : (cfg0.win 2).flush t = true) :
    (dats m 0 c).flushed 2 t = ((cfg0.win 2).blk t).view.read (Elt Ideal) (result2 m c) := by
  by_cases h : t.val % 13 = 0
  · rw [Value.flushed2_A m c t h, first_out2]
    funext j
    obtain ⟨r, e, rfl⟩ := ix2_surj (a := 640) (b := 576) j
    exact (cut_whole2 t _ r e).trans ((value_at2 m c t _ (fun k e => (pay1_at _ k e).trans (block_1 m c t k e)) r e).trans
      (read_at2 t (result2 m c) r e).symm)
  · rw [Value.flushed2_B m c t h, later_out2]
    have hd : (t.val - 1) / 13 = t.val / 13 := by omega
    funext j
    obtain ⟨r, e, rfl⟩ := ix2_surj (a := 640) (b := 576) j
    refine (cut_whole2 t _ r e).trans ((value_at2 m c t _ (fun k e => ?_) r e).trans (read_at2 t (result2 m c) r e).symm)
    rw [kept m c (t.val - 1) _ k e]; simp only [hd]

/-- The result array after the grid. -/
theorem final2 : (dats m 0 c).arrAt 2 cfg0.N = result2 m c :=
  (dats m 0 c).arrAt_eq_of_cover 2 (result2 m c) (flushed_eq2 m c) fun i => (Value.covered_iff2 i).2 (by
    have h0 : (i 0 : Nat) < 8320 := (i 0).isLt
    have h1 : (i 1 : Nat) < 576 := (i 1).isLt
    omega)

/-! ## The reference -/

section
open Cert.KvaRefIdeal.Read
theorem reference_at (x0 : FVec Ideal S8320x2048 .f32) (x1 : FVec Ideal S2048x576 .f32) (p : Fin 8320) (j : Fin 576) :
    val_main_v0 (F := Ideal) x0 x1 (ix2 p j) = dot (fun k => x0 (ix2 p k)) (fun k n => x1 (ix2 k n)) j := by
  unfold dot
  pointwise [val_main_v0]
end

end Cert.KvaIdeal.Layer
-- ==== Proof.NormBf.lean ====
module

public import proofs.«01_k».proof.Proof.Dense
public import proofs.«01_k».proof.Proof.Gen.NormBfIdeal.Value
public import proofs.«01_k».proof.Proof.Gen.NormBfRefIdeal.Run
public import proofs.«01_k».proof.Proof.Gen.NormBfRefIdeal.Read

@[expose] public section
set_option maxRecDepth 16384
noncomputable section
namespace Cert.NormBfIdeal.Layer
open Idealize.ShloMosaic Idealize.ShloMosaic.TcCoe Idealize.SL.Sem Cert.NormBfIdeal Cert.NormBfIdeal.Gen
open Cert.Dense (zero2 normed ix2_surj)

/-! The normalisation before a projection: rows of 2048 entries, in row blocks of 640. -/

theorem pay_at (x : Vec Ideal S640x2048 .f32) (g : Vec Ideal S1x2048 .f32) (r : Fin 640) (e : Fin 2048) :
    k0_pay1 x g (ix2 r e) = normed 0x45000000#32 (fun j => x (ix2 r j)) (fun j => g (ix2 0 j)) e := by
  unfold normed
  pointwise [Gen.k0_pay1]

variable (m : (ℓ : Loc nD τ sig) → Buf (Elt Ideal) ℓ) (c : Dev nD)

/-- The rows and the scale as launched. -/
abbrev rows (p : Fin 8320) (k : Fin 2048) : EReal := (m ((c : Thread nD τ).loc main_arg0) : FVec Ideal S8320x2048 .f32) (ix2 p k)
abbrev scale (k : Fin 2048) : EReal := (m ((c : Thread nD τ).loc main_arg1) : FVec Ideal S2048 .f32) (ix1 k)

theorem scale_at (k : Fin 2048) : (V m c main_v0 : FVec Ideal S1x2048 .f32) (ix2 0 k) = scale m c k := by
  unfold V
  after_reads_at

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem lt_N (t : Fin cfg0.N) : t.val < 13 := lt_of_lt_of_eq t.isLt N_0

theorem block_0 (t : Fin cfg0.N) (r : Fin 640) (k : Fin 2048) :
    (iblk m c 0 t : Vec Ideal S640x2048 .f32) (ix2 r k) = rows m c ⟨t.val * 640 + r.val, by have := lt_N t; omega⟩ k := by
  obtain ⟨h0, h1⟩ := index_0 t
  unfold iblk
  rw [View.read_apply]
  show V m c main_arg0 _ = _
  rw [V_main_arg0]
  refine congrArg _ (funext fun a => Fin.ext ?_)
  match a with
  | ⟨0, _⟩ => show win0_0.index t 0 * 640 + 1 * r.val = t.val * 640 + r.val; rw [h0]; omega
  | ⟨1, _⟩ => show win0_0.index t 1 * 2048 + 1 * k.val = k.val; rw [h1]; omega

theorem block_1 (t : Fin cfg0.N) (k : Fin 2048) : (iblk m c 1 t : Vec Ideal S1x2048 .f32) (ix2 0 k) = scale m c k := by
  obtain ⟨h0, h1⟩ := index_1 t
  rw [← scale_at]
  unfold iblk
  rw [View.read_apply]
  show V m c main_v0 _ = V m c main_v0 _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- The result, entry by entry. -/
def result2 : FVec Ideal S8320x2048 .bf16 := fun i => normed 0x45000000#32 (rows m c (i 0)) (scale m c) (i 1)

theorem cut_whole2 (t : Fin cfg0.N) (X : Vec Ideal S640x2048 .bf16) (r : Fin 640) (e : Fin 2048) :
    (cfg0.win 2).cut (grid0.coords t) X (ix2 r e : S640x2048.Idx) = X (ix2 r e) := rfl

/-- A block of the result array, at a row and a column. -/
theorem read_at2 (t : Fin cfg0.N) (G : FVec Ideal S8320x2048 .bf16) (r : Fin 640) (e : Fin 2048) :
    ((cfg0.win 2).blk t).view.read (Elt Ideal) G (ix2 r e : S640x2048.Idx)
      = G (ix2 ⟨t.val * 640 + r.val, by have := lt_N t; omega⟩ e) := by
  obtain ⟨h0, h1⟩ := index_2 t
  rw [View.read_apply, cast_eq]
  refine congrArg G (funext fun a => Fin.ext ?_)
  match a with
  | ⟨0, _⟩ => show win0_2.index t 0 * 640 + 1 * r.val = t.val * 640 + r.val; rw [h0]; omega
  | ⟨1, _⟩ => show win0_2.index t 1 * 2048 + 1 * e.val = e.val; rw [h1]; omega

theorem flushed_eq2 (t : Fin cfg0.N) (_ : (cfg0.win 2).flush t = true) :
    (dats m 0 c).flushed 2 t = ((cfg0.win 2).blk t).view.read (Elt Ideal) (result2 m c) := by
  rw [Value.flushed2 m c t]
  unfold out0_2
  rw [View.canon_unit_zero zero2]
  simp only [View.ld_unit_zero (S := S640x2048) zero2, View.ld_unit_zero (S := S1x2048) zero2]
  funext j
  obtain ⟨r, e, rfl⟩ := ix2_surj (a := 640) (b := 2048) j
  refine (cut_whole2 t _ r e).trans ((pay_at _ _ r e).trans (Eq.trans ?_ (read_at2 t (result2 m c) r e).symm))
  simp only [block_0, block_1]
  rfl

/-- Entry `i` is in the block of point `i 0 / 640`. -/
theorem covered (i : S8320x2048.Idx) : ∃ t : Fin cfg0.N, (cfg0.win 2).flush t = true ∧ i ∈ ((cfg0.win 2).blk t).view.set := by
  have hi : (i 0 : Nat) < 8320 := (i 0).isLt
  have hj : (i 1 : Nat) < 2048 := (i 1).isLt
  let t : Fin cfg0.N := ⟨(i 0).val / 640, by rw [show cfg0.N = 13 from N_0]; omega⟩
  obtain ⟨h0, h1⟩ := index_2 t
  have ht : t.val = (i 0).val / 640 := rfl
  refine ⟨t, flush0_2 t, ?_⟩
  show i ∈ ((View.whole main_v1).slice (win0_2.rect t)).set
  rw [View.set_slice_whole, Rect.mem_set_unit]
  intro a
  match a with
  | ⟨0, _⟩ => show win0_2.index t 0 * 640 ≤ (i 0).val ∧ (i 0).val < win0_2.index t 0 * 640 + 640; rw [h0, ht]; omega
  | ⟨1, _⟩ => show win0_2.index t 1 * 2048 ≤ (i 1).val ∧ (i 1).val < win0_2.index t 1 * 2048 + 2048; rw [h1]; omega

/-- The result array after the grid. -/
theorem final2 : (dats m 0 c).arrAt 2 cfg0.N = result2 m c :=
  (dats m 0 c).arrAt_eq_of_cover 2 (result2 m c) (flushed_eq2 m c) covered

/-! ## The reference -/

section
open Cert.NormBfRefIdeal.Read
theorem reference_at (x0 : FVec Ideal S8320x2048 .f32) (x1 : FVec Ideal S2048 .f32) (p : Fin 8320) (j : Fin 2048) :
    val_main_v13 (F := Ideal) x0 x1 (ix2 p j) = normed 0x45000000#32 (fun k => x0 (ix2 p k)) (fun k => x1 (ix1 k)) j := by
  unfold normed
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
end

end Cert.NormBfIdeal.Layer
-- ==== Proof.NormF.lean ====
module

public import proofs.«01_k».proof.Proof.Dense
public import proofs.«01_k».proof.Proof.Gen.NormFIdeal.Value
public import proofs.«01_k».proof.Proof.Gen.NormFRefIdeal.Run
public import proofs.«01_k».proof.Proof.Gen.NormFRefIdeal.Read

@[expose] public section
set_option maxRecDepth 16384
noncomputable section
namespace Cert.NormFIdeal.Layer
open Idealize.ShloMosaic Idealize.ShloMosaic.TcCoe Idealize.SL.Sem Cert.NormFIdeal Cert.NormFIdeal.Gen
open Cert.Dense (zero2 normed ix2_surj)

/-! The last normalisation: rows of 2048 entries, in row blocks of 640. -/

theorem pay_at (x : Vec Ideal S640x2048 .f32) (g : Vec Ideal S1x2048 .f32) (r : Fin 640) (e : Fin 2048) :
    k0_pay1 x g (ix2 r e) = normed 0x45000000#32 (fun j => x (ix2 r j)) (fun j => g (ix2 0 j)) e := by
  unfold normed
  pointwise [Gen.k0_pay1]

variable (m : (ℓ : Loc nD τ sig) → Buf (Elt Ideal) ℓ) (c : Dev nD)

/-- The rows and the scale as launched. -/
abbrev rows (p : Fin 8320) (k : Fin 2048) : EReal := (m ((c : Thread nD τ).loc main_arg0) : FVec Ideal S8320x2048 .f32) (ix2 p k)
abbrev scale (k : Fin 2048) : EReal := (m ((c : Thread nD τ).loc main_arg1) : FVec Ideal S2048 .f32) (ix1 k)

theorem scale_at (k : Fin 2048) : (V m c main_v0 : FVec Ideal S1x2048 .f32) (ix2 0 k) = scale m c k := by
  unfold V
  after_reads_at

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem lt_N (t : Fin cfg0.N) : t.val < 13 := lt_of_lt_of_eq t.isLt N_0

theorem block_0 (t : Fin cfg0.N) (r : Fin 640) (k : Fin 2048) :
    (iblk m c 0 t : Vec Ideal S640x2048 .f32) (ix2 r k) = rows m c ⟨t.val * 640 + r.val, by have := lt_N t; omega⟩ k := by
  obtain ⟨h0, h1⟩ := index_0 t
  unfold iblk
  rw [View.read_apply]
  show V m c main_arg0 _ = _
  rw [V_main_arg0]
  refine congrArg _ (funext fun a => Fin.ext ?_)
  match a with
  | ⟨0, _⟩ => show win0_0.index t 0 * 640 + 1 * r.val = t.val * 640 + r.val; rw [h0]; omega
  | ⟨1, _⟩ => show win0_0.index t 1 * 2048 + 1 * k.val = k.val; rw [h1]; omega

theorem block_1 (t : Fin cfg0.N) (k : Fin 2048) : (iblk m c 1 t : Vec Ideal S1x2048 .f32) (ix2 0 k) = scale m c k := by
  obtain ⟨h0, h1⟩ := index_1 t
  rw [← scale_at]
  unfold iblk
  rw [View.read_apply]
  show V m c main_v0 _ = V m c main_v0 _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- The result, entry by entry. -/
def result2 : FVec Ideal S8320x2048 .f32 := fun i => normed 0x45000000#32 (rows m c (i 0)) (scale m c) (i 1)

theorem cut_whole2 (t : Fin cfg0.N) (X : Vec Ideal S640x2048 .f32) (r : Fin 640) (e : Fin 2048) :
    (cfg0.win 2).cut (grid0.coords t) X (ix2 r e : S640x2048.Idx) = X (ix2 r e) := rfl

/-- A block of the result array, at a row and a column. -/
theorem read_at2 (t : Fin cfg0.N) (G : FVec Ideal S8320x2048 .f32) (r : Fin 640) (e : Fin 2048) :
    ((cfg0.win 2).blk t).view.read (Elt Ideal) G (ix2 r e : S640x2048.Idx)
      = G (ix2 ⟨t.val * 640 + r.val, by have := lt_N t; omega⟩ e) := by
  obtain ⟨h0, h1⟩ := index_2 t
  rw [View.read_apply, cast_eq]
  refine congrArg G (funext fun a => Fin.ext ?_)
  match a with
  | ⟨0, _⟩ => show win0_2.index t 0 * 640 + 1 * r.val = t.val * 640 + r.val; rw [h0]; omega
  | ⟨1, _⟩ => show win0_2.index t 1 * 2048 + 1 * e.val = e.val; rw [h1]; omega

theorem flushed_eq2 (t : Fin cfg0.N) (_ : (cfg0.win 2).flush t = true) :
    (dats m 0 c).flushed 2 t = ((cfg0.win 2).blk t).view.read (Elt Ideal) (result2 m c) := by
  rw [Value.flushed2 m c t]
  unfold out0_2
  rw [View.canon_unit_zero zero2]
  simp only [View.ld_unit_zero (S := S640x2048) zero2, View.ld_unit_zero (S := S1x2048) zero2]
  funext j
  obtain ⟨r, e, rfl⟩ := ix2_surj (a := 640) (b := 2048) j
  refine (cut_whole2 t _ r e).trans ((pay_at _ _ r e).trans (Eq.trans ?_ (read_at2 t (result2 m c) r e).symm))
  simp only [block_0, block_1]
  rfl

/-- Entry `i` is in the block of point `i 0 / 640`. -/
theorem covered (i : S8320x2048.Idx) : ∃ t : Fin cfg0.N, (cfg0.win 2).flush t = true ∧ i ∈ ((cfg0.win 2).blk t).view.set := by
  have hi : (i 0 : Nat) < 8320 := (i 0).isLt
  have hj : (i 1 : Nat) < 2048 := (i 1).isLt
  let t : Fin cfg0.N := ⟨(i 0).val / 640, by rw [show cfg0.N = 13 from N_0]; omega⟩
  obtain ⟨h0, h1⟩ := index_2 t
  have ht : t.val = (i 0).val / 640 := rfl
  refine ⟨t, flush0_2 t, ?_⟩
  show i ∈ ((View.whole main_v1).slice (win0_2.rect t)).set
  rw [View.set_slice_whole, Rect.mem_set_unit]
  intro a
  match a with
  | ⟨0, _⟩ => show win0_2.index t 0 * 640 ≤ (i 0).val ∧ (i 0).val < win0_2.index t 0 * 640 + 640; rw [h0, ht]; omega
  | ⟨1, _⟩ => show win0_2.index t 1 * 2048 ≤ (i 1).val ∧ (i 1).val < win0_2.index t 1 * 2048 + 2048; rw [h1]; omega

/-- The result array after the grid. -/
theorem final2 : (dats m 0 c).arrAt 2 cfg0.N = result2 m c :=
  (dats m 0 c).arrAt_eq_of_cover 2 (result2 m c) (flushed_eq2 m c) covered

/-! ## The reference -/

section
open Cert.NormFRefIdeal.Read
theorem reference_at (x0 : FVec Ideal S8320x2048 .f32) (x1 : FVec Ideal S2048 .f32) (p : Fin 8320) (j : Fin 2048) :
    val_main_v12 (F := Ideal) x0 x1 (ix2 p j) = normed 0x45000000#32 (fun k => x0 (ix2 p k)) (fun k => x1 (ix1 k)) j := by
  unfold normed
  pointwise [val_main_v12, val_main_v11, val_main_v10, val_main_v9, val_main_v8, val_main_v7, val_main_v6, val_main_v5, val_main_cst_1, val_main_v4, val_main_v3, val_main_cst_0, val_main_v2, val_main_v1, val_main_cst, val_main_v0]
end

end Cert.NormFIdeal.Layer
-- ==== Proof.NormQ.lean ====
module

public import proofs.«01_k».proof.Proof.Dense
public import proofs.«01_k».proof.Proof.Gen.NormQIdeal.Value
public import proofs.«01_k».proof.Proof.Gen.NormQRefIdeal.Run
public import proofs.«01_k».proof.Proof.Gen.NormQRefIdeal.Read

@[expose] public section
set_option maxRecDepth 16384
noncomputable section
namespace Cert.NormQIdeal.Layer
open Idealize.ShloMosaic Idealize.ShloMosaic.TcCoe Idealize.SL.Sem Cert.NormQIdeal Cert.NormQIdeal.Gen
open Cert.Dense (zero2 normed ix2_surj)

/-! The normalisation of the latent queries of layer 3: rows of 512 entries, in row blocks of 640. -/

theorem pay_at (x : Vec Ideal S640x512 .f32) (g : Vec Ideal S1x512 .f32) (r : Fin 640) (e : Fin 512) :
    k0_pay1 x g (ix2 r e) = normed 0x44000000#32 (fun j => x (ix2 r j)) (fun j => g (ix2 0 j)) e := by
  unfold normed
  pointwise [Gen.k0_pay1]

variable (m : (ℓ : Loc nD τ sig) → Buf (Elt Ideal) ℓ) (c : Dev nD)

/-- The rows and the scale as launched. -/
abbrev rows (p : Fin 8320) (k : Fin 512) : EReal := (m ((c : Thread nD τ).loc main_arg0) : FVec Ideal S8320x512 .f32) (ix2 p k)
abbrev scale (k : Fin 512) : EReal := (m ((c : Thread nD τ).loc main_arg1) : FVec Ideal S512 .f32) (ix1 k)

theorem scale_at (k : Fin 512) : (V m c main_v0 : FVec Ideal S1x512 .f32) (ix2 0 k) = scale m c k := by
  unfold V
  after_reads_at

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem lt_N (t : Fin cfg0.N) : t.val < 13 := lt_of_lt_of_eq t.isLt N_0

theorem block_0 (t : Fin cfg0.N) (r : Fin 640) (k : Fin 512) :
    (iblk m c 0 t : Vec Ideal S640x512 .f32) (ix2 r k) = rows m c ⟨t.val * 640 + r.val, by have := lt_N t; omega⟩ k := by
  obtain ⟨h0, h1⟩ := index_0 t
  unfold iblk
  rw [View.read_apply]
  show V m c main_arg0 _ = _
  rw [V_main_arg0]
  refine congrArg _ (funext fun a => Fin.ext ?_)
  match a with
  | ⟨0, _⟩ => show win0_0.index t 0 * 640 + 1 * r.val = t.val * 640 + r.val; rw [h0]; omega
  | ⟨1, _⟩ => show win0_0.index t 1 * 512 + 1 * k.val = k.val; rw [h1]; omega

theorem block_1 (t : Fin cfg0.N) (k : Fin 512) : (iblk m c 1 t : Vec Ideal S1x512 .f32) (ix2 0 k) = scale m c k := by
  obtain ⟨h0, h1⟩ := index_1 t
  rw [← scale_at]
  unfold iblk
  rw [View.read_apply]
  show V m c main_v0 _ = V m c main_v0 _
  refine congrArg _ (funext fun a => Fin.ext ?_)
  match a with
  | ⟨0, _⟩ => show win0_1.index t 0 * 1 + 1 * 0 = 0; rw [h0]
  | ⟨1, _⟩ => show win0_1.index t 1 * 512 + 1 * k.val = k.val; rw [h1]; omega

/-- The result, entry by entry. -/
def result2 : FVec Ideal S8320x512 .bf16 := fun i => normed 0x44000000#32 (rows m c (i 0)) (scale m c) (i 1)

theorem cut_whole2 (t : Fin cfg0.N) (X : Vec Ideal S640x512 .bf16) (r : Fin 640) (e : Fin 512) :
    (cfg0.win 2).cut (grid0.coords t) X (ix2 r e : S640x512.Idx) = X (ix2 r e) := rfl

/-- A block of the result array, at a row and a column. -/
theorem read_at2 (t : Fin cfg0.N) (G : FVec Ideal S8320x512 .bf16) (r : Fin 640) (e : Fin 512) :
    ((cfg0.win 2).blk t).view.read (Elt Ideal) G (ix2 r e : S640x512.Idx)
      = G (ix2 ⟨t.val * 640 + r.val, by have := lt_N t; omega⟩ e) := by
  obtain ⟨h0, h1⟩ := index_2 t
  rw [View.read_apply, cast_eq]
  refine congrArg G (funext fun a => Fin.ext ?_)
  match a with
  | ⟨0, _⟩ => show win0_2.index t 0 * 640 + 1 * r.val = t.val * 640 + r.val; rw [h0]; omega
  | ⟨1, _⟩ => show win0_2.index t 1 * 512 + 1 * e.val = e.val; rw [h1]; omega

theorem flushed_eq2 (t : Fin cfg0.N) (_ : (cfg0.win 2).flush t = true) :
    (dats m 0 c).flushed 2 t = ((cfg0.win 2).blk t).view.read (Elt Ideal) (result2 m c) := by
  rw [Value.flushed2 m c t]
  unfold out0_2
  rw [View.canon_unit_zero zero2]
  simp only [View.ld_unit_zero (S := S640x512) zero2, View.ld_unit_zero (S := S1x512) zero2]
  funext j
  obtain ⟨r, e, rfl⟩ := ix2_surj (a := 640) (b := 512) j
  refine (cut_whole2 t _ r e).trans ((pay_at _ _ r e).trans (Eq.trans ?_ (read_at2 t (result2 m c) r e).symm))
  simp only [block_0, block_1]
  rfl

/-- Entry `i` is in the block of point `i 0 / 640`. -/
theorem covered (i : S8320x512.Idx) : ∃ t : Fin cfg0.N, (cfg0.win 2).flush t = true ∧ i ∈ ((cfg0.win 2).blk t).view.set := by
  have hi : (i 0 : Nat) < 8320 := (i 0).isLt
  have hj : (i 1 : Nat) < 512 := (i 1).isLt
  let t : Fin cfg0.N := ⟨(i 0).val / 640, by rw [show cfg0.N = 13 from N_0]; omega⟩
  obtain ⟨h0, h1⟩ := index_2 t
  have ht : t.val = (i 0).val / 640 := rfl
  refine ⟨t, flush0_2 t, ?_⟩
  show i ∈ ((View.whole main_v1).slice (win0_2.rect t)).set
  rw [View.set_slice_whole, Rect.mem_set_unit]
  intro a
  match a with
  | ⟨0, _⟩ => show win0_2.index t 0 * 640 ≤ (i 0).val ∧ (i 0).val < win0_2.index t 0 * 640 + 640; rw [h0, ht]; omega
  | ⟨1, _⟩ => show win0_2.index t 1 * 512 ≤ (i 1).val ∧ (i 1).val < win0_2.index t 1 * 512 + 512; rw [h1]; omega

/-- The result array after the grid. -/
theorem final2 : (dats m 0 c).arrAt 2 cfg0.N = result2 m c :=
  (dats m 0 c).arrAt_eq_of_cover 2 (result2 m c) (flushed_eq2 m c) covered

/-! ## The reference -/

section
open Cert.NormQRefIdeal.Read
theorem reference_at (x0 : FVec Ideal S8320x512 .f32) (x1 : FVec Ideal S512 .f32) (p : Fin 8320) (j : Fin 512) :
    val_main_v13 (F := Ideal) x0 x1 (ix2 p j) = normed 0x44000000#32 (fun k => x0 (ix2 p k)) (fun k => x1 (ix1 k)) j := by
  unfold normed
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
end

end Cert.NormQIdeal.Layer
-- ==== Proof.AKvIdealRun.lean ====
module

public import proofs.«01_k».proof.Proof.Gen.AKvIdeal.Regions
public import proofs.«01_k».proof.Proof.Gen.AKvIdeal.Skeleton
public import proofs.«01_k».proof.Proof.Gen.AKvIdeal.Points
public import proofs.«01_k».proof.Proof.Gen.AKvIdeal.Launch
public import proofs.«01_k».proof.Proof.Dense
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section
set_option maxRecDepth 16384
noncomputable section
namespace Cert.AKvIdeal.Two
open Cert.AKvIdeal Cert.AKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Dense (zero2)

/-! The normalisation followed by the projection: two calls, the second reading what the first left. This file
runs both on the machine and says what every array holds at the end. -/

variable {F : FTy → Type} [FloatOps F]

local notation "𝕄" => MT nD τ sig Unit (Elt F) ℕ (UR sig nD τ) ℕ

section Body
variable (c : Dev nD) (E : Set ℕ)

/-- What a whole buffer holds after one store over all of it. -/
theorem stored {sp : Space} {S : Shape} {e : EltTy} (v : View sig .tc sp S e) (f : v.ty.Idx → Elt F v.ty.elt)
    {st : Fin S.rank → Nat} (hst : st = fun _ => 0) (h) (p : S.Idx → Elt F e)
    (hc : ∀ y : S.Idx, ∃ pc ∈ ([⟨Rect.unit (s := S) st S.size h, p⟩] : List (View.Piece (Elt F) S e)), y ∈ pc.1.set) :
    v.read (Elt F) (v.writes (Elt F) f [⟨Rect.unit (s := S) st S.size h, p⟩]) = p := by
  rw [View.read_writes_eq_canon _ _ _ hc, View.canon_unit_zero hst]

/-! ## One point of the normalisation -/

set_option maxHeartbeats 1000000 in
/-- From its rows and the gains, a point leaves the normalised rows. -/
theorem norm_point (i : grid0.Coords) (arg1 : Memref sig .tc .vmem S640x2048 .f32) (harg1 : arg1.IsWhole)
    (arg2 : Memref sig .tc .vmem S1x2048 .f32) (harg2 : arg2.IsWhole)
    (arg3 : Memref sig .tc .vmem S640x2048 .bf16) (harg3 : arg3.IsWhole)
    (x : Vec F S640x2048 .f32) (g : Vec F S1x2048 .f32) (K : PUnit → sProp 𝕄) :
    iprop(owns (c : Thread nD τ) arg1 fullShare x ∗ owns (c : Thread nD τ) arg2 fullShare g ∗ (∃ d, owns (c : Thread nD τ) arg3 fullShare d)
        ∗ (iprop(owns (c : Thread nD τ) arg1 fullShare x ∗ owns (c : Thread nD τ) arg2 fullShare g
            ∗ owns (c : Thread nD τ) arg3 fullShare (k0_pay1 x g)) -∗ K ⟨⟩))
      ⊢ wp frame (wpE (defs₀ (F := F)) Variants.none c none) E (cc0_rmsnorm i arg1 harg1 arg2 harg2 arg3 harg3) K := by
  simp only [cc0_rmsnorm_eq_skeleton]; unfold cc0_rmsnorm_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (stored _ _ zero2 _ _ fun y => View.cover_of_tiled _ S640x2048.size (by rfl) y).trans ?_
  sl_unfold_words
  simp only [View.readAt_eq_ld, harg1.read_unread, harg2.read_unread, View.ld_unit_zero (S := S640x2048) zero2,
    View.ld_unit_zero (S := S1x2048) zero2]

/-! ## One point of the projection -/

/-- The projection's condition for storing its weights: the first row block of a column block. -/
abbrev atFirst (i : grid1.Coords) : Prop :=
  (Scalar.cmpi .ne (Scalar.extui (Scalar.cmpi .eq (BitVec.ofNat 32 (i 1).val) 0#32)) 0#32) = 1#1

theorem first_iff : ∀ t : Fin cfg1.N, atFirst (grid1.coords t) ↔ t.val % 13 = 0 :=
  (fun t => by
    have ht : t.val < 65 := Nat.lt_of_lt_of_eq t.isLt N_1
    have e1 : (grid1.coords t 1).val = t.val / 1 % 13 := Pipeline.Grid.coords_val t 1 (by decide) rfl
    simp only [atFirst, e1]
    word_cmp
   : ∀ t : Fin grid1.N, atFirst (grid1.coords t) ↔ t.val % 13 = 0)

section
variable (i : grid1.Coords) (arg2 : Memref sig .tc .vmem S640x2048 .bf16) (harg2 : arg2.IsWhole)
  (arg3 : Memref sig .tc .vmem S2048x512 .f32) (harg3 : arg3.IsWhole)
  (arg4 : Memref sig .tc .vmem S640x512 .f32) (harg4 : arg4.IsWhole)
  (arg5 : Memref sig .tc .vmem S640x512 .bf16) (harg5 : arg5.IsWhole)
  (arg6 : Memref sig .tc .vmem S2048x512 .bf16) (harg6 : arg6.IsWhole)
  (x : Vec F S640x2048 .bf16) (w : Vec F S2048x512 .f32)

set_option maxHeartbeats 1000000 in
/-- At the first row block of a column block the weights are stored, then multiplied with the rows. -/
theorem proj_first (hc : atFirst i) (K : PUnit → sProp 𝕄) :
    iprop(owns (c : Thread nD τ) arg2 fullShare x ∗ owns (c : Thread nD τ) arg3 fullShare w
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x ∗ owns (c : Thread nD τ) arg3 fullShare w
            ∗ owns (c : Thread nD τ) arg4 fullShare (k1_pay2 (k1_pay1 w) x) ∗ owns (c : Thread nD τ) arg5 fullShare (k1_pay3 (k1_pay1 w) x)
            ∗ owns (c : Thread nD τ) arg6 fullShare (k1_pay1 w)) -∗ K ⟨⟩))
      ⊢ wp frame (wpE (defs₀ (F := F)) Variants.none c none) E (cc1_matmul i arg2 harg2 arg3 harg3 arg4 harg4 arg5 harg5 arg6 harg6) K := by
  simp only [cc1_matmul_eq_skeleton]; unfold cc1_matmul_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (stored _ _ zero2 _ _ fun y => View.cover_of_tiled _ S640x512.size (by rfl) y).trans ?_
    sl_unfold_words
    simp only [View.readAt_eq_ld, harg2.read_unread, harg3.read_unread, View.ld_unit_zero (S := S640x2048) zero2,
      View.ld_unit_zero (S := S2048x512) zero2]
    exact congrArg (fun w => k1_pay2 w x) (View.readCov_full (s := S2048x512) _ _ _ _ _)
  isplitl [H3]
  · iexists _; isplitr
    swap; · iexact H3
    ipureintro
    refine (stored _ _ zero2 _ _ fun y => View.cover_of_tiled _ S640x512.size (by rfl) y).trans ?_
    sl_unfold_words
    simp only [View.readAt_eq_ld, harg2.read_unread, harg3.read_unread, View.ld_unit_zero (S := S640x2048) zero2,
      View.ld_unit_zero (S := S2048x512) zero2]
    exact congrArg (fun w => k1_pay3 w x) (View.readCov_full (s := S2048x512) _ _ _ _ _)
  iexists _; isplitr
  swap; · iexact H4
  ipureintro
  refine (stored _ _ zero2 _ _ fun y => View.cover_of_tiled _ S2048x512.size (by rfl) y).trans ?_
  sl_unfold_words
  simp only [View.readAt_eq_ld, harg3.read_unread, View.ld_unit_zero (S := S2048x512) zero2]

set_option maxHeartbeats 1000000 in
/-- At a later row block the weights kept are multiplied with the rows. -/
theorem proj_later (hc : ¬ atFirst i) (g : Vec F S2048x512 .bf16) (K : PUnit → sProp 𝕄) :
    iprop(owns (c : Thread nD τ) arg2 fullShare x ∗ owns (c : Thread nD τ) arg3 fullShare w
        ∗ (∃ d, owns (c : Thread nD τ) arg4 fullShare d) ∗ (∃ d, owns (c : Thread nD τ) arg5 fullShare d)
        ∗ owns (c : Thread nD τ) arg6 fullShare g
        ∗ (iprop(owns (c : Thread nD τ) arg2 fullShare x ∗ owns (c : Thread nD τ) arg3 fullShare w
            ∗ owns (c : Thread nD τ) arg4 fullShare (k1_pay2 g x) ∗ owns (c : Thread nD τ) arg5 fullShare (k1_pay3 g x)
            ∗ owns (c : Thread nD τ) arg6 fullShare g) -∗ K ⟨⟩))
      ⊢ wp frame (wpE (defs₀ (F := F)) Variants.none c none) E (cc1_matmul i arg2 harg2 arg3 harg3 arg4 harg4 arg5 harg5 arg6 harg6) K := by
  simp only [cc1_matmul_eq_skeleton]; unfold cc1_matmul_skel
  unfold owns
  iintro ⟨⟨%f0, %hf0, H0⟩, ⟨%f1, %hf1, H1⟩, ⟨%d2, %f2, -, H2⟩, ⟨%d3, %f3, -, H3⟩, ⟨%f4, %hf4, H4⟩, Hk⟩
  obtain rfl := harg2.eq_unread hf0; obtain rfl := harg3.eq_unread hf1; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (stored _ _ zero2 _ _ fun y => View.cover_of_tiled _ S640x512.size (by rfl) y).trans ?_
    sl_unfold_words
    simp only [View.readAt_eq_ld, harg2.read_unread, harg6.read_unread, View.ld_unit_zero (S := S640x2048) zero2,
      View.ld_unit_zero (S := S2048x512) zero2]
  isplitl [H3]
  · iexists _; isplitr
    swap; · iexact H3
    ipureintro
    refine (stored _ _ zero2 _ _ fun y => View.cover_of_tiled _ S640x512.size (by rfl) y).trans ?_
    sl_unfold_words
    simp only [View.readAt_eq_ld, harg2.read_unread, harg6.read_unread, View.ld_unit_zero (S := S640x2048) zero2,
      View.ld_unit_zero (S := S2048x512) zero2]
  iexists _; isplitr; · ipureintro; exact harg6.read_unread _
  iexact H4
end
end Body

/-! ## What the two calls leave, from any contents of the arrays -/

section Data
variable (V : (c : Dev nD) → (b : Ref sig .tc) → Buf (Elt F) ((c : Thread nD τ).loc b)) (c : Dev nD)

/-- A window's block at a point, off its array. -/
def block0 (w : Fin cfg0.W) (t : Fin cfg0.N) : ((cfg0.win w).xblock (cfg0.grid.coords t)).Idx → Elt F (cfg0.win w).elt :=
  ((cfg0.win w).blk t).view.read (Elt F) (V c (Pipeline.arrRef spec0 w))
def block1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalisation: nothing is kept between points. -/
def dat0 : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => k0_pay1 (block0 V c 0 t) (block0 V c 1 t)
  Φ _ := Pipeline.scopedRest (Ix := Unit) (Name := ℕ) (U := UR sig nD τ) (Lvl := ℕ) (Val := Elt F) spec0 c
  q _ := fullShare
  owed _ := 0

theorem A0 (w : Fin cfg0.W) : (dat0 V c).A w = V c (Pipeline.arrRef spec0 w) := by dsimp only [dat0]
theorem after0_0 (t : Fin cfg0.N) : (dat0 V c).after 0 t = block0 V c 0 t := by dsimp only [dat0]
theorem after0_1 (t : Fin cfg0.N) : (dat0 V c).after 1 t = block0 V c 1 t := by dsimp only [dat0]
theorem after0_2 (t : Fin cfg0.N) : (dat0 V c).after 2 t = k0_pay1 (block0 V c 0 t) (block0 V c 1 t) := by dsimp only [dat0]

/-- An input's buffer holds the point's block. -/
theorem before0_0 (t : Fin cfg0.N) (d) : (dat0 V c).before 0 t d = block0 V c 0 t :=
  ((dat0 V c).before_in_eq_fetched 0 rfl (fun _ => rfl) (fun _ _ _ => rfl)
    (fun t => by rw [after0_0]; unfold Dat.blockOf block0; rw [A0]) t d).trans
    (by unfold Dat.fetched Dat.blockOf block0; rw [A0]; try rfl)
theorem before0_1 (t : Fin cfg0.N) (d) : (dat0 V c).before 1 t d = block0 V c 1 t :=
  ((dat0 V c).before_in_eq_fetched 1 rfl (fun _ => rfl) (fun _ _ _ => rfl)
    (fun t => by rw [after0_1]; unfold Dat.blockOf block0; rw [A0]) t d).trans
    (by unfold Dat.fetched Dat.blockOf block0; rw [A0]; try rfl)

/-- One point of the normalisation, from its buffers to its buffers. -/
theorem body0 (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (norm_point c Set.univ (grid0.coords t) _ _ _ _ _ _ (block0 V c 0 t) (block0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

theorem obligation0 : BodyObligation (dat0 V c) (defs₀ (F := F)) Variants.none () Set.univ := fun t => by
  rw [bigSep_W0, bigSep_W0, row0]
  exact triple_restated (body0 V c t) rfl .rfl fun _ => .rfl

/-! ### The projection: the weights of the column block are kept in a buffer of its own -/

/-- The weights kept after a point. -/
def kept (t : Fin cfg1.N) : Vec F S2048x512 .bf16 := k1_pay1 (block1 V c 1 t)

theorem weights_index : ∀ t : Fin grid1.N, win1_1.index t 0 = 0 ∧ win1_1.index t 1 = t.val / 13 := by decide +kernel

/-- Within a column block the weights do not change. -/
theorem kept_pred (t : Fin cfg1.N) (h : ¬ t.val % 13 = 0) (hp : t.val - 1 < cfg1.N) :
    kept V c ⟨t.val - 1, hp⟩ = kept V c t := by
  unfold kept
  congr 1
  unfold block1
  obtain ⟨a0, a1⟩ := weights_index t
  obtain ⟨b0, b1⟩ := weights_index ⟨t.val - 1, hp⟩
  have hd : (t.val - 1) / 13 = t.val / 13 := by omega
  dsimp only at b1
  rw [hd] at b1
  funext j
  rw [View.read_apply, View.read_apply]
  show V c main_arg3 _ = V c main_arg3 _
  refine congrArg _ (funext fun a => Fin.ext ?_)
  match a with
  | ⟨0, _⟩ =>
    show win1_1.index ⟨t.val - 1, hp⟩ 0 * 2048 + 1 * (j 0).val = win1_1.index t 0 * 2048 + 1 * (j 0).val
    rw [a0, b0]
  | ⟨1, _⟩ =>
    show win1_1.index ⟨t.val - 1, hp⟩ 1 * 512 + 1 * (j 1).val = win1_1.index t 1 * 512 + 1 * (j 1).val
    rw [a1, b1]

/-- The buffers of the other call, at some contents. -/
def others : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

abbrev scr : Memref sig .tc .vmem S2048x512 .bf16 := Memref.whole cc1_scratch0

/-- Before point `n`: the buffer of weights holds what the point before left; before the first, anything. -/
def inv (n : ℕ) : sProp 𝕄 :=
  iprop((∃ d, ⌜∀ (_ : 0 < n) (h : n - 1 < cfg1.N), d = kept V c ⟨n - 1, h⟩⌝ ∗ owns (c : Thread nD τ) scr fullShare d) ∗ others (F := F) c)

/-- The projection. -/
def dat1 : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => k1_pay2 (kept V c t) (block1 V c 0 t)
    | ⟨3, _⟩ => k1_pay3 (kept V c t) (block1 V c 0 t)
  Φ t := inv V c t.val
  q _ := fullShare
  owed _ := 0

theorem A1 (w : Fin cfg1.W) : (dat1 V c).A w = V c (Pipeline.arrRef spec1 w) := by dsimp only [dat1]
theorem after1_0 (t : Fin cfg1.N) : (dat1 V c).after 0 t = block1 V c 0 t := by dsimp only [dat1]
theorem after1_1 (t : Fin cfg1.N) : (dat1 V c).after 1 t = block1 V c 1 t := by dsimp only [dat1]
theorem after1_2 (t : Fin cfg1.N) : (dat1 V c).after 2 t = k1_pay2 (kept V c t) (block1 V c 0 t) := by dsimp only [dat1]
theorem after1_3 (t : Fin cfg1.N) : (dat1 V c).after 3 t = k1_pay3 (kept V c t) (block1 V c 0 t) := by dsimp only [dat1]

theorem before1_0 (t : Fin cfg1.N) (d) : (dat1 V c).before 0 t d = block1 V c 0 t :=
  ((dat1 V c).before_in_eq_fetched 0 rfl (fun _ => rfl) (fun _ _ _ => rfl)
    (fun t => by rw [after1_0]; unfold Dat.blockOf block1; rw [A1]) t d).trans
    (by unfold Dat.fetched Dat.blockOf block1; rw [A1]; try rfl)
theorem before1_1 (t : Fin cfg1.N) (d) : (dat1 V c).before 1 t d = block1 V c 1 t :=
  ((dat1 V c).before_in_eq_fetched 1 rfl (fun _ => rfl) (fun _ _ _ => rfl)
    (fun t => by rw [after1_1]; unfold Dat.blockOf block1; rw [A1]) t d).trans
    (by unfold Dat.fetched Dat.blockOf block1; rw [A1]; try rfl)

/-- One point of the projection, from its buffers to its buffers. -/
theorem body1 (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1]
  rw [show (dat1 V c).Φ t.succ = inv V c (t.val + 1) from rfl, show (dat1 V c).Φ t.castSucc = inv V c t.val from rfl,
    show (dat1 V c).owesAt () t.succ = (dat1 V c).owesAt () t.castSucc from rfl, after1_0, after1_1, after1_2, after1_3]
  unfold inv
  iintro ⟨⟨⟨%d, %hd, HS⟩, HR⟩, Ho, ⟨%d0, H0⟩, ⟨%d1, H1⟩, ⟨%d2, H2⟩, ⟨%d3, H3⟩⟩
  by_cases h : t.val % 13 = 0
  · iapply (proj_first c Set.univ (grid1.coords t) _ _ _ _ _ _ _ _ _ _ (block1 V c 0 t) (block1 V c 1 t) ((first_iff t).mpr h) _)
    isplitl [H0]; · iexact H0
    isplitl [H1]; · iexact H1
    isplitl [H2]; · iexists _; iexact H2
    isplitl [H3]; · iexists _; iexact H3
    isplitl [HS]; · iexists _; iexact HS
    iintro ⟨H0, H1, H2, H3, HS⟩
    isplitl [HS HR]
    · isplitl [HS]
      · iexists _; isplitr
        swap; · iexact HS
        ipureintro; intro _ _; rfl
      iexact HR
    isplitl [Ho]; · iexact Ho
    isplitl [H0]; · iexact H0
    isplitl [H1]; · iexact H1
    isplitl [H2]; · iexact H2
    iexact H3
  · have hp : 0 < t.val := by omega
    have hq : t.val - 1 < cfg1.N := lt_of_le_of_lt (Nat.sub_le _ _) t.isLt
    obtain rfl : d = kept V c t := (hd hp hq).trans (kept_pred V c t h hq)
    iapply (proj_later c Set.univ (grid1.coords t) _ _ _ _ _ _ _ _ _ _ (block1 V c 0 t) (block1 V c 1 t)
      (fun hf => h ((first_iff t).mp hf)) (kept V c t) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS HR]
    · isplitl [HS]
      · iexists _; isplitr
        swap; · iexact HS
        ipureintro; intro _ _; rfl
      iexact HR
    isplitl [Ho]; · iexact Ho
    isplitl [H0]; · iexact H0
    isplitl [H1]; · iexact H1
    isplitl [H2]; · iexact H2
    iexact H3

theorem row1 (t : Fin cfg1.N) : defs₀ (F := F) .tc cfg1.body (cfg1.bodyArgs t (cfg1.slots t)) = bodyAt1 t := by
  unfold defs₀; rw [Defs.onTc_tc]

theorem obligation1 : BodyObligation (dat1 V c) (defs₀ (F := F)) Variants.none () Set.univ := fun t => by
  rw [bigSep_W1, bigSep_W1, row1]
  exact triple_restated (body1 V c t) rfl .rfl fun _ => .rfl

/-- The buffers at anything are what the projection starts from, -/
theorem inv_start : Pipeline.scopedRest (Ix := Unit) (Name := ℕ) (U := UR sig nD τ) (Lvl := ℕ) (Val := Elt F) spec1 c ⊢ inv V c 0 := by
  rw [scopedRest1_eq]
  unfold inv others
  simp only [scr, owns_whole]
  iintro ⟨H0, H1, H2, H3, H4, ⟨%f, HS⟩⟩
  isplitl [HS]
  · iexists f; isplitr; · ipureintro; intro h _; exact absurd h (by omega)
    iexact HS
  isplitl [H0]; · iexact H0
  isplitl [H1]; · iexact H1
  isplitl [H2]; · iexact H2
  isplitl [H3]; · iexact H3
  iexact H4

/-- and what it ends with. -/
theorem inv_end (n : ℕ) : inv V c n ⊢ Pipeline.scopedRest (Ix := Unit) (Name := ℕ) (U := UR sig nD τ) (Lvl := ℕ) (Val := Elt F) spec1 c := by
  rw [scopedRest1_eq]
  unfold inv others
  simp only [scr, owns_whole]
  iintro ⟨⟨%d, -, HS⟩, H0, H1, H2, H3, H4⟩
  isplitl [H0]; · iexact H0
  isplitl [H1]; · iexact H1
  isplitl [H2]; · iexact H2
  isplitl [H3]; · iexact H3
  isplitl [H4]; · iexact H4
  iexists d; iexact HS
end Data

/-! ## The program -/

section Program
variable (m : (ℓ : Loc nD τ sig) → Buf (Elt F) ℓ) (ρ : Dev nD → PrngReg)

/-- The arrays as the normalisation finds them, -/
abbrev W1 (c : Dev nD) : Valuation τ sig (Elt F) := StableHlo.after hostOps0 (fun b => m (c, b))
abbrev in0 (c : Dev nD) (b : Ref sig .tc) : Buf (Elt F) ((c : Thread nD τ).loc b) := W1 m c b
/-- what it leaves, -/
def rowsOut (c : Dev nD) : Buf (Elt F) ((c : Thread nD τ).loc main_v6) := (dat0 (in0 m) c).arrAt 2 cfg0.N
/-- the arrays as the projection finds them, -/
def W2 (c : Dev nD) : Valuation τ sig (Elt F) := Function.update (W1 m c) main_v6 (rowsOut m c)
abbrev in1 (c : Dev nD) (b : Ref sig .tc) : Buf (Elt F) ((c : Thread nD τ).loc b) := W2 m c b
/-- what it leaves in its two results, -/
def wideOut (c : Dev nD) : Buf (Elt F) ((c : Thread nD τ).loc main_v7_0) := (dat1 (in1 m) c).arrAt 2 cfg1.N
def narrowOut (c : Dev nD) : Buf (Elt F) ((c : Thread nD τ).loc main_v7_1) := (dat1 (in1 m) c).arrAt 3 cfg1.N
/-- the arrays after it, -/
def W3 (c : Dev nD) : Valuation τ sig (Elt F) :=
  Function.update (Function.update (W2 m c) main_v7_0 (wideOut m c)) main_v7_1 (narrowOut m c)
abbrev out1 (c : Dev nD) (b : Ref sig .tc) : Buf (Elt F) ((c : Thread nD τ).loc b) := W3 m c b
/-- and at the end. -/
abbrev W4 (c : Dev nD) : Valuation τ sig (Elt F) := StableHlo.after hostOps2 (W3 m c)

theorem W2_at (c : Dev nD) : W2 m c main_v6 = rowsOut m c := by
  unfold W2; rw [Function.update_self]
theorem W2_of (c : Dev nD) (r : Ref sig .tc) (h : r ≠ main_v6) : W2 m c r = W1 m c r := by
  unfold W2; rw [Function.update_of_ne (StableHlo.devRef_ne_of_ne h)]
theorem W3_wide (c : Dev nD) : W3 m c main_v7_0 = wideOut m c := by
  unfold W3; rw [Function.update_of_ne (StableHlo.devRef_ne_of_ne (by decide)), Function.update_self]
theorem W3_narrow (c : Dev nD) : W3 m c main_v7_1 = narrowOut m c := by
  unfold W3; rw [Function.update_self]
theorem W3_of (c : Dev nD) (r : Ref sig .tc) (h0 : r ≠ main_v7_0) (h1 : r ≠ main_v7_1) : W3 m c r = W2 m c r := by
  unfold W3; rw [Function.update_of_ne (StableHlo.devRef_ne_of_ne h1), Function.update_of_ne (StableHlo.devRef_ne_of_ne h0)]

/-- The data of the two calls. -/
def data : (p : Fin 2) → (c : Dev nD) → Dat τ (Elt F) Unit ℕ (UR sig nD τ) ℕ (cfgs p) c
  | ⟨0, _⟩ => fun c => dat0 (in0 m) c
  | ⟨1, _⟩ => fun c => dat1 (in1 m) c

/-- No core waits for another: no level is used. -/
abbrev noLevels : GSem nD τ sig → Finset Unit := fun _ => ∅
abbrev level0 : GSem nD τ sig → Unit → ℕ := fun _ _ => 0

/-- A core that owes nothing. -/
def free (c : Dev nD) : sProp 𝕄 := iprop(∃ W, owes (c : Thread nD τ) (0 : CellTallies nD τ sig Unit) W)

set_option backward.isDefEq.respectTransparency.types false in
set_option maxHeartbeats 800000 in
/-- The normalisation as a step of the program: its arrays are taken out, worked on, and put back. -/
def step0 : RegionSeg (pcfgs (F := F)) adm (data m) () defs₀ Variants.none noLevels level0 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels level0 0 fun _ _ => rfl
  pre c := iprop(unscopedBufs c (in0 m c) ∗ free c)
  post c := iprop(unscopedBufs c (in1 m c) ∗ free c)
  X _ := BI.emp
  Y _ := BI.emp
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (data m) launch0.win launch0.arr_whole c
      ((data m 0 c).share_full fun _ => rfl) (in0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin free
      icases HO with ⟨%W, HO⟩; iexists W; isplitr; · ipureintro; exact fun _ _ => Or.inl trivial
      iexact HO
    isplitr; · iempintro
    iexact Hrest
  hin c := by
    rw [show (data m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (data m 0 c).Φ (Fin.last _)
      = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (data m) ((data m 0 c).share_full fun _ => rfl) (in0 m c) (in1 m c) ((data m 0 c).arrAt · cfg0.N)
      (fun w => by
        fin_cases w
        · exact ((data m 0 c).arrAt_in 0 rfl _).trans (W2_of m c main_v2 (by decide)).symm
        · exact ((data m 0 c).arrAt_in 1 rfl _).trans (W2_of m c main_v5 (by decide)).symm
        · exact (W2_at m c).symm)
      (fun b hb => W2_of m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin free
    icases HO with ⟨%W, -, HO⟩; iexists W; iexact HO

set_option backward.isDefEq.respectTransparency.types false in
set_option maxHeartbeats 800000 in
/-- The projection as a step of the program. -/
def step1 : RegionSeg (pcfgs (F := F)) adm (data m) () defs₀ Variants.none noLevels level0 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ noLevels level0 1 fun _ _ => rfl
  pre c := iprop(unscopedBufs c (in1 m c) ∗ free c)
  post c := iprop(unscopedBufs c (out1 m c) ∗ free c)
  X _ := BI.emp
  Y _ := BI.emp
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (data m) launch1.win launch1.arr_whole c
      ((data m 1 c).share_full fun _ => rfl) (in1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin free
      icases HO with ⟨%W, HO⟩; iexists W; isplitr; · ipureintro; exact fun _ _ => Or.inl trivial
      iexact HO
    isplitr; · iempintro
    iexact Hrest
  hin c := by
    rw [show (data m 1 c).Φ 0 = inv (in1 m) c 0 from rfl]
    iintro ⟨-, -, Hr⟩
    iapply (inv_start (in1 m) c) $$ Hr
  hout c := by
    rw [Pipeline.ownSems0_none, show (data m 1 c).Φ (Fin.last _) = inv (in1 m) c cfg1.N from rfl]
    iintro Hr
    isplitr; · iempintro
    isplitr; · iempintro
    iapply (inv_end (in1 m) c cfg1.N) $$ Hr
  hexit c := by
    have hjoin := Pipeline.unscopedBufs_of_arrays (p := 1) (pcfgs (F := F)) adm (Ix := Unit) (Name := ℕ) (U := UR sig nD τ) (Lvl := ℕ) launch1.win launch1.arr_whole c
      (data m) ((data m 1 c).share_full fun _ => rfl) (in1 m c) (out1 m c) ((data m 1 c).arrAt · cfg1.N)
      (fun w => by
        fin_cases w
        · exact ((data m 1 c).arrAt_in 0 rfl _).trans (W3_of m c main_v6 (by decide) (by decide)).symm
        · exact ((data m 1 c).arrAt_in 1 rfl _).trans (W3_of m c main_arg3 (by decide) (by decide)).symm
        · exact (W3_wide m c).symm
        · exact (W3_narrow m c).symm)
      (fun b hb => W3_of m c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin free
    icases HO with ⟨%W, -, HO⟩; iexists W; iexact HO

/-- The reshapes before the calls and the slices after them. -/
def before : HostSeg (Ix := Unit) (Name := ℕ) (U := UR sig nD τ) (Lvl := ℕ) (pcfgs (F := F)) defs₀ Variants.none noLevels level0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) free
def after : HostSeg (Ix := Unit) (Name := ℕ) (U := UR sig nD τ) (Lvl := ℕ) (pcfgs (F := F)) defs₀ Variants.none noLevels level0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) free

/-- The program, step by step. -/
abbrev steps (c : Dev nD) : List (Seg (pcfgs (F := F)) adm (data m) () defs₀ Variants.none noLevels level0) :=
  [.host (before m), .region (step0 m), .region (step1 m), .host (after m)]

/-- All arrays at given contents, in the two spellings. -/
theorem held_eq (c : Dev nD) (W : Valuation τ sig (Elt F)) :
    (unscopedBufs c (fun b => W b) : sProp 𝕄) = StableHlo.held (c : Thread nD τ) (Pipeline.ucRefs τ sig) W :=
  Pipeline.unscopedBufs_held (Ix := Unit) (Name := ℕ) (U := UR sig nD τ) (Lvl := ℕ) c W

set_option backward.isDefEq.respectTransparency.types false in
set_option maxHeartbeats 800000 in
/-- THE RUN: every execution ends, every array holds what was computed, and every semaphore is back at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W4 m c b) ∧ r.2.sem = fun _ => 0) := by
  refine Pipeline.θ_run_regions_kit_dev_sems (pcfgs (F := F)) adm (data m) () cellOf_inj emb₁ defs₀ Variants.none noLevels level0 m ρ main
    (steps m)
    (fun c Q => by
      rewrite [main_chain c, Seg.run_eq_chain,
        show (steps m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [steps, Seg.pipes_host, Seg.pipes_region, Seg.pipes_nil]; decide)
    (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (fun b => m (c, b)) ∗ free c))
    (Tₙ := fun c => StableHlo.held (c : Thread nD τ) (Pipeline.ucRefs τ sig) (W4 m c))
    (hch := fun c => ⟨.rfl, sep_mono (Entails.of_eq (held_eq c (W1 m c)).symm) .rfl, .rfl,
      sep_mono (Entails.of_eq (held_eq c (W3 m c))) .rfl, .rfl⟩)
    (hinit := ?_) (QY := fun c s => ∀ b ∈ Pipeline.ucRefs τ sig, s.mem ((c : Thread nD τ).1, b) = W4 m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    · iapply (show BI.emp ⊢ bigSep Finset.univ (fun _ : Dev nD => (BI.emp : sProp 𝕄)) from by rw [BI.bigSep_emp_const])
      iempintro
  · have hone (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp)
        ⊢ (iprop(StableHlo.held (c : Thread nD τ) (Pipeline.ucRefs τ sig) (fun b => m (c, b)) ∗ free c) : sProp 𝕄) := by
      rw [← held_eq c (fun b => m (c, b))]
      iintro ⟨Hh, -, HO, -, -, -⟩
      isplitl [Hh]; · iexact Hh
      unfold free
      iexists _; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (bigSep Finset.univ fun c : Dev nD => iprop(StableHlo.held (c : Thread nD τ) (Pipeline.ucRefs τ sig) (fun b => m (c, b)) ∗ free c) : sProp 𝕄) :=
      bigSep_mono fun c _ => hone c
    iintro ⟨H, -⟩
    imodintro
    iapply hsplit $$ H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro; exact h
    · iexact HSI
/-- An array neither host step nor either call writes is at the end as launched. -/
theorem W4_of (c : Dev nD) (r : Ref sig .tc) (h : r ∉ hostOps2_W) (h0 : r ≠ main_v7_0) (h1 : r ≠ main_v7_1) (h2 : r ≠ main_v6)
    (h3 : r ∉ hostOps0_W) : W4 m c r = m ((c : Thread nD τ).loc r) :=
  (StableHlo.after_of_writes_sub hostOps2 _ hostOps2_writes h).trans ((W3_of m c r h0 h1).trans ((W2_of m c r h2).trans
    (StableHlo.after_of_writes_sub hostOps0 _ hostOps0_writes h3)))

/-- What the run leaves: the two results, the arguments as launched, and no pending signal. -/
theorem results : θ_run defs (onTc (τ := τ) (main (F := F))) ⟨m, fun _ => 0, ρ⟩ (fun r => (∀ c : Dev nD,
      r.2.mem ((c : Thread nD τ).loc main_v11) = W4 m c main_v11
      ∧ r.2.mem ((c : Thread nD τ).loc main_v13) = W4 m c main_v13
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  refine (θ_run _ _ _).mono (fun r h => ⟨fun c => ?_, h.2⟩) (run m ρ)
  have at_end := fun (b : Ref sig .tc) (hb : ¬ (Proc.devRef (τ := τ) .tc b).isScoped) =>
    h.1 c (Proc.devRef .tc b) (Finset.mem_filter.mpr ⟨StableHlo.devRef_mem_tcRefs b, hb⟩)
  exact ⟨at_end main_v11 (by decide), at_end main_v13 (by decide),
    (at_end main_arg0 (by decide)).trans (W4_of m c main_arg0 (by decide) (by decide) (by decide) (by decide) (by decide)),
    (at_end main_arg1 (by decide)).trans (W4_of m c main_arg1 (by decide) (by decide) (by decide) (by decide) (by decide)),
    (at_end main_arg2 (by decide)).trans (W4_of m c main_arg2 (by decide) (by decide) (by decide) (by decide) (by decide)),
    (at_end main_arg3 (by decide)).trans (W4_of m c main_arg3 (by decide) (by decide) (by decide) (by decide) (by decide))⟩
/-- The frame: arguments as launched and no pending signal. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run _ _ _).mono (fun _ h => ⟨fun c => (h.1 c).2.2, h.2⟩) (results m ρ)
end Program

end Cert.AKvIdeal.Two
-- ==== Proof.AKv.lean ====
module

public import proofs.«01_k».proof.Proof.AKvIdealRun
public import proofs.«01_k».proof.Proof.Gen.AKvRefIdeal.Run
public import proofs.«01_k».proof.Proof.Gen.AKvRefIdeal.Read

@[expose] public section
set_option maxRecDepth 16384
noncomputable section
namespace Cert.AKvIdeal.Layer
open Idealize.ShloMosaic Idealize.ShloMosaic.TcCoe Idealize.SL.Sem Cert.AKvIdeal Cert.AKvIdeal.Gen Cert.AKvIdeal.Two
open Cert.Dense (zero2 dot normed ix2_surj)

/-! The keys and values of layer 0, from the layer's input: the rows of the prompt and of the sample, one under the other,
are normalised (first call), multiplied by the projection matrix (second call), and the last 512 columns are cut into two
kinds (key, value) of two heads of 128, the prompt's rows and the sample's rows apart. -/

/-! ## The two bodies, entry by entry -/

theorem norm_at (x : Vec Ideal S640x2048 .f32) (g : Vec Ideal S1x2048 .f32) (r : Fin 640) (e : Fin 2048) :
    k0_pay1 x g (ix2 r e) = normed 0x45000000#32 (fun j => x (ix2 r j)) (fun j => g (ix2 0 j)) e := by
  unfold normed
  pointwise [Gen.k0_pay1]

theorem kept_at (w : Vec Ideal S2048x512 .f32) (k : Fin 2048) (e : Fin 512) : k1_pay1 w (ix2 k e) = w (ix2 k e) := by
  pointwise [Gen.k1_pay1]

theorem product_at (g : Vec Ideal S2048x512 .bf16) (x : Vec Ideal S640x2048 .bf16) (r : Fin 640) (e : Fin 512) :
    k1_pay2 g x (ix2 r e) = ∑ k : Fin 2048, x (ix2 r k) * g (ix2 k e) := by
  pointwise [Gen.k1_pay2]

/-! ## The arrays as launched, and as the first call finds them -/

variable (m : (ℓ : Loc nD τ sig) → Buf (Elt Ideal) ℓ) (c : Dev nD)

abbrev prompt (b : Fin 2) (s : Fin 4096) (k : Fin 2048) : EReal :=
  (m ((c : Thread nD τ).loc main_arg0) : FVec Ideal S2x4096x2048 .f32) (ix3 b s k)
abbrev sample (b : Fin 128) (k : Fin 2048) : EReal :=
  (m ((c : Thread nD τ).loc main_arg1) : FVec Ideal S128x1x2048 .f32) (ix3 b 0 k)
abbrev scale (k : Fin 2048) : EReal := (m ((c : Thread nD τ).loc main_arg2) : FVec Ideal S4x2048 .f32) (ix2 0 k)
abbrev weights (k : Fin 2048) (j : Fin 2560) : EReal := (m ((c : Thread nD τ).loc main_arg3) : FVec Ideal S2048x2560 .f32) (ix2 k j)

/-- All rows, one under the other. -/
def joined (p : Fin 8320) (k : Fin 2048) : EReal := (W1 m c main_v2 : FVec Ideal S8320x2048 .f32) (ix2 p k)

theorem joined_prompt (b : Fin 2) (s : Fin 4096) (k : Fin 2048) :
    joined m c ⟨b.val * 4096 + s.val, by omega⟩ k = prompt m c b s k := by
  unfold joined
  after_reads_at
  rw [dif_pos (by omega)]
  refine congrArg (m ((c : Thread nD τ).loc main_arg0) : FVec Ideal S2x4096x2048 .f32) (funext fun x => Fin.ext ?_)
  match x with
  | ⟨0, _⟩ => show (b.val * 4096 + s.val) / 4096 = b.val; omega
  | ⟨1, _⟩ => show (b.val * 4096 + s.val) % 4096 = s.val; omega
  | ⟨2, _⟩ => rfl

theorem joined_sample (b : Fin 128) (k : Fin 2048) : joined m c ⟨8192 + b.val, by omega⟩ k = sample m c b k := by
  unfold joined
  after_reads_at

theorem scale_at (k : Fin 2048) : (W1 m c main_v5 : FVec Ideal S1x2048 .f32) (ix2 0 k) = scale m c k := by
  after_reads_at

/-! ## The first call: every row normalised -/

theorem index0_0 : ∀ t : Fin grid0.N, win0_0.index t 0 = t.val ∧ win0_0.index t 1 = 0 := by decide +kernel
theorem index0_1 : ∀ t : Fin grid0.N, win0_1.index t 0 = 0 ∧ win0_1.index t 1 = 0 := by decide +kernel
theorem index0_2 : ∀ t : Fin grid0.N, win0_2.index t 0 = t.val ∧ win0_2.index t 1 = 0 := by decide +kernel

theorem lt_N0 (t : Fin cfg0.N) : t.val < 13 := lt_of_lt_of_eq t.isLt N_0

theorem block0_0 (t : Fin cfg0.N) (r : Fin 640) (k : Fin 2048) :
    (block0 (in0 m) c 0 t : Vec Ideal S640x2048 .f32) (ix2 r k) = joined m c ⟨t.val * 640 + r.val, by have := lt_N0 t; omega⟩ k := by
  obtain ⟨h0, h1⟩ := index0_0 t
  unfold block0 joined
  rw [View.read_apply]
  show W1 m c main_v2 _ = W1 m c main_v2 _
  refine congrArg _ (funext fun a => Fin.ext ?_)
  match a with
  | ⟨0, _⟩ => show win0_0.index t 0 * 640 + 1 * r.val = t.val * 640 + r.val; rw [h0]; omega
  | ⟨1, _⟩ => show win0_0.index t 1 * 2048 + 1 * k.val = k.val; rw [h1]; omega

theorem block0_1 (t : Fin cfg0.N) (k : Fin 2048) :
    (block0 (in0 m) c 1 t : Vec Ideal S1x2048 .f32) (ix2 0 k) = scale m c k := by
  obtain ⟨h0, h1⟩ := index0_1 t
  rw [← scale_at]
  unfold block0
  rw [View.read_apply]
  show W1 m c main_v5 _ = W1 m c main_v5 _
  refine congrArg _ (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- A row, normalised. -/
def row (p : Fin 8320) (k : Fin 2048) : EReal := normed 0x45000000#32 (joined m c p) (scale m c) k

/-- The normalised rows as the contents of the array the first call writes. -/
def rowsResult : FVec Ideal S8320x2048 .bf16 := fun i => row m c (i 0) (i 1)

theorem cut0 (t : Fin cfg0.N) (X : Vec Ideal S640x2048 .bf16) (r : Fin 640) (e : Fin 2048) :
    (cfg0.win 2).cut (grid0.coords t) X (ix2 r e : S640x2048.Idx) = X (ix2 r e) := rfl

theorem read0_at (t : Fin cfg0.N) (G : FVec Ideal S8320x2048 .bf16) (r : Fin 640) (e : Fin 2048) :
    ((cfg0.win 2).blk t).view.read (Elt Ideal) G (ix2 r e : S640x2048.Idx)
      = G (ix2 ⟨t.val * 640 + r.val, by have := lt_N0 t; omega⟩ e) := by
  obtain ⟨h0, h1⟩ := index0_2 t
  rw [View.read_apply, cast_eq]
  refine congrArg G (funext fun a => Fin.ext ?_)
  match a with
  | ⟨0, _⟩ => show win0_2.index t 0 * 640 + 1 * r.val = t.val * 640 + r.val; rw [h0]; omega
  | ⟨1, _⟩ => show win0_2.index t 1 * 2048 + 1 * e.val = e.val; rw [h1]; omega

theorem flushed0 (t : Fin cfg0.N) (_ : (cfg0.win 2).flush t = true) :
    (dat0 (in0 m) c).flushed 2 t = ((cfg0.win 2).blk t).view.read (Elt Ideal) (rowsResult m c) := by
  show (cfg0.win 2).cut (grid0.coords t) ((dat0 (in0 m) c).after 2 t) = _
  rw [after0_2]
  funext j
  obtain ⟨r, e, rfl⟩ := ix2_surj (a := 640) (b := 2048) j
  refine (cut0 t _ r e).trans ((norm_at _ _ r e).trans (Eq.trans ?_ (read0_at t (rowsResult m c) r e).symm))
  simp only [block0_0, block0_1]
  rfl

theorem covered0 (i : S8320x2048.Idx) : ∃ t : Fin cfg0.N, (cfg0.win 2).flush t = true ∧ i ∈ ((cfg0.win 2).blk t).view.set := by
  have hi : (i 0 : Nat) < 8320 := (i 0).isLt
  have hj : (i 1 : Nat) < 2048 := (i 1).isLt
  let t : Fin cfg0.N := ⟨(i 0).val / 640, by rw [show cfg0.N = 13 from N_0]; omega⟩
  obtain ⟨h0, h1⟩ := index0_2 t
  have ht : t.val = (i 0).val / 640 := rfl
  refine ⟨t, flush0_2 t, ?_⟩
  show i ∈ ((View.whole main_v6).slice (win0_2.rect t)).set
  rw [View.set_slice_whole, Rect.mem_set_unit]
  intro a
  match a with
  | ⟨0, _⟩ => show win0_2.index t 0 * 640 ≤ (i 0).val ∧ (i 0).val < win0_2.index t 0 * 640 + 640; rw [h0, ht]; omega
  | ⟨1, _⟩ => show win0_2.index t 1 * 2048 ≤ (i 1).val ∧ (i 1).val < win0_2.index t 1 * 2048 + 2048; rw [h1]; omega

theorem rowsOut_eq : rowsOut m c = rowsResult m c :=
  (dat0 (in0 m) c).arrAt_eq_of_cover 2 (rowsResult m c) (flushed0 m c) covered0

/-! ## The second call: the normalised rows times the matrix -/

theorem index1_0 : ∀ t : Fin grid1.N, win1_0.index t 0 = t.val % 13 ∧ win1_0.index t 1 = 0 := by decide +kernel
theorem index1_2 : ∀ t : Fin grid1.N, win1_2.index t 0 = t.val % 13 ∧ win1_2.index t 1 = t.val / 13 := by decide +kernel

theorem lt_N1 (t : Fin cfg1.N) : t.val < 65 := lt_of_lt_of_eq t.isLt N_1

theorem block1_0 (t : Fin cfg1.N) (r : Fin 640) (k : Fin 2048) :
    (block1 (in1 m) c 0 t : Vec Ideal S640x2048 .bf16) (ix2 r k) = row m c ⟨t.val % 13 * 640 + r.val, by omega⟩ k := by
  obtain ⟨h0, h1⟩ := index1_0 t
  unfold block1
  rw [View.read_apply]
  show W2 m c main_v6 _ = rowsResult m c (ix2 _ k)
  rw [W2_at, rowsOut_eq]
  refine congrArg (rowsResult m c) (funext fun a => Fin.ext ?_)
  match a with
  | ⟨0, _⟩ => show win1_0.index t 0 * 640 + 1 * r.val = t.val % 13 * 640 + r.val; rw [h0]; omega
  | ⟨1, _⟩ => show win1_0.index t 1 * 2048 + 1 * k.val = k.val; rw [h1]; omega

theorem weights_at : W2 m c main_arg3 = m ((c : Thread nD τ).loc main_arg3) :=
  (W2_of m c main_arg3 (by decide)).trans (StableHlo.after_of_writes_sub hostOps0 _ hostOps0_writes (by decide))

theorem block1_1 (t : Fin cfg1.N) (k : Fin 2048) (e : Fin 512) :
    (block1 (in1 m) c 1 t : Vec Ideal S2048x512 .f32) (ix2 k e) = weights m c k ⟨t.val / 13 * 512 + e.val, by have := lt_N1 t; omega⟩ := by
  obtain ⟨h0, h1⟩ := weights_index t
  unfold block1
  rw [View.read_apply]
  show W2 m c main_arg3 _ = _
  rw [weights_at]
  refine congrArg _ (funext fun a => Fin.ext ?_)
  match a with
  | ⟨0, _⟩ => show win1_1.index t 0 * 2048 + 1 * k.val = k.val; rw [h0]; omega
  | ⟨1, _⟩ => show win1_1.index t 1 * 512 + 1 * e.val = t.val / 13 * 512 + e.val; rw [h1]; omega

/-- The product, entry by entry, and as the contents of the array the second call writes. -/
def value (p : Fin 8320) (j : Fin 2560) : EReal := dot (row m c p) (weights m c) j
def wideResult : FVec Ideal S8320x2560 .f32 := fun i => value m c (i 0) (i 1)

theorem cut1 (t : Fin cfg1.N) (X : Vec Ideal S640x512 .f32) (r : Fin 640) (e : Fin 512) :
    (cfg1.win 2).cut (grid1.coords t) X (ix2 r e : S640x512.Idx) = X (ix2 r e) := rfl

theorem read1_at (t : Fin cfg1.N) (G : FVec Ideal S8320x2560 .f32) (r : Fin 640) (e : Fin 512) :
    ((cfg1.win 2).blk t).view.read (Elt Ideal) G (ix2 r e : S640x512.Idx)
      = G (ix2 ⟨t.val % 13 * 640 + r.val, by omega⟩ ⟨t.val / 13 * 512 + e.val, by have := lt_N1 t; omega⟩) := by
  obtain ⟨h0, h1⟩ := index1_2 t
  rw [View.read_apply, cast_eq]
  refine congrArg G (funext fun a => Fin.ext ?_)
  match a with
  | ⟨0, _⟩ => show win1_2.index t 0 * 640 + 1 * r.val = t.val % 13 * 640 + r.val; rw [h0]; omega
  | ⟨1, _⟩ => show win1_2.index t 1 * 512 + 1 * e.val = t.val / 13 * 512 + e.val; rw [h1]; omega

theorem flushed1 (t : Fin cfg1.N) (_ : (cfg1.win 2).flush t = true) :
    (dat1 (in1 m) c).flushed 2 t = ((cfg1.win 2).blk t).view.read (Elt Ideal) (wideResult m c) := by
  show (cfg1.win 2).cut (grid1.coords t) ((dat1 (in1 m) c).after 2 t) = _
  rw [after1_2]
  funext j
  obtain ⟨r, e, rfl⟩ := ix2_surj (a := 640) (b := 512) j
  refine (cut1 t _ r e).trans ((product_at _ _ r e).trans (Eq.trans ?_ (read1_at t (wideResult m c) r e).symm))
  unfold kept
  simp only [block1_0, kept_at, block1_1]
  rfl

theorem covered1 (i : S8320x2560.Idx) : ∃ t : Fin cfg1.N, (cfg1.win 2).flush t = true ∧ i ∈ ((cfg1.win 2).blk t).view.set := by
  have hi : (i 0 : Nat) < 8320 := (i 0).isLt
  have hj : (i 1 : Nat) < 2560 := (i 1).isLt
  let t : Fin cfg1.N := ⟨(i 1).val / 512 * 13 + (i 0).val / 640, by rw [show cfg1.N = 65 from N_1]; omega⟩
  obtain ⟨h0, h1⟩ := index1_2 t
  have ht : t.val = (i 1).val / 512 * 13 + (i 0).val / 640 := rfl
  refine ⟨t, flush1_2 t, ?_⟩
  show i ∈ ((View.whole main_v7_0).slice (win1_2.rect t)).set
  rw [View.set_slice_whole, Rect.mem_set_unit]
  intro a
  match a with
  | ⟨0, _⟩ => show win1_2.index t 0 * 640 ≤ (i 0).val ∧ (i 0).val < win1_2.index t 0 * 640 + 640; rw [h0, ht]; omega
  | ⟨1, _⟩ => show win1_2.index t 1 * 512 ≤ (i 1).val ∧ (i 1).val < win1_2.index t 1 * 512 + 512; rw [h1, ht]; omega

theorem wideOut_eq : wideOut m c = wideResult m c :=
  (dat1 (in1 m) c).arrAt_eq_of_cover 2 (wideResult m c) (flushed1 m c) covered1

/-! ## The two results -/

/-- One entry of the keys and values of a row: kind `a`, head `h`, coordinate `d`. -/
def cached (x : Fin 2048 → EReal) (a h : Fin 2) (d : Fin 128) : EReal :=
  dot (normed 0x45000000#32 x (scale m c)) (weights m c) ⟨2048 + (a.val * 256 + h.val * 128 + d.val), by omega⟩

def promptResult : FVec Ideal S2x4096x2x2x128 .f32 := fun i => cached m c (prompt m c (i 0) (i 1)) (i 2) (i 3) (i 4)
def sampleResult : FVec Ideal S128x1x2x2x128 .f32 := fun i => cached m c (sample m c (i 0)) (i 2) (i 3) (i 4)

theorem prompt_at (b : Fin 2) (s : Fin 4096) (a h : Fin 2) (d : Fin 128) :
    (W4 m c main_v11 : FVec Ideal S2x4096x2x2x128 .f32) (ix5 b s a h d) = cached m c (prompt m c b s) a h d := by
  have read : (W4 m c main_v11 : FVec Ideal S2x4096x2x2x128 .f32) (ix5 b s a h d)
      = (W3 m c main_v7_0 : FVec Ideal S8320x2560 .f32)
        (ix2 ⟨b.val * 4096 + s.val, by omega⟩ ⟨2048 + (a.val * 256 + h.val * 128 + d.val), by omega⟩) := by
    after_reads_at
  rw [read, W3_wide, wideOut_eq]
  show value m c ⟨b.val * 4096 + s.val, by omega⟩ ⟨2048 + (a.val * 256 + h.val * 128 + d.val), by omega⟩ = _
  unfold value row cached
  rw [show joined m c ⟨b.val * 4096 + s.val, by omega⟩ = prompt m c b s from funext fun k => joined_prompt m c b s k]

theorem sample_at (b : Fin 128) (a h : Fin 2) (d : Fin 128) :
    (W4 m c main_v13 : FVec Ideal S128x1x2x2x128 .f32) (ix5 b 0 a h d) = cached m c (sample m c b) a h d := by
  have read : (W4 m c main_v13 : FVec Ideal S128x1x2x2x128 .f32) (ix5 b 0 a h d)
      = (W3 m c main_v7_0 : FVec Ideal S8320x2560 .f32)
        (ix2 ⟨8192 + b.val, by omega⟩ ⟨2048 + (a.val * 256 + h.val * 128 + d.val), by omega⟩) := by
    after_reads_at
  rw [read, W3_wide, wideOut_eq]
  show value m c ⟨8192 + b.val, by omega⟩ ⟨2048 + (a.val * 256 + h.val * 128 + d.val), by omega⟩ = _
  unfold value row cached
  rw [show joined m c ⟨8192 + b.val, by omega⟩ = sample m c b from funext fun k => joined_sample m c b k]

theorem prompt_index (i : S2x4096x2x2x128.Idx) :
    ∃ (b : Fin 2) (s : Fin 4096) (a h : Fin 2) (d : Fin 128), ix5 b s a h d = i :=
  ⟨i 0, i 1, i 2, i 3, i 4, funext fun x => by
    match x with
    | ⟨0, _⟩ => rfl
    | ⟨1, _⟩ => rfl
    | ⟨2, _⟩ => rfl
    | ⟨3, _⟩ => rfl
    | ⟨4, _⟩ => rfl⟩

theorem sample_index (i : S128x1x2x2x128.Idx) :
    ∃ (b : Fin 128) (a h : Fin 2) (d : Fin 128), ix5 b (0 : Fin 1) a h d = i :=
  ⟨i 0, i 2, i 3, i 4, funext fun x => by
    match x with
    | ⟨0, _⟩ => rfl
    | ⟨1, _⟩ => exact (Subsingleton.elim (α := Fin 1) _ _)
    | ⟨2, _⟩ => rfl
    | ⟨3, _⟩ => rfl
    | ⟨4, _⟩ => rfl⟩

theorem prompt_final : W4 m c main_v11 = promptResult m c := by
  funext i
  obtain ⟨b, s, a, h, d, rfl⟩ := prompt_index i
  exact prompt_at m c b s a h d

theorem sample_final : W4 m c main_v13 = sampleResult m c := by
  funext i
  obtain ⟨b, a, h, d, rfl⟩ := sample_index i
  exact sample_at m c b a h d

/-! ## The reference -/

section
open Cert.AKvRefIdeal.Read
variable (x0 : FVec Ideal S2x4096x2048 .f32) (x1 : FVec Ideal S128x1x2048 .f32) (x2 : FVec Ideal S4x2048 .f32) (x3 : FVec Ideal S2048x2560 .f32)

theorem reference_prompt_at (b : Fin 2) (s : Fin 4096) (a h : Fin 2) (d : Fin 128) :
    val_main_v17 (F := Ideal) x0 x2 x3 (ix5 b s a h d)
      = dot (normed 0x45000000#32 (fun k => x0 (ix3 b s k)) (fun k => x2 (ix2 0 k))) (fun k j => x3 (ix2 k j))
        ⟨2048 + (a.val * 256 + h.val * 128 + d.val), by omega⟩ := by
  unfold dot normed
  pointwise [val_main_v17, val_main_v16, val_main_v15, val_main_v14, val_main_v13, val_main_v12, val_main_v11,
    val_main_v10, val_main_v9, val_main_v8, val_main_v7, val_main_cst_1, val_main_v6, val_main_v5, val_main_cst_0,
    val_main_v4, val_main_v3, val_main_cst, val_main_v2, val_main_v1, val_main_v0]

theorem reference_sample_at (b : Fin 128) (a h : Fin 2) (d : Fin 128) :
    val_main_v35 (F := Ideal) x1 x2 x3 (ix5 b 0 a h d)
      = dot (normed 0x45000000#32 (fun k => x1 (ix3 b 0 k)) (fun k => x2 (ix2 0 k))) (fun k j => x3 (ix2 k j))
        ⟨2048 + (a.val * 256 + h.val * 128 + d.val), by omega⟩ := by
  unfold dot normed
  pointwise [val_main_v35, val_main_v34, val_main_v33, val_main_v32, val_main_v31, val_main_v30, val_main_v29,
    val_main_v28, val_main_v27, val_main_v26, val_main_v25, val_main_cst_4, val_main_v24, val_main_v23,
    val_main_cst_3, val_main_v22, val_main_v21, val_main_cst_2, val_main_v20, val_main_v19, val_main_v18]
end

end Cert.AKvIdeal.Layer
-- ==== Proof.Paged.lean ====
module

public import proofs.«01_k».proof.Proof.Math
public import proofs.«01_k».proof.Proof.Consts

@[expose] public section
noncomputable section
namespace Cert.Attn
open Idealize.ShloMosaic

/-! Softmax attention of one query over every key it has, over the reals, and the running form's start, steps and end. -/

/-- The values weighted by the exponentials of the logits, over their sum. -/
def soft {n : ℕ} (x v : Fin n → ℝ) : ℝ := (∑ k, Real.exp (x k) * v k) / ∑ k, Real.exp (x k)

theorem exp_sum_pos {n : ℕ} [NeZero n] (x : Fin n → ℝ) : 0 < ∑ k, Real.exp (x k) :=
  Finset.sum_pos (fun _ _ => Real.exp_pos _) ⟨0, Finset.mem_univ _⟩

/-- The reference's softmax of one row, no key of it masked: the exponentials of the distances to the maximum, their
    sum kept away from zero, and the quotients against the values. -/
theorem soft_row {n : ℕ} [NeZero n] (x v : Fin n → ℝ) (eps : ℝ) (heps : eps ≤ 1) (f e : Fin n → EReal) (m s : EReal)
    (hf : ∀ k, f k = ((x k : ℝ) : EReal)) (hm : m = Finset.univ.fold max ⊥ f) (he : ∀ k, e k = Ideal.exp (f k - m))
    (hs : s = max (∑ k, e k) (eps : EReal)) :
    ∑ k, ((v k : ℝ) : EReal) * Ideal.div (e k) s = ((soft x v : ℝ) : EReal) := by
  obtain ⟨M, hM⟩ := fold_max_real f (fun k => by rw [hf]; simp) 0 (by rw [hf]; simp)
  rw [hM] at hm
  -- the maximum is one of the logits, or below one
  obtain ⟨k0, hk0⟩ : ∃ k, M ≤ x k := by
    have h : (M : EReal) ≤ Finset.univ.fold max ⊥ f := hM.ge
    rw [Finset.le_fold_max] at h
    rcases h with h | ⟨k, -, h⟩
    · exact absurd (le_bot_iff.1 h) (EReal.coe_ne_bot M)
    · rw [hf] at h; exact ⟨k, EReal.coe_le_coe_iff.1 h⟩
  have he' : ∀ k, e k = ((Real.exp (-M) * Real.exp (x k) : ℝ) : EReal) := fun k => by rw [he, hf, hm, exp_sub_coe]
  have hsum : ∑ k, e k = ((Real.exp (-M) * ∑ k, Real.exp (x k) : ℝ) : EReal) := by
    rw [Finset.sum_congr rfl fun k _ => he' k, coe_sum, ← Finset.mul_sum]
  have hone : 1 ≤ Real.exp (-M) * ∑ k, Real.exp (x k) := by
    have h1 : Real.exp M ≤ ∑ k, Real.exp (x k) := (Real.exp_le_exp.2 hk0).trans
      (Finset.single_le_sum (f := fun k => Real.exp (x k)) (fun k _ => (Real.exp_pos _).le) (Finset.mem_univ k0))
    have h2 : Real.exp (-M) * Real.exp M = 1 := by rw [← Real.exp_add]; simp
    rw [← h2]; exact mul_le_mul_of_nonneg_left h1 (Real.exp_pos _).le
  have hs' : s = ((Real.exp (-M) * ∑ k, Real.exp (x k) : ℝ) : EReal) := by
    rw [hs, hsum, max_eq_left (EReal.coe_le_coe_iff.2 (heps.trans hone))]
  have hpos := (exp_sum_pos x).ne'
  have hexp := (Real.exp_pos (-M)).ne'
  have hterm : ∀ k, ((v k : ℝ) : EReal) * Ideal.div (e k) s = ((Real.exp (x k) * v k / ∑ k, Real.exp (x k) : ℝ) : EReal) := fun k => by
    rw [he', hs', Ideal.div_coe (mul_ne_zero hexp hpos), ← EReal.coe_mul, ← EReal.coe_mul]
    congr 1
    field_simp
  rw [Finset.sum_congr rfl fun k _ => hterm k, coe_sum, ← Finset.sum_div]
  rfl

/-- Before the first tile nothing is summed; any real shift will do. -/
theorem holds_start (μ : ℝ) : Holds (μ : EReal) 0 (fun _ => 0) 0 (fun _ => 0) :=
  ⟨μ, rfl, by simp, fun _ => by simp⟩

/-- What is summed after `n` keys. -/
def Upto (g : ℕ → ℝ) (w : ℕ → Fin 512 → ℝ) (n : ℕ) (m l : EReal) (a : Fin 512 → EReal) : Prop :=
  Holds m l a (∑ k ∈ Finset.range n, Real.exp (g k)) (fun d => ∑ k ∈ Finset.range n, Real.exp (g k) * w k d)

theorem sum_more (g : ℕ → ℝ) (n κ : ℕ) : (∑ k ∈ Finset.range n, g k) + ∑ j : Fin κ, g (n + j.val) = ∑ k ∈ Finset.range (n + κ), g k := by
  rw [Finset.sum_range_add, Fin.sum_univ_eq_sum_range fun j => g (n + j)]

theorem upto_start (g : ℕ → ℝ) (w : ℕ → Fin 512 → ℝ) (μ : ℝ) : Upto g w 0 (μ : EReal) 0 (fun _ => 0) := by
  unfold Upto
  simpa using holds_start μ

/-- The keys of one more tile, from the number `n` on. -/
theorem upto_more {κ : ℕ} [NeZero κ] (g : ℕ → ℝ) (w : ℕ → Fin 512 → ℝ) (n : ℕ) (f e : Fin κ → EReal) (m l m' l' al : EReal)
    (a a' : Fin 512 → EReal) (T : Fin κ → Fin 512 → EReal) (H : Upto g w n m l a)
    (hf : ∀ k, f k = ((g (n + k.val) : ℝ) : EReal))
    (hm : m' = max m (Finset.univ.fold max ⊥ f)) (hal : al = Ideal.exp (m - m')) (he : ∀ k, e k = Ideal.exp (f k - m'))
    (hl : l' = al * l + ∑ k, e k) (hT : ∀ k d, T k d = ((w (n + k.val) d : ℝ) : EReal)) (ha : ∀ d, a' d = al * a d + ∑ k, e k * T k d) :
    Upto g w (n + κ) m' l' a' := by
  unfold Upto
  simp only [← sum_more]
  exact holds_next (fun k : Fin κ => g (n + k.val)) (fun k d => w (n + k.val) d) f e m l m' l' al a a' T _ _ H hf hm hal he hl hT ha

/-- After the last key the quotient is the attention. -/
theorem upto_div (g : ℕ → ℝ) (w : ℕ → Fin 512 → ℝ) (n : ℕ) [NeZero n] (m l : EReal) (a : Fin 512 → EReal) (H : Upto g w n m l a) (d : Fin 512) :
    Ideal.div (a d) l = ((soft (fun k : Fin n => g k.val) (fun k => w k.val d) : ℝ) : EReal) := by
  have hs : ∀ u : ℕ → ℝ, ∑ k ∈ Finset.range n, u k = ∑ k : Fin n, u k.val := fun u => (Fin.sum_univ_eq_sum_range u n).symm
  rw [holds_div H (by rw [hs]; exact (exp_sum_pos _).ne') d]
  unfold soft
  rw [hs fun k => Real.exp (g k), hs fun k => Real.exp (g k) * w k d]

/-! The keys of one batch: those of its pages, in the order of its table, and its new one after them. -/

variable (pt : Fin 128 → Fin 64 → Fin 10240) (cache : Fin 10240 → Fin 128 → Fin 576 → ℝ) (new : Fin 128 → Fin 576 → ℝ)
  (q : Fin 128 → Fin 16 → Fin 576 → ℝ)

/-- The latent of key `k` of batch `b`. -/
def latent (b : Fin 128) (k : ℕ) (e : Fin 576) : ℝ :=
  if h : k < 8192 then cache (pt b ⟨k / 128, by omega⟩) ⟨k % 128, by omega⟩ e else new b e

/-- The logit of head `h` of batch `b` with key `k`. -/
def score (b : Fin 128) (h : Fin 16) (k : ℕ) : ℝ := (∑ e, q b h e * latent pt cache new b k e) * Consts.scale

/-- The first 512 entries of a latent are its value. -/
def value (b : Fin 128) (k : ℕ) (d : Fin 512) : ℝ := latent pt cache new b k ⟨d.val, by omega⟩

/-- The attention of head `h` of batch `b` over its 8193 keys. -/
def answer (b : Fin 128) (h : Fin 16) (d : Fin 512) : ℝ :=
  soft (fun k : Fin 8193 => score pt cache new q b h k.val) (fun k => value pt cache new b k.val d)

end Cert.Attn
-- ==== Proof.MlaSRef.lean ====
module

public import proofs.«01_k».proof.Proof.Paged
public import proofs.«01_k».proof.Proof.Gen.MlaSRefIdeal.Run
public import proofs.«01_k».proof.Proof.Gen.MlaSRefIdeal.Read
public import Idealize.ShloMosaic.Lib.Pointwise
public import Idealize.ShloMosaic.Lib.WordCmp
public import Idealize.ShloMosaic.Lib.ValueIdxCore

@[expose] public section
set_option maxRecDepth 16384
noncomputable section
namespace Cert.MlaSRefIdeal.Read
open Idealize.ShloMosaic Idealize.ShloMosaic.TcCoe Idealize.SL.Sem Cert.MlaSRefIdeal Cert.MlaSRefIdeal.Gen
open Cert.Attn (latent score value answer)

/-! The reference, read entry by entry, is the attention over the pages. -/

variable (x0 : FVec Ideal S128x16x576 .f32) (x1 : FVec Ideal S128x1x576 .f32) (x2 : FVec Ideal S10240x576x128 .f32) (x3 : Vec Ideal S128x64 .i32)
  (q : Fin 128 → Fin 16 → Fin 576 → ℝ) (new : Fin 128 → Fin 576 → ℝ) (cache : Fin 10240 → Fin 128 → Fin 576 → ℝ) (pt : Fin 128 → Fin 64 → Fin 10240)
  (hq : ∀ b h e, x0 (ix3 b h e) = ((q b h e : ℝ) : EReal)) (hnew : ∀ b e, x1 (ix3 b 0 e) = ((new b e : ℝ) : EReal))
  (hcache : ∀ p r e, x2 (ix3 p e r) = ((cache p r e : ℝ) : EReal)) (hpt : ∀ b p, x3 (ix2 b p) = BitVec.ofNat 32 (pt b p).val)

include hpt in
/-- No page number is negative, so none is wrapped. -/
theorem page_at (b : Fin 128) (p : Fin 64) : val_main_v6 (F := Ideal) x3 (ix3 b p 0) = BitVec.ofNat 32 (pt b p).val := by
  pointwise [val_main_v6, val_main_v5, val_main_v4, val_main_v3, val_main_v2, val_main_v1, val_main_c, val_main_c_0]
  rw [hpt]
  have h : IntOp.cmpi .slt (BitVec.ofNat 32 (pt b p).val) (0#32 : BitVec 32) = 0#1 := by
    rw [show (0#32 : BitVec 32) = BitVec.ofNat 32 0 from rfl, WordCmp.cmpi_slt_ofNat (by omega) (by omega), decide_eq_false (by omega)]
    rfl
  rw [h]
  rfl

include hpt in
/-- The gather takes each page whole. -/
theorem taken_at (b : Fin 128) (p : Fin 64) (r : Fin 128) (e : Fin 576) :
    val_main_v7 (F := Ideal) x2 x3 (ix4 b p r e) = x2 (ix3 (pt b p) e r) := by
  rw [show x2 (ix3 (pt b p) e r) = val_main_v0 (F := Ideal) x2 (ix3 (pt b p) r e) by pointwise [val_main_v0]]
  unfold val_main_v7 Host.gather
  congr 1
  funext a
  refine Fin.ext ?_
  set D := gather_S10240x128x576_S128x64x1_S128x64x128x576_23_0_n_n_0_2_1128576 with hD
  show D.start (ix4 b p r e) (val_main_v6 (F := Ideal) x3) a + D.batchCoord (ix4 b p r e) a + D.offCoord (ix4 b p r e) a = _
  rw [GatherDims.batchCoord_eq_zero _ _ _ List.not_mem_nil]
  -- off the page's axis nothing starts, and the offset is the coordinate itself
  have hstart : ∀ x : Fin 3, x ∉ [(0 : Fin 3)] → D.start (ix4 b p r e) (val_main_v6 (F := Ideal) x3) x = 0 := fun x hx => by
    unfold GatherDims.start
    exact dif_neg hx
  have hkept : D.sKept = [(1 : Fin 3), 2] := by decide
  have hoff : ∀ x : Fin 3, x ∈ [(1 : Fin 3), 2] → D.offCoord (ix4 b p r e) x = (ix4 b p r e ([(2 : Fin 4), 3].getD ([(1 : Fin 3), 2].idxOf x) 0)).val := fun x hx => by
    unfold GatherDims.offCoord
    rw [dif_pos (hkept ▸ hx)]
    simp only [hkept]
    match x, hx with
    | 1, _ => rfl
    | 2, _ => rfl
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S10240x128x576.rank) ∈ D.startIndexMap from List.mem_singleton.mpr rfl)]
    have hsi : D.siIdx (ix4 b p r e) ⟨List.idxOf (⟨0, by decide⟩ : Fin S10240x128x576.rank) D.startIndexMap, List.idxOf_lt_length_iff.2 (List.mem_singleton.mpr rfl)⟩ = ix3 b p 0 := by
      funext x
      match x with
      | ⟨0, _⟩ => rfl
      | ⟨1, _⟩ => rfl
      | ⟨2, _⟩ => rfl
    rw [hsi, page_at x3 pt hpt, WordCmp.toInt_ofNat_of_lt (by omega)]
    show min (pt b p).val (10240 - 1) + 0 + 0 = (pt b p).val
    omega
  | ⟨1, _⟩ =>
    show D.start (ix4 b p r e) (val_main_v6 (F := Ideal) x3) (1 : Fin 3) + 0 + D.offCoord (ix4 b p r e) (1 : Fin 3) = r.val
    rw [hstart _ (by decide), hoff _ (by decide), Nat.zero_add]
    rfl
  | ⟨2, _⟩ =>
    show D.start (ix4 b p r e) (val_main_v6 (F := Ideal) x3) (2 : Fin 3) + 0 + D.offCoord (ix4 b p r e) (2 : Fin 3) = e.val
    rw [hstart _ (by decide), hoff _ (by decide), Nat.zero_add]
    rfl

include hnew hcache hpt in
theorem latent_at (b : Fin 128) (k : Fin 8193) (e : Fin 576) :
    val_main_v9 (F := Ideal) x1 x2 x3 (ix3 b k e) = ((latent pt cache new b k.val e : ℝ) : EReal) := by
  unfold latent
  by_cases h : k.val < 8192
  · rw [dif_pos h]
    pointwise [val_main_v9]
    rw [dif_pos h, ← hcache, ← taken_at x2 x3 pt hpt]
    pointwise [val_main_v8]
  · rw [dif_neg h]
    pointwise [val_main_v9]
    rw [dif_neg h, ← hnew]
    exact congrArg (fun z => x1 (ix3 b z e)) (Subsingleton.elim _ _)

/-- Every key's number is at most 8192: the mask lets every key pass. -/
theorem select_at (n : Fin 8193) (a b : EReal) : Scalar.select (IntOp.cmpi .sle (BitVec.ofNat 32 n.val) (8192#32)) a b = a := by
  rw [show (8192#32 : BitVec 32) = BitVec.ofNat 32 8192 from rfl, WordCmp.cmpi_sle_ofNat (by omega) (by omega), decide_eq_true (by omega)]
  rfl

include hq hnew hcache hpt in
theorem score_at (b : Fin 128) (h : Fin 16) (k : Fin 8193) :
    val_main_v25 (F := Ideal) x0 x1 x2 x3 (ix4 b h 0 k) = ((score pt cache new q b h k.val : ℝ) : EReal) := by
  pointwise [val_main_v25, val_main_v19, val_main_v18, val_main_cst, val_main_v17, val_main_v16, val_main_v15, val_main_call0_v1, val_main_call0_v2, val_main_call0_v0, val_main_cst_2, val_main_v24, val_main_v23, val_main_v22, val_main_v21, val_main_v20, val_main_v13, val_main_v12, val_main_v11, val_main_v10, val_main_c_1]
  refine (select_at k _ _).trans ?_
  unfold score
  rw [Consts.ofBits_scale, EReal.coe_mul, ← Cert.Attn.coe_sum]
  congr 1
  refine Finset.sum_congr rfl fun e _ => ?_
  rw [hq, latent_at x1 x2 x3 new cache pt hnew hcache hpt, mul_comm, EReal.coe_mul]

theorem max_at (b : Fin 128) (h : Fin 16) :
    val_main_v26 (F := Ideal) x0 x1 x2 x3 (ix3 b h 0) = Finset.univ.fold max (FloatOps.ofBits (F := Ideal) .f32 0xFF800000#32) fun k : Fin 8193 => val_main_v25 (F := Ideal) x0 x1 x2 x3 (ix4 b h 0 k) := by
  pointwise [val_main_v26, val_main_cst_3]

theorem weight_at (b : Fin 128) (h : Fin 16) (k : Fin 8193) :
    val_main_v31 (F := Ideal) x0 x1 x2 x3 (ix4 b h 0 k) = Ideal.exp (val_main_v25 (F := Ideal) x0 x1 x2 x3 (ix4 b h 0 k) - val_main_v26 (F := Ideal) x0 x1 x2 x3 (ix3 b h 0)) := by
  pointwise [val_main_v31, val_main_v30, val_main_v29, val_main_v28, val_main_v27, val_main_call1_v1, val_main_call1_v2, val_main_call1_v0, val_main_cst_4, val_main_v24, val_main_v23, val_main_v22, val_main_v21, val_main_v20, val_main_v13, val_main_v12, val_main_v11, val_main_v10, val_main_c_1]
  exact select_at k _ _

theorem sum_at (b : Fin 128) (h : Fin 16) (k : Fin 8193) :
    val_main_v36 (F := Ideal) x0 x1 x2 x3 (ix4 b h 0 k) = max (∑ k : Fin 8193, val_main_v31 (F := Ideal) x0 x1 x2 x3 (ix4 b h 0 k)) (Ideal.ofBits .f32 0x0DA24260#32) := by
  pointwise [val_main_v36, val_main_v35, val_main_v34, val_main_v33, val_main_v32, val_main_cst_5, val_main_cst_6]

theorem mixed_at (b : Fin 128) (h : Fin 16) (d : Fin 512) :
    val_main_v40 (F := Ideal) x0 x1 x2 x3 (ix3 b h d) = ∑ k : Fin 8193, val_main_v9 (F := Ideal) x1 x2 x3 (ix3 b k ⟨d.val, by omega⟩)
      * Ideal.div (val_main_v31 (F := Ideal) x0 x1 x2 x3 (ix4 b h 0 k)) (val_main_v36 (F := Ideal) x0 x1 x2 x3 (ix4 b h 0 k)) := by
  pointwise [val_main_v40, val_main_v39, val_main_v38, val_main_v37, val_main_v14]

include hq hnew hcache hpt in
/-- The reference's result is the answer. -/
theorem reference_at (b : Fin 128) (h : Fin 16) (d : Fin 512) :
    val_main_v40 (F := Ideal) x0 x1 x2 x3 (ix3 b h d) = ((answer pt cache new q b h d : ℝ) : EReal) := by
  rw [mixed_at]
  simp only [sum_at, latent_at x1 x2 x3 new cache pt hnew hcache hpt]
  exact Cert.Attn.soft_row (fun k : Fin 8193 => score pt cache new q b h k.val) (fun k => value pt cache new b k.val d) Consts.eps Consts.eps_le_one
    (fun k => val_main_v25 (F := Ideal) x0 x1 x2 x3 (ix4 b h 0 k)) _ _ _
    (fun k => score_at x0 x1 x2 x3 q new cache pt hq hnew hcache hpt b h k)
    ((max_at x0 x1 x2 x3 b h).trans (by rw [show FloatOps.ofBits (F := Ideal) .f32 0xFF800000#32 = (⊥ : EReal) from Consts.ofBits_minus_infinity]))
    (fun k => weight_at x0 x1 x2 x3 b h k)
    (by rw [Consts.ofBits_eps])

end Cert.MlaSRefIdeal.Read
-- ==== Proof.MlaSPay.lean ====
module

public import proofs.«01_k».proof.Proof.Paged
public import proofs.«01_k».proof.Proof.Dense
public import proofs.«01_k».proof.Proof.Gen.MlaSIdeal.Skeleton
public import Idealize.ShloMosaic.Lib.Pointwise

@[expose] public section
set_option maxRecDepth 16384
noncomputable section
namespace Cert.MlaSIdeal.Layer
open Idealize.ShloMosaic Idealize.ShloMosaic.TcCoe Idealize.SL.Sem Cert.MlaSIdeal Cert.MlaSIdeal.Gen
open Cert.Attn (Upto)

/-! What one grid point of the sampling attention computes, entry by entry: eight pages are one more tile of 1024 keys. -/

variable (X : Vec Ideal S1x16x576 .f32) (P : Fin 8 → Vec Ideal S1x576x128 .f32)

/-- The latents of the point's keys, a key in a column. -/
def lats : FVec Ideal S576x1024 .bf16 := k0_pay2 (P 0) (P 1) (P 2) (P 3) (P 4) (P 5) (P 6) (P 7)
/-- The logits of the heads with the point's keys. -/
def logits : FVec Ideal S16x1024 .f32 := k0_pay3 X (P 0) (P 1) (P 2) (P 3) (P 4) (P 5) (P 6) (P 7)
/-- Their maximum, head by head. -/
def tops : FVec Ideal S16x1 .f32 := k0_pay4 X (P 0) (P 1) (P 2) (P 3) (P 4) (P 5) (P 6) (P 7)

theorem lats_at (e : Fin 576) (k : Fin 1024) : lats P (ix2 e k) = P ⟨k.val / 128, by omega⟩ (ix3 0 e ⟨k.val % 128, by omega⟩) := by
  unfold lats
  have key : ∀ (p : Fin 8) (r : Fin 128), 128 * p.val + r.val = k.val → P p (ix3 0 e r) = P ⟨k.val / 128, by omega⟩ (ix3 0 e ⟨k.val % 128, by omega⟩) := by
    intro p r hk
    rw [show (⟨k.val / 128, by omega⟩ : Fin 8) = p from Fin.ext (by show k.val / 128 = p.val; omega),
      show (⟨k.val % 128, by omega⟩ : Fin 128) = r from Fin.ext (by show k.val % 128 = r.val; omega)]
  pointwise [k0_pay2]
  split_ifs <;> exact key _ _ (by simp <;> omega)

theorem logits_at (h : Fin 16) (k : Fin 1024) :
    logits X P (ix2 h k) = (∑ e : Fin 576, X (ix3 0 h e) * lats P (ix2 e k)) * Ideal.ofBits .f32 0x3D93CD3A#32 := by
  unfold logits lats
  pointwise [k0_pay3, k0_pay1]

theorem tops_at (h : Fin 16) : tops X P (ix2 h 0) = Finset.univ.fold max (FloatOps.ofBits (F := Ideal) .f32 0xFF800000#32) fun k : Fin 1024 => logits X P (ix2 h k) := by
  unfold tops logits
  pointwise [k0_pay4]

variable (S : FVec Ideal S16x1024 .f32) (T : FVec Ideal S16x1 .f32) (K : FVec Ideal S576x1024 .bf16) (Q : FVec Ideal S16x576 .bf16)
  (M L : Vec Ideal S16x128 .f32) (A : Vec Ideal S16x512 .f32) (N : Vec Ideal S1x1x576 .f32)

theorem query_at (h : Fin 16) (e : Fin 576) : k0_pay1 X (ix2 h e) = X (ix3 0 h e) := by
  pointwise [k0_pay1]

theorem max_at (h : Fin 16) : k0_pay8 T M (ix2 h 0) = max (M (ix2 h 0)) (T (ix2 h 0)) := by
  pointwise [k0_pay8]

theorem decay_at (h : Fin 16) : k0_pay9 T M (ix2 h 0) = Ideal.exp (M (ix2 h 0) - k0_pay8 T M (ix2 h 0)) := by
  pointwise [k0_pay9]

theorem weight_at (h : Fin 16) (k : Fin 1024) : k0_pay10 S T M (ix2 h k) = Ideal.exp (S (ix2 h k) - k0_pay8 T M (ix2 h 0)) := by
  pointwise [k0_pay10]

theorem total_at (h : Fin 16) : k0_pay11 S T M L (ix2 h 0) = k0_pay9 T M (ix2 h 0) * L (ix2 h 0) + ∑ k : Fin 1024, k0_pay10 S T M (ix2 h k) := by
  pointwise [k0_pay11]

theorem mixed_at (h : Fin 16) (d : Fin 512) : k0_pay12 K S T M A (ix2 h d) = k0_pay9 T M (ix2 h 0) * A (ix2 h d) + ∑ k : Fin 1024, k0_pay10 S T M (ix2 h k) * K (ix2 ⟨d.val, by omega⟩ k) := by
  pointwise [k0_pay12]

theorem store_max : k0_pay13 T M = k0_pay8 T M := by
  funext i
  obtain ⟨a, b, rfl⟩ := Cert.Dense.ix2_surj i
  pointwise [k0_pay13]
theorem store_total : k0_pay14 S T M L = k0_pay11 S T M L := by
  funext i
  obtain ⟨a, b, rfl⟩ := Cert.Dense.ix2_surj i
  pointwise [k0_pay14]
theorem store_mixed : k0_pay15 K S T M A = k0_pay12 K S T M A := by
  funext i
  obtain ⟨a, b, rfl⟩ := Cert.Dense.ix2_surj i
  pointwise [k0_pay15]

/-- The logit of the new key. -/
def fresh (h : Fin 16) : EReal := (∑ e : Fin 576, Q (ix2 h e) * N (ix3 0 0 e)) * Ideal.ofBits .f32 0x3D93CD3A#32

theorem last_at (h : Fin 16) (d : Fin 512) : k0_pay16 Q K S T M L A N (ix3 0 h d) =
    Ideal.div (Ideal.exp (k0_pay8 T M (ix2 h 0) - max (k0_pay8 T M (ix2 h 0)) (fresh Q N h)) * k0_pay12 K S T M A (ix2 h d)
        + Ideal.exp (fresh Q N h - max (k0_pay8 T M (ix2 h 0)) (fresh Q N h)) * N (ix3 0 0 ⟨d.val, by omega⟩))
      (Ideal.exp (k0_pay8 T M (ix2 h 0) - max (k0_pay8 T M (ix2 h 0)) (fresh Q N h)) * k0_pay11 S T M L (ix2 h 0)
        + Ideal.exp (fresh Q N h - max (k0_pay8 T M (ix2 h 0)) (fresh Q N h))) := by
  unfold fresh
  pointwise [k0_pay16]

/-! The same over the reals: `g` and `w` are the logits and the values of the keys of one batch, for one head. -/

variable (g : ℕ → ℝ) (w : ℕ → Fin 512 → ℝ) (h : Fin 16)

theorem tile_start : Upto g w 0 (k0_pay5 (F := Ideal) (ix2 h 0)) (k0_pay6 (F := Ideal) (ix2 h 0)) (fun d => k0_pay7 (F := Ideal) (ix2 h d)) := by
  have e5 : k0_pay5 (F := Ideal) (ix2 h 0) = (Consts.neg : EReal) := by
    pointwise [k0_pay5]
    exact Consts.ofBits_neg
  have e6 : k0_pay6 (F := Ideal) (ix2 h 0) = (0 : EReal) := by
    pointwise [k0_pay6]
  have e7 : ∀ d, k0_pay7 (F := Ideal) (ix2 h d) = (0 : EReal) := fun d => by
    pointwise [k0_pay7]
  rw [e5, e6, funext e7]
  exact Cert.Attn.upto_start g w Consts.neg

/-- A point takes the sums over the first `n` keys to those over the first `n + 1024`. -/
theorem tile_next (n : ℕ) (H : Upto g w n (M (ix2 h 0)) (L (ix2 h 0)) (fun d => A (ix2 h d)))
    (hS : ∀ k : Fin 1024, logits X P (ix2 h k) = ((g (n + k.val) : ℝ) : EReal))
    (hV : ∀ (k : Fin 1024) (d : Fin 512), lats P (ix2 ⟨d.val, by omega⟩ k) = ((w (n + k.val) d : ℝ) : EReal)) :
    Upto g w (n + 1024) (k0_pay8 (tops X P) M (ix2 h 0)) (k0_pay11 (logits X P) (tops X P) M L (ix2 h 0))
      (fun d => k0_pay12 (lats P) (logits X P) (tops X P) M A (ix2 h d)) :=
  Cert.Attn.upto_more g w n (fun k => logits X P (ix2 h k)) (fun k => k0_pay10 (logits X P) (tops X P) M (ix2 h k)) _ _ _ _
    (k0_pay9 (tops X P) M (ix2 h 0)) _ _ (fun k d => lats P (ix2 ⟨d.val, by omega⟩ k)) H hS
    (by rw [max_at, tops_at, show FloatOps.ofBits (F := Ideal) .f32 0xFF800000#32 = (⊥ : EReal) from Consts.ofBits_minus_infinity])
    (decay_at _ _ h) (fun k => weight_at _ _ _ h k) (total_at _ _ _ _ h) hV (fun d => mixed_at _ _ _ _ _ h d)

/-- The last point adds the new key and divides. -/
theorem tile_last (H : Upto g w 8192 (k0_pay8 T M (ix2 h 0)) (k0_pay11 S T M L (ix2 h 0)) (fun d => k0_pay12 K S T M A (ix2 h d)))
    (hf : fresh Q N h = ((g 8192 : ℝ) : EReal)) (hN : ∀ d : Fin 512, N (ix3 0 0 ⟨d.val, by omega⟩) = ((w 8192 d : ℝ) : EReal)) (d : Fin 512) :
    k0_pay16 Q K S T M L A N (ix3 0 h d) = ((Cert.Attn.soft (fun k : Fin 8193 => g k.val) (fun k => w k.val d) : ℝ) : EReal) := by
  rw [last_at]
  refine Cert.Attn.upto_div g w 8193 (max (k0_pay8 T M (ix2 h 0)) (fresh Q N h)) _
    (fun d => Ideal.exp (k0_pay8 T M (ix2 h 0) - max (k0_pay8 T M (ix2 h 0)) (fresh Q N h)) * k0_pay12 K S T M A (ix2 h d)
        + Ideal.exp (fresh Q N h - max (k0_pay8 T M (ix2 h 0)) (fresh Q N h)) * N (ix3 0 0 ⟨d.val, by omega⟩)) ?_ d
  refine Cert.Attn.upto_more (κ := 1) g w 8192 (fun _ => fresh Q N h) (fun _ => Ideal.exp (fresh Q N h - max (k0_pay8 T M (ix2 h 0)) (fresh Q N h)))
    _ _ _ _ _ _ _ (fun _ d => N (ix3 0 0 ⟨d.val, by omega⟩)) H ?_ ?_ rfl (fun _ => rfl) ?_ ?_ ?_
  · intro k
    rw [Subsingleton.elim k 0]
    exact hf
  · simp
  · simp
  · intro k d
    rw [Subsingleton.elim k 0]
    exact hN d
  · intro d
    simp

end Cert.MlaSIdeal.Layer
-- ==== Proof.MlaSStep.lean ====
module

public import proofs.«01_k».proof.Proof.MlaSPay
public import proofs.«01_k».proof.Proof.Gen.MlaSIdeal.Frame
public import Idealize.ShloMosaic.Lib.Pipeline.Value

@[expose] public section
set_option maxRecDepth 16384
noncomputable section
namespace Cert.MlaSIdeal.Layer
open Idealize.ShloMosaic Idealize.ShloMosaic.TcCoe Idealize.SL.Sem Cert.MlaSIdeal Cert.MlaSIdeal.Gen
open Cert.Dense (zero2 zero3)

/-! What each grid point leaves in the scratch, and the last of a batch in the result, from the point's blocks. -/

section Pieces

variable (c : Dev nD) (i : grid0.Coords)
  (arg3 : Memref sig .tc .vmem S1x16x576 .f32) (harg3 : arg3.IsWhole) (arg4 : Memref sig .tc .vmem S1x1x576 .f32) (harg4 : arg4.IsWhole)
  (arg5 : Memref sig .tc .vmem S1x576x128 .f32) (harg5 : arg5.IsWhole) (arg6 : Memref sig .tc .vmem S1x576x128 .f32) (harg6 : arg6.IsWhole)
  (arg7 : Memref sig .tc .vmem S1x576x128 .f32) (harg7 : arg7.IsWhole) (arg8 : Memref sig .tc .vmem S1x576x128 .f32) (harg8 : arg8.IsWhole)
  (arg9 : Memref sig .tc .vmem S1x576x128 .f32) (harg9 : arg9.IsWhole) (arg10 : Memref sig .tc .vmem S1x576x128 .f32) (harg10 : arg10.IsWhole)
  (arg11 : Memref sig .tc .vmem S1x576x128 .f32) (harg11 : arg11.IsWhole) (arg12 : Memref sig .tc .vmem S1x576x128 .f32) (harg12 : arg12.IsWhole)
  (arg13 : Memref sig .tc .vmem S1x16x512 .f32) (harg13 : arg13.IsWhole) (arg14 : Memref sig .tc .vmem S16x128 .f32) (harg14 : arg14.IsWhole)
  (arg15 : Memref sig .tc .vmem S16x128 .f32) (harg15 : arg15.IsWhole) (arg16 : Memref sig .tc .vmem S16x512 .f32) (harg16 : arg16.IsWhole)
  (x0 : Vec Ideal S1x16x576 .f32) (x1 : Vec Ideal S1x1x576 .f32) (x2 x3 x4 x5 x6 x7 x8 x9 : Vec Ideal S1x576x128 .f32)
  (xt : TbBuf0 (F := Ideal) c tbM0_0) (xs0 xs1 : Vec Ideal S16x128 .f32) (xs2 : Vec Ideal S16x512 .f32)

/-- A batch's first point: the running values start afresh and take in one tile. -/
theorem left_A (hc0 : cond0_0 i) (hc1 : ¬ cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt
      = k0_pay13 (tops x0 ![x2, x3, x4, x5, x6, x7, x8, x9]) (k0_pay5 (F := Ideal)) ∧
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt
      = k0_pay14 (logits x0 ![x2, x3, x4, x5, x6, x7, x8, x9]) (tops x0 ![x2, x3, x4, x5, x6, x7, x8, x9]) (k0_pay5 (F := Ideal)) (k0_pay6 (F := Ideal)) ∧
    sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt
      = k0_pay15 (lats ![x2, x3, x4, x5, x6, x7, x8, x9]) (logits x0 ![x2, x3, x4, x5, x6, x7, x8, x9]) (tops x0 ![x2, x3, x4, x5, x6, x7, x8, x9]) (k0_pay5 (F := Ideal)) (k0_pay7 (F := Ideal)) := by
  refine ⟨?_, ?_, ?_⟩
  · unfold sout0_A_0
    refine (View.read_writes_eq_canon _ _ _ (fun _ => scover0_A_0 (F := Ideal) ..)).trans ?_
    unfold kernelRun0_A
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_A_1
    refine (View.read_writes_eq_canon _ _ _ (fun _ => scover0_A_1 (F := Ideal) ..)).trans ?_
    unfold kernelRun0_A
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_A_2
    refine (View.read_writes_eq_canon _ _ _ (fun _ => scover0_A_2 (F := Ideal) ..)).trans ?_
    unfold kernelRun0_A
    dsimp only
    sl_unfold_words
    refine (View.canon_cons_unit_zero (S := S16x512) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl

/-- A point in the middle takes one more tile in. -/
theorem left_B (hc0 : ¬ cond0_0 i) (hc1 : ¬ cond0_1 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay13 (tops x0 ![x2, x3, x4, x5, x6, x7, x8, x9]) xs0 ∧
    sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay14 (logits x0 ![x2, x3, x4, x5, x6, x7, x8, x9]) (tops x0 ![x2, x3, x4, x5, x6, x7, x8, x9]) xs0 xs1 ∧
    sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay15 (lats ![x2, x3, x4, x5, x6, x7, x8, x9]) (logits x0 ![x2, x3, x4, x5, x6, x7, x8, x9]) (tops x0 ![x2, x3, x4, x5, x6, x7, x8, x9]) xs0 xs2 := by
  refine ⟨?_, ?_, ?_⟩
  · unfold sout0_B_0
    refine (View.read_writes_eq_canon _ _ _ (fun _ => scover0_B_0 (F := Ideal) ..)).trans ?_
    unfold kernelRun0_B
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_B_1
    refine (View.read_writes_eq_canon _ _ _ (fun _ => scover0_B_1 (F := Ideal) ..)).trans ?_
    unfold kernelRun0_B
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_B_2
    refine (View.read_writes_eq_canon _ _ _ (fun _ => scover0_B_2 (F := Ideal) ..)).trans ?_
    unfold kernelRun0_B
    dsimp only
    sl_unfold_words
    refine (View.canon_cons_unit_zero (S := S16x512) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl

/-- The last point takes one more tile in, and writes the result with the new latent taken in too. -/
theorem left_C (hc0 : ¬ cond0_0 i) (hc1 : cond0_1 i) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay13 (tops x0 ![x2, x3, x4, x5, x6, x7, x8, x9]) xs0 ∧
    sout0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay14 (logits x0 ![x2, x3, x4, x5, x6, x7, x8, x9]) (tops x0 ![x2, x3, x4, x5, x6, x7, x8, x9]) xs0 xs1 ∧
    sout0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay15 (lats ![x2, x3, x4, x5, x6, x7, x8, x9]) (logits x0 ![x2, x3, x4, x5, x6, x7, x8, x9]) (tops x0 ![x2, x3, x4, x5, x6, x7, x8, x9]) xs0 xs2 ∧
    out0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1
        x0 x1 x2 x3 x4 x5 x6 x7 x8 x9 xt xs0 xs1 xs2
      = k0_pay16 (k0_pay1 x0) (lats ![x2, x3, x4, x5, x6, x7, x8, x9]) (logits x0 ![x2, x3, x4, x5, x6, x7, x8, x9]) (tops x0 ![x2, x3, x4, x5, x6, x7, x8, x9]) xs0 xs1 xs2 x1 := by
  refine ⟨?_, ?_, ?_, ?_⟩
  · unfold sout0_C_0
    refine (View.read_writes_eq_canon _ _ _ (fun _ => scover0_C_0 (F := Ideal) ..)).trans ?_
    unfold kernelRun0_C
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_C_1
    refine (View.read_writes_eq_canon _ _ _ (fun _ => scover0_C_1 (F := Ideal) ..)).trans ?_
    unfold kernelRun0_C
    dsimp only
    sl_unfold_words
    refine (View.canon_cons_unit_zero (S := S16x128) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold sout0_C_2
    refine (View.read_writes_eq_canon _ _ _ (fun _ => scover0_C_2 (F := Ideal) ..)).trans ?_
    unfold kernelRun0_C
    dsimp only
    sl_unfold_words
    refine (View.canon_cons_unit_zero (S := S16x512) zero2 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl
  · unfold out0_C_10
    refine (View.read_writes_eq_canon _ _ _ (fun _ => cover0_C_10 (F := Ideal) ..)).trans ?_
    unfold kernelRun0_C
    dsimp only
    sl_unfold_words
    refine (View.canon_cons_unit_zero (S := S1x16x512) zero3 _ _ _).trans ?_
    simp only [View.readAt_eq_ld, harg3.read_unread, harg4.read_unread, harg5.read_unread, harg6.read_unread, harg7.read_unread, harg8.read_unread, harg9.read_unread, harg10.read_unread, harg11.read_unread, harg12.read_unread, harg14.read_unread, harg15.read_unread, harg16.read_unread,
      View.ld_unit_zero (S := S1x16x576) zero3, View.ld_unit_zero (S := S1x1x576) zero3, View.ld_unit_zero (S := S1x576x128) zero3,
      View.ld_unit_zero (S := S16x128) zero2, View.ld_unit_zero (S := S16x512) zero2,
      View.readCov_full (s := S16x128), View.readCov_full (s := S16x512)]
    rfl

end Pieces

variable (m : (ℓ : Loc nD τ sig) → Buf (Elt Ideal) ℓ) (hO : Ok m) (c : Dev nD)

/-- The queries of the point's batch, its new latent and its eight pages. -/
def queries (t : Fin (cfgM m hO).N) : Vec Ideal S1x16x576 .f32 := iblk m hO c 0 t
def newest (t : Fin (cfgM m hO).N) : Vec Ideal S1x1x576 .f32 := iblk m hO c 1 t
def pages (t : Fin (cfgM m hO).N) : Fin 8 → Vec Ideal S1x576x128 .f32 :=
  ![iblk m hO c 2 t, iblk m hO c 3 t, iblk m hO c 4 t, iblk m hO c 5 t, iblk m hO c 6 t, iblk m hO c 7 t, iblk m hO c 8 t, iblk m hO c 9 t]

/-- One more tile on the running maximum, sum and mix. -/
def step (t : Fin (cfgM m hO).N) (s : Vec Ideal S16x128 .f32 × Vec Ideal S16x128 .f32 × Vec Ideal S16x512 .f32) :
    Vec Ideal S16x128 .f32 × Vec Ideal S16x128 .f32 × Vec Ideal S16x512 .f32 :=
  (k0_pay8 (tops (queries m hO c t) (pages m hO c t)) s.1,
    k0_pay11 (logits (queries m hO c t) (pages m hO c t)) (tops (queries m hO c t) (pages m hO c t)) s.1 s.2.1,
    k0_pay12 (lats (pages m hO c t)) (logits (queries m hO c t) (pages m hO c t)) (tops (queries m hO c t) (pages m hO c t)) s.1 s.2.2)

/-- What the point before left. -/
def before (t : Fin (cfgM m hO).N) : Vec Ideal S16x128 .f32 × Vec Ideal S16x128 .f32 × Vec Ideal S16x512 .f32 :=
  (outsAt0 m hO c (t.val - 1) (Nat.lt_of_le_of_lt (Nat.sub_le _ _) t.isLt)).2

/-- At a batch's first point the running values start afresh. -/
theorem first (t : Fin (cfgM m hO).N) (h0 : t.val % 8 = 0) :
    (outsAt0 m hO c t.val t.isLt).2 = step m hO c t (k0_pay5 (F := Ideal), k0_pay6 (F := Ideal), k0_pay7 (F := Ideal)) := by
  have key := fun h0 h1 => left_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t)
    scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) h0 h1
  rw [outsAt0_A m hO c t h0 (by omega)]
  unfold step queries pages
  rw [← store_max, ← store_total, ← store_mixed]
  refine Prod.ext ?_ (Prod.ext ?_ ?_) <;> dsimp only
  · rw [(key _ _).1]
  · rw [(key _ _).2.1]
  · rw [(key _ _).2.2]

/-- At a point in the middle they carry on from the point before. -/
theorem middle (t : Fin (cfgM m hO).N) (h0 : ¬ t.val % 8 = 0) (h1 : ¬ t.val % 8 = 7) :
    (outsAt0 m hO c t.val t.isLt).2 = step m hO c t (before m hO c t) := by
  have key := fun h0 h1 => left_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t)
    scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)
    (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h0 h1
  rw [outsAt0_B m hO c t h0 h1]
  unfold step queries pages before
  rw [← store_max, ← store_total, ← store_mixed]
  refine Prod.ext ?_ (Prod.ext ?_ ?_) <;> dsimp only
  · rw [(key _ _).1]
  · rw [(key _ _).2.1]
  · rw [(key _ _).2.2]

/-- At the last they do too, and the result is written. -/
theorem last (t : Fin (cfgM m hO).N) (h1 : t.val % 8 = 7) :
    outsAt0 m hO c t.val t.isLt = (k0_pay16 (k0_pay1 (queries m hO c t)) (lats (pages m hO c t))
      (logits (queries m hO c t) (pages m hO c t)) (tops (queries m hO c t) (pages m hO c t))
      (before m hO c t).1 (before m hO c t).2.1 (before m hO c t).2.2 (newest m hO c t), step m hO c t (before m hO c t)) := by
  have key := fun h0 h1 => left_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t)
    scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)
    (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h0 h1
  rw [outsAt0_C m hO c t (by omega) h1]
  unfold step queries pages newest before
  rw [← store_max, ← store_total, ← store_mixed]
  refine Prod.ext ?_ (Prod.ext ?_ (Prod.ext ?_ ?_)) <;> dsimp only
  · rw [(key _ _).2.2.2]
  · rw [(key _ _).1]
  · rw [(key _ _).2.1]
  · rw [(key _ _).2.2.1]

end Cert.MlaSIdeal.Layer
-- ==== Proof.MlaSTable.lean ====
module

public import proofs.«01_k».proof.Proof.MlaSStep
public import proofs.«01_k».proof.Proof.Gen.Pre_in_pool
public import proofs.«01_k».proof.Proof.Gen.Pre_paged
public import Idealize.ShloMosaic.Lib.ReduceAll
public import Idealize.ShloMosaic.Lib.Pointwise

@[expose] public section
set_option maxRecDepth 16384
noncomputable section

open Idealize.ShloMosaic Idealize.ShloMosaic.TcCoe Idealize.SL.Sem

/-! ## What the preconditions say of the page table and of the entries -/

/-- A word that is at least 0 and less than 10240, read as signed, is a page number. -/
theorem Cert.Attn.page_lt (w : BitVec 32) (h0 : IntOp.cmpi .sge w 0#32 = 1#1) (h1 : IntOp.cmpi .slt w 10240#32 = 1#1) : w.toNat < 10240 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (10240#32 : BitVec 32).toInt = 10240 := by decide
  rw [e0] at h0
  rw [e1] at h1
  have := BitVec.toInt_eq_toNat_cond w
  have := w.isLt
  split at * <;> omega

/-- An entry below positive infinity in absolute value is a real number. -/
theorem Cert.Attn.real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have htop : Ideal.ofBits .f32 0x7F800000#32 = (⊤ : EReal) := by
    simp [Ideal.ofBits, Ideal.ieee]
  rw [Ideal.cmpf_def, Ideal.absf_def, htop] at h
  have h2 : max x (-x) < ⊤ := by
    by_contra h3
    have h4 : Ideal.cmp .olt (max x (-x)) ⊤ = 0#1 := by simp [Ideal.cmp, h3]
    rw [h4] at h
    exact absurd h (by decide)
  induction x with
  | bot => simp at h2
  | top => simp at h2
  | coe r => exact ⟨r, rfl⟩

namespace Cert.Pre_in_pool

theorem pages {F : FTy → Type} [FloatOps F] (x0 : FVec F S128x16x576 .f32) (x1 : FVec F S128x1x576 .f32) (x2 : FVec F S10240x576x128 .f32) (x3 : IVec S128x64 32)
    (h : ∀ i, fn (F := F) x0 x1 x2 x3 i = 1#1) (i : S128x64.Idx) : (x3 i).toNat < 10240 := by
  have h0 := h (fun a => a.elim0)
  unfold fn at h0
  dsimp only at h0
  obtain ⟨ha, hb⟩ := IntOp.andi_eq_one.1 h0
  exact Cert.Attn.page_lt _ (Host.reduce_andi_all _ _ _ _ _ ha i) (Host.reduce_andi_all _ _ _ _ _ hb i)

end Cert.Pre_in_pool

namespace Cert.Pre_paged

variable (x0 : FVec Ideal S128x16x576 .f32) (x1 : FVec Ideal S128x1x576 .f32) (x2 : FVec Ideal S10240x576x128 .f32) (x3 : IVec S128x64 32)

theorem entries (h : ∀ i, fn (F := Ideal) x0 x1 x2 x3 i = 1#1) :
    (∀ i, ∃ r : ℝ, x0 i = (r : EReal)) ∧ (∀ i, ∃ r : ℝ, x1 i = (r : EReal)) ∧ (∀ i, ∃ r : ℝ, x2 i = (r : EReal)) ∧ ∀ i, (x3 i).toNat < 10240 := by
  have h0 := h (fun a => a.elim0)
  unfold fn fn_part1 at h0
  dsimp only at h0
  obtain ⟨h1, hd⟩ := IntOp.andi_eq_one.1 h0
  obtain ⟨h2, hc⟩ := IntOp.andi_eq_one.1 h1
  obtain ⟨h3, hb⟩ := IntOp.andi_eq_one.1 h2
  obtain ⟨hq, ha⟩ := IntOp.andi_eq_one.1 h3
  exact ⟨fun i => Cert.Attn.real_of_abs_lt _ (Host.reduce_andi_all _ _ _ _ _ hq i), fun i => Cert.Attn.real_of_abs_lt _ (Host.reduce_andi_all _ _ _ _ _ ha i),
    fun i => Cert.Attn.real_of_abs_lt _ (Host.reduce_andi_all _ _ _ _ _ hb i),
    fun i => Cert.Attn.page_lt _ (Host.reduce_andi_all _ _ _ _ _ hc i) (Host.reduce_andi_all _ _ _ _ _ hd i)⟩

/-- The arguments as numbers. -/
theorem numbers (h : ∀ i, fn (F := Ideal) x0 x1 x2 x3 i = 1#1) :
    ∃ (q : Fin 128 → Fin 16 → Fin 576 → ℝ) (new : Fin 128 → Fin 576 → ℝ) (cache : Fin 10240 → Fin 128 → Fin 576 → ℝ) (pt : Fin 128 → Fin 64 → Fin 10240),
      (∀ b h e, x0 (ix3 b h e) = ((q b h e : ℝ) : EReal)) ∧ (∀ b e, x1 (ix3 b 0 e) = ((new b e : ℝ) : EReal)) ∧
      (∀ p r e, x2 (ix3 p e r) = ((cache p r e : ℝ) : EReal)) ∧ ∀ b p, x3 (ix2 b p) = BitVec.ofNat 32 (pt b p).val := by
  obtain ⟨h0, h1, h2, h3⟩ := entries x0 x1 x2 x3 h
  choose q hq using h0
  choose new hnew using h1
  choose cache hcache using h2
  exact ⟨fun b h e => q (ix3 b h e), fun b e => new (ix3 b 0 e), fun p r e => cache (ix3 p e r), fun b p => ⟨(x3 (ix2 b p)).toNat, h3 _⟩,
    fun _ _ _ => hq _, fun _ _ => hnew _, fun _ _ _ => hcache _, fun b p => (BitVec.ofNat_toNat 32 (x3 (ix2 b p))).symm ▸ (BitVec.setWidth_eq _).symm⟩

end Cert.Pre_paged

namespace Cert.MlaSIdeal.Layer
open Cert.MlaSIdeal Cert.MlaSIdeal.Gen

/-! ## The eight pages of a grid point -/

section
variable {F : FTy → Type} [FloatOps F]

/-- A page table whose words are page numbers names blocks inside the cache. -/
theorem ok_of (m : (ℓ : Loc nD τ sig) → Buf (Elt F) ℓ) (h : ∀ i : S128x64.Idx, ((tbl m 0 : IVec S128x64 32) i).toNat < 10240) : Ok m := by
  unfold Ok ok0
  refine ⟨?_, ?_, ?_, ?_, ?_, ?_, ?_, ?_⟩ <;> intro i <;> refine ⟨fun a => ?_, .inl rfl⟩
  all_goals
    match a with
    | ⟨0, _⟩ => exact (Nat.mul_one _).le.trans (Nat.succ_le_of_lt (h _))
    | ⟨1, _⟩ => exact (by decide : (0 + 1) * 576 ≤ 576)
    | ⟨2, _⟩ => exact (by decide : (0 + 1) * 128 ≤ 128)
end

/-- The word a page's index map reads is the table's entry of the batch and the page. -/
theorem word_at {F : FTy → Type} [FloatOps F] (pf : pre0.Contents (Elt F)) (off : Fin 2 → ℕ) (inb : ∀ a, off a + S1x1.size a ≤ S128x64.size a)
    (b : Fin 128) (p : Fin 64) (hb : off 0 = b.val) (hp : off 1 = p.val) :
    pf.at 0 (Rect.unit (s := S128x64) off S1x1.size inb) numel1_S1x1 = (pf 0 : IVec S128x64 32) (ix2 b p) := by
  refine congrArg (pf 0 : IVec S128x64 32) (funext fun a => Fin.ext ?_)
  match a with
  | ⟨0, _⟩ => show off 0 + 1 * 0 = b.val; omega
  | ⟨1, _⟩ => show off 1 + 1 * 0 = p.val; omega

theorem coords_0 (t : Fin grid0.N) : (grid0.coords t 0).val = t.val / 8 := by
  have h : (grid0.coords t 0).val = t.val / 8 % 128 := Pipeline.Grid.coords_val t 0 (by decide) rfl
  have : t.val < 1024 := lt_of_lt_of_eq t.isLt N_0
  omega
theorem coords_1 (t : Fin grid0.N) : (grid0.coords t 1).val = t.val % 8 := by
  have h : (grid0.coords t 1).val = t.val / 1 % 8 := Pipeline.Grid.coords_val t 1 (by decide) rfl
  omega

theorem off_word : ∀ x r : Fin 8, (Scalar.addi (Scalar.muli (BitVec.ofNat 32 x.val) 8#32) (BitVec.ofNat 32 r.val)).toNat = 8 * x.val + r.val := by decide

variable (m : (ℓ : Loc nD τ sig) → Buf (Elt Ideal) ℓ) (hO : Ok m) (c : Dev nD)

theorem lt_N (t : Fin (cfgM m hO).N) : t.val < 1024 := lt_of_lt_of_eq t.isLt N_0

theorem query_block (t : Fin (cfgM m hO).N) (h : Fin 16) (e : Fin 576) :
    queries m hO c t (ix3 0 h e) = (V m c main_arg0 : Vec Ideal S128x16x576 .f32) (ix3 ⟨t.val / 8, by have := lt_N m hO t; omega⟩ h e) := by
  have h0 := coords_0 t
  have ht := lt_N m hO t
  refine congrArg (V m c main_arg0)
    (?_ : ((((cfgM m hO).win 0).blk t).view.emb (show (((cfgM m hO).win 0).xblock ((cfgM m hO).grid.coords t)).Idx from (ix3 (0 : Fin 1) h e : S1x16x576.Idx)) : S128x16x576.Idx) = _)
  refine funext fun a => Fin.ext ?_
  match a with
  | ⟨0, _⟩ =>
    show (BitVec.ofNat 32 (grid0.coords t 0).val).toNat * 1 + 1 * 0 = t.val / 8
    rw [h0, WordCmp.toNat_ofNat_of_lt (by omega)]
    omega
  | ⟨1, _⟩ => show 0 * 16 + 1 * h.val = h.val; omega
  | ⟨2, _⟩ => show 0 * 576 + 1 * e.val = e.val; omega

theorem newest_block (t : Fin (cfgM m hO).N) (e : Fin 576) :
    newest m hO c t (ix3 0 0 e) = (V m c main_arg1 : Vec Ideal S128x1x576 .f32) (ix3 ⟨t.val / 8, by have := lt_N m hO t; omega⟩ 0 e) := by
  have h0 := coords_0 t
  have ht := lt_N m hO t
  refine congrArg (V m c main_arg1)
    (?_ : ((((cfgM m hO).win 1).blk t).view.emb (show (((cfgM m hO).win 1).xblock ((cfgM m hO).grid.coords t)).Idx from (ix3 (0 : Fin 1) (0 : Fin 1) e : S1x1x576.Idx)) : S128x1x576.Idx) = _)
  refine funext fun a => Fin.ext ?_
  match a with
  | ⟨0, _⟩ =>
    show (BitVec.ofNat 32 (grid0.coords t 0).val).toNat * 1 + 1 * 0 = t.val / 8
    rw [h0, WordCmp.toNat_ofNat_of_lt (by omega)]
    omega
  | ⟨1, _⟩ => show 0 * 1 + 1 * 0 = 0; omega
  | ⟨2, _⟩ => show 0 * 576 + 1 * e.val = e.val; omega

/-- The page named by the table for the batch of a grid point and its `r`-th page. -/
def named (t : Fin (cfgM m hO).N) (r : Fin 8) : BitVec 32 :=
  (tbl m 0 : IVec S128x64 32) (ix2 ⟨t.val / 8, by have := lt_N m hO t; omega⟩ ⟨8 * (t.val % 8) + r.val, by omega⟩)

/-- The word an index map reads is that. -/
theorem reads_named (t : Fin (cfgM m hO).N) (r : Fin 8) (off : Fin 2 → ℕ) (hoff : off = k0_off1 (grid0.coords t) (BitVec.ofNat 32 r.val))
    (inb : ∀ a, off a + S1x1.size a ≤ S128x64.size a) : (tbl m).at 0 (Rect.unit (s := S128x64) off S1x1.size inb) numel1_S1x1 = named m hO t r := by
  have h0 := coords_0 t
  have h1 := coords_1 t
  have ht := lt_N m hO t
  subst hoff
  refine word_at (tbl m) _ inb _ _ ?_ ?_
  · show (BitVec.ofNat 32 (grid0.coords t 0).val).toNat = t.val / 8
    rw [h0, WordCmp.toNat_ofNat_of_lt (by omega)]
  · show (Scalar.addi (Scalar.muli (BitVec.ofNat 32 (grid0.coords t 1).val) 8#32) (BitVec.ofNat 32 r.val)).toNat = 8 * (t.val % 8) + r.val
    rw [h1]
    exact off_word ⟨t.val % 8, by omega⟩ r

/-- An entry of a page's block, from the block's index. -/
theorem page_entry (idx : Fin 3 → ℕ) (i : S10240x576x128.Idx) (e : Fin 576) (k : Fin 128) (p : Fin 10240)
    (hi : ∀ a, (i a).val = idx a * S1x576x128.size a + 1 * ((ix3 0 e k : S1x576x128.Idx) a).val) (h0 : idx 0 = p.val) (h1 : idx 1 = 0) (h2 : idx 2 = 0) :
    i = ix3 p e k := by
  refine funext fun a => Fin.ext ((hi a).trans ?_)
  match a with
  | ⟨0, _⟩ => show idx 0 * 1 + 1 * 0 = p.val; omega
  | ⟨1, _⟩ => show idx 1 * 576 + 1 * e.val = e.val; omega
  | ⟨2, _⟩ => show idx 2 * 128 + 1 * k.val = k.val; omega

/-- The pages of a grid point are the ones the table names. -/
theorem page_block (t : Fin (cfgM m hO).N) (r : Fin 8) (p : Fin 10240) (hp : (named m hO t r).toNat = p.val) (e : Fin 576) (k : Fin 128) :
    pages m hO c t r (ix3 0 e k) = (V m c main_arg2 : Vec Ideal S10240x576x128 .f32) (ix3 p e k) := by
  have named_at := fun r : Fin 8 => congrArg BitVec.toNat (reads_named m hO t r _ rfl (k0_off1_inb _ r))
  match r with
  | 0 => exact congrArg (V m c main_arg2) (page_entry (cc0_transform_2 k0_off1_inb numel1_S1x1 (tbl m) (grid0.coords t))
      ((((cfgM m hO).win 2).blk t).view.emb (show (((cfgM m hO).win 2).xblock ((cfgM m hO).grid.coords t)).Idx from (ix3 (0 : Fin 1) e k : S1x576x128.Idx)))
      e k p (fun _ => rfl) ((named_at 0).trans hp) rfl rfl)
  | 1 => exact congrArg (V m c main_arg2) (page_entry (cc0_transform_3 k0_off1_inb numel1_S1x1 (tbl m) (grid0.coords t))
      ((((cfgM m hO).win 3).blk t).view.emb (show (((cfgM m hO).win 3).xblock ((cfgM m hO).grid.coords t)).Idx from (ix3 (0 : Fin 1) e k : S1x576x128.Idx)))
      e k p (fun _ => rfl) ((named_at 1).trans hp) rfl rfl)
  | 2 => exact congrArg (V m c main_arg2) (page_entry (cc0_transform_4 k0_off1_inb numel1_S1x1 (tbl m) (grid0.coords t))
      ((((cfgM m hO).win 4).blk t).view.emb (show (((cfgM m hO).win 4).xblock ((cfgM m hO).grid.coords t)).Idx from (ix3 (0 : Fin 1) e k : S1x576x128.Idx)))
      e k p (fun _ => rfl) ((named_at 2).trans hp) rfl rfl)
  | 3 => exact congrArg (V m c main_arg2) (page_entry (cc0_transform_5 k0_off1_inb numel1_S1x1 (tbl m) (grid0.coords t))
      ((((cfgM m hO).win 5).blk t).view.emb (show (((cfgM m hO).win 5).xblock ((cfgM m hO).grid.coords t)).Idx from (ix3 (0 : Fin 1) e k : S1x576x128.Idx)))
      e k p (fun _ => rfl) ((named_at 3).trans hp) rfl rfl)
  | 4 => exact congrArg (V m c main_arg2) (page_entry (cc0_transform_6 k0_off1_inb numel1_S1x1 (tbl m) (grid0.coords t))
      ((((cfgM m hO).win 6).blk t).view.emb (show (((cfgM m hO).win 6).xblock ((cfgM m hO).grid.coords t)).Idx from (ix3 (0 : Fin 1) e k : S1x576x128.Idx)))
      e k p (fun _ => rfl) ((named_at 4).trans hp) rfl rfl)
  | 5 => exact congrArg (V m c main_arg2) (page_entry (cc0_transform_7 k0_off1_inb numel1_S1x1 (tbl m) (grid0.coords t))
      ((((cfgM m hO).win 7).blk t).view.emb (show (((cfgM m hO).win 7).xblock ((cfgM m hO).grid.coords t)).Idx from (ix3 (0 : Fin 1) e k : S1x576x128.Idx)))
      e k p (fun _ => rfl) ((named_at 5).trans hp) rfl rfl)
  | 6 => exact congrArg (V m c main_arg2) (page_entry (cc0_transform_8 k0_off1_inb numel1_S1x1 (tbl m) (grid0.coords t))
      ((((cfgM m hO).win 8).blk t).view.emb (show (((cfgM m hO).win 8).xblock ((cfgM m hO).grid.coords t)).Idx from (ix3 (0 : Fin 1) e k : S1x576x128.Idx)))
      e k p (fun _ => rfl) ((named_at 6).trans hp) rfl rfl)
  | 7 => exact congrArg (V m c main_arg2) (page_entry (cc0_transform_9 k0_off1_inb numel1_S1x1 (tbl m) (grid0.coords t))
      ((((cfgM m hO).win 9).blk t).view.emb (show (((cfgM m hO).win 9).xblock ((cfgM m hO).grid.coords t)).Idx from (ix3 (0 : Fin 1) e k : S1x576x128.Idx)))
      e k p (fun _ => rfl) ((named_at 7).trans hp) rfl rfl)

end Cert.MlaSIdeal.Layer
-- ==== Proof.MlaSLayer.lean ====
module

public import proofs.«01_k».proof.Proof.MlaSTable
public import Idealize.ShloMosaic.Lib.Pipeline.ValueKit.Geometry

@[expose] public section
set_option maxRecDepth 16384
noncomputable section
namespace Cert.MlaSIdeal.Layer
open Idealize.ShloMosaic Idealize.ShloMosaic.TcCoe Idealize.SL.Sem Cert.MlaSIdeal Cert.MlaSIdeal.Gen
open Cert.Attn (Upto latent score value answer)

/-! # The result of the sampling attention, entry by entry

Along the eight points of a batch the scratch holds the running sums over the keys met so far; the last point adds
the new key and divides. -/

variable (m : (ℓ : Loc nD τ sig) → Buf (Elt Ideal) ℓ) (hO : Ok m) (c : Dev nD)
variable (pt : Fin 128 → Fin 64 → Fin 10240) (cache : Fin 10240 → Fin 128 → Fin 576 → ℝ) (new : Fin 128 → Fin 576 → ℝ)
  (q : Fin 128 → Fin 16 → Fin 576 → ℝ)

/-- The arguments hold these numbers. -/
structure Args : Prop where
  q_at : ∀ b h e, (V m c main_arg0 : Vec Ideal S128x16x576 .f32) (ix3 b h e) = ((q b h e : ℝ) : EReal)
  new_at : ∀ b e, (V m c main_arg1 : Vec Ideal S128x1x576 .f32) (ix3 b 0 e) = ((new b e : ℝ) : EReal)
  cache_at : ∀ p r e, (V m c main_arg2 : Vec Ideal S10240x576x128 .f32) (ix3 p e r) = ((cache p r e : ℝ) : EReal)
  pt_at : ∀ b p, (tbl m 0 : IVec S128x64 32) (ix2 b p) = BitVec.ofNat 32 (pt b p).val

variable {m c pt cache new q} (H : Args m c pt cache new q)

/-- The batch of a grid point. -/
abbrev batch (n : ℕ) (hn : n < 1024) : Fin 128 := ⟨n / 8, by omega⟩

include H

theorem key_at (t : Fin (cfgM m hO).N) (k : Fin 1024) (e : Fin 576) :
    lats (pages m hO c t) (ix2 e k) = ((latent pt cache new (batch t.val (lt_N m hO t)) (1024 * (t.val % 8) + k.val) e : ℝ) : EReal) := by
  have hw : (named m hO t ⟨k.val / 128, by omega⟩).toNat = (pt (batch t.val (lt_N m hO t)) ⟨8 * (t.val % 8) + k.val / 128, by omega⟩).val := by
    unfold named
    rw [H.pt_at, WordCmp.toNat_ofNat_of_lt (by omega)]
  rw [lats_at, page_block m hO c t _ _ hw, H.cache_at]
  unfold latent
  rw [dif_pos (by omega)]
  refine congrArg _ (congr (congr (congrArg cache (congrArg (pt _) (Fin.ext ?_))) (Fin.ext ?_)) rfl)
  · show 8 * (t.val % 8) + k.val / 128 = (1024 * (t.val % 8) + k.val) / 128; omega
  · show k.val % 128 = (1024 * (t.val % 8) + k.val) % 128; omega

theorem logit_at (t : Fin (cfgM m hO).N) (h : Fin 16) (k : Fin 1024) :
    logits (queries m hO c t) (pages m hO c t) (ix2 h k)
      = ((score pt cache new q (batch t.val (lt_N m hO t)) h (1024 * (t.val % 8) + k.val) : ℝ) : EReal) := by
  unfold score
  rw [logits_at, Consts.ofBits_scale, EReal.coe_mul, ← Cert.Attn.coe_sum]
  refine congrArg (· * _) (Finset.sum_congr rfl fun e _ => ?_)
  rw [key_at hO H, query_block, H.q_at, EReal.coe_mul]

/-- A grid point takes the sums on by its tile. -/
theorem step_upto (t : Fin (cfgM m hO).N) (h : Fin 16) (s : Vec Ideal S16x128 .f32 × Vec Ideal S16x128 .f32 × Vec Ideal S16x512 .f32)
    (hs : Upto (score pt cache new q (batch t.val (lt_N m hO t)) h) (value pt cache new (batch t.val (lt_N m hO t))) (1024 * (t.val % 8))
      (s.1 (ix2 h 0)) (s.2.1 (ix2 h 0)) (fun d => s.2.2 (ix2 h d))) :
    Upto (score pt cache new q (batch t.val (lt_N m hO t)) h) (value pt cache new (batch t.val (lt_N m hO t))) (1024 * (t.val % 8) + 1024)
      ((step m hO c t s).1 (ix2 h 0)) ((step m hO c t s).2.1 (ix2 h 0)) (fun d => (step m hO c t s).2.2 (ix2 h d)) :=
  tile_next _ _ _ _ _ _ _ h _ hs (logit_at hO H t h) fun k d => key_at hO H t k _

theorem kept (n : ℕ) : ∀ (hn : n < (cfgM m hO).N) (h : Fin 16),
    Upto (score pt cache new q (batch n (lt_N m hO ⟨n, hn⟩)) h) (value pt cache new (batch n (lt_N m hO ⟨n, hn⟩))) (1024 * (n % 8) + 1024)
      ((outsAt0 m hO c n hn).2.1 (ix2 h 0)) ((outsAt0 m hO c n hn).2.2.1 (ix2 h 0)) (fun d => (outsAt0 m hO c n hn).2.2.2 (ix2 h d)) := by
  have fresh_start : ∀ (n : ℕ) (hn : n < (cfgM m hO).N) (h : Fin 16), n % 8 = 0 →
      Upto (score pt cache new q (batch n (lt_N m hO ⟨n, hn⟩)) h) (value pt cache new (batch n (lt_N m hO ⟨n, hn⟩))) (1024 * (n % 8) + 1024)
      ((outsAt0 m hO c n hn).2.1 (ix2 h 0)) ((outsAt0 m hO c n hn).2.2.1 (ix2 h 0)) (fun d => (outsAt0 m hO c n hn).2.2.2 (ix2 h d)) := by
    intro n hn h h0
    rw [first m hO c ⟨n, hn⟩ h0]
    refine step_upto hO H ⟨n, hn⟩ h _ ?_
    dsimp only
    rw [h0]
    exact tile_start _ _ h
  induction n with
  | zero => exact fun hn h => fresh_start 0 hn h rfl
  | succ n ih =>
    intro hn h
    by_cases h0 : (n + 1) % 8 = 0
    · exact fresh_start (n + 1) hn h h0
    · have e : (outsAt0 m hO c (n + 1) hn).2 = step m hO c ⟨n + 1, hn⟩ (before m hO c ⟨n + 1, hn⟩) := by
        by_cases h1 : (n + 1) % 8 = 7
        · rw [last m hO c ⟨n + 1, hn⟩ h1]
        · exact middle m hO c ⟨n + 1, hn⟩ h0 h1
      rw [e]
      refine step_upto hO H ⟨n + 1, hn⟩ h _ ?_
      have := ih (Nat.lt_of_succ_lt hn) h
      have hb : batch (n + 1) (lt_N m hO ⟨n + 1, hn⟩) = batch n (lt_N m hO ⟨n, Nat.lt_of_succ_lt hn⟩) := Fin.ext (by show (n + 1) / 8 = n / 8; omega)
      dsimp only
      rw [hb, show 1024 * ((n + 1) % 8) = 1024 * (n % 8) + 1024 by omega]
      exact this

/-- What a batch's last point writes is the attention of that batch. -/
theorem written (t : Fin (cfgM m hO).N) (h1 : t.val % 8 = 7) (h : Fin 16) (d : Fin 512) :
    (outsAt0 m hO c t.val t.isLt).1 (ix3 0 h d) = ((answer pt cache new q (batch t.val (lt_N m hO t)) h d : ℝ) : EReal) := by
  have after := kept hO H t.val t.isLt h
  rw [last m hO c t h1, h1] at after
  rw [last m hO c t h1]
  have new_key : ∀ e, latent pt cache new (batch t.val (lt_N m hO t)) 8192 e = new (batch t.val (lt_N m hO t)) e := fun e => dif_neg (by omega)
  refine tile_last _ _ _ _ _ _ _ _ _ _ h after ?_ (fun e => ?_) d
  · unfold fresh score
    rw [Consts.ofBits_scale, EReal.coe_mul, ← Cert.Attn.coe_sum]
    refine congrArg (· * _) (Finset.sum_congr rfl fun e _ => ?_)
    rw [query_at, query_block, newest_block, H.q_at, H.new_at, new_key, EReal.coe_mul]
  · unfold value
    rw [newest_block, H.new_at, new_key]

omit H in
/-- An entry of a block of the result is the entry of its batch. -/
theorem out_entry (t : Fin (cfgM m hO).N) (h : Fin 16) (d : Fin 512) :
    (((((cfgM m hO).win 10).blk t).view.emb (show (((cfgM m hO).win 10).xblock ((cfgM m hO).grid.coords t)).Idx from (ix3 (0 : Fin 1) h d : S1x16x512.Idx))) : S128x16x512.Idx)
      = ix3 (batch t.val (lt_N m hO t)) h d := by
  have h0 := coords_0 t
  have ht := lt_N m hO t
  refine funext fun a => Fin.ext ?_
  match a with
  | ⟨0, _⟩ =>
    show (BitVec.ofNat 32 (grid0.coords t 0).val).toNat * 1 + 1 * 0 = t.val / 8
    rw [h0, WordCmp.toNat_ofNat_of_lt (by omega)]
    omega
  | ⟨1, _⟩ => show 0 * 16 + 1 * h.val = h.val; omega
  | ⟨2, _⟩ => show 0 * 512 + 1 * d.val = d.val; omega

omit H in
theorem ix3_surj (n a b : ℕ) (i : (⟨3, ![n, a, b]⟩ : Shape).Idx) : ∃ x y z, i = ix3 x y z :=
  ⟨i 0, i 1, i 2, funext fun k => match k with | ⟨0, _⟩ => rfl | ⟨1, _⟩ => rfl | ⟨2, _⟩ => rfl⟩

/-- The result array after the grid. -/
theorem final : (dats m hO 0 c).arrAt 10 (cfgM m hO).N
    = (show FVec Ideal S128x16x512 .f32 from fun i => ((answer pt cache new q (i 0) (i 1) (i 2) : ℝ) : EReal)) := by
  refine (dats m hO 0 c).arrAt_eq_of_emb 10 _ (fun t hf y => ?_) fun i => ?_
  · have h1 : t.val % 8 = 7 := (flush0_10 (adm m hO) t).1 hf
    obtain ⟨z, h, d, rfl⟩ := ix3_surj 1 16 512 y
    obtain rfl : z = 0 := Subsingleton.elim _ _
    rw [out_entry hO t h d, after0_10]
    exact written hO H t h1 h d
  · obtain ⟨b, h, d, rfl⟩ := ix3_surj 128 16 512 i
    have hN : (cfgM m hO).N = 1024 := N_0
    refine ⟨⟨8 * b.val + 7, by omega⟩, (flush0_10 (adm m hO) _).2 (by show (8 * b.val + 7) % 8 = 7; omega), ?_⟩
    have e := out_entry hO ⟨8 * b.val + 7, by omega⟩ h d
    rw [show batch (8 * b.val + 7) (lt_N m hO ⟨8 * b.val + 7, by omega⟩) = b from Fin.ext (by show (8 * b.val + 7) / 8 = b.val; omega)] at e
    rw [← e]
    exact View.emb_mem_set _ _

omit H in
/-- Every run ends with the result array as the grid leaves it, and the arguments as they were. -/
theorem run_result (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h.1 c).1 10, h.2 c⟩) (θ_run_and (run_main m ρ hO) (unchanged m ρ hO))

end Cert.MlaSIdeal.Layer
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnIn0
public import proofs.«01_k».proof.Proof.Gen.FfnIn0.Skeleton
public import proofs.«01_k».proof.Proof.Gen.FfnIn0.Launch
public import proofs.«01_k».proof.Proof.Gen.FfnIn0.Points
public import proofs.«01_k».proof.Proof.Gen.FfnIn0.Frame
public import proofs.«01_k».proof.Proof.Gen.FfnIn0Ideal
public import proofs.«01_k».proof.Proof.Gen.FfnIn0Ideal.Skeleton
public import proofs.«01_k».proof.Proof.Gen.FfnIn0Ideal.Launch
public import proofs.«01_k».proof.Proof.Gen.FfnIn0Ideal.Points
public import proofs.«01_k».proof.Proof.Gen.FfnIn0Ideal.Frame
public import proofs.«01_k».proof.Proof.Gen.FfnIn0Ideal.Value
public import proofs.«01_k».proof.Proof.Gen.FfnIn0RefIdeal
public import proofs.«01_k».proof.Proof.Gen.FfnIn0RefIdeal.Run
public import proofs.«01_k».proof.Proof.Gen.FfnIn0RefIdeal.Read
public import proofs.«01_k».proof.Proof.Gen.FfnIn1
public import proofs.«01_k».proof.Proof.Gen.FfnIn1.Skeleton
public import proofs.«01_k».proof.Proof.Gen.FfnIn1.Launch
public import proofs.«01_k».proof.Proof.Gen.FfnIn1.Points
public import proofs.«01_k».proof.Proof.Gen.FfnIn1.Frame
public import proofs.«01_k».proof.Proof.Gen.FfnIn1Ideal
public import proofs.«01_k».proof.Proof.Gen.FfnIn1Ideal.Skeleton
public import proofs.«01_k».proof.Proof.Gen.FfnIn1Ideal.Launch
public import proofs.«01_k».proof.Proof.Gen.FfnIn1Ideal.Points
public import proofs.«01_k».proof.Proof.Gen.FfnIn1Ideal.Frame
public import proofs.«01_k».proof.Proof.Gen.FfnIn1Ideal.Value
public import proofs.«01_k».proof.Proof.Gen.FfnIn1RefIdeal
public import proofs.«01_k».proof.Proof.Gen.FfnIn1RefIdeal.Run
public import proofs.«01_k».proof.Proof.Gen.FfnIn1RefIdeal.Read
public import proofs.«01_k».proof.Proof.Gen.FfnIn2
public import proofs.«01_k».proof.Proof.Gen.FfnIn2.Skeleton
public import proofs.«01_k».proof.Proof.Gen.FfnIn2.Launch
public import proofs.«01_k».proof.Proof.Gen.FfnIn2.Points
public import proofs.«01_k».proof.Proof.Gen.FfnIn2.Frame
public import proofs.«01_k».proof.Proof.Gen.FfnIn2Ideal
public import proofs.«01_k».proof.Proof.Gen.FfnIn2Ideal.Skeleton
public import proofs.«01_k».proof.Proof.Gen.FfnIn2Ideal.Launch
public import proofs.«01_k».proof.Proof.Gen.FfnIn2Ideal.Points
public import proofs.«01_k».proof.Proof.Gen.FfnIn2Ideal.Frame
public import proofs.«01_k».proof.Proof.Gen.FfnIn2Ideal.Value
public import proofs.«01_k».proof.Proof.Gen.FfnIn2RefIdeal
public import proofs.«01_k».proof.Proof.Gen.FfnIn2RefIdeal.Run
public import proofs.«01_k».proof.Proof.Gen.FfnIn2RefIdeal.Read
public import proofs.«01_k».proof.Proof.Gen.FfnIn3
public import proofs.«01_k».proof.Proof.Gen.FfnIn3.Skeleton
public import proofs.«01_k».proof.Proof.Gen.FfnIn3.Launch
public import proofs.«01_k».proof.Proof.Gen.FfnIn3.Points
public import proofs.«01_k».proof.Proof.Gen.FfnIn3.Frame
public import proofs.«01_k».proof.Proof.Gen.FfnIn3Ideal
public import proofs.«01_k».proof.Proof.Gen.FfnIn3Ideal.Skeleton
public import proofs.«01_k».proof.Proof.Gen.FfnIn3Ideal.Launch
public import proofs.«01_k».proof.Proof.Gen.FfnIn3Ideal.Points
public import proofs.«01_k».proof.Proof.Gen.FfnIn3Ideal.Frame
public import proofs.«01_k».proof.Proof.Gen.FfnIn3Ideal.Value
public import proofs.«01_k».proof.Proof.Gen.FfnIn3RefIdeal
public import proofs.«01_k».proof.Proof.Gen.FfnIn3RefIdeal.Run
public import proofs.«01_k».proof.Proof.Gen.FfnIn3RefIdeal.Read
public import proofs.«01_k».proof.Proof.Gen.FfnOut0
public import proofs.«01_k».proof.Proof.Gen.FfnOut0.Skeleton
public import proofs.«01_k».proof.Proof.Gen.FfnOut0.Launch
public import proofs.«01_k».proof.Proof.Gen.FfnOut0.Points
public import proofs.«01_k».proof.Proof.Gen.FfnOut0.Frame
public import proofs.«01_k».proof.Proof.Gen.FfnOut0Ideal
public import proofs.«01_k».proof.Proof.Gen.FfnOut0Ideal.Skeleton
public import proofs.«01_k».proof.Proof.Gen.FfnOut0Ideal.Launch
public import proofs.«01_k».proof.Proof.Gen.FfnOut0Ideal.Points
public import proofs.«01_k».proof.Proof.Gen.FfnOut0Ideal.Frame
public import proofs.«01_k».proof.Proof.Gen.FfnOut0Ideal.Value
public import proofs.«01_k».proof.Proof.Gen.FfnOut0RefIdeal
public import proofs.«01_k».proof.Proof.Gen.FfnOut0RefIdeal.Run
public import proofs.«01_k».proof.Proof.Gen.FfnOut0RefIdeal.Read
public import proofs.«01_k».proof.Proof.Gen.FfnOut1
public import proofs.«01_k».proof.Proof.Gen.FfnOut1.Skeleton
public import proofs.«01_k».proof.Proof.Gen.FfnOut1.Launch
public import proofs.«01_k».proof.Proof.Gen.FfnOut1.Points
public import proofs.«01_k».proof.Proof.Gen.FfnOut1.Frame
public import proofs.«01_k».proof.Proof.Gen.FfnOut1Ideal
public import proofs.«01_k».proof.Proof.Gen.FfnOut1Ideal.Skeleton
public import proofs.«01_k».proof.Proof.Gen.FfnOut1Ideal.Launch
public import proofs.«01_k».proof.Proof.Gen.FfnOut1Ideal.Points
public import proofs.«01_k».proof.Proof.Gen.FfnOut1Ideal.Frame
public import proofs.«01_k».proof.Proof.Gen.FfnOut1Ideal.Value
public import proofs.«01_k».proof.Proof.Gen.FfnOut1RefIdeal
public import proofs.«01_k».proof.Proof.Gen.FfnOut1RefIdeal.Run
public import proofs.«01_k».proof.Proof.Gen.FfnOut1RefIdeal.Read
public import proofs.«01_k».proof.Proof.Gen.FfnOut2
public import proofs.«01_k».proof.Proof.Gen.FfnOut2.Skeleton
public import proofs.«01_k».proof.Proof.Gen.FfnOut2.Launch
public import proofs.«01_k».proof.Proof.Gen.FfnOut2.Points
public import proofs.«01_k».proof.Proof.Gen.FfnOut2.Frame
public import proofs.«01_k».proof.Proof.Gen.FfnOut2Ideal
public import proofs.«01_k».proof.Proof.Gen.FfnOut2Ideal.Skeleton
public import proofs.«01_k».proof.Proof.Gen.FfnOut2Ideal.Launch
public import proofs.«01_k».proof.Proof.Gen.FfnOut2Ideal.Points
public import proofs.«01_k».proof.Proof.Gen.FfnOut2Ideal.Frame
public import proofs.«01_k».proof.Proof.Gen.FfnOut2Ideal.Value
public import proofs.«01_k».proof.Proof.Gen.FfnOut2RefIdeal
public import proofs.«01_k».proof.Proof.Gen.FfnOut2RefIdeal.Run
public import proofs.«01_k».proof.Proof.Gen.FfnOut2RefIdeal.Read
public import proofs.«01_k».proof.Proof.Gen.FfnOut3
public import proofs.«01_k».proof.Proof.Gen.FfnOut3.Skeleton
public import proofs.«01_k».proof.Proof.Gen.FfnOut3.Launch
public import proofs.«01_k».proof.Proof.Gen.FfnOut3.Points
public import proofs.«01_k».proof.Proof.Gen.FfnOut3.Frame
public import proofs.«01_k».proof.Proof.Gen.FfnOut3Ideal
public import proofs.«01_k».proof.Proof.Gen.FfnOut3Ideal.Skeleton
public import proofs.«01_k».proof.Proof.Gen.FfnOut3Ideal.Launch
public import proofs.«01_k».proof.Proof.Gen.FfnOut3Ideal.Points
public import proofs.«01_k».proof.Proof.Gen.FfnOut3Ideal.Frame
public import proofs.«01_k».proof.Proof.Gen.FfnOut3Ideal.Value
public import proofs.«01_k».proof.Proof.Gen.FfnOut3RefIdeal
public import proofs.«01_k».proof.Proof.Gen.FfnOut3RefIdeal.Run
public import proofs.«01_k».proof.Proof.Gen.FfnOut3RefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.QkvA
public import proofs.«01_k».proof.Proof.Gen.QkvA.Skeleton
public import proofs.«01_k».proof.Proof.Gen.QkvA.Launch
public import proofs.«01_k».proof.Proof.Gen.QkvA.Points
public import proofs.«01_k».proof.Proof.Gen.QkvA.Frame
public import proofs.«01_k».proof.Proof.Gen.QkvAIdeal
public import proofs.«01_k».proof.Proof.Gen.QkvAIdeal.Skeleton
public import proofs.«01_k».proof.Proof.Gen.QkvAIdeal.Launch
public import proofs.«01_k».proof.Proof.Gen.QkvAIdeal.Points
public import proofs.«01_k».proof.Proof.Gen.QkvAIdeal.Frame
public import proofs.«01_k».proof.Proof.Gen.QkvAIdeal.Value
public import proofs.«01_k».proof.Proof.Gen.QkvARefIdeal
public import proofs.«01_k».proof.Proof.Gen.QkvARefIdeal.Run
public import proofs.«01_k».proof.Proof.Gen.QkvARefIdeal.Read
public import proofs.«01_k».proof.Proof.Gen.QkvB
public import proofs.«01_k».proof.Proof.Gen.QkvB.Skeleton
public import proofs.«01_k».proof.Proof.Gen.QkvB.Launch
public import proofs.«01_k».proof.Proof.Gen.QkvB.Points
public import proofs.«01_k».proof.Proof.Gen.QkvB.Frame
public import proofs.«01_k».proof.Proof.Gen.QkvBIdeal
public import proofs.«01_k».proof.Proof.Gen.QkvBIdeal.Skeleton
public import proofs.«01_k».proof.Proof.Gen.QkvBIdeal.Launch
public import proofs.«01_k».proof.Proof.Gen.QkvBIdeal.Points
public import proofs.«01_k».proof.Proof.Gen.QkvBIdeal.Frame
public import proofs.«01_k».proof.Proof.Gen.QkvBIdeal.Value
public import proofs.«01_k».proof.Proof.Gen.QkvBRefIdeal
public import proofs.«01_k».proof.Proof.Gen.QkvBRefIdeal.Run
public import proofs.«01_k».proof.Proof.Gen.QkvBRefIdeal.Read
public import proofs.«01_k».proof.Proof.Gen.QkvC
public import proofs.«01_k».proof.Proof.Gen.QkvC.Skeleton
public import proofs.«01_k».proof.Proof.Gen.QkvC.Launch
public import proofs.«01_k».proof.Proof.Gen.QkvC.Points
public import proofs.«01_k».proof.Proof.Gen.QkvC.Frame
public import proofs.«01_k».proof.Proof.Gen.QkvCIdeal
public import proofs.«01_k».proof.Proof.Gen.QkvCIdeal.Skeleton
public import proofs.«01_k».proof.Proof.Gen.QkvCIdeal.Launch
public import proofs.«01_k».proof.Proof.Gen.QkvCIdeal.Points
public import proofs.«01_k».proof.Proof.Gen.QkvCIdeal.Frame
public import proofs.«01_k».proof.Proof.Gen.QkvCIdeal.Value
public import proofs.«01_k».proof.Proof.Gen.QkvCRefIdeal
public import proofs.«01_k».proof.Proof.Gen.QkvCRefIdeal.Run
public import proofs.«01_k».proof.Proof.Gen.QkvCRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Qa
public import proofs.«01_k».proof.Proof.Gen.Qa.Skeleton
public import proofs.«01_k».proof.Proof.Gen.Qa.Launch
public import proofs.«01_k».proof.Proof.Gen.Qa.Points
public import proofs.«01_k».proof.Proof.Gen.Qa.Frame
public import proofs.«01_k».proof.Proof.Gen.QaIdeal
public import proofs.«01_k».proof.Proof.Gen.QaIdeal.Skeleton
public import proofs.«01_k».proof.Proof.Gen.QaIdeal.Launch
public import proofs.«01_k».proof.Proof.Gen.QaIdeal.Points
public import proofs.«01_k».proof.Proof.Gen.QaIdeal.Frame
public import proofs.«01_k».proof.Proof.Gen.QaIdeal.Value
public import proofs.«01_k».proof.Proof.Gen.QaRefIdeal
public import proofs.«01_k».proof.Proof.Gen.QaRefIdeal.Run
public import proofs.«01_k».proof.Proof.Gen.QaRefIdeal.Read
public import proofs.«01_k».proof.Proof.Gen.Qb
public import proofs.«01_k».proof.Proof.Gen.Qb.Skeleton
public import proofs.«01_k».proof.Proof.Gen.Qb.Launch
public import proofs.«01_k».proof.Proof.Gen.Qb.Points
public import proofs.«01_k».proof.Proof.Gen.Qb.Frame
public import proofs.«01_k».proof.Proof.Gen.QbIdeal
public import proofs.«01_k».proof.Proof.Gen.QbIdeal.Skeleton
public import proofs.«01_k».proof.Proof.Gen.QbIdeal.Launch
public import proofs.«01_k».proof.Proof.Gen.QbIdeal.Points
public import proofs.«01_k».proof.Proof.Gen.QbIdeal.Frame
public import proofs.«01_k».proof.Proof.Gen.QbIdeal.Value
public import proofs.«01_k».proof.Proof.Gen.QbRefIdeal
public import proofs.«01_k».proof.Proof.Gen.QbRefIdeal.Run
public import proofs.«01_k».proof.Proof.Gen.QbRefIdeal.Read
public import proofs.«01_k».proof.Proof.Gen.Kva
public import proofs.«01_k».proof.Proof.Gen.Kva.Skeleton
public import proofs.«01_k».proof.Proof.Gen.Kva.Launch
public import proofs.«01_k».proof.Proof.Gen.Kva.Points
public import proofs.«01_k».proof.Proof.Gen.Kva.Frame
public import proofs.«01_k».proof.Proof.Gen.KvaIdeal
public import proofs.«01_k».proof.Proof.Gen.KvaIdeal.Skeleton
public import proofs.«01_k».proof.Proof.Gen.KvaIdeal.Launch
public import proofs.«01_k».proof.Proof.Gen.KvaIdeal.Points
public import proofs.«01_k».proof.Proof.Gen.KvaIdeal.Frame
public import proofs.«01_k».proof.Proof.Gen.KvaIdeal.Value
public import proofs.«01_k».proof.Proof.Gen.KvaRefIdeal
public import proofs.«01_k».proof.Proof.Gen.KvaRefIdeal.Run
public import proofs.«01_k».proof.Proof.Gen.KvaRefIdeal.Read
public import proofs.«01_k».proof.Proof.Gen.NormBf
public import proofs.«01_k».proof.Proof.Gen.NormBf.Skeleton
public import proofs.«01_k».proof.Proof.Gen.NormBf.Launch
public import proofs.«01_k».proof.Proof.Gen.NormBf.Points
public import proofs.«01_k».proof.Proof.Gen.NormBf.Frame
public import proofs.«01_k».proof.Proof.Gen.NormBfIdeal
public import proofs.«01_k».proof.Proof.Gen.NormBfIdeal.Skeleton
public import proofs.«01_k».proof.Proof.Gen.NormBfIdeal.Launch
public import proofs.«01_k».proof.Proof.Gen.NormBfIdeal.Points
public import proofs.«01_k».proof.Proof.Gen.NormBfIdeal.Frame
public import proofs.«01_k».proof.Proof.Gen.NormBfIdeal.Value
public import proofs.«01_k».proof.Proof.Gen.NormBfRefIdeal
public import proofs.«01_k».proof.Proof.Gen.NormBfRefIdeal.Run
public import proofs.«01_k».proof.Proof.Gen.NormBfRefIdeal.Read
public import proofs.«01_k».proof.Proof.Gen.NormF
public import proofs.«01_k».proof.Proof.Gen.NormF.Skeleton
public import proofs.«01_k».proof.Proof.Gen.NormF.Launch
public import proofs.«01_k».proof.Proof.Gen.NormF.Points
public import proofs.«01_k».proof.Proof.Gen.NormF.Frame
public import proofs.«01_k».proof.Proof.Gen.NormFIdeal
public import proofs.«01_k».proof.Proof.Gen.NormFIdeal.Skeleton
public import proofs.«01_k».proof.Proof.Gen.NormFIdeal.Launch
public import proofs.«01_k».proof.Proof.Gen.NormFIdeal.Points
public import proofs.«01_k».proof.Proof.Gen.NormFIdeal.Frame
public import proofs.«01_k».proof.Proof.Gen.NormFIdeal.Value
public import proofs.«01_k».proof.Proof.Gen.NormFRefIdeal
public import proofs.«01_k».proof.Proof.Gen.NormFRefIdeal.Run
public import proofs.«01_k».proof.Proof.Gen.NormFRefIdeal.Read
public import proofs.«01_k».proof.Proof.Gen.NormQ
public import proofs.«01_k».proof.Proof.Gen.NormQ.Skeleton
public import proofs.«01_k».proof.Proof.Gen.NormQ.Launch
public import proofs.«01_k».proof.Proof.Gen.NormQ.Points
public import proofs.«01_k».proof.Proof.Gen.NormQ.Frame
public import proofs.«01_k».proof.Proof.Gen.NormQIdeal
public import proofs.«01_k».proof.Proof.Gen.NormQIdeal.Skeleton
public import proofs.«01_k».proof.Proof.Gen.NormQIdeal.Launch
public import proofs.«01_k».proof.Proof.Gen.NormQIdeal.Points
public import proofs.«01_k».proof.Proof.Gen.NormQIdeal.Frame
public import proofs.«01_k».proof.Proof.Gen.NormQIdeal.Value
public import proofs.«01_k».proof.Proof.Gen.NormQRefIdeal
public import proofs.«01_k».proof.Proof.Gen.NormQRefIdeal.Run
public import proofs.«01_k».proof.Proof.Gen.NormQRefIdeal.Read
public import proofs.«01_k».proof.Proof.Gen.AKv
public import proofs.«01_k».proof.Proof.Gen.AKv.Skeleton
public import proofs.«01_k».proof.Proof.Gen.AKv.Launch
public import proofs.«01_k».proof.Proof.Gen.AKv.Regions
public import proofs.«01_k».proof.Proof.Gen.AKv.Points
public import proofs.«01_k».proof.Proof.Gen.AKvIdeal
public import proofs.«01_k».proof.Proof.Gen.AKvIdeal.Skeleton
public import proofs.«01_k».proof.Proof.Gen.AKvIdeal.Launch
public import proofs.«01_k».proof.Proof.Gen.AKvIdeal.Regions
public import proofs.«01_k».proof.Proof.Gen.AKvIdeal.Points
public import proofs.«01_k».proof.Proof.Gen.AKvRefIdeal
public import proofs.«01_k».proof.Proof.Gen.AKvRefIdeal.Run
public import proofs.«01_k».proof.Proof.Gen.AKvRefIdeal.Read
public import proofs.«01_k».proof.Proof.Gen.Pre_bounded
public import Idealize.ShloMosaic.Adequacy
public import Idealize.ShloMosaic.Init
public import Idealize.ShloMosaic.Lib.Quiescent
public import proofs.«01_k».proof.Proof.Array
public import proofs.«01_k».proof.Proof.Ref
public import proofs.«01_k».proof.Proof.Pre
public import proofs.«01_k».proof.Proof.FfnIn0
public import proofs.«01_k».proof.Proof.FfnIn1
public import proofs.«01_k».proof.Proof.FfnIn2
public import proofs.«01_k».proof.Proof.FfnIn3
public import proofs.«01_k».proof.Proof.FfnOut0
public import proofs.«01_k».proof.Proof.FfnOut1
public import proofs.«01_k».proof.Proof.FfnOut2
public import proofs.«01_k».proof.Proof.FfnOut3
public import proofs.«01_k».proof.Proof.Out
public import proofs.«01_k».proof.Proof.QkvA
public import proofs.«01_k».proof.Proof.QkvB
public import proofs.«01_k».proof.Proof.QkvC
public import proofs.«01_k».proof.Proof.Gate
public import proofs.«01_k».proof.Proof.Qa
public import proofs.«01_k».proof.Proof.Qb
public import proofs.«01_k».proof.Proof.Kva
public import proofs.«01_k».proof.Proof.NormBf
public import proofs.«01_k».proof.Proof.NormF
public import proofs.«01_k».proof.Proof.NormQ
public import proofs.«01_k».proof.Proof.AKv
public import proofs.«01_k».proof.Proof.Gen.MlaS
public import proofs.«01_k».proof.Proof.Gen.MlaSIdeal
public import proofs.«01_k».proof.Proof.Gen.MlaSIdeal.Skeleton
public import proofs.«01_k».proof.Proof.Gen.MlaSIdeal.Launch
public import proofs.«01_k».proof.Proof.Gen.MlaSIdeal.Points
public import proofs.«01_k».proof.Proof.Gen.MlaSIdeal.Frame
public import proofs.«01_k».proof.Proof.Gen.MlaSRefIdeal
public import proofs.«01_k».proof.Proof.Gen.MlaSRefIdeal.Run
public import proofs.«01_k».proof.Proof.Gen.MlaSRefIdeal.Read
public import proofs.«01_k».proof.Proof.Gen.Pre_in_pool
public import proofs.«01_k».proof.Proof.Gen.Pre_paged
public import proofs.«01_k».proof.Proof.MlaSRef
public import proofs.«01_k».proof.Proof.MlaSLayer

@[expose] public section

noncomputable section

namespace Cert.Proof

open Idealize.ShloMosaic Idealize.SL.Sem Cert.Kernel

theorem reference_quiescent : Cert.quiescent_ReferenceIdeal := fun m ρ _ =>
  (θ_run _ _ _).mono (fun r h => ⟨fun c => (h c).2, sem_eq_zero_of_no_sems (by decide) r.2⟩) (Cert.ReferenceIdeal.Value.run m ρ)

/-- From equal bounded arguments, both programs end with the answer. -/
theorem attention_algebraic : Cert.algebraic_KernelIdeal_ReferenceIdeal_pre_bounded := by
  intro m ρ m' ρ' hpre hag
  have hx := fun c => Cert.Pre_bounded.entries _ _ _ (fun i => congrFun (hpre c) i)
  choose a ha hab using fun c => (hx c).1
  choose b hb hbb using fun c => (hx c).2
  have hq := fun c b' t h e => ha c (ix4 b' t h e)
  have hk := fun c b' t e => hb c (ix3 b' t e)
  refine ⟨fun c => Cert.KernelIdeal.Array.result m c (fun b' t h e => a c (ix4 b' t h e)) (fun b' t e => b c (ix3 b' t e)), ?_, ?_⟩
  · exact (θ_run _ _ _).mono (fun _ h c => ⟨(h c).1.trans (Cert.KernelIdeal.Array.final m c _ _ (hq c) (hk c)), (h c).2⟩)
      (Cert.KernelIdeal.Value.run_blocks m ρ)
  · refine (θ_run _ _ _).mono (fun _ h c => ⟨(h c).1.trans ?_, (h c).2⟩) (Cert.ReferenceIdeal.Value.run m' ρ')
    rw [Cert.ReferenceIdeal.Read.val_main_v33_eq, (hag c).1, (hag c).2.1, (hag c).2.2]
    funext i
    obtain ⟨p, j, rfl⟩ : ∃ (p : Fin 8192) (j : Fin 2048), ix2 p j = i := ⟨i 0, i 1, funext fun x => by
      match x with
      | ⟨0, _⟩ => rfl
      | ⟨1, _⟩ => rfl⟩
    exact Cert.ReferenceIdeal.Read.reference_eq _ _ _ _ _ (hq c) (hk c) (fun _ _ _ _ => hab c _) (fun _ _ _ => hbb c _) p j

theorem FfnIn0Ref_quiescent : Cert.quiescent_FfnIn0RefIdeal := fun m ρ _ =>
  (θ_run _ _ _).mono (fun r h => ⟨fun c => (h c).2, sem_eq_zero_of_no_sems (by decide) r.2⟩) (Cert.FfnIn0RefIdeal.Value.run m ρ)

/-- The gated product of layer 0's feed-forward block: both programs end with the same result. -/
theorem FfnIn0_algebraic : Cert.algebraic_FfnIn0Ideal_FfnIn0RefIdeal := by
  intro m ρ m' ρ' _ hag
  refine ⟨fun c => Cert.FfnIn0Ideal.Layer.result m c, ?_, ?_⟩
  · exact (θ_run _ _ _).mono (fun _ h c => ⟨(h c).1.trans (Cert.FfnIn0Ideal.Layer.final m c), (h c).2⟩) (Cert.FfnIn0Ideal.Value.run_blocks m ρ)
  · refine (θ_run _ _ _).mono (fun _ h c => ⟨(h c).1.trans ?_, (h c).2⟩) (Cert.FfnIn0RefIdeal.Value.run m' ρ')
    rw [Cert.FfnIn0RefIdeal.Read.val_main_v7_eq, (hag c).1, (hag c).2]
    funext i
    obtain ⟨p, j, rfl⟩ := Cert.Dense.ix2_surj i
    exact Cert.FfnIn0Ideal.Layer.reference_at _ _ p j

theorem FfnIn1Ref_quiescent : Cert.quiescent_FfnIn1RefIdeal := fun m ρ _ =>
  (θ_run _ _ _).mono (fun r h => ⟨fun c => (h c).2, sem_eq_zero_of_no_sems (by decide) r.2⟩) (Cert.FfnIn1RefIdeal.Value.run m ρ)

/-- The gated product of layer 1's feed-forward block: both programs end with the same result. -/
theorem FfnIn1_algebraic : Cert.algebraic_FfnIn1Ideal_FfnIn1RefIdeal := by
  intro m ρ m' ρ' _ hag
  refine ⟨fun c => Cert.FfnIn1Ideal.Layer.result m c, ?_, ?_⟩
  · exact (θ_run _ _ _).mono (fun _ h c => ⟨(h c).1.trans (Cert.FfnIn1Ideal.Layer.final m c), (h c).2⟩) (Cert.FfnIn1Ideal.Value.run_blocks m ρ)
  · refine (θ_run _ _ _).mono (fun _ h c => ⟨(h c).1.trans ?_, (h c).2⟩) (Cert.FfnIn1RefIdeal.Value.run m' ρ')
    rw [Cert.FfnIn1RefIdeal.Read.val_main_v7_eq, (hag c).1, (hag c).2]
    funext i
    obtain ⟨p, j, rfl⟩ := Cert.Dense.ix2_surj i
    exact Cert.FfnIn1Ideal.Layer.reference_at _ _ p j

theorem FfnIn2Ref_quiescent : Cert.quiescent_FfnIn2RefIdeal := fun m ρ _ =>
  (θ_run _ _ _).mono (fun r h => ⟨fun c => (h c).2, sem_eq_zero_of_no_sems (by decide) r.2⟩) (Cert.FfnIn2RefIdeal.Value.run m ρ)

/-- The gated product of layer 2's feed-forward block: both programs end with the same result. -/
theorem FfnIn2_algebraic : Cert.algebraic_FfnIn2Ideal_FfnIn2RefIdeal := by
  intro m ρ m' ρ' _ hag
  refine ⟨fun c => Cert.FfnIn2Ideal.Layer.result m c, ?_, ?_⟩
  · exact (θ_run _ _ _).mono (fun _ h c => ⟨(h c).1.trans (Cert.FfnIn2Ideal.Layer.final m c), (h c).2⟩) (Cert.FfnIn2Ideal.Value.run_blocks m ρ)
  · refine (θ_run _ _ _).mono (fun _ h c => ⟨(h c).1.trans ?_, (h c).2⟩) (Cert.FfnIn2RefIdeal.Value.run m' ρ')
    rw [Cert.FfnIn2RefIdeal.Read.val_main_v7_eq, (hag c).1, (hag c).2]
    funext i
    obtain ⟨p, j, rfl⟩ := Cert.Dense.ix2_surj i
    exact Cert.FfnIn2Ideal.Layer.reference_at _ _ p j

theorem FfnIn3Ref_quiescent : Cert.quiescent_FfnIn3RefIdeal := fun m ρ _ =>
  (θ_run _ _ _).mono (fun r h => ⟨fun c => (h c).2, sem_eq_zero_of_no_sems (by decide) r.2⟩) (Cert.FfnIn3RefIdeal.Value.run m ρ)

/-- The gated product of layer 3's feed-forward block: both programs end with the same result. -/
theorem FfnIn3_algebraic : Cert.algebraic_FfnIn3Ideal_FfnIn3RefIdeal := by
  intro m ρ m' ρ' _ hag
  refine ⟨fun c => Cert.FfnIn3Ideal.Layer.result m c, ?_, ?_⟩
  · exact (θ_run _ _ _).mono (fun _ h c => ⟨(h c).1.trans (Cert.FfnIn3Ideal.Layer.final m c), (h c).2⟩) (Cert.FfnIn3Ideal.Value.run_blocks m ρ)
  · refine (θ_run _ _ _).mono (fun _ h c => ⟨(h c).1.trans ?_, (h c).2⟩) (Cert.FfnIn3RefIdeal.Value.run m' ρ')
    rw [Cert.FfnIn3RefIdeal.Read.val_main_v7_eq, (hag c).1, (hag c).2]
    funext i
    obtain ⟨p, j, rfl⟩ := Cert.Dense.ix2_surj i
    exact Cert.FfnIn3Ideal.Layer.reference_at _ _ p j

theorem FfnOut0Ref_quiescent : Cert.quiescent_FfnOut0RefIdeal := fun m ρ _ =>
  (θ_run _ _ _).mono (fun r h => ⟨fun c => (h c).2, sem_eq_zero_of_no_sems (by decide) r.2⟩) (Cert.FfnOut0RefIdeal.Value.run m ρ)

/-- The second feed-forward product of layer 0. -/
theorem FfnOut0_algebraic : Cert.algebraic_FfnOut0Ideal_FfnOut0RefIdeal := by
  intro m ρ m' ρ' _ hag
  refine ⟨fun c => Cert.FfnOut0Ideal.Layer.result m c, ?_, ?_⟩
  · exact (θ_run _ _ _).mono (fun _ h c => ⟨(h c).1.trans (Cert.FfnOut0Ideal.Layer.final m c), (h c).2⟩) (Cert.FfnOut0Ideal.Value.run_blocks m ρ)
  · refine (θ_run _ _ _).mono (fun _ h c => ⟨(h c).1.trans ?_, (h c).2⟩) (Cert.FfnOut0RefIdeal.Value.run m' ρ')
    rw [Cert.FfnOut0RefIdeal.Read.val_main_v3_eq, (hag c).1, (hag c).2.1, (hag c).2.2]
    funext i
    obtain ⟨p, j, rfl⟩ := Cert.Dense.ix2_surj i
    exact Cert.FfnOut0Ideal.Layer.reference_at _ _ _ p j

theorem FfnOut1Ref_quiescent : Cert.quiescent_FfnOut1RefIdeal := fun m ρ _ =>
  (θ_run _ _ _).mono (fun r h => ⟨fun c => (h c).2, sem_eq_zero_of_no_sems (by decide) r.2⟩) (Cert.FfnOut1RefIdeal.Value.run m ρ)

/-- The second feed-forward product of layer 1. -/
theorem FfnOut1_algebraic : Cert.algebraic_FfnOut1Ideal_FfnOut1RefIdeal := by
  intro m ρ m' ρ' _ hag
  refine ⟨fun c => Cert.FfnOut1Ideal.Layer.result m c, ?_, ?_⟩
  · exact (θ_run _ _ _).mono (fun _ h c => ⟨(h c).1.trans (Cert.FfnOut1Ideal.Layer.final m c), (h c).2⟩) (Cert.FfnOut1Ideal.Value.run_blocks m ρ)
  · refine (θ_run _ _ _).mono (fun _ h c => ⟨(h c).1.trans ?_, (h c).2⟩) (Cert.FfnOut1RefIdeal.Value.run m' ρ')
    rw [Cert.FfnOut1RefIdeal.Read.val_main_v3_eq, (hag c).1, (hag c).2.1, (hag c).2.2]
    funext i
    obtain ⟨p, j, rfl⟩ := Cert.Dense.ix2_surj i
    exact Cert.FfnOut1Ideal.Layer.reference_at _ _ _ p j

theorem FfnOut2Ref_quiescent : Cert.quiescent_FfnOut2RefIdeal := fun m ρ _ =>
  (θ_run _ _ _).mono (fun r h => ⟨fun c => (h c).2, sem_eq_zero_of_no_sems (by decide) r.2⟩) (Cert.FfnOut2RefIdeal.Value.run m ρ)

/-- The second feed-forward product of layer 2. -/
theorem FfnOut2_algebraic : Cert.algebraic_FfnOut2Ideal_FfnOut2RefIdeal := by
  intro m ρ m' ρ' _ hag
  refine ⟨fun c => Cert.FfnOut2Ideal.Layer.result m c, ?_, ?_⟩
  · exact (θ_run _ _ _).mono (fun _ h c => ⟨(h c).1.trans (Cert.FfnOut2Ideal.Layer.final m c), (h c).2⟩) (Cert.FfnOut2Ideal.Value.run_blocks m ρ)
  · refine (θ_run _ _ _).mono (fun _ h c => ⟨(h c).1.trans ?_, (h c).2⟩) (Cert.FfnOut2RefIdeal.Value.run m' ρ')
    rw [Cert.FfnOut2RefIdeal.Read.val_main_v3_eq, (hag c).1, (hag c).2.1, (hag c).2.2]
    funext i
    obtain ⟨p, j, rfl⟩ := Cert.Dense.ix2_surj i
    exact Cert.FfnOut2Ideal.Layer.reference_at _ _ _ p j

theorem FfnOut3Ref_quiescent : Cert.quiescent_FfnOut3RefIdeal := fun m ρ _ =>
  (θ_run _ _ _).mono (fun r h => ⟨fun c => (h c).2, sem_eq_zero_of_no_sems (by decide) r.2⟩) (Cert.FfnOut3RefIdeal.Value.run m ρ)

/-- The second feed-forward product of layer 3. -/
theorem FfnOut3_algebraic : Cert.algebraic_FfnOut3Ideal_FfnOut3RefIdeal := by
  intro m ρ m' ρ' _ hag
  refine ⟨fun c => Cert.FfnOut3Ideal.Layer.result m c, ?_, ?_⟩
  · exact (θ_run _ _ _).mono (fun _ h c => ⟨(h c).1.trans (Cert.FfnOut3Ideal.Layer.final m c), (h c).2⟩) (Cert.FfnOut3Ideal.Value.run_blocks m ρ)
  · refine (θ_run _ _ _).mono (fun _ h c => ⟨(h c).1.trans ?_, (h c).2⟩) (Cert.FfnOut3RefIdeal.Value.run m' ρ')
    rw [Cert.FfnOut3RefIdeal.Read.val_main_v3_eq, (hag c).1, (hag c).2.1, (hag c).2.2]
    funext i
    obtain ⟨p, j, rfl⟩ := Cert.Dense.ix2_surj i
    exact Cert.FfnOut3Ideal.Layer.reference_at _ _ _ p j

theorem OutRef_quiescent : Cert.quiescent_OutRefIdeal := fun m ρ _ =>
  (θ_run _ _ _).mono (fun r h => ⟨fun c => (h c).2, sem_eq_zero_of_no_sems (by decide) r.2⟩) (Cert.OutRefIdeal.Value.run m ρ)

/-- The output projection of a mixer. -/
theorem Out_algebraic : Cert.algebraic_OutIdeal_OutRefIdeal := by
  intro m ρ m' ρ' _ hag
  refine ⟨fun c => Cert.OutIdeal.Layer.result3 m c, ?_, ?_⟩
  · exact (θ_run _ _ _).mono (fun _ h c => ⟨(h c).1.trans (Cert.OutIdeal.Layer.final3 m c), (h c).2⟩) (Cert.OutIdeal.Value.run_blocks m ρ)
  · refine (θ_run _ _ _).mono (fun _ h c => ⟨(h c).1.trans ?_, (h c).2⟩) (Cert.OutRefIdeal.Value.run m' ρ')
    rw [Cert.OutRefIdeal.Read.val_main_v1_eq, (hag c).1, (hag c).2.1, (hag c).2.2]
    funext i
    obtain ⟨p, j, rfl⟩ := Cert.Dense.ix2_surj i
    exact Cert.OutIdeal.Layer.reference_at _ _ _ p j

theorem QkvARef_quiescent : Cert.quiescent_QkvARefIdeal := fun m ρ _ =>
  (θ_run _ _ _).mono (fun r h => ⟨fun c => (h c).2.2, sem_eq_zero_of_no_sems (by decide) r.2⟩) (Cert.QkvARefIdeal.Value.run m ρ)

/-- The query, key and value projection of layer 0. -/
theorem QkvA_algebraic : Cert.algebraic_QkvAIdeal_QkvARefIdeal := by
  intro m ρ m' ρ' _ hag
  refine ⟨fun c => Cert.QkvAIdeal.Layer.result2 m c, fun c => Cert.QkvAIdeal.Layer.result3 m c, ?_, ?_⟩
  · exact (θ_run _ _ _).mono (fun _ h c => ⟨(h c).1.trans (Cert.QkvAIdeal.Layer.final2 m c), (h c).2.1.trans (Cert.QkvAIdeal.Layer.final3 m c), (h c).2.2⟩)
      (Cert.QkvAIdeal.Value.run_blocks m ρ)
  · refine (θ_run _ _ _).mono (fun _ h c => ⟨(h c).1.trans ?_, (h c).2.1.trans ?_, (h c).2.2⟩) (Cert.QkvARefIdeal.Value.run m' ρ')
    · rw [Cert.QkvARefIdeal.Read.val_main_v0_eq, (hag c).1, (hag c).2]
      funext i
      obtain ⟨p, j, rfl⟩ := Cert.Dense.ix2_surj i
      exact Cert.QkvAIdeal.Layer.reference_at _ _ p j
    · rw [Cert.QkvARefIdeal.Read.val_main_v1_eq, (hag c).1, (hag c).2]
      funext i
      obtain ⟨p, j, rfl⟩ := Cert.Dense.ix2_surj i
      exact Cert.QkvAIdeal.Layer.reference_copy_at _ _ p j

theorem QkvBRef_quiescent : Cert.quiescent_QkvBRefIdeal := fun m ρ _ =>
  (θ_run _ _ _).mono (fun r h => ⟨fun c => (h c).2.2, sem_eq_zero_of_no_sems (by decide) r.2⟩) (Cert.QkvBRefIdeal.Value.run m ρ)

/-- The query, key and value projection of layer 1. -/
theorem QkvB_algebraic : Cert.algebraic_QkvBIdeal_QkvBRefIdeal := by
  intro m ρ m' ρ' _ hag
  refine ⟨fun c => Cert.QkvBIdeal.Layer.result2 m c, fun c => Cert.QkvBIdeal.Layer.result3 m c, ?_, ?_⟩
  · exact (θ_run _ _ _).mono (fun _ h c => ⟨(h c).1.trans (Cert.QkvBIdeal.Layer.final2 m c), (h c).2.1.trans (Cert.QkvBIdeal.Layer.final3 m c), (h c).2.2⟩)
      (Cert.QkvBIdeal.Value.run_blocks m ρ)
  · refine (θ_run _ _ _).mono (fun _ h c => ⟨(h c).1.trans ?_, (h c).2.1.trans ?_, (h c).2.2⟩) (Cert.QkvBRefIdeal.Value.run m' ρ')
    · rw [Cert.QkvBRefIdeal.Read.val_main_v0_eq, (hag c).1, (hag c).2]
      funext i
      obtain ⟨p, j, rfl⟩ := Cert.Dense.ix2_surj i
      exact Cert.QkvBIdeal.Layer.reference_at _ _ p j
    · rw [Cert.QkvBRefIdeal.Read.val_main_v1_eq, (hag c).1, (hag c).2]
      funext i
      obtain ⟨p, j, rfl⟩ := Cert.Dense.ix2_surj i
      exact Cert.QkvBIdeal.Layer.reference_copy_at _ _ p j

theorem QkvCRef_quiescent : Cert.quiescent_QkvCRefIdeal := fun m ρ _ =>
  (θ_run _ _ _).mono (fun r h => ⟨fun c => (h c).2.2, sem_eq_zero_of_no_sems (by decide) r.2⟩) (Cert.QkvCRefIdeal.Value.run m ρ)

/-- The query, key and value projection of layer 2. -/
theorem QkvC_algebraic : Cert.algebraic_QkvCIdeal_QkvCRefIdeal := by
  intro m ρ m' ρ' _ hag
  refine ⟨fun c => Cert.QkvCIdeal.Layer.result2 m c, fun c => Cert.QkvCIdeal.Layer.result3 m c, ?_, ?_⟩
  · exact (θ_run _ _ _).mono (fun _ h c => ⟨(h c).1.trans (Cert.QkvCIdeal.Layer.final2 m c), (h c).2.1.trans (Cert.QkvCIdeal.Layer.final3 m c), (h c).2.2⟩)
      (Cert.QkvCIdeal.Value.run_blocks m ρ)
  · refine (θ_run _ _ _).mono (fun _ h c => ⟨(h c).1.trans ?_, (h c).2.1.trans ?_, (h c).2.2⟩) (Cert.QkvCRefIdeal.Value.run m' ρ')
    · rw [Cert.QkvCRefIdeal.Read.val_main_v0_eq, (hag c).1, (hag c).2]
      funext i
      obtain ⟨p, j, rfl⟩ := Cert.Dense.ix2_surj i
      exact Cert.QkvCIdeal.Layer.reference_at _ _ p j
    · rw [Cert.QkvCRefIdeal.Read.val_main_v1_eq, (hag c).1, (hag c).2]
      funext i
      obtain ⟨p, j, rfl⟩ := Cert.Dense.ix2_surj i
      exact Cert.QkvCIdeal.Layer.reference_copy_at _ _ p j

theorem GateRef_quiescent : Cert.quiescent_GateRefIdeal := fun m ρ _ =>
  (θ_run _ _ _).mono (fun r h => ⟨fun c => (h c).2, sem_eq_zero_of_no_sems (by decide) r.2⟩) (Cert.GateRefIdeal.Value.run m ρ)

/-- The gate projection of layer 2. -/
theorem Gate_algebraic : Cert.algebraic_GateIdeal_GateRefIdeal := by
  intro m ρ m' ρ' _ hag
  refine ⟨fun c => Cert.GateIdeal.Layer.result2 m c, ?_, ?_⟩
  · exact (θ_run _ _ _).mono (fun _ h c => ⟨(h c).1.trans (Cert.GateIdeal.Layer.final2 m c), (h c).2⟩) (Cert.GateIdeal.Value.run_blocks m ρ)
  · refine (θ_run _ _ _).mono (fun _ h c => ⟨(h c).1.trans ?_, (h c).2⟩) (Cert.GateRefIdeal.Value.run m' ρ')
    rw [Cert.GateRefIdeal.Read.val_main_v0_eq, (hag c).1, (hag c).2]
    funext i
    obtain ⟨p, j, rfl⟩ := Cert.Dense.ix2_surj i
    exact Cert.GateIdeal.Layer.reference_at _ _ p j

theorem QaRef_quiescent : Cert.quiescent_QaRefIdeal := fun m ρ _ =>
  (θ_run _ _ _).mono (fun r h => ⟨fun c => (h c).2, sem_eq_zero_of_no_sems (by decide) r.2⟩) (Cert.QaRefIdeal.Value.run m ρ)

/-- The query down-projection of layer 3. -/
theorem Qa_algebraic : Cert.algebraic_QaIdeal_QaRefIdeal := by
  intro m ρ m' ρ' _ hag
  refine ⟨fun c => Cert.QaIdeal.Layer.result2 m c, ?_, ?_⟩
  · exact (θ_run _ _ _).mono (fun _ h c => ⟨(h c).1.trans (Cert.QaIdeal.Layer.final2 m c), (h c).2⟩) (Cert.QaIdeal.Value.run_blocks m ρ)
  · refine (θ_run _ _ _).mono (fun _ h c => ⟨(h c).1.trans ?_, (h c).2⟩) (Cert.QaRefIdeal.Value.run m' ρ')
    rw [Cert.QaRefIdeal.Read.val_main_v0_eq, (hag c).1, (hag c).2]
    funext i
    obtain ⟨p, j, rfl⟩ := Cert.Dense.ix2_surj i
    exact Cert.QaIdeal.Layer.reference_at _ _ p j

theorem QbRef_quiescent : Cert.quiescent_QbRefIdeal := fun m ρ _ =>
  (θ_run _ _ _).mono (fun r h => ⟨fun c => (h c).2, sem_eq_zero_of_no_sems (by decide) r.2⟩) (Cert.QbRefIdeal.Value.run m ρ)

/-- The query up-projection of layer 3. -/
theorem Qb_algebraic : Cert.algebraic_QbIdeal_QbRefIdeal := by
  intro m ρ m' ρ' _ hag
  refine ⟨fun c => Cert.QbIdeal.Layer.result2 m c, ?_, ?_⟩
  · exact (θ_run _ _ _).mono (fun _ h c => ⟨(h c).1.trans (Cert.QbIdeal.Layer.final2 m c), (h c).2⟩) (Cert.QbIdeal.Value.run_blocks m ρ)
  · refine (θ_run _ _ _).mono (fun _ h c => ⟨(h c).1.trans ?_, (h c).2⟩) (Cert.QbRefIdeal.Value.run m' ρ')
    rw [Cert.QbRefIdeal.Read.val_main_v0_eq, (hag c).1, (hag c).2]
    funext i
    obtain ⟨p, j, rfl⟩ := Cert.Dense.ix2_surj i
    exact Cert.QbIdeal.Layer.reference_at _ _ p j

theorem KvaRef_quiescent : Cert.quiescent_KvaRefIdeal := fun m ρ _ =>
  (θ_run _ _ _).mono (fun r h => ⟨fun c => (h c).2, sem_eq_zero_of_no_sems (by decide) r.2⟩) (Cert.KvaRefIdeal.Value.run m ρ)

/-- The latent projection of layer 3. -/
theorem Kva_algebraic : Cert.algebraic_KvaIdeal_KvaRefIdeal := by
  intro m ρ m' ρ' _ hag
  refine ⟨fun c => Cert.KvaIdeal.Layer.result2 m c, ?_, ?_⟩
  · exact (θ_run _ _ _).mono (fun _ h c => ⟨(h c).1.trans (Cert.KvaIdeal.Layer.final2 m c), (h c).2⟩) (Cert.KvaIdeal.Value.run_blocks m ρ)
  · refine (θ_run _ _ _).mono (fun _ h c => ⟨(h c).1.trans ?_, (h c).2⟩) (Cert.KvaRefIdeal.Value.run m' ρ')
    rw [Cert.KvaRefIdeal.Read.val_main_v0_eq, (hag c).1, (hag c).2]
    funext i
    obtain ⟨p, j, rfl⟩ := Cert.Dense.ix2_surj i
    exact Cert.KvaIdeal.Layer.reference_at _ _ p j

theorem NormBfRef_quiescent : Cert.quiescent_NormBfRefIdeal := fun m ρ _ =>
  (θ_run _ _ _).mono (fun r h => ⟨fun c => (h c).2, sem_eq_zero_of_no_sems (by decide) r.2⟩) (Cert.NormBfRefIdeal.Value.run m ρ)

/-- The normalisation before a projection. -/
theorem NormBf_algebraic : Cert.algebraic_NormBfIdeal_NormBfRefIdeal := by
  intro m ρ m' ρ' _ hag
  refine ⟨fun c => Cert.NormBfIdeal.Layer.result2 m c, ?_, ?_⟩
  · exact (θ_run _ _ _).mono (fun _ h c => ⟨(h c).1.trans (Cert.NormBfIdeal.Layer.final2 m c), (h c).2⟩) (Cert.NormBfIdeal.Value.run_blocks m ρ)
  · refine (θ_run _ _ _).mono (fun _ h c => ⟨(h c).1.trans ?_, (h c).2⟩) (Cert.NormBfRefIdeal.Value.run m' ρ')
    rw [Cert.NormBfRefIdeal.Read.val_main_v13_eq, (hag c).1, (hag c).2]
    funext i
    obtain ⟨p, j, rfl⟩ := Cert.Dense.ix2_surj i
    exact Cert.NormBfIdeal.Layer.reference_at _ _ p j

theorem NormFRef_quiescent : Cert.quiescent_NormFRefIdeal := fun m ρ _ =>
  (θ_run _ _ _).mono (fun r h => ⟨fun c => (h c).2, sem_eq_zero_of_no_sems (by decide) r.2⟩) (Cert.NormFRefIdeal.Value.run m ρ)

/-- The last normalisation. -/
theorem NormF_algebraic : Cert.algebraic_NormFIdeal_NormFRefIdeal := by
  intro m ρ m' ρ' _ hag
  refine ⟨fun c => Cert.NormFIdeal.Layer.result2 m c, ?_, ?_⟩
  · exact (θ_run _ _ _).mono (fun _ h c => ⟨(h c).1.trans (Cert.NormFIdeal.Layer.final2 m c), (h c).2⟩) (Cert.NormFIdeal.Value.run_blocks m ρ)
  · refine (θ_run _ _ _).mono (fun _ h c => ⟨(h c).1.trans ?_, (h c).2⟩) (Cert.NormFRefIdeal.Value.run m' ρ')
    rw [Cert.NormFRefIdeal.Read.val_main_v12_eq, (hag c).1, (hag c).2]
    funext i
    obtain ⟨p, j, rfl⟩ := Cert.Dense.ix2_surj i
    exact Cert.NormFIdeal.Layer.reference_at _ _ p j

theorem NormQRef_quiescent : Cert.quiescent_NormQRefIdeal := fun m ρ _ =>
  (θ_run _ _ _).mono (fun r h => ⟨fun c => (h c).2, sem_eq_zero_of_no_sems (by decide) r.2⟩) (Cert.NormQRefIdeal.Value.run m ρ)

/-- The normalisation of the latent queries of layer 3. -/
theorem NormQ_algebraic : Cert.algebraic_NormQIdeal_NormQRefIdeal := by
  intro m ρ m' ρ' _ hag
  refine ⟨fun c => Cert.NormQIdeal.Layer.result2 m c, ?_, ?_⟩
  · exact (θ_run _ _ _).mono (fun _ h c => ⟨(h c).1.trans (Cert.NormQIdeal.Layer.final2 m c), (h c).2⟩) (Cert.NormQIdeal.Value.run_blocks m ρ)
  · refine (θ_run _ _ _).mono (fun _ h c => ⟨(h c).1.trans ?_, (h c).2⟩) (Cert.NormQRefIdeal.Value.run m' ρ')
    rw [Cert.NormQRefIdeal.Read.val_main_v13_eq, (hag c).1, (hag c).2]
    funext i
    obtain ⟨p, j, rfl⟩ := Cert.Dense.ix2_surj i
    exact Cert.NormQIdeal.Layer.reference_at _ _ p j

theorem AKvRef_quiescent : Cert.quiescent_AKvRefIdeal := fun m ρ _ =>
  (θ_run _ _ _).mono (fun r h => ⟨fun c => (h c).2.2, sem_eq_zero_of_no_sems (by decide) r.2⟩) (Cert.AKvRefIdeal.Value.run m ρ)

/-- The two printings of this program have the same bodies, so the same table of calls. -/
theorem AKv_bodies : Cert.AKv.defs₀ (F := Bits) = Cert.AKvIdeal.defs₀ (F := Bits) := by
  unfold Cert.AKv.defs₀ Cert.AKvIdeal.defs₀
  refine congrArg Defs.onTc (funext fun l => ?_)
  match l with
  | 0 => exact funext fun ⟨_, _⟩ => rfl
  | 1 => exact funext fun ⟨_, _⟩ => rfl
theorem AKv_table : Cert.AKv.defs (F := Bits) = Cert.AKvIdeal.defs (F := Bits) :=
  congrArg (Pipeline.defs (Cert.AKv.pcfgs (F := Bits))) AKv_bodies

/-- The run of the two calls holds for any float values, so it gives both frames. -/
theorem AKv_frame : Cert.quiescent_AKv := fun m ρ _ => by
  rw [AKv_table]
  exact Cert.AKvIdeal.Two.frame (F := Bits) m ρ
theorem AKvIdeal_frame : Cert.quiescent_AKvIdeal := fun m ρ _ => Cert.AKvIdeal.Two.frame m ρ

/-- The keys and values of layer 0, from the layer's input: normalisation, projection and cut. -/
theorem AKv_algebraic : Cert.algebraic_AKvIdeal_AKvRefIdeal := by
  intro m ρ m' ρ' _ hag
  refine ⟨fun c => Cert.AKvIdeal.Layer.promptResult m c, fun c => Cert.AKvIdeal.Layer.sampleResult m c, ?_, ?_⟩
  · exact (θ_run _ _ _).mono (fun _ h c => ⟨(h.1 c).1.trans (Cert.AKvIdeal.Layer.prompt_final m c), (h.1 c).2.1.trans (Cert.AKvIdeal.Layer.sample_final m c), (h.1 c).2.2⟩)
      (Cert.AKvIdeal.Two.results m ρ)
  · refine (θ_run _ _ _).mono (fun _ h c => ⟨(h c).1.trans ?_, (h c).2.1.trans ?_, (h c).2.2⟩) (Cert.AKvRefIdeal.Value.run m' ρ')
    · rw [Cert.AKvRefIdeal.Read.val_main_v17_eq, (hag c).1, (hag c).2.2.1, (hag c).2.2.2]
      funext i
      obtain ⟨b, s, a, h, d, rfl⟩ := Cert.AKvIdeal.Layer.prompt_index i
      exact Cert.AKvIdeal.Layer.reference_prompt_at _ _ _ b s a h d
    · rw [Cert.AKvRefIdeal.Read.val_main_v35_eq, (hag c).2.1, (hag c).2.2.1, (hag c).2.2.2]
      funext i
      obtain ⟨b, a, h, d, rfl⟩ := Cert.AKvIdeal.Layer.sample_index i
      exact Cert.AKvIdeal.Layer.reference_sample_at _ _ _ b a h d

/-- The two printings of this program have the same bodies, so the same table of calls. -/
theorem MlaS_bodies : Cert.MlaS.defs₀ (F := Bits) = Cert.MlaSIdeal.defs₀ (F := Bits) := by
  unfold Cert.MlaS.defs₀ Cert.MlaSIdeal.defs₀
  refine congrArg Defs.onTc (funext fun l => ?_)
  match l with
  | 0 => exact funext fun ⟨_, _⟩ => rfl

theorem MlaS_table : Cert.MlaS.defs (F := Bits) = Cert.MlaSIdeal.defs (F := Bits) :=
  congrArg (Pipeline.defs (Cert.MlaS.pcfgs (F := Bits))) MlaS_bodies

/-- So one run, over any floats, is the frame of both. -/
theorem MlaS_frame : Cert.quiescent_MlaS := fun m ρ hpre => by
  rw [MlaS_table]
  exact Cert.MlaSIdeal.Gen.frame (F := Bits) m ρ (Cert.MlaSIdeal.Layer.ok_of m (Cert.Pre_in_pool.pages _ _ _ _ fun i => congrFun (hpre 0) i))
theorem MlaSIdeal_frame : Cert.quiescent_MlaSIdeal := fun m ρ hpre =>
  Cert.MlaSIdeal.Gen.frame m ρ (Cert.MlaSIdeal.Layer.ok_of m (Cert.Pre_in_pool.pages _ _ _ _ fun i => congrFun (hpre 0) i))
theorem MlaSIdeal_ok (m : (ℓ : Loc Cert.MlaSIdeal.nD Cert.MlaSIdeal.τ Cert.MlaSIdeal.sig) → Buf (Elt Ideal) ℓ) (hpre : Cert.Pre_MlaSIdeal_paged m) :
    Cert.MlaSIdeal.Gen.Ok m :=
  Cert.MlaSIdeal.Layer.ok_of m (Cert.Pre_paged.entries _ _ _ _ fun i => congrFun (hpre 0) i).2.2.2
theorem MlaSIdeal_paged_frame : Cert.quiescent_MlaSIdeal_pre_paged := fun m ρ hpre => Cert.MlaSIdeal.Gen.frame m ρ (MlaSIdeal_ok m hpre)
theorem MlaSRef_quiescent : Cert.quiescent_MlaSRefIdeal := fun m ρ _ =>
  (θ_run _ _ _).mono (fun r h => ⟨fun c => (h c).2, sem_eq_zero_of_no_sems (by decide) r.2⟩) (Cert.MlaSRefIdeal.Value.run m ρ)

/-- The sampling attention and its reference both end with the same numbers. -/
theorem MlaS_algebraic : Cert.algebraic_MlaSIdeal_MlaSRefIdeal_pre_paged := by
  intro m ρ m' ρ' hpre hag
  have hO := MlaSIdeal_ok m hpre
  choose q new cache pt hq hnew hcache hpt using fun c => Cert.Pre_paged.numbers _ _ _ _ (fun i => congrFun (hpre c) i)
  refine ⟨fun c => (show FVec Ideal Cert.MlaSIdeal.S128x16x512 .f32 from
    fun i => ((Cert.Attn.answer (pt c) (cache c) (new c) (q c) (i 0) (i 1) (i 2) : ℝ) : EReal)), ?_, ?_⟩
  · refine (θ_run _ _ _).mono (fun _ h c => ⟨(h c).1.trans (Cert.MlaSIdeal.Layer.final hO ⟨hq c, hnew c, hcache c, ?_⟩), (h c).2⟩)
      (Cert.MlaSIdeal.Layer.run_result hO ρ)
    rw [Subsingleton.elim c 0]
    exact hpt 0
  · refine (θ_run _ _ _).mono (fun _ h c => ⟨(h c).1.trans ?_, (h c).2⟩) (Cert.MlaSRefIdeal.Value.run m' ρ')
    rw [Cert.MlaSRefIdeal.Read.val_main_v40_eq, (hag c).1, (hag c).2.1, (hag c).2.2.1, (hag c).2.2.2]
    funext i
    obtain ⟨b, h, d, rfl⟩ := Cert.MlaSIdeal.Layer.ix3_surj 128 16 512 i
    exact Cert.MlaSRefIdeal.Read.reference_at _ _ _ _ _ _ _ _ (hq c) (hnew c) (hcache c) (hpt c) b h d

theorem claim : Cert.Claim := ⟨Cert.Kernel.Gen.facts, Cert.KernelIdeal.Gen.facts, Cert.ReferenceIdeal.Gen.facts, Cert.FfnIn0.Gen.facts, Cert.FfnIn0Ideal.Gen.facts, Cert.FfnIn0RefIdeal.Gen.facts, Cert.FfnIn1.Gen.facts, Cert.FfnIn1Ideal.Gen.facts, Cert.FfnIn1RefIdeal.Gen.facts, Cert.FfnIn2.Gen.facts, Cert.FfnIn2Ideal.Gen.facts, Cert.FfnIn2RefIdeal.Gen.facts, Cert.FfnIn3.Gen.facts, Cert.FfnIn3Ideal.Gen.facts, Cert.FfnIn3RefIdeal.Gen.facts, Cert.FfnOut0.Gen.facts, Cert.FfnOut0Ideal.Gen.facts, Cert.FfnOut0RefIdeal.Gen.facts, Cert.FfnOut1.Gen.facts, Cert.FfnOut1Ideal.Gen.facts, Cert.FfnOut1RefIdeal.Gen.facts, Cert.FfnOut2.Gen.facts, Cert.FfnOut2Ideal.Gen.facts, Cert.FfnOut2RefIdeal.Gen.facts, Cert.FfnOut3.Gen.facts, Cert.FfnOut3Ideal.Gen.facts, Cert.FfnOut3RefIdeal.Gen.facts, Cert.Out.Gen.facts, Cert.OutIdeal.Gen.facts, Cert.OutRefIdeal.Gen.facts, Cert.QkvA.Gen.facts, Cert.QkvAIdeal.Gen.facts, Cert.QkvARefIdeal.Gen.facts, Cert.QkvB.Gen.facts, Cert.QkvBIdeal.Gen.facts, Cert.QkvBRefIdeal.Gen.facts, Cert.QkvC.Gen.facts, Cert.QkvCIdeal.Gen.facts, Cert.QkvCRefIdeal.Gen.facts, Cert.Gate.Gen.facts, Cert.GateIdeal.Gen.facts, Cert.GateRefIdeal.Gen.facts, Cert.Qa.Gen.facts, Cert.QaIdeal.Gen.facts, Cert.QaRefIdeal.Gen.facts, Cert.Qb.Gen.facts, Cert.QbIdeal.Gen.facts, Cert.QbRefIdeal.Gen.facts, Cert.Kva.Gen.facts, Cert.KvaIdeal.Gen.facts, Cert.KvaRefIdeal.Gen.facts, Cert.NormBf.Gen.facts, Cert.NormBfIdeal.Gen.facts, Cert.NormBfRefIdeal.Gen.facts, Cert.NormF.Gen.facts, Cert.NormFIdeal.Gen.facts, Cert.NormFRefIdeal.Gen.facts, Cert.NormQ.Gen.facts, Cert.NormQIdeal.Gen.facts, Cert.NormQRefIdeal.Gen.facts, Cert.AKv.Gen.facts, Cert.AKvIdeal.Gen.facts, Cert.AKvRefIdeal.Gen.facts, Cert.MlaS.Gen.facts, Cert.MlaSIdeal.Gen.facts, Cert.MlaSRefIdeal.Gen.facts, Cert.Pre_bounded.Gen.facts, Cert.Pre_in_pool.Gen.facts, Cert.Pre_paged.Gen.facts,
  fun m ρ _ => Cert.Kernel.Gen.frame m ρ,
  fun m ρ _ => Cert.KernelIdeal.Gen.frame m ρ,
  fun m ρ _ => Cert.KernelIdeal.Gen.frame m ρ,
  reference_quiescent,
  fun m ρ _ => reference_quiescent m ρ trivial,
  fun m ρ _ => Cert.FfnIn0.Gen.frame m ρ,
  fun m ρ _ => Cert.FfnIn0Ideal.Gen.frame m ρ,
  FfnIn0Ref_quiescent,
  fun m ρ _ => Cert.FfnIn1.Gen.frame m ρ,
  fun m ρ _ => Cert.FfnIn1Ideal.Gen.frame m ρ,
  FfnIn1Ref_quiescent,
  fun m ρ _ => Cert.FfnIn2.Gen.frame m ρ,
  fun m ρ _ => Cert.FfnIn2Ideal.Gen.frame m ρ,
  FfnIn2Ref_quiescent,
  fun m ρ _ => Cert.FfnIn3.Gen.frame m ρ,
  fun m ρ _ => Cert.FfnIn3Ideal.Gen.frame m ρ,
  FfnIn3Ref_quiescent,
  fun m ρ _ => Cert.FfnOut0.Gen.frame m ρ,
  fun m ρ _ => Cert.FfnOut0Ideal.Gen.frame m ρ,
  FfnOut0Ref_quiescent,
  fun m ρ _ => Cert.FfnOut1.Gen.frame m ρ,
  fun m ρ _ => Cert.FfnOut1Ideal.Gen.frame m ρ,
  FfnOut1Ref_quiescent,
  fun m ρ _ => Cert.FfnOut2.Gen.frame m ρ,
  fun m ρ _ => Cert.FfnOut2Ideal.Gen.frame m ρ,
  FfnOut2Ref_quiescent,
  fun m ρ _ => Cert.FfnOut3.Gen.frame m ρ,
  fun m ρ _ => Cert.FfnOut3Ideal.Gen.frame m ρ,
  FfnOut3Ref_quiescent,
  fun m ρ _ => Cert.Out.Gen.frame m ρ,
  fun m ρ _ => Cert.OutIdeal.Gen.frame m ρ,
  OutRef_quiescent,
  fun m ρ _ => Cert.QkvA.Gen.frame m ρ,
  fun m ρ _ => Cert.QkvAIdeal.Gen.frame m ρ,
  QkvARef_quiescent,
  fun m ρ _ => Cert.QkvB.Gen.frame m ρ,
  fun m ρ _ => Cert.QkvBIdeal.Gen.frame m ρ,
  QkvBRef_quiescent,
  fun m ρ _ => Cert.QkvC.Gen.frame m ρ,
  fun m ρ _ => Cert.QkvCIdeal.Gen.frame m ρ,
  QkvCRef_quiescent,
  fun m ρ _ => Cert.Gate.Gen.frame m ρ,
  fun m ρ _ => Cert.GateIdeal.Gen.frame m ρ,
  GateRef_quiescent,
  fun m ρ _ => Cert.Qa.Gen.frame m ρ,
  fun m ρ _ => Cert.QaIdeal.Gen.frame m ρ,
  QaRef_quiescent,
  fun m ρ _ => Cert.Qb.Gen.frame m ρ,
  fun m ρ _ => Cert.QbIdeal.Gen.frame m ρ,
  QbRef_quiescent,
  fun m ρ _ => Cert.Kva.Gen.frame m ρ,
  fun m ρ _ => Cert.KvaIdeal.Gen.frame m ρ,
  KvaRef_quiescent,
  fun m ρ _ => Cert.NormBf.Gen.frame m ρ,
  fun m ρ _ => Cert.NormBfIdeal.Gen.frame m ρ,
  NormBfRef_quiescent,
  fun m ρ _ => Cert.NormF.Gen.frame m ρ,
  fun m ρ _ => Cert.NormFIdeal.Gen.frame m ρ,
  NormFRef_quiescent,
  fun m ρ _ => Cert.NormQ.Gen.frame m ρ,
  fun m ρ _ => Cert.NormQIdeal.Gen.frame m ρ,
  NormQRef_quiescent,
  AKv_frame,
  AKvIdeal_frame,
  AKvRef_quiescent,
  MlaS_frame,
  MlaSIdeal_frame,
  MlaSIdeal_paged_frame,
  MlaSRef_quiescent,
  fun m ρ _ => MlaSRef_quiescent m ρ trivial,
  IdealRules.named_const.statement Cert.KernelIdeal.κ "mask" .f32 0xF149F2CA#32 ⊥ rfl,
  attention_algebraic,
  trivial,
  FfnIn0_algebraic,
  trivial,
  FfnIn1_algebraic,
  trivial,
  FfnIn2_algebraic,
  trivial,
  FfnIn3_algebraic,
  trivial,
  FfnOut0_algebraic,
  trivial,
  FfnOut1_algebraic,
  trivial,
  FfnOut2_algebraic,
  trivial,
  FfnOut3_algebraic,
  trivial,
  Out_algebraic,
  trivial,
  QkvA_algebraic,
  trivial,
  QkvB_algebraic,
  trivial,
  QkvC_algebraic,
  trivial,
  Gate_algebraic,
  trivial,
  Qa_algebraic,
  trivial,
  Qb_algebraic,
  trivial,
  Kva_algebraic,
  trivial,
  NormBf_algebraic,
  trivial,
  NormF_algebraic,
  trivial,
  NormQ_algebraic,
  trivial,
  AKv_algebraic,
  trivial,
  MlaS_algebraic⟩

end Cert.Proof

end
